-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_InprojBwd (m : (ℓ : Loc Cert.InprojBwd.nD Cert.InprojBwd.τ Cert.InprojBwd.sig) → Buf (Elt Bits) ℓ) : Prop :=
  True

def Pre_InprojBwdIdeal (m : (ℓ : Loc Cert.InprojBwdIdeal.nD Cert.InprojBwdIdeal.τ Cert.InprojBwdIdeal.sig) → Buf (Elt Ideal) ℓ) : Prop :=
  True

def Pre_InprojBwdRefIdeal (m : (ℓ : Loc Cert.InprojBwdRefIdeal.nD Cert.InprojBwdRefIdeal.τ Cert.InprojBwdRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))) = (fun _ => 1#1)

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdRefIdeal (m : (ℓ : Loc Cert.MlpBwdRefIdeal.nD Cert.MlpBwdRefIdeal.τ Cert.MlpBwdRefIdeal.sig) → Buf (Elt Ideal) ℓ) : Prop :=
  True

def Pre_LastLayer (m : (ℓ : Loc Cert.LastLayer.nD Cert.LastLayer.τ Cert.LastLayer.sig) → Buf (Elt Bits) ℓ) : Prop :=
  True

def Pre_LastLayerIdeal (m : (ℓ : Loc Cert.LastLayerIdeal.nD Cert.LastLayerIdeal.τ Cert.LastLayerIdeal.sig) → Buf (Elt Ideal) ℓ) : Prop :=
  True

def Pre_LastLayerRefIdeal (m : (ℓ : Loc Cert.LastLayerRefIdeal.nD Cert.LastLayerRefIdeal.τ Cert.LastLayerRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_scores_finite [hPre_attn_scores_finite : Cert.Pre_attn_scores_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_scores_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_scores_finite [hPre_attn_scores_finite : Cert.Pre_attn_scores_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_scores_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def Pre_InprojFwd (m : (ℓ : Loc Cert.InprojFwd.nD Cert.InprojFwd.τ Cert.InprojFwd.sig) → Buf (Elt Bits) ℓ) : Prop :=
  True

def Pre_InprojFwdIdeal (m : (ℓ : Loc Cert.InprojFwdIdeal.nD Cert.InprojFwdIdeal.τ Cert.InprojFwdIdeal.sig) → Buf (Elt Ideal) ℓ) : Prop :=
  True

def Pre_InprojFwdRefIdeal (m : (ℓ : Loc Cert.InprojFwdRefIdeal.nD Cert.InprojFwdRefIdeal.τ Cert.InprojFwdRefIdeal.sig) → Buf (Elt Ideal) ℓ) : Prop :=
  True

def Pre_OutprojFwd (m : (ℓ : Loc Cert.OutprojFwd.nD Cert.OutprojFwd.τ Cert.OutprojFwd.sig) → Buf (Elt Bits) ℓ) : Prop :=
  True

def Pre_OutprojFwdIdeal (m : (ℓ : Loc Cert.OutprojFwdIdeal.nD Cert.OutprojFwdIdeal.τ Cert.OutprojFwdIdeal.sig) → Buf (Elt Ideal) ℓ) : Prop :=
  True

def Pre_OutprojFwdRefIdeal (m : (ℓ : Loc Cert.OutprojFwdRefIdeal.nD Cert.OutprojFwdRefIdeal.τ Cert.OutprojFwdRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4))
      ∧ r.2.sem = fun _ => 0)

def quiescent_InprojBwd [hInprojBwd : Cert.InprojBwd.Facts] : Prop :=
  ∀ (m : (ℓ : Loc Cert.InprojBwd.nD Cert.InprojBwd.τ Cert.InprojBwd.sig) → Buf (Elt Bits) ℓ) (g : Dev Cert.InprojBwd.nD → PrngReg), Pre_InprojBwd m →
    θ_run (Cert.InprojBwd.defs (F := Bits)) (onTc (τ := Cert.InprojBwd.τ) (Cert.InprojBwd.main (F := Bits))) ⟨m, fun _ => 0, g⟩ (fun r => (∀ c : Dev Cert.InprojBwd.nD,
      r.2.mem ((c.tc : Thread Cert.InprojBwd.nD Cert.InprojBwd.τ).loc Cert.InprojBwd.main_arg0) = m ((c.tc : Thread Cert.InprojBwd.nD Cert.InprojBwd.τ).loc Cert.InprojBwd.main_arg0)
      ∧ r.2.mem ((c.tc : Thread Cert.InprojBwd.nD Cert.InprojBwd.τ).loc Cert.InprojBwd.main_arg1) = m ((c.tc : Thread Cert.InprojBwd.nD Cert.InprojBwd.τ).loc Cert.InprojBwd.main_arg1)
      ∧ r.2.mem ((c.tc : Thread Cert.InprojBwd.nD Cert.InprojBwd.τ).loc Cert.InprojBwd.main_arg2) = m ((c.tc : Thread Cert.InprojBwd.nD Cert.InprojBwd.τ).loc Cert.InprojBwd.main_arg2)
      ∧ r.2.mem ((c.tc : Thread Cert.InprojBwd.nD Cert.InprojBwd.τ).loc Cert.InprojBwd.main_arg3) = m ((c.tc : Thread Cert.InprojBwd.nD Cert.InprojBwd.τ).loc Cert.InprojBwd.main_arg3)
      ∧ r.2.mem ((c.tc : Thread Cert.InprojBwd.nD Cert.InprojBwd.τ).loc Cert.InprojBwd.main_arg4) = m ((c.tc : Thread Cert.InprojBwd.nD Cert.InprojBwd.τ).loc Cert.InprojBwd.main_arg4))
      ∧ r.2.sem = fun _ => 0)

def quiescent_InprojBwdIdeal [hInprojBwdIdeal : Cert.InprojBwdIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4))
      ∧ r.2.sem = fun _ => 0)

def quiescent_InprojBwdRefIdeal [hInprojBwdRefIdeal : Cert.InprojBwdRefIdeal.Facts] : Prop :=
  ∀ (m : (ℓ : Loc Cert.InprojBwdRefIdeal.nD Cert.InprojBwdRefIdeal.τ Cert.InprojBwdRefIdeal.sig) → Buf (Elt Ideal) ℓ) (g : Dev Cert.InprojBwdRefIdeal.nD → PrngReg), Pre_InprojBwdRefIdeal m →
    θ_run (Cert.InprojBwdRefIdeal.defs (F := Ideal)) (onTc (τ := Cert.InprojBwdRefIdeal.τ) (Cert.InprojBwdRefIdeal.main (F := Ideal))) ⟨m, fun _ => 0, g⟩ (fun r => (∀ c : Dev Cert.InprojBwdRefIdeal.nD,
      r.2.mem ((c.tc : Thread Cert.InprojBwdRefIdeal.nD Cert.InprojBwdRefIdeal.τ).loc Cert.InprojBwdRefIdeal.main_arg0) = m ((c.tc : Thread Cert.InprojBwdRefIdeal.nD Cert.InprojBwdRefIdeal.τ).loc Cert.InprojBwdRefIdeal.main_arg0)
      ∧ r.2.mem ((c.tc : Thread Cert.InprojBwdRefIdeal.nD Cert.InprojBwdRefIdeal.τ).loc Cert.InprojBwdRefIdeal.main_arg1) = m ((c.tc : Thread Cert.InprojBwdRefIdeal.nD Cert.InprojBwdRefIdeal.τ).loc Cert.InprojBwdRefIdeal.main_arg1)
      ∧ r.2.mem ((c.tc : Thread Cert.InprojBwdRefIdeal.nD Cert.InprojBwdRefIdeal.τ).loc Cert.InprojBwdRefIdeal.main_arg2) = m ((c.tc : Thread Cert.InprojBwdRefIdeal.nD Cert.InprojBwdRefIdeal.τ).loc Cert.InprojBwdRefIdeal.main_arg2)
      ∧ r.2.mem ((c.tc : Thread Cert.InprojBwdRefIdeal.nD Cert.InprojBwdRefIdeal.τ).loc Cert.InprojBwdRefIdeal.main_arg3) = m ((c.tc : Thread Cert.InprojBwdRefIdeal.nD Cert.InprojBwdRefIdeal.τ).loc Cert.InprojBwdRefIdeal.main_arg3)
      ∧ r.2.mem ((c.tc : Thread Cert.InprojBwdRefIdeal.nD Cert.InprojBwdRefIdeal.τ).loc Cert.InprojBwdRefIdeal.main_arg4) = m ((c.tc : Thread Cert.InprojBwdRefIdeal.nD Cert.InprojBwdRefIdeal.τ).loc Cert.InprojBwdRefIdeal.main_arg4))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4))
      ∧ r.2.sem = fun _ => 0)

def quiescent_LastLayer [hLastLayer : Cert.LastLayer.Facts] : Prop :=
  ∀ (m : (ℓ : Loc Cert.LastLayer.nD Cert.LastLayer.τ Cert.LastLayer.sig) → Buf (Elt Bits) ℓ) (g : Dev Cert.LastLayer.nD → PrngReg), Pre_LastLayer m →
    θ_run (Cert.LastLayer.defs (F := Bits)) (onTc (τ := Cert.LastLayer.τ) (Cert.LastLayer.main (F := Bits))) ⟨m, fun _ => 0, g⟩ (fun r => (∀ c : Dev Cert.LastLayer.nD,
      r.2.mem ((c.tc : Thread Cert.LastLayer.nD Cert.LastLayer.τ).loc Cert.LastLayer.main_arg0) = m ((c.tc : Thread Cert.LastLayer.nD Cert.LastLayer.τ).loc Cert.LastLayer.main_arg0)
      ∧ r.2.mem ((c.tc : Thread Cert.LastLayer.nD Cert.LastLayer.τ).loc Cert.LastLayer.main_arg1) = m ((c.tc : Thread Cert.LastLayer.nD Cert.LastLayer.τ).loc Cert.LastLayer.main_arg1)
      ∧ r.2.mem ((c.tc : Thread Cert.LastLayer.nD Cert.LastLayer.τ).loc Cert.LastLayer.main_arg2) = m ((c.tc : Thread Cert.LastLayer.nD Cert.LastLayer.τ).loc Cert.LastLayer.main_arg2)
      ∧ r.2.mem ((c.tc : Thread Cert.LastLayer.nD Cert.LastLayer.τ).loc Cert.LastLayer.main_arg3) = m ((c.tc : Thread Cert.LastLayer.nD Cert.LastLayer.τ).loc Cert.LastLayer.main_arg3)
      ∧ r.2.mem ((c.tc : Thread Cert.LastLayer.nD Cert.LastLayer.τ).loc Cert.LastLayer.main_arg4) = m ((c.tc : Thread Cert.LastLayer.nD Cert.LastLayer.τ).loc Cert.LastLayer.main_arg4)
      ∧ r.2.mem ((c.tc : Thread Cert.LastLayer.nD Cert.LastLayer.τ).loc Cert.LastLayer.main_arg5) = m ((c.tc : Thread Cert.LastLayer.nD Cert.LastLayer.τ).loc Cert.LastLayer.main_arg5)
      ∧ r.2.mem ((c.tc : Thread Cert.LastLayer.nD Cert.LastLayer.τ).loc Cert.LastLayer.main_arg6) = m ((c.tc : Thread Cert.LastLayer.nD Cert.LastLayer.τ).loc Cert.LastLayer.main_arg6)
      ∧ r.2.mem ((c.tc : Thread Cert.LastLayer.nD Cert.LastLayer.τ).loc Cert.LastLayer.main_arg7) = m ((c.tc : Thread Cert.LastLayer.nD Cert.LastLayer.τ).loc Cert.LastLayer.main_arg7))
      ∧ r.2.sem = fun _ => 0)

def quiescent_LastLayerIdeal [hLastLayerIdeal : Cert.LastLayerIdeal.Facts] : Prop :=
  ∀ (m : (ℓ : Loc Cert.LastLayerIdeal.nD Cert.LastLayerIdeal.τ Cert.LastLayerIdeal.sig) → Buf (Elt Ideal) ℓ) (g : Dev Cert.LastLayerIdeal.nD → PrngReg), Pre_LastLayerIdeal m →
    θ_run (Cert.LastLayerIdeal.defs (F := Ideal)) (onTc (τ := Cert.LastLayerIdeal.τ) (Cert.LastLayerIdeal.main (F := Ideal))) ⟨m, fun _ => 0, g⟩ (fun r => (∀ c : Dev Cert.LastLayerIdeal.nD,
      r.2.mem ((c.tc : Thread Cert.LastLayerIdeal.nD Cert.LastLayerIdeal.τ).loc Cert.LastLayerIdeal.main_arg0) = m ((c.tc : Thread Cert.LastLayerIdeal.nD Cert.LastLayerIdeal.τ).loc Cert.LastLayerIdeal.main_arg0)
      ∧ r.2.mem ((c.tc : Thread Cert.LastLayerIdeal.nD Cert.LastLayerIdeal.τ).loc Cert.LastLayerIdeal.main_arg1) = m ((c.tc : Thread Cert.LastLayerIdeal.nD Cert.LastLayerIdeal.τ).loc Cert.LastLayerIdeal.main_arg1)
      ∧ r.2.mem ((c.tc : Thread Cert.LastLayerIdeal.nD Cert.LastLayerIdeal.τ).loc Cert.LastLayerIdeal.main_arg2) = m ((c.tc : Thread Cert.LastLayerIdeal.nD Cert.LastLayerIdeal.τ).loc Cert.LastLayerIdeal.main_arg2)
      ∧ r.2.mem ((c.tc : Thread Cert.LastLayerIdeal.nD Cert.LastLayerIdeal.τ).loc Cert.LastLayerIdeal.main_arg3) = m ((c.tc : Thread Cert.LastLayerIdeal.nD Cert.LastLayerIdeal.τ).loc Cert.LastLayerIdeal.main_arg3)
      ∧ r.2.mem ((c.tc : Thread Cert.LastLayerIdeal.nD Cert.LastLayerIdeal.τ).loc Cert.LastLayerIdeal.main_arg4) = m ((c.tc : Thread Cert.LastLayerIdeal.nD Cert.LastLayerIdeal.τ).loc Cert.LastLayerIdeal.main_arg4)
      ∧ r.2.mem ((c.tc : Thread Cert.LastLayerIdeal.nD Cert.LastLayerIdeal.τ).loc Cert.LastLayerIdeal.main_arg5) = m ((c.tc : Thread Cert.LastLayerIdeal.nD Cert.LastLayerIdeal.τ).loc Cert.LastLayerIdeal.main_arg5)
      ∧ r.2.mem ((c.tc : Thread Cert.LastLayerIdeal.nD Cert.LastLayerIdeal.τ).loc Cert.LastLayerIdeal.main_arg6) = m ((c.tc : Thread Cert.LastLayerIdeal.nD Cert.LastLayerIdeal.τ).loc Cert.LastLayerIdeal.main_arg6)
      ∧ r.2.mem ((c.tc : Thread Cert.LastLayerIdeal.nD Cert.LastLayerIdeal.τ).loc Cert.LastLayerIdeal.main_arg7) = m ((c.tc : Thread Cert.LastLayerIdeal.nD Cert.LastLayerIdeal.τ).loc Cert.LastLayerIdeal.main_arg7))
      ∧ r.2.sem = fun _ => 0)

def quiescent_LastLayerRefIdeal [hLastLayerRefIdeal : Cert.LastLayerRefIdeal.Facts] : Prop :=
  ∀ (m : (ℓ : Loc Cert.LastLayerRefIdeal.nD Cert.LastLayerRefIdeal.τ Cert.LastLayerRefIdeal.sig) → Buf (Elt Ideal) ℓ) (g : Dev Cert.LastLayerRefIdeal.nD → PrngReg), Pre_LastLayerRefIdeal m →
    θ_run (Cert.LastLayerRefIdeal.defs (F := Ideal)) (onTc (τ := Cert.LastLayerRefIdeal.τ) (Cert.LastLayerRefIdeal.main (F := Ideal))) ⟨m, fun _ => 0, g⟩ (fun r => (∀ c : Dev Cert.LastLayerRefIdeal.nD,
      r.2.mem ((c.tc : Thread Cert.LastLayerRefIdeal.nD Cert.LastLayerRefIdeal.τ).loc Cert.LastLayerRefIdeal.main_arg0) = m ((c.tc : Thread Cert.LastLayerRefIdeal.nD Cert.LastLayerRefIdeal.τ).loc Cert.LastLayerRefIdeal.main_arg0)
      ∧ r.2.mem ((c.tc : Thread Cert.LastLayerRefIdeal.nD Cert.LastLayerRefIdeal.τ).loc Cert.LastLayerRefIdeal.main_arg1) = m ((c.tc : Thread Cert.LastLayerRefIdeal.nD Cert.LastLayerRefIdeal.τ).loc Cert.LastLayerRefIdeal.main_arg1)
      ∧ r.2.mem ((c.tc : Thread Cert.LastLayerRefIdeal.nD Cert.LastLayerRefIdeal.τ).loc Cert.LastLayerRefIdeal.main_arg2) = m ((c.tc : Thread Cert.LastLayerRefIdeal.nD Cert.LastLayerRefIdeal.τ).loc Cert.LastLayerRefIdeal.main_arg2)
      ∧ r.2.mem ((c.tc : Thread Cert.LastLayerRefIdeal.nD Cert.LastLayerRefIdeal.τ).loc Cert.LastLayerRefIdeal.main_arg3) = m ((c.tc : Thread Cert.LastLayerRefIdeal.nD Cert.LastLayerRefIdeal.τ).loc Cert.LastLayerRefIdeal.main_arg3)
      ∧ r.2.mem ((c.tc : Thread Cert.LastLayerRefIdeal.nD Cert.LastLayerRefIdeal.τ).loc Cert.LastLayerRefIdeal.main_arg4) = m ((c.tc : Thread Cert.LastLayerRefIdeal.nD Cert.LastLayerRefIdeal.τ).loc Cert.LastLayerRefIdeal.main_arg4)
      ∧ r.2.mem ((c.tc : Thread Cert.LastLayerRefIdeal.nD Cert.LastLayerRefIdeal.τ).loc Cert.LastLayerRefIdeal.main_arg5) = m ((c.tc : Thread Cert.LastLayerRefIdeal.nD Cert.LastLayerRefIdeal.τ).loc Cert.LastLayerRefIdeal.main_arg5)
      ∧ r.2.mem ((c.tc : Thread Cert.LastLayerRefIdeal.nD Cert.LastLayerRefIdeal.τ).loc Cert.LastLayerRefIdeal.main_arg6) = m ((c.tc : Thread Cert.LastLayerRefIdeal.nD Cert.LastLayerRefIdeal.τ).loc Cert.LastLayerRefIdeal.main_arg6)
      ∧ r.2.mem ((c.tc : Thread Cert.LastLayerRefIdeal.nD Cert.LastLayerRefIdeal.τ).loc Cert.LastLayerRefIdeal.main_arg7) = m ((c.tc : Thread Cert.LastLayerRefIdeal.nD Cert.LastLayerRefIdeal.τ).loc Cert.LastLayerRefIdeal.main_arg7))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_attn_scores_finite [hAttnFwdIdeal : Cert.AttnFwdIdeal.Facts] [hPre_attn_scores_finite : Cert.Pre_attn_scores_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_scores_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_attn_scores_finite [hAttnFwdRefIdeal : Cert.AttnFwdRefIdeal.Facts] [hPre_attn_scores_finite : Cert.Pre_attn_scores_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_scores_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_InprojFwd [hInprojFwd : Cert.InprojFwd.Facts] : Prop :=
  ∀ (m : (ℓ : Loc Cert.InprojFwd.nD Cert.InprojFwd.τ Cert.InprojFwd.sig) → Buf (Elt Bits) ℓ) (g : Dev Cert.InprojFwd.nD → PrngReg), Pre_InprojFwd m →
    θ_run (Cert.InprojFwd.defs (F := Bits)) (onTc (τ := Cert.InprojFwd.τ) (Cert.InprojFwd.main (F := Bits))) ⟨m, fun _ => 0, g⟩ (fun r => (∀ c : Dev Cert.InprojFwd.nD,
      r.2.mem ((c.tc : Thread Cert.InprojFwd.nD Cert.InprojFwd.τ).loc Cert.InprojFwd.main_arg0) = m ((c.tc : Thread Cert.InprojFwd.nD Cert.InprojFwd.τ).loc Cert.InprojFwd.main_arg0)
      ∧ r.2.mem ((c.tc : Thread Cert.InprojFwd.nD Cert.InprojFwd.τ).loc Cert.InprojFwd.main_arg1) = m ((c.tc : Thread Cert.InprojFwd.nD Cert.InprojFwd.τ).loc Cert.InprojFwd.main_arg1)
      ∧ r.2.mem ((c.tc : Thread Cert.InprojFwd.nD Cert.InprojFwd.τ).loc Cert.InprojFwd.main_arg2) = m ((c.tc : Thread Cert.InprojFwd.nD Cert.InprojFwd.τ).loc Cert.InprojFwd.main_arg2))
      ∧ r.2.sem = fun _ => 0)

def quiescent_InprojFwdIdeal [hInprojFwdIdeal : Cert.InprojFwdIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg), Pre_InprojFwdIdeal m →
    θ_run (Cert.InprojFwdIdeal.defs (F := Ideal)) (onTc (τ := Cert.InprojFwdIdeal.τ) (Cert.InprojFwdIdeal.main (F := Ideal))) ⟨m, fun _ => 0, g⟩ (fun r => (∀ c : Dev Cert.InprojFwdIdeal.nD,
      r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
      ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
      ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ r.2.sem = fun _ => 0)

def quiescent_InprojFwdRefIdeal [hInprojFwdRefIdeal : Cert.InprojFwdRefIdeal.Facts] : Prop :=
  ∀ (m : (ℓ : Loc Cert.InprojFwdRefIdeal.nD Cert.InprojFwdRefIdeal.τ Cert.InprojFwdRefIdeal.sig) → Buf (Elt Ideal) ℓ) (g : Dev Cert.InprojFwdRefIdeal.nD → PrngReg), Pre_InprojFwdRefIdeal m →
    θ_run (Cert.InprojFwdRefIdeal.defs (F := Ideal)) (onTc (τ := Cert.InprojFwdRefIdeal.τ) (Cert.InprojFwdRefIdeal.main (F := Ideal))) ⟨m, fun _ => 0, g⟩ (fun r => (∀ c : Dev Cert.InprojFwdRefIdeal.nD,
      r.2.mem ((c.tc : Thread Cert.InprojFwdRefIdeal.nD Cert.InprojFwdRefIdeal.τ).loc Cert.InprojFwdRefIdeal.main_arg0) = m ((c.tc : Thread Cert.InprojFwdRefIdeal.nD Cert.InprojFwdRefIdeal.τ).loc Cert.InprojFwdRefIdeal.main_arg0)
      ∧ r.2.mem ((c.tc : Thread Cert.InprojFwdRefIdeal.nD Cert.InprojFwdRefIdeal.τ).loc Cert.InprojFwdRefIdeal.main_arg1) = m ((c.tc : Thread Cert.InprojFwdRefIdeal.nD Cert.InprojFwdRefIdeal.τ).loc Cert.InprojFwdRefIdeal.main_arg1)
      ∧ r.2.mem ((c.tc : Thread Cert.InprojFwdRefIdeal.nD Cert.InprojFwdRefIdeal.τ).loc Cert.InprojFwdRefIdeal.main_arg2) = m ((c.tc : Thread Cert.InprojFwdRefIdeal.nD Cert.InprojFwdRefIdeal.τ).loc Cert.InprojFwdRefIdeal.main_arg2))
      ∧ r.2.sem = fun _ => 0)

def quiescent_OutprojFwd [hOutprojFwd : Cert.OutprojFwd.Facts] : Prop :=
  ∀ (m : (ℓ : Loc Cert.OutprojFwd.nD Cert.OutprojFwd.τ Cert.OutprojFwd.sig) → Buf (Elt Bits) ℓ) (g : Dev Cert.OutprojFwd.nD → PrngReg), Pre_OutprojFwd m →
    θ_run (Cert.OutprojFwd.defs (F := Bits)) (onTc (τ := Cert.OutprojFwd.τ) (Cert.OutprojFwd.main (F := Bits))) ⟨m, fun _ => 0, g⟩ (fun r => (∀ c : Dev Cert.OutprojFwd.nD,
      r.2.mem ((c.tc : Thread Cert.OutprojFwd.nD Cert.OutprojFwd.τ).loc Cert.OutprojFwd.main_arg0) = m ((c.tc : Thread Cert.OutprojFwd.nD Cert.OutprojFwd.τ).loc Cert.OutprojFwd.main_arg0)
      ∧ r.2.mem ((c.tc : Thread Cert.OutprojFwd.nD Cert.OutprojFwd.τ).loc Cert.OutprojFwd.main_arg1) = m ((c.tc : Thread Cert.OutprojFwd.nD Cert.OutprojFwd.τ).loc Cert.OutprojFwd.main_arg1)
      ∧ r.2.mem ((c.tc : Thread Cert.OutprojFwd.nD Cert.OutprojFwd.τ).loc Cert.OutprojFwd.main_arg2) = m ((c.tc : Thread Cert.OutprojFwd.nD Cert.OutprojFwd.τ).loc Cert.OutprojFwd.main_arg2)
      ∧ r.2.mem ((c.tc : Thread Cert.OutprojFwd.nD Cert.OutprojFwd.τ).loc Cert.OutprojFwd.main_arg3) = m ((c.tc : Thread Cert.OutprojFwd.nD Cert.OutprojFwd.τ).loc Cert.OutprojFwd.main_arg3))
      ∧ r.2.sem = fun _ => 0)

def quiescent_OutprojFwdIdeal [hOutprojFwdIdeal : Cert.OutprojFwdIdeal.Facts] : Prop :=
  ∀ (m : (ℓ : Loc Cert.OutprojFwdIdeal.nD Cert.OutprojFwdIdeal.τ Cert.OutprojFwdIdeal.sig) → Buf (Elt Ideal) ℓ) (g : Dev Cert.OutprojFwdIdeal.nD → PrngReg), Pre_OutprojFwdIdeal m →
    θ_run (Cert.OutprojFwdIdeal.defs (F := Ideal)) (onTc (τ := Cert.OutprojFwdIdeal.τ) (Cert.OutprojFwdIdeal.main (F := Ideal))) ⟨m, fun _ => 0, g⟩ (fun r => (∀ c : Dev Cert.OutprojFwdIdeal.nD,
      r.2.mem ((c.tc : Thread Cert.OutprojFwdIdeal.nD Cert.OutprojFwdIdeal.τ).loc Cert.OutprojFwdIdeal.main_arg0) = m ((c.tc : Thread Cert.OutprojFwdIdeal.nD Cert.OutprojFwdIdeal.τ).loc Cert.OutprojFwdIdeal.main_arg0)
      ∧ r.2.mem ((c.tc : Thread Cert.OutprojFwdIdeal.nD Cert.OutprojFwdIdeal.τ).loc Cert.OutprojFwdIdeal.main_arg1) = m ((c.tc : Thread Cert.OutprojFwdIdeal.nD Cert.OutprojFwdIdeal.τ).loc Cert.OutprojFwdIdeal.main_arg1)
      ∧ r.2.mem ((c.tc : Thread Cert.OutprojFwdIdeal.nD Cert.OutprojFwdIdeal.τ).loc Cert.OutprojFwdIdeal.main_arg2) = m ((c.tc : Thread Cert.OutprojFwdIdeal.nD Cert.OutprojFwdIdeal.τ).loc Cert.OutprojFwdIdeal.main_arg2)
      ∧ r.2.mem ((c.tc : Thread Cert.OutprojFwdIdeal.nD Cert.OutprojFwdIdeal.τ).loc Cert.OutprojFwdIdeal.main_arg3) = m ((c.tc : Thread Cert.OutprojFwdIdeal.nD Cert.OutprojFwdIdeal.τ).loc Cert.OutprojFwdIdeal.main_arg3))
      ∧ r.2.sem = fun _ => 0)

def quiescent_OutprojFwdRefIdeal [hOutprojFwdRefIdeal : Cert.OutprojFwdRefIdeal.Facts] : Prop :=
  ∀ (m : (ℓ : Loc Cert.OutprojFwdRefIdeal.nD Cert.OutprojFwdRefIdeal.τ Cert.OutprojFwdRefIdeal.sig) → Buf (Elt Ideal) ℓ) (g : Dev Cert.OutprojFwdRefIdeal.nD → PrngReg), Pre_OutprojFwdRefIdeal m →
    θ_run (Cert.OutprojFwdRefIdeal.defs (F := Ideal)) (onTc (τ := Cert.OutprojFwdRefIdeal.τ) (Cert.OutprojFwdRefIdeal.main (F := Ideal))) ⟨m, fun _ => 0, g⟩ (fun r => (∀ c : Dev Cert.OutprojFwdRefIdeal.nD,
      r.2.mem ((c.tc : Thread Cert.OutprojFwdRefIdeal.nD Cert.OutprojFwdRefIdeal.τ).loc Cert.OutprojFwdRefIdeal.main_arg0) = m ((c.tc : Thread Cert.OutprojFwdRefIdeal.nD Cert.OutprojFwdRefIdeal.τ).loc Cert.OutprojFwdRefIdeal.main_arg0)
      ∧ r.2.mem ((c.tc : Thread Cert.OutprojFwdRefIdeal.nD Cert.OutprojFwdRefIdeal.τ).loc Cert.OutprojFwdRefIdeal.main_arg1) = m ((c.tc : Thread Cert.OutprojFwdRefIdeal.nD Cert.OutprojFwdRefIdeal.τ).loc Cert.OutprojFwdRefIdeal.main_arg1)
      ∧ r.2.mem ((c.tc : Thread Cert.OutprojFwdRefIdeal.nD Cert.OutprojFwdRefIdeal.τ).loc Cert.OutprojFwdRefIdeal.main_arg2) = m ((c.tc : Thread Cert.OutprojFwdRefIdeal.nD Cert.OutprojFwdRefIdeal.τ).loc Cert.OutprojFwdRefIdeal.main_arg2)
      ∧ r.2.mem ((c.tc : Thread Cert.OutprojFwdRefIdeal.nD Cert.OutprojFwdRefIdeal.τ).loc Cert.OutprojFwdRefIdeal.main_arg3) = m ((c.tc : Thread Cert.OutprojFwdRefIdeal.nD Cert.OutprojFwdRefIdeal.τ).loc Cert.OutprojFwdRefIdeal.main_arg3))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3))
      ∧ r.2.sem = fun _ => 0)

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)
      ∧ m' ((c.tc : Thread Cert.ConvBwdRefIdeal.nD Cert.ConvBwdRefIdeal.τ).loc Cert.ConvBwdRefIdeal.main_arg4) = m ((c.tc : Thread Cert.ConvBwdIdeal.nD Cert.ConvBwdIdeal.τ).loc Cert.ConvBwdIdeal.main_arg4)) →
    ∃ (v0 : (c : Dev Cert.ConvBwdIdeal.nD) → Buf (Elt Ideal) ((c.tc : Thread Cert.ConvBwdIdeal.nD Cert.ConvBwdIdeal.τ).loc Cert.ConvBwdIdeal.main_v3_0)) (v1 : (c : Dev Cert.ConvBwdIdeal.nD) → Buf (Elt Ideal) ((c.tc : Thread Cert.ConvBwdIdeal.nD Cert.ConvBwdIdeal.τ).loc Cert.ConvBwdIdeal.main_v3_1)) (v2 : (c : Dev Cert.ConvBwdIdeal.nD) → Buf (Elt Ideal) ((c.tc : Thread Cert.ConvBwdIdeal.nD Cert.ConvBwdIdeal.τ).loc Cert.ConvBwdIdeal.main_v3_2)) (v3 : (c : Dev Cert.ConvBwdIdeal.nD) → Buf (Elt Ideal) ((c.tc : Thread Cert.ConvBwdIdeal.nD Cert.ConvBwdIdeal.τ).loc Cert.ConvBwdIdeal.main_v3_3)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v3_0) = v0 c
          ∧ r.2.mem ((c.tc : Thread Cert.ConvBwdIdeal.nD Cert.ConvBwdIdeal.τ).loc Cert.ConvBwdIdeal.main_v3_1) = v1 c
          ∧ r.2.mem ((c.tc : Thread Cert.ConvBwdIdeal.nD Cert.ConvBwdIdeal.τ).loc Cert.ConvBwdIdeal.main_v3_2) = v2 c
          ∧ r.2.mem ((c.tc : Thread Cert.ConvBwdIdeal.nD Cert.ConvBwdIdeal.τ).loc Cert.ConvBwdIdeal.main_v3_3) = v3 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v81) = v0 c
          ∧ r.2.mem ((c.tc : Thread Cert.ConvBwdRefIdeal.nD Cert.ConvBwdRefIdeal.τ).loc Cert.ConvBwdRefIdeal.main_v82) = v1 c
          ∧ r.2.mem ((c.tc : Thread Cert.ConvBwdRefIdeal.nD Cert.ConvBwdRefIdeal.τ).loc Cert.ConvBwdRefIdeal.main_v83) = v2 c
          ∧ r.2.mem ((c.tc : Thread Cert.ConvBwdRefIdeal.nD Cert.ConvBwdRefIdeal.τ).loc Cert.ConvBwdRefIdeal.main_v84) = v3 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3)
          ∧ r.2.mem ((c.tc : Thread Cert.ConvBwdRefIdeal.nD Cert.ConvBwdRefIdeal.τ).loc Cert.ConvBwdRefIdeal.main_arg4) = m' ((c.tc : Thread Cert.ConvBwdRefIdeal.nD Cert.ConvBwdRefIdeal.τ).loc Cert.ConvBwdRefIdeal.main_arg4))

def preserves_InprojBwd_InprojBwdIdeal : Prop :=
  True

def algebraic_InprojBwdIdeal_InprojBwdRefIdeal [hInprojBwdIdeal : Cert.InprojBwdIdeal.Facts] [hInprojBwdRefIdeal : Cert.InprojBwdRefIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg)
    (m' : (ℓ : Loc Cert.InprojBwdRefIdeal.nD Cert.InprojBwdRefIdeal.τ Cert.InprojBwdRefIdeal.sig) → Buf (Elt Ideal) ℓ) (g' : Dev Cert.InprojBwdRefIdeal.nD → PrngReg), Pre_InprojBwdIdeal m →
    (∀ c : Dev Cert.InprojBwdIdeal.nD,
      m' ((c.tc : Thread Cert.InprojBwdRefIdeal.nD Cert.InprojBwdRefIdeal.τ).loc Cert.InprojBwdRefIdeal.main_arg0) = m ((c.tc : Thread Cert.InprojBwdIdeal.nD Cert.InprojBwdIdeal.τ).loc Cert.InprojBwdIdeal.main_arg0)
      ∧ m' ((c.tc : Thread Cert.InprojBwdRefIdeal.nD Cert.InprojBwdRefIdeal.τ).loc Cert.InprojBwdRefIdeal.main_arg1) = m ((c.tc : Thread Cert.InprojBwdIdeal.nD Cert.InprojBwdIdeal.τ).loc Cert.InprojBwdIdeal.main_arg1)
      ∧ m' ((c.tc : Thread Cert.InprojBwdRefIdeal.nD Cert.InprojBwdRefIdeal.τ).loc Cert.InprojBwdRefIdeal.main_arg2) = m ((c.tc : Thread Cert.InprojBwdIdeal.nD Cert.InprojBwdIdeal.τ).loc Cert.InprojBwdIdeal.main_arg2)
      ∧ m' ((c.tc : Thread Cert.InprojBwdRefIdeal.nD Cert.InprojBwdRefIdeal.τ).loc Cert.InprojBwdRefIdeal.main_arg3) = m ((c.tc : Thread Cert.InprojBwdIdeal.nD Cert.InprojBwdIdeal.τ).loc Cert.InprojBwdIdeal.main_arg3)
      ∧ m' ((c.tc : Thread Cert.InprojBwdRefIdeal.nD Cert.InprojBwdRefIdeal.τ).loc Cert.InprojBwdRefIdeal.main_arg4) = m ((c.tc : Thread Cert.InprojBwdIdeal.nD Cert.InprojBwdIdeal.τ).loc Cert.InprojBwdIdeal.main_arg4)) →
    ∃ (v0 : (c : Dev Cert.InprojBwdIdeal.nD) → Buf (Elt Ideal) ((c.tc : Thread Cert.InprojBwdIdeal.nD Cert.InprojBwdIdeal.τ).loc Cert.InprojBwdIdeal.main_v9_0)) (v1 : (c : Dev Cert.InprojBwdIdeal.nD) → Buf (Elt Ideal) ((c.tc : Thread Cert.InprojBwdIdeal.nD Cert.InprojBwdIdeal.τ).loc Cert.InprojBwdIdeal.main_v9_1)) (v2 : (c : Dev Cert.InprojBwdIdeal.nD) → Buf (Elt Ideal) ((c.tc : Thread Cert.InprojBwdIdeal.nD Cert.InprojBwdIdeal.τ).loc Cert.InprojBwdIdeal.main_v9_2)),
      θ_run (Cert.InprojBwdIdeal.defs (F := Ideal)) (onTc (τ := Cert.InprojBwdIdeal.τ) (Cert.InprojBwdIdeal.main (F := Ideal))) ⟨m, fun _ => 0, g⟩ (fun r => ∀ c : Dev Cert.InprojBwdIdeal.nD,
          r.2.mem ((c.tc : Thread Cert.InprojBwdIdeal.nD Cert.InprojBwdIdeal.τ).loc Cert.InprojBwdIdeal.main_v9_0) = v0 c
          ∧ r.2.mem ((c.tc : Thread Cert.InprojBwdIdeal.nD Cert.InprojBwdIdeal.τ).loc Cert.InprojBwdIdeal.main_v9_1) = v1 c
          ∧ r.2.mem ((c.tc : Thread Cert.InprojBwdIdeal.nD Cert.InprojBwdIdeal.τ).loc Cert.InprojBwdIdeal.main_v9_2) = v2 c
          ∧ r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
          ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
          ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
          ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
          ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4))
      ∧ θ_run (Cert.InprojBwdRefIdeal.defs (F := Ideal)) (onTc (τ := Cert.InprojBwdRefIdeal.τ) (Cert.InprojBwdRefIdeal.main (F := Ideal))) ⟨m', fun _ => 0, g'⟩ (fun r => ∀ c : Dev Cert.InprojBwdRefIdeal.nD,
          r.2.mem ((c.tc : Thread Cert.InprojBwdRefIdeal.nD Cert.InprojBwdRefIdeal.τ).loc Cert.InprojBwdRefIdeal.main_v40) = v0 c
          ∧ r.2.mem ((c.tc : Thread Cert.InprojBwdRefIdeal.nD Cert.InprojBwdRefIdeal.τ).loc Cert.InprojBwdRefIdeal.main_v41) = v1 c
          ∧ r.2.mem ((c.tc : Thread Cert.InprojBwdRefIdeal.nD Cert.InprojBwdRefIdeal.τ).loc Cert.InprojBwdRefIdeal.main_v42) = v2 c
          ∧ r.2.mem ((c.tc : Thread Cert.InprojBwdRefIdeal.nD Cert.InprojBwdRefIdeal.τ).loc Cert.InprojBwdRefIdeal.main_arg0) = m' ((c.tc : Thread Cert.InprojBwdRefIdeal.nD Cert.InprojBwdRefIdeal.τ).loc Cert.InprojBwdRefIdeal.main_arg0)
          ∧ r.2.mem ((c.tc : Thread Cert.InprojBwdRefIdeal.nD Cert.InprojBwdRefIdeal.τ).loc Cert.InprojBwdRefIdeal.main_arg1) = m' ((c.tc : Thread Cert.InprojBwdRefIdeal.nD Cert.InprojBwdRefIdeal.τ).loc Cert.InprojBwdRefIdeal.main_arg1)
          ∧ r.2.mem ((c.tc : Thread Cert.InprojBwdRefIdeal.nD Cert.InprojBwdRefIdeal.τ).loc Cert.InprojBwdRefIdeal.main_arg2) = m' ((c.tc : Thread Cert.InprojBwdRefIdeal.nD Cert.InprojBwdRefIdeal.τ).loc Cert.InprojBwdRefIdeal.main_arg2)
          ∧ r.2.mem ((c.tc : Thread Cert.InprojBwdRefIdeal.nD Cert.InprojBwdRefIdeal.τ).loc Cert.InprojBwdRefIdeal.main_arg3) = m' ((c.tc : Thread Cert.InprojBwdRefIdeal.nD Cert.InprojBwdRefIdeal.τ).loc Cert.InprojBwdRefIdeal.main_arg3)
          ∧ r.2.mem ((c.tc : Thread Cert.InprojBwdRefIdeal.nD Cert.InprojBwdRefIdeal.τ).loc Cert.InprojBwdRefIdeal.main_arg4) = m' ((c.tc : Thread Cert.InprojBwdRefIdeal.nD Cert.InprojBwdRefIdeal.τ).loc Cert.InprojBwdRefIdeal.main_arg4))

def preserves_AttnBwd_AttnBwdIdeal : Prop :=
  True

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v94_0)) (v1 : (c : Dev Cert.AttnBwdIdeal.nD) → Buf (Elt Ideal) ((c.tc : Thread Cert.AttnBwdIdeal.nD Cert.AttnBwdIdeal.τ).loc Cert.AttnBwdIdeal.main_v94_1)) (v2 : (c : Dev Cert.AttnBwdIdeal.nD) → Buf (Elt Ideal) ((c.tc : Thread Cert.AttnBwdIdeal.nD Cert.AttnBwdIdeal.τ).loc Cert.AttnBwdIdeal.main_v94_2)) (v3 : (c : Dev Cert.AttnBwdIdeal.nD) → Buf (Elt Ideal) ((c.tc : Thread Cert.AttnBwdIdeal.nD Cert.AttnBwdIdeal.τ).loc Cert.AttnBwdIdeal.main_v94_3)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v94_0) = v0 c
          ∧ r.2.mem ((c.tc : Thread Cert.AttnBwdIdeal.nD Cert.AttnBwdIdeal.τ).loc Cert.AttnBwdIdeal.main_v94_1) = v1 c
          ∧ r.2.mem ((c.tc : Thread Cert.AttnBwdIdeal.nD Cert.AttnBwdIdeal.τ).loc Cert.AttnBwdIdeal.main_v94_2) = v2 c
          ∧ r.2.mem ((c.tc : Thread Cert.AttnBwdIdeal.nD Cert.AttnBwdIdeal.τ).loc Cert.AttnBwdIdeal.main_v94_3) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v210) = v0 c
          ∧ r.2.mem ((c.tc : Thread Cert.AttnBwdRefIdeal.nD Cert.AttnBwdRefIdeal.τ).loc Cert.AttnBwdRefIdeal.main_v212) = v1 c
          ∧ r.2.mem ((c.tc : Thread Cert.AttnBwdRefIdeal.nD Cert.AttnBwdRefIdeal.τ).loc Cert.AttnBwdRefIdeal.main_v214) = v2 c
          ∧ r.2.mem ((c.tc : Thread Cert.AttnBwdRefIdeal.nD Cert.AttnBwdRefIdeal.τ).loc Cert.AttnBwdRefIdeal.main_v215) = v3 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_MlpBwd_MlpBwdIdeal : Prop :=
  True

def algebraic_MlpBwdIdeal_MlpBwdRefIdeal [hMlpBwdIdeal : Cert.MlpBwdIdeal.Facts] [hMlpBwdRefIdeal : Cert.MlpBwdRefIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)
      ∧ m' ((c.tc : Thread Cert.MlpBwdRefIdeal.nD Cert.MlpBwdRefIdeal.τ).loc Cert.MlpBwdRefIdeal.main_arg4) = m ((c.tc : Thread Cert.MlpBwdIdeal.nD Cert.MlpBwdIdeal.τ).loc Cert.MlpBwdIdeal.main_arg4)) →
    ∃ (v0 : (c : Dev Cert.MlpBwdIdeal.nD) → Buf (Elt Ideal) ((c.tc : Thread Cert.MlpBwdIdeal.nD Cert.MlpBwdIdeal.τ).loc Cert.MlpBwdIdeal.main_v21_0)) (v1 : (c : Dev Cert.MlpBwdIdeal.nD) → Buf (Elt Ideal) ((c.tc : Thread Cert.MlpBwdIdeal.nD Cert.MlpBwdIdeal.τ).loc Cert.MlpBwdIdeal.main_v21_1)) (v2 : (c : Dev Cert.MlpBwdIdeal.nD) → Buf (Elt Ideal) ((c.tc : Thread Cert.MlpBwdIdeal.nD Cert.MlpBwdIdeal.τ).loc Cert.MlpBwdIdeal.main_v21_2)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v21_0) = v0 c
          ∧ r.2.mem ((c.tc : Thread Cert.MlpBwdIdeal.nD Cert.MlpBwdIdeal.τ).loc Cert.MlpBwdIdeal.main_v21_1) = v1 c
          ∧ r.2.mem ((c.tc : Thread Cert.MlpBwdIdeal.nD Cert.MlpBwdIdeal.τ).loc Cert.MlpBwdIdeal.main_v21_2) = v2 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v50) = v0 c
          ∧ r.2.mem ((c.tc : Thread Cert.MlpBwdRefIdeal.nD Cert.MlpBwdRefIdeal.τ).loc Cert.MlpBwdRefIdeal.main_v51) = v1 c
          ∧ r.2.mem ((c.tc : Thread Cert.MlpBwdRefIdeal.nD Cert.MlpBwdRefIdeal.τ).loc Cert.MlpBwdRefIdeal.main_v52) = v2 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3)
          ∧ r.2.mem ((c.tc : Thread Cert.MlpBwdRefIdeal.nD Cert.MlpBwdRefIdeal.τ).loc Cert.MlpBwdRefIdeal.main_arg4) = m' ((c.tc : Thread Cert.MlpBwdRefIdeal.nD Cert.MlpBwdRefIdeal.τ).loc Cert.MlpBwdRefIdeal.main_arg4))

def preserves_LastLayer_LastLayerIdeal : Prop :=
  True

def algebraic_LastLayerIdeal_LastLayerRefIdeal [hLastLayerIdeal : Cert.LastLayerIdeal.Facts] [hLastLayerRefIdeal : Cert.LastLayerRefIdeal.Facts] : Prop :=
  ∀ (m : (ℓ : Loc Cert.LastLayerIdeal.nD Cert.LastLayerIdeal.τ Cert.LastLayerIdeal.sig) → Buf (Elt Ideal) ℓ) (g : Dev Cert.LastLayerIdeal.nD → PrngReg)
    (m' : (ℓ : Loc Cert.LastLayerRefIdeal.nD Cert.LastLayerRefIdeal.τ Cert.LastLayerRefIdeal.sig) → Buf (Elt Ideal) ℓ) (g' : Dev Cert.LastLayerRefIdeal.nD → PrngReg), Pre_LastLayerIdeal m →
    (∀ c : Dev Cert.LastLayerIdeal.nD,
      m' ((c.tc : Thread Cert.LastLayerRefIdeal.nD Cert.LastLayerRefIdeal.τ).loc Cert.LastLayerRefIdeal.main_arg0) = m ((c.tc : Thread Cert.LastLayerIdeal.nD Cert.LastLayerIdeal.τ).loc Cert.LastLayerIdeal.main_arg0)
      ∧ m' ((c.tc : Thread Cert.LastLayerRefIdeal.nD Cert.LastLayerRefIdeal.τ).loc Cert.LastLayerRefIdeal.main_arg1) = m ((c.tc : Thread Cert.LastLayerIdeal.nD Cert.LastLayerIdeal.τ).loc Cert.LastLayerIdeal.main_arg1)
      ∧ m' ((c.tc : Thread Cert.LastLayerRefIdeal.nD Cert.LastLayerRefIdeal.τ).loc Cert.LastLayerRefIdeal.main_arg2) = m ((c.tc : Thread Cert.LastLayerIdeal.nD Cert.LastLayerIdeal.τ).loc Cert.LastLayerIdeal.main_arg2)
      ∧ m' ((c.tc : Thread Cert.LastLayerRefIdeal.nD Cert.LastLayerRefIdeal.τ).loc Cert.LastLayerRefIdeal.main_arg3) = m ((c.tc : Thread Cert.LastLayerIdeal.nD Cert.LastLayerIdeal.τ).loc Cert.LastLayerIdeal.main_arg3)
      ∧ m' ((c.tc : Thread Cert.LastLayerRefIdeal.nD Cert.LastLayerRefIdeal.τ).loc Cert.LastLayerRefIdeal.main_arg4) = m ((c.tc : Thread Cert.LastLayerIdeal.nD Cert.LastLayerIdeal.τ).loc Cert.LastLayerIdeal.main_arg4)
      ∧ m' ((c.tc : Thread Cert.LastLayerRefIdeal.nD Cert.LastLayerRefIdeal.τ).loc Cert.LastLayerRefIdeal.main_arg5) = m ((c.tc : Thread Cert.LastLayerIdeal.nD Cert.LastLayerIdeal.τ).loc Cert.LastLayerIdeal.main_arg5)
      ∧ m' ((c.tc : Thread Cert.LastLayerRefIdeal.nD Cert.LastLayerRefIdeal.τ).loc Cert.LastLayerRefIdeal.main_arg6) = m ((c.tc : Thread Cert.LastLayerIdeal.nD Cert.LastLayerIdeal.τ).loc Cert.LastLayerIdeal.main_arg6)
      ∧ m' ((c.tc : Thread Cert.LastLayerRefIdeal.nD Cert.LastLayerRefIdeal.τ).loc Cert.LastLayerRefIdeal.main_arg7) = m ((c.tc : Thread Cert.LastLayerIdeal.nD Cert.LastLayerIdeal.τ).loc Cert.LastLayerIdeal.main_arg7)) →
    ∃ (v0 : (c : Dev Cert.LastLayerIdeal.nD) → Buf (Elt Ideal) ((c.tc : Thread Cert.LastLayerIdeal.nD Cert.LastLayerIdeal.τ).loc Cert.LastLayerIdeal.main_v12_0)) (v1 : (c : Dev Cert.LastLayerIdeal.nD) → Buf (Elt Ideal) ((c.tc : Thread Cert.LastLayerIdeal.nD Cert.LastLayerIdeal.τ).loc Cert.LastLayerIdeal.main_v12_1)) (v2 : (c : Dev Cert.LastLayerIdeal.nD) → Buf (Elt Ideal) ((c.tc : Thread Cert.LastLayerIdeal.nD Cert.LastLayerIdeal.τ).loc Cert.LastLayerIdeal.main_v12_2)) (v3 : (c : Dev Cert.LastLayerIdeal.nD) → Buf (Elt Ideal) ((c.tc : Thread Cert.LastLayerIdeal.nD Cert.LastLayerIdeal.τ).loc Cert.LastLayerIdeal.main_v12_3)) (v4 : (c : Dev Cert.LastLayerIdeal.nD) → Buf (Elt Ideal) ((c.tc : Thread Cert.LastLayerIdeal.nD Cert.LastLayerIdeal.τ).loc Cert.LastLayerIdeal.main_v12_4)) (v5 : (c : Dev Cert.LastLayerIdeal.nD) → Buf (Elt Ideal) ((c.tc : Thread Cert.LastLayerIdeal.nD Cert.LastLayerIdeal.τ).loc Cert.LastLayerIdeal.main_v12_5)),
      θ_run (Cert.LastLayerIdeal.defs (F := Ideal)) (onTc (τ := Cert.LastLayerIdeal.τ) (Cert.LastLayerIdeal.main (F := Ideal))) ⟨m, fun _ => 0, g⟩ (fun r => ∀ c : Dev Cert.LastLayerIdeal.nD,
          r.2.mem ((c.tc : Thread Cert.LastLayerIdeal.nD Cert.LastLayerIdeal.τ).loc Cert.LastLayerIdeal.main_v12_0) = v0 c
          ∧ r.2.mem ((c.tc : Thread Cert.LastLayerIdeal.nD Cert.LastLayerIdeal.τ).loc Cert.LastLayerIdeal.main_v12_1) = v1 c
          ∧ r.2.mem ((c.tc : Thread Cert.LastLayerIdeal.nD Cert.LastLayerIdeal.τ).loc Cert.LastLayerIdeal.main_v12_2) = v2 c
          ∧ r.2.mem ((c.tc : Thread Cert.LastLayerIdeal.nD Cert.LastLayerIdeal.τ).loc Cert.LastLayerIdeal.main_v12_3) = v3 c
          ∧ r.2.mem ((c.tc : Thread Cert.LastLayerIdeal.nD Cert.LastLayerIdeal.τ).loc Cert.LastLayerIdeal.main_v12_4) = v4 c
          ∧ r.2.mem ((c.tc : Thread Cert.LastLayerIdeal.nD Cert.LastLayerIdeal.τ).loc Cert.LastLayerIdeal.main_v12_5) = v5 c
          ∧ r.2.mem ((c.tc : Thread Cert.LastLayerIdeal.nD Cert.LastLayerIdeal.τ).loc Cert.LastLayerIdeal.main_arg0) = m ((c.tc : Thread Cert.LastLayerIdeal.nD Cert.LastLayerIdeal.τ).loc Cert.LastLayerIdeal.main_arg0)
          ∧ r.2.mem ((c.tc : Thread Cert.LastLayerIdeal.nD Cert.LastLayerIdeal.τ).loc Cert.LastLayerIdeal.main_arg1) = m ((c.tc : Thread Cert.LastLayerIdeal.nD Cert.LastLayerIdeal.τ).loc Cert.LastLayerIdeal.main_arg1)
          ∧ r.2.mem ((c.tc : Thread Cert.LastLayerIdeal.nD Cert.LastLayerIdeal.τ).loc Cert.LastLayerIdeal.main_arg2) = m ((c.tc : Thread Cert.LastLayerIdeal.nD Cert.LastLayerIdeal.τ).loc Cert.LastLayerIdeal.main_arg2)
          ∧ r.2.mem ((c.tc : Thread Cert.LastLayerIdeal.nD Cert.LastLayerIdeal.τ).loc Cert.LastLayerIdeal.main_arg3) = m ((c.tc : Thread Cert.LastLayerIdeal.nD Cert.LastLayerIdeal.τ).loc Cert.LastLayerIdeal.main_arg3)
          ∧ r.2.mem ((c.tc : Thread Cert.LastLayerIdeal.nD Cert.LastLayerIdeal.τ).loc Cert.LastLayerIdeal.main_arg4) = m ((c.tc : Thread Cert.LastLayerIdeal.nD Cert.LastLayerIdeal.τ).loc Cert.LastLayerIdeal.main_arg4)
          ∧ r.2.mem ((c.tc : Thread Cert.LastLayerIdeal.nD Cert.LastLayerIdeal.τ).loc Cert.LastLayerIdeal.main_arg5) = m ((c.tc : Thread Cert.LastLayerIdeal.nD Cert.LastLayerIdeal.τ).loc Cert.LastLayerIdeal.main_arg5)
          ∧ r.2.mem ((c.tc : Thread Cert.LastLayerIdeal.nD Cert.LastLayerIdeal.τ).loc Cert.LastLayerIdeal.main_arg6) = m ((c.tc : Thread Cert.LastLayerIdeal.nD Cert.LastLayerIdeal.τ).loc Cert.LastLayerIdeal.main_arg6)
          ∧ r.2.mem ((c.tc : Thread Cert.LastLayerIdeal.nD Cert.LastLayerIdeal.τ).loc Cert.LastLayerIdeal.main_arg7) = m ((c.tc : Thread Cert.LastLayerIdeal.nD Cert.LastLayerIdeal.τ).loc Cert.LastLayerIdeal.main_arg7))
      ∧ θ_run (Cert.LastLayerRefIdeal.defs (F := Ideal)) (onTc (τ := Cert.LastLayerRefIdeal.τ) (Cert.LastLayerRefIdeal.main (F := Ideal))) ⟨m', fun _ => 0, g'⟩ (fun r => ∀ c : Dev Cert.LastLayerRefIdeal.nD,
          r.2.mem ((c.tc : Thread Cert.LastLayerRefIdeal.nD Cert.LastLayerRefIdeal.τ).loc Cert.LastLayerRefIdeal.main_v1) = v0 c
          ∧ r.2.mem ((c.tc : Thread Cert.LastLayerRefIdeal.nD Cert.LastLayerRefIdeal.τ).loc Cert.LastLayerRefIdeal.main_v71) = v1 c
          ∧ r.2.mem ((c.tc : Thread Cert.LastLayerRefIdeal.nD Cert.LastLayerRefIdeal.τ).loc Cert.LastLayerRefIdeal.main_v72) = v2 c
          ∧ r.2.mem ((c.tc : Thread Cert.LastLayerRefIdeal.nD Cert.LastLayerRefIdeal.τ).loc Cert.LastLayerRefIdeal.main_v70) = v3 c
          ∧ r.2.mem ((c.tc : Thread Cert.LastLayerRefIdeal.nD Cert.LastLayerRefIdeal.τ).loc Cert.LastLayerRefIdeal.main_v73) = v4 c
          ∧ r.2.mem ((c.tc : Thread Cert.LastLayerRefIdeal.nD Cert.LastLayerRefIdeal.τ).loc Cert.LastLayerRefIdeal.main_v74) = v5 c
          ∧ r.2.mem ((c.tc : Thread Cert.LastLayerRefIdeal.nD Cert.LastLayerRefIdeal.τ).loc Cert.LastLayerRefIdeal.main_arg0) = m' ((c.tc : Thread Cert.LastLayerRefIdeal.nD Cert.LastLayerRefIdeal.τ).loc Cert.LastLayerRefIdeal.main_arg0)
          ∧ r.2.mem ((c.tc : Thread Cert.LastLayerRefIdeal.nD Cert.LastLayerRefIdeal.τ).loc Cert.LastLayerRefIdeal.main_arg1) = m' ((c.tc : Thread Cert.LastLayerRefIdeal.nD Cert.LastLayerRefIdeal.τ).loc Cert.LastLayerRefIdeal.main_arg1)
          ∧ r.2.mem ((c.tc : Thread Cert.LastLayerRefIdeal.nD Cert.LastLayerRefIdeal.τ).loc Cert.LastLayerRefIdeal.main_arg2) = m' ((c.tc : Thread Cert.LastLayerRefIdeal.nD Cert.LastLayerRefIdeal.τ).loc Cert.LastLayerRefIdeal.main_arg2)
          ∧ r.2.mem ((c.tc : Thread Cert.LastLayerRefIdeal.nD Cert.LastLayerRefIdeal.τ).loc Cert.LastLayerRefIdeal.main_arg3) = m' ((c.tc : Thread Cert.LastLayerRefIdeal.nD Cert.LastLayerRefIdeal.τ).loc Cert.LastLayerRefIdeal.main_arg3)
          ∧ r.2.mem ((c.tc : Thread Cert.LastLayerRefIdeal.nD Cert.LastLayerRefIdeal.τ).loc Cert.LastLayerRefIdeal.main_arg4) = m' ((c.tc : Thread Cert.LastLayerRefIdeal.nD Cert.LastLayerRefIdeal.τ).loc Cert.LastLayerRefIdeal.main_arg4)
          ∧ r.2.mem ((c.tc : Thread Cert.LastLayerRefIdeal.nD Cert.LastLayerRefIdeal.τ).loc Cert.LastLayerRefIdeal.main_arg5) = m' ((c.tc : Thread Cert.LastLayerRefIdeal.nD Cert.LastLayerRefIdeal.τ).loc Cert.LastLayerRefIdeal.main_arg5)
          ∧ r.2.mem ((c.tc : Thread Cert.LastLayerRefIdeal.nD Cert.LastLayerRefIdeal.τ).loc Cert.LastLayerRefIdeal.main_arg6) = m' ((c.tc : Thread Cert.LastLayerRefIdeal.nD Cert.LastLayerRefIdeal.τ).loc Cert.LastLayerRefIdeal.main_arg6)
          ∧ r.2.mem ((c.tc : Thread Cert.LastLayerRefIdeal.nD Cert.LastLayerRefIdeal.τ).loc Cert.LastLayerRefIdeal.main_arg7) = m' ((c.tc : Thread Cert.LastLayerRefIdeal.nD Cert.LastLayerRefIdeal.τ).loc Cert.LastLayerRefIdeal.main_arg7))

def preserves_AttnFwd_AttnFwdIdeal : Prop :=
  True

def algebraic_AttnFwdIdeal_AttnFwdRefIdeal_pre_attn_scores_finite [hAttnFwdIdeal : Cert.AttnFwdIdeal.Facts] [hAttnFwdRefIdeal : Cert.AttnFwdRefIdeal.Facts] [hPre_attn_scores_finite : Cert.Pre_attn_scores_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_scores_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v30_0)) (v1 : (c : Dev Cert.AttnFwdIdeal.nD) → Buf (Elt Ideal) ((c.tc : Thread Cert.AttnFwdIdeal.nD Cert.AttnFwdIdeal.τ).loc Cert.AttnFwdIdeal.main_v30_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v30_0) = v0 c
          ∧ r.2.mem ((c.tc : Thread Cert.AttnFwdIdeal.nD Cert.AttnFwdIdeal.τ).loc Cert.AttnFwdIdeal.main_v30_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v79) = v0 c
          ∧ r.2.mem ((c.tc : Thread Cert.AttnFwdRefIdeal.nD Cert.AttnFwdRefIdeal.τ).loc Cert.AttnFwdRefIdeal.main_v93) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_InprojFwd_InprojFwdIdeal : Prop :=
  True

def algebraic_InprojFwdIdeal_InprojFwdRefIdeal [hInprojFwdIdeal : Cert.InprojFwdIdeal.Facts] [hInprojFwdRefIdeal : Cert.InprojFwdRefIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg)
    (m' : (ℓ : Loc Cert.InprojFwdRefIdeal.nD Cert.InprojFwdRefIdeal.τ Cert.InprojFwdRefIdeal.sig) → Buf (Elt Ideal) ℓ) (g' : Dev Cert.InprojFwdRefIdeal.nD → PrngReg), Pre_InprojFwdIdeal m →
    (∀ c : Dev Cert.InprojFwdIdeal.nD,
      m' ((c.tc : Thread Cert.InprojFwdRefIdeal.nD Cert.InprojFwdRefIdeal.τ).loc Cert.InprojFwdRefIdeal.main_arg0) = m ((c.tc : Thread Cert.InprojFwdIdeal.nD Cert.InprojFwdIdeal.τ).loc Cert.InprojFwdIdeal.main_arg0)
      ∧ m' ((c.tc : Thread Cert.InprojFwdRefIdeal.nD Cert.InprojFwdRefIdeal.τ).loc Cert.InprojFwdRefIdeal.main_arg1) = m ((c.tc : Thread Cert.InprojFwdIdeal.nD Cert.InprojFwdIdeal.τ).loc Cert.InprojFwdIdeal.main_arg1)
      ∧ m' ((c.tc : Thread Cert.InprojFwdRefIdeal.nD Cert.InprojFwdRefIdeal.τ).loc Cert.InprojFwdRefIdeal.main_arg2) = m ((c.tc : Thread Cert.InprojFwdIdeal.nD Cert.InprojFwdIdeal.τ).loc Cert.InprojFwdIdeal.main_arg2)) →
    ∃ (v0 : (c : Dev Cert.InprojFwdIdeal.nD) → Buf (Elt Ideal) ((c.tc : Thread Cert.InprojFwdIdeal.nD Cert.InprojFwdIdeal.τ).loc Cert.InprojFwdIdeal.main_v3)),
      θ_run (Cert.InprojFwdIdeal.defs (F := Ideal)) (onTc (τ := Cert.InprojFwdIdeal.τ) (Cert.InprojFwdIdeal.main (F := Ideal))) ⟨m, fun _ => 0, g⟩ (fun r => ∀ c : Dev Cert.InprojFwdIdeal.nD,
          r.2.mem ((c.tc : Thread Cert.InprojFwdIdeal.nD Cert.InprojFwdIdeal.τ).loc Cert.InprojFwdIdeal.main_v3) = v0 c
          ∧ r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
          ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
          ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ θ_run (Cert.InprojFwdRefIdeal.defs (F := Ideal)) (onTc (τ := Cert.InprojFwdRefIdeal.τ) (Cert.InprojFwdRefIdeal.main (F := Ideal))) ⟨m', fun _ => 0, g'⟩ (fun r => ∀ c : Dev Cert.InprojFwdRefIdeal.nD,
          r.2.mem ((c.tc : Thread Cert.InprojFwdRefIdeal.nD Cert.InprojFwdRefIdeal.τ).loc Cert.InprojFwdRefIdeal.main_v14) = v0 c
          ∧ r.2.mem ((c.tc : Thread Cert.InprojFwdRefIdeal.nD Cert.InprojFwdRefIdeal.τ).loc Cert.InprojFwdRefIdeal.main_arg0) = m' ((c.tc : Thread Cert.InprojFwdRefIdeal.nD Cert.InprojFwdRefIdeal.τ).loc Cert.InprojFwdRefIdeal.main_arg0)
          ∧ r.2.mem ((c.tc : Thread Cert.InprojFwdRefIdeal.nD Cert.InprojFwdRefIdeal.τ).loc Cert.InprojFwdRefIdeal.main_arg1) = m' ((c.tc : Thread Cert.InprojFwdRefIdeal.nD Cert.InprojFwdRefIdeal.τ).loc Cert.InprojFwdRefIdeal.main_arg1)
          ∧ r.2.mem ((c.tc : Thread Cert.InprojFwdRefIdeal.nD Cert.InprojFwdRefIdeal.τ).loc Cert.InprojFwdRefIdeal.main_arg2) = m' ((c.tc : Thread Cert.InprojFwdRefIdeal.nD Cert.InprojFwdRefIdeal.τ).loc Cert.InprojFwdRefIdeal.main_arg2))

def preserves_OutprojFwd_OutprojFwdIdeal : Prop :=
  True

def algebraic_OutprojFwdIdeal_OutprojFwdRefIdeal [hOutprojFwdIdeal : Cert.OutprojFwdIdeal.Facts] [hOutprojFwdRefIdeal : Cert.OutprojFwdRefIdeal.Facts] : Prop :=
  ∀ (m : (ℓ : Loc Cert.OutprojFwdIdeal.nD Cert.OutprojFwdIdeal.τ Cert.OutprojFwdIdeal.sig) → Buf (Elt Ideal) ℓ) (g : Dev Cert.OutprojFwdIdeal.nD → PrngReg)
    (m' : (ℓ : Loc Cert.OutprojFwdRefIdeal.nD Cert.OutprojFwdRefIdeal.τ Cert.OutprojFwdRefIdeal.sig) → Buf (Elt Ideal) ℓ) (g' : Dev Cert.OutprojFwdRefIdeal.nD → PrngReg), Pre_OutprojFwdIdeal m →
    (∀ c : Dev Cert.OutprojFwdIdeal.nD,
      m' ((c.tc : Thread Cert.OutprojFwdRefIdeal.nD Cert.OutprojFwdRefIdeal.τ).loc Cert.OutprojFwdRefIdeal.main_arg0) = m ((c.tc : Thread Cert.OutprojFwdIdeal.nD Cert.OutprojFwdIdeal.τ).loc Cert.OutprojFwdIdeal.main_arg0)
      ∧ m' ((c.tc : Thread Cert.OutprojFwdRefIdeal.nD Cert.OutprojFwdRefIdeal.τ).loc Cert.OutprojFwdRefIdeal.main_arg1) = m ((c.tc : Thread Cert.OutprojFwdIdeal.nD Cert.OutprojFwdIdeal.τ).loc Cert.OutprojFwdIdeal.main_arg1)
      ∧ m' ((c.tc : Thread Cert.OutprojFwdRefIdeal.nD Cert.OutprojFwdRefIdeal.τ).loc Cert.OutprojFwdRefIdeal.main_arg2) = m ((c.tc : Thread Cert.OutprojFwdIdeal.nD Cert.OutprojFwdIdeal.τ).loc Cert.OutprojFwdIdeal.main_arg2)
      ∧ m' ((c.tc : Thread Cert.OutprojFwdRefIdeal.nD Cert.OutprojFwdRefIdeal.τ).loc Cert.OutprojFwdRefIdeal.main_arg3) = m ((c.tc : Thread Cert.OutprojFwdIdeal.nD Cert.OutprojFwdIdeal.τ).loc Cert.OutprojFwdIdeal.main_arg3)) →
    ∃ (v0 : (c : Dev Cert.OutprojFwdIdeal.nD) → Buf (Elt Ideal) ((c.tc : Thread Cert.OutprojFwdIdeal.nD Cert.OutprojFwdIdeal.τ).loc Cert.OutprojFwdIdeal.main_v6_0)) (v1 : (c : Dev Cert.OutprojFwdIdeal.nD) → Buf (Elt Ideal) ((c.tc : Thread Cert.OutprojFwdIdeal.nD Cert.OutprojFwdIdeal.τ).loc Cert.OutprojFwdIdeal.main_v6_1)),
      θ_run (Cert.OutprojFwdIdeal.defs (F := Ideal)) (onTc (τ := Cert.OutprojFwdIdeal.τ) (Cert.OutprojFwdIdeal.main (F := Ideal))) ⟨m, fun _ => 0, g⟩ (fun r => ∀ c : Dev Cert.OutprojFwdIdeal.nD,
          r.2.mem ((c.tc : Thread Cert.OutprojFwdIdeal.nD Cert.OutprojFwdIdeal.τ).loc Cert.OutprojFwdIdeal.main_v6_0) = v0 c
          ∧ r.2.mem ((c.tc : Thread Cert.OutprojFwdIdeal.nD Cert.OutprojFwdIdeal.τ).loc Cert.OutprojFwdIdeal.main_v6_1) = v1 c
          ∧ r.2.mem ((c.tc : Thread Cert.OutprojFwdIdeal.nD Cert.OutprojFwdIdeal.τ).loc Cert.OutprojFwdIdeal.main_arg0) = m ((c.tc : Thread Cert.OutprojFwdIdeal.nD Cert.OutprojFwdIdeal.τ).loc Cert.OutprojFwdIdeal.main_arg0)
          ∧ r.2.mem ((c.tc : Thread Cert.OutprojFwdIdeal.nD Cert.OutprojFwdIdeal.τ).loc Cert.OutprojFwdIdeal.main_arg1) = m ((c.tc : Thread Cert.OutprojFwdIdeal.nD Cert.OutprojFwdIdeal.τ).loc Cert.OutprojFwdIdeal.main_arg1)
          ∧ r.2.mem ((c.tc : Thread Cert.OutprojFwdIdeal.nD Cert.OutprojFwdIdeal.τ).loc Cert.OutprojFwdIdeal.main_arg2) = m ((c.tc : Thread Cert.OutprojFwdIdeal.nD Cert.OutprojFwdIdeal.τ).loc Cert.OutprojFwdIdeal.main_arg2)
          ∧ r.2.mem ((c.tc : Thread Cert.OutprojFwdIdeal.nD Cert.OutprojFwdIdeal.τ).loc Cert.OutprojFwdIdeal.main_arg3) = m ((c.tc : Thread Cert.OutprojFwdIdeal.nD Cert.OutprojFwdIdeal.τ).loc Cert.OutprojFwdIdeal.main_arg3))
      ∧ θ_run (Cert.OutprojFwdRefIdeal.defs (F := Ideal)) (onTc (τ := Cert.OutprojFwdRefIdeal.τ) (Cert.OutprojFwdRefIdeal.main (F := Ideal))) ⟨m', fun _ => 0, g'⟩ (fun r => ∀ c : Dev Cert.OutprojFwdRefIdeal.nD,
          r.2.mem ((c.tc : Thread Cert.OutprojFwdRefIdeal.nD Cert.OutprojFwdRefIdeal.τ).loc Cert.OutprojFwdRefIdeal.main_v1) = v0 c
          ∧ r.2.mem ((c.tc : Thread Cert.OutprojFwdRefIdeal.nD Cert.OutprojFwdRefIdeal.τ).loc Cert.OutprojFwdRefIdeal.main_v15) = v1 c
          ∧ r.2.mem ((c.tc : Thread Cert.OutprojFwdRefIdeal.nD Cert.OutprojFwdRefIdeal.τ).loc Cert.OutprojFwdRefIdeal.main_arg0) = m' ((c.tc : Thread Cert.OutprojFwdRefIdeal.nD Cert.OutprojFwdRefIdeal.τ).loc Cert.OutprojFwdRefIdeal.main_arg0)
          ∧ r.2.mem ((c.tc : Thread Cert.OutprojFwdRefIdeal.nD Cert.OutprojFwdRefIdeal.τ).loc Cert.OutprojFwdRefIdeal.main_arg1) = m' ((c.tc : Thread Cert.OutprojFwdRefIdeal.nD Cert.OutprojFwdRefIdeal.τ).loc Cert.OutprojFwdRefIdeal.main_arg1)
          ∧ r.2.mem ((c.tc : Thread Cert.OutprojFwdRefIdeal.nD Cert.OutprojFwdRefIdeal.τ).loc Cert.OutprojFwdRefIdeal.main_arg2) = m' ((c.tc : Thread Cert.OutprojFwdRefIdeal.nD Cert.OutprojFwdRefIdeal.τ).loc Cert.OutprojFwdRefIdeal.main_arg2)
          ∧ r.2.mem ((c.tc : Thread Cert.OutprojFwdRefIdeal.nD Cert.OutprojFwdRefIdeal.τ).loc Cert.OutprojFwdRefIdeal.main_arg3) = m' ((c.tc : Thread Cert.OutprojFwdRefIdeal.nD Cert.OutprojFwdRefIdeal.τ).loc Cert.OutprojFwdRefIdeal.main_arg3))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)) →
    ∃ (v0 : (c : Dev Cert.MlpFwdIdeal.nD) → Buf (Elt Ideal) ((c.tc : Thread Cert.MlpFwdIdeal.nD Cert.MlpFwdIdeal.τ).loc Cert.MlpFwdIdeal.main_v6_0)) (v1 : (c : Dev Cert.MlpFwdIdeal.nD) → Buf (Elt Ideal) ((c.tc : Thread Cert.MlpFwdIdeal.nD Cert.MlpFwdIdeal.τ).loc Cert.MlpFwdIdeal.main_v6_1)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v6_0) = v0 c
          ∧ r.2.mem ((c.tc : Thread Cert.MlpFwdIdeal.nD Cert.MlpFwdIdeal.τ).loc Cert.MlpFwdIdeal.main_v6_1) = v1 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v1) = v0 c
          ∧ r.2.mem ((c.tc : Thread Cert.MlpFwdRefIdeal.nD Cert.MlpFwdRefIdeal.τ).loc Cert.MlpFwdRefIdeal.main_v5) = v1 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3))

def Claim : Prop :=
  ∃ (hConvBwd : Cert.ConvBwd.Facts) (hConvBwdIdeal : Cert.ConvBwdIdeal.Facts) (hConvBwdRefIdeal : Cert.ConvBwdRefIdeal.Facts) (hInprojBwd : Cert.InprojBwd.Facts) (hInprojBwdIdeal : Cert.InprojBwdIdeal.Facts) (hInprojBwdRefIdeal : Cert.InprojBwdRefIdeal.Facts) (hAttnBwd : Cert.AttnBwd.Facts) (hAttnBwdIdeal : Cert.AttnBwdIdeal.Facts) (hAttnBwdRefIdeal : Cert.AttnBwdRefIdeal.Facts) (hMlpBwd : Cert.MlpBwd.Facts) (hMlpBwdIdeal : Cert.MlpBwdIdeal.Facts) (hMlpBwdRefIdeal : Cert.MlpBwdRefIdeal.Facts) (hLastLayer : Cert.LastLayer.Facts) (hLastLayerIdeal : Cert.LastLayerIdeal.Facts) (hLastLayerRefIdeal : Cert.LastLayerRefIdeal.Facts) (hAttnFwd : Cert.AttnFwd.Facts) (hAttnFwdIdeal : Cert.AttnFwdIdeal.Facts) (hAttnFwdRefIdeal : Cert.AttnFwdRefIdeal.Facts) (hInprojFwd : Cert.InprojFwd.Facts) (hInprojFwdIdeal : Cert.InprojFwdIdeal.Facts) (hInprojFwdRefIdeal : Cert.InprojFwdRefIdeal.Facts) (hOutprojFwd : Cert.OutprojFwd.Facts) (hOutprojFwdIdeal : Cert.OutprojFwdIdeal.Facts) (hOutprojFwdRefIdeal : Cert.OutprojFwdRefIdeal.Facts) (hMlpFwd : Cert.MlpFwd.Facts) (hMlpFwdIdeal : Cert.MlpFwdIdeal.Facts) (hMlpFwdRefIdeal : Cert.MlpFwdRefIdeal.Facts) (hPre_attn_finite : Cert.Pre_attn_finite.Facts) (hPre_attn_scores_finite : Cert.Pre_attn_scores_finite.Facts),
    quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_InprojBwd (hInprojBwd := hInprojBwd)
    ∧ quiescent_InprojBwdIdeal (hInprojBwdIdeal := hInprojBwdIdeal)
    ∧ quiescent_InprojBwdRefIdeal (hInprojBwdRefIdeal := hInprojBwdRefIdeal)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_MlpBwd (hMlpBwd := hMlpBwd)
    ∧ quiescent_MlpBwdIdeal (hMlpBwdIdeal := hMlpBwdIdeal)
    ∧ quiescent_MlpBwdRefIdeal (hMlpBwdRefIdeal := hMlpBwdRefIdeal)
    ∧ quiescent_LastLayer (hLastLayer := hLastLayer)
    ∧ quiescent_LastLayerIdeal (hLastLayerIdeal := hLastLayerIdeal)
    ∧ quiescent_LastLayerRefIdeal (hLastLayerRefIdeal := hLastLayerRefIdeal)
    ∧ quiescent_AttnFwd (hAttnFwd := hAttnFwd)
    ∧ quiescent_AttnFwdIdeal (hAttnFwdIdeal := hAttnFwdIdeal)
    ∧ quiescent_AttnFwdIdeal_pre_attn_scores_finite (hAttnFwdIdeal := hAttnFwdIdeal) (hPre_attn_scores_finite := hPre_attn_scores_finite)
    ∧ quiescent_AttnFwdRefIdeal (hAttnFwdRefIdeal := hAttnFwdRefIdeal)
    ∧ quiescent_AttnFwdRefIdeal_pre_attn_scores_finite (hAttnFwdRefIdeal := hAttnFwdRefIdeal) (hPre_attn_scores_finite := hPre_attn_scores_finite)
    ∧ quiescent_InprojFwd (hInprojFwd := hInprojFwd)
    ∧ quiescent_InprojFwdIdeal (hInprojFwdIdeal := hInprojFwdIdeal)
    ∧ quiescent_InprojFwdRefIdeal (hInprojFwdRefIdeal := hInprojFwdRefIdeal)
    ∧ quiescent_OutprojFwd (hOutprojFwd := hOutprojFwd)
    ∧ quiescent_OutprojFwdIdeal (hOutprojFwdIdeal := hOutprojFwdIdeal)
    ∧ quiescent_OutprojFwdRefIdeal (hOutprojFwdRefIdeal := hOutprojFwdRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_InprojBwd_InprojBwdIdeal
    ∧ algebraic_InprojBwdIdeal_InprojBwdRefIdeal (hInprojBwdIdeal := hInprojBwdIdeal) (hInprojBwdRefIdeal := hInprojBwdRefIdeal)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_MlpBwd_MlpBwdIdeal
    ∧ algebraic_MlpBwdIdeal_MlpBwdRefIdeal (hMlpBwdIdeal := hMlpBwdIdeal) (hMlpBwdRefIdeal := hMlpBwdRefIdeal)
    ∧ preserves_LastLayer_LastLayerIdeal
    ∧ algebraic_LastLayerIdeal_LastLayerRefIdeal (hLastLayerIdeal := hLastLayerIdeal) (hLastLayerRefIdeal := hLastLayerRefIdeal)
    ∧ preserves_AttnFwd_AttnFwdIdeal
    ∧ algebraic_AttnFwdIdeal_AttnFwdRefIdeal_pre_attn_scores_finite (hAttnFwdIdeal := hAttnFwdIdeal) (hAttnFwdRefIdeal := hAttnFwdRefIdeal) (hPre_attn_scores_finite := hPre_attn_scores_finite)
    ∧ preserves_InprojFwd_InprojFwdIdeal
    ∧ algebraic_InprojFwdIdeal_InprojFwdRefIdeal (hInprojFwdIdeal := hInprojFwdIdeal) (hInprojFwdRefIdeal := hInprojFwdRefIdeal)
    ∧ preserves_OutprojFwd_OutprojFwdIdeal
    ∧ algebraic_OutprojFwdIdeal_OutprojFwdRefIdeal (hOutprojFwdIdeal := hOutprojFwdIdeal) (hOutprojFwdRefIdeal := hOutprojFwdRefIdeal)
    ∧ preserves_MlpFwd_MlpFwdIdeal
    ∧ algebraic_MlpFwdIdeal_MlpFwdRefIdeal (hMlpFwdIdeal := hMlpFwdIdeal) (hMlpFwdRefIdeal := hMlpFwdRefIdeal)
-- ==== Pre_attn_finite.lean ====
abbrev S8192x1792 : Shape := ⟨2, ![8192, 1792]⟩
abbrev S8 : Shape := ⟨1, ![8]⟩
abbrev S512 : Shape := ⟨1, ![512]⟩
abbrev S8192x1024 : Shape := ⟨2, ![8192, 1024]⟩
abbrev S8192x768 : Shape := ⟨2, ![8192, 768]⟩
abbrev S_ : Shape := ⟨0, ![]⟩
abbrev S8192x512 : Shape := ⟨2, ![8192, 512]⟩

class Facts : Prop where
  slices_S8192x1792_S8192x768_0_0 : S8192x1792.Slices ![0, 0] S8192x768
  bcast_S_S8192x768 : S_.BroadcastsInDim S8192x768 (![] : Fin 0 → Fin S8192x768.rank)
  reducesTo_S8192x768_S_d0_1 : S8192x768.ReducesTo [0, 1] S_
  h_S_ : 0 < S_.numel
  bcast_S_S8 : S_.BroadcastsInDim S8 (![] : Fin 0 → Fin S8.rank)
  reducesTo_S8_S_d0 : S8.ReducesTo [0] S_
  bcast_S_S512 : S_.BroadcastsInDim S512 (![] : Fin 0 → Fin S512.rank)
  reducesTo_S512_S_d0 : S512.ReducesTo [0] S_
  slices_S8192x1024_S8192x512_0_0 : S8192x1024.Slices ![0, 0] S8192x512
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v14 : IVec S_ 1) (main_v16 : FVec F S8192x512 .f32) (main_cst_4 : FVec F S_ .f32) : IVec S_ 1 :=
  let main_v17 : FVec F S8192x512 .f32 := broadcastInDim S8192x512 ![] bcast_S_S8192x512 main_cst_4
  let main_v18 : IVec S8192x512 1 := cmpf .olt main_v16 main_v17
  let main_c_5 : IVec S_ 1 := constantI S_ 1 1#1
  let main_v19 : IVec S_ 1 := (fun x v => Host.reduce IntOp.andi x v reducesTo_S8192x512_S_d0_1 h_S_) main_v18 main_c_5
  let main_v20 : IVec S_ 1 := andi main_v14 main_v19
  main_v20

def fn {F : FTy → Type} [FloatOps F] (main_arg0 : FVec F S8192x1792 .f32) (main_arg1 : FVec F S8 .f32) (main_arg2 : FVec F S512 .f32) (main_arg3 : FVec F S8192x1024 .f32) : IVec S_ 1 :=
  let main_v0 : FVec F S8192x768 .f32 := (extractStridedSlice S8192x768 ![0, 0] · slices_S8192x1792_S8192x768_0_0) main_arg0
  let main_v1 : FVec F S8192x768 .f32 := Host.absf main_v0
  let main_cst : FVec F S_ .f32 := constant S_ .f32 0x7F800000#32
  let main_v2 : FVec F S8192x768 .f32 := broadcastInDim S8192x768 ![] bcast_S_S8192x768 main_cst
  let main_v3 : IVec S8192x768 1 := cmpf .olt main_v1 main_v2
  let main_c : IVec S_ 1 := constantI S_ 1 1#1
  let main_v4 : IVec S_ 1 := (fun x v => Host.reduce IntOp.andi x v reducesTo_S8192x768_S_d0_1 h_S_) main_v3 main_c
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v4 main_v8
  let main_v10 : FVec F S512 .f32 := Host.absf main_arg2
  let main_cst_2 : FVec F S_ .f32 := constant S_ .f32 0x7F800000#32
  let main_v11 : FVec F S512 .f32 := broadcastInDim S512 ![] bcast_S_S512 main_cst_2
  let main_v12 : IVec S512 1 := cmpf .olt main_v10 main_v11
  let main_c_3 : IVec S_ 1 := constantI S_ 1 1#1
  let main_v13 : IVec S_ 1 := (fun x v => Host.reduce IntOp.andi x v reducesTo_S512_S_d0 h_S_) main_v12 main_c_3
  let main_v14 : IVec S_ 1 := andi main_v9 main_v13
  let main_v15 : FVec F S8192x512 .f32 := (extractStridedSlice S8192x512 ![0, 0] · slices_S8192x1024_S8192x512_0_0) main_arg3
  let main_v16 : FVec F S8192x512 .f32 := Host.absf main_v15
  let main_cst_4 : FVec F S_ .f32 := constant S_ .f32 0x7F800000#32
  fn_part1 (F := F) main_v14 main_v16 main_cst_4
-- ==== Pre_attn_scores_finite.lean ====
abbrev S8192x1792 : Shape := ⟨2, ![8192, 1792]⟩
abbrev S8 : Shape := ⟨1, ![8]⟩
abbrev S512 : Shape := ⟨1, ![512]⟩
abbrev S8192x640 : Shape := ⟨2, ![8192, 640]⟩
abbrev S_ : Shape := ⟨0, ![]⟩

class Facts : Prop where
  slices_S8192x1792_S8192x640_0_0 : S8192x1792.Slices ![0, 0] S8192x640
  bcast_S_S8192x640 : S_.BroadcastsInDim S8192x640 (![] : Fin 0 → Fin S8192x640.rank)
  reducesTo_S8192x640_S_d0_1 : S8192x640.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8192x1792 .f32) (main_arg1 : FVec F S8 .f32) (main_arg2 : FVec F S512 .f32) : IVec S_ 1 :=
  let main_v0 : FVec F S8192x640 .f32 := (extractStridedSlice S8192x640 ![0, 0] · slices_S8192x1792_S8192x640_0_0) main_arg0
  let main_v1 : FVec F S8192x640 .f32 := Host.absf main_v0
  let main_cst : FVec F S_ .f32 := constant S_ .f32 0x7F800000#32
  let main_v2 : FVec F S8192x640 .f32 := broadcastInDim S8192x640 ![] bcast_S_S8192x640 main_cst
  let main_v3 : IVec S8192x640 1 := cmpf .olt main_v1 main_v2
  let main_c : IVec S_ 1 := constantI S_ 1 1#1
  let main_v4 : IVec S_ 1 := (fun x v => Host.reduce IntOp.andi x v reducesTo_S8192x640_S_d0_1 h_S_) main_v3 main_c
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v4 main_v8
  main_v9
-- ==== ConvBwd.lean ====
abbrev S8192x1792 : Shape := ⟨2, ![8192, 1792]⟩
abbrev S31x256 : Shape := ⟨2, ![31, 256]⟩
abbrev S4x256 : Shape := ⟨2, ![4, 256]⟩
abbrev S8192x256 : Shape := ⟨2, ![8192, 256]⟩
abbrev S_ : Shape := ⟨0, ![]⟩
abbrev S32x256 : Shape := ⟨2, ![32, 256]⟩
abbrev S8x256 : Shape := ⟨2, ![8, 256]⟩
abbrev S8192x512 : Shape := ⟨2, ![8192, 512]⟩
abbrev S512x256 : Shape := ⟨2, ![512, 256]⟩
abbrev S512x512 : Shape := ⟨2, ![512, 512]⟩
abbrev S544x256 : Shape := ⟨2, ![544, 256]⟩
abbrev S1x256 : Shape := ⟨2, ![1, 256]⟩
abbrev S256 : Shape := ⟨1, ![256]⟩

abbrev nBuf : Space → Nat
  | .hbm => 16
  | .vmem => 28
  | .smem => 0
  | _ => 0

abbrev bufTy : (tb : Table) → Fin (tcTables nBuf tb) → BufTy
  | .hbm, ⟨0, _⟩ => ⟨S8192x1792, .f32⟩
  | .hbm, ⟨1, _⟩ => ⟨S31x256, .f32⟩
  | .hbm, ⟨2, _⟩ => ⟨S4x256, .f32⟩
  | .hbm, ⟨3, _⟩ => ⟨S8192x256, .f32⟩
  | .hbm, ⟨4, _⟩ => ⟨S8192x256, .f32⟩
  | .hbm, ⟨5, _⟩ => ⟨S_, .i32⟩
  | .hbm, ⟨6, _⟩ => ⟨S_, .f32⟩
  | .hbm, ⟨7, _⟩ => ⟨S32x256, .f32⟩
  | .hbm, ⟨8, _⟩ => ⟨S_, .i32⟩
  | .hbm, ⟨9, _⟩ => ⟨S_, .f32⟩
  | .hbm, ⟨10, _⟩ => ⟨S8x256, .f32⟩
  | .hbm, ⟨11, _⟩ => ⟨S8192x1792, .bf16⟩
  | .hbm, ⟨12, _⟩ => ⟨S8192x512, .bf16⟩
  | .hbm, ⟨13, _⟩ => ⟨S8192x256, .bf16⟩
  | .hbm, ⟨14, _⟩ => ⟨S32x256, .f32⟩
  | .hbm, ⟨15, _⟩ => ⟨S8x256, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S32x256, .bf16⟩
  | .local _ .vmem, ⟨5, _⟩ => ⟨S32x256, .bf16⟩
  | .local _ .vmem, ⟨6, _⟩ => ⟨S32x256, .bf16⟩
  | .local _ .vmem, ⟨7, _⟩ => ⟨S32x256, .bf16⟩
  | .local _ .vmem, ⟨8, _⟩ => ⟨S512x256, .bf16⟩
  | .local _ .vmem, ⟨9, _⟩ => ⟨S512x256, .bf16⟩
  | .local _ .vmem, ⟨10, _⟩ => ⟨S32x256, .bf16⟩
  | .local _ .vmem, ⟨11, _⟩ => ⟨S32x256, .bf16⟩
  | .local _ .vmem, ⟨12, _⟩ => ⟨S512x256, .f32⟩
  | .local _ .vmem, ⟨13, _⟩ => ⟨S512x256, .f32⟩
  | .local _ .vmem, ⟨14, _⟩ => ⟨S32x256, .f32⟩
  | .local _ .vmem, ⟨15, _⟩ => ⟨S32x256, .f32⟩
  | .local _ .vmem, ⟨16, _⟩ => ⟨S512x256, .f32⟩
  | .local _ .vmem, ⟨17, _⟩ => ⟨S512x256, .f32⟩
  | .local _ .vmem, ⟨18, _⟩ => ⟨S32x256, .f32⟩
  | .local _ .vmem, ⟨19, _⟩ => ⟨S32x256, .f32⟩
  | .local _ .vmem, ⟨20, _⟩ => ⟨S32x256, .f32⟩
  | .local _ .vmem, ⟨21, _⟩ => ⟨S8x256, .f32⟩
  | .local _ .vmem, ⟨22, _⟩ => ⟨S512x512, .bf16⟩
  | .local _ .vmem, ⟨23, _⟩ => ⟨S512x512, .bf16⟩
  | .local _ .vmem, ⟨24, _⟩ => ⟨S512x256, .bf16⟩
  | .local _ .vmem, ⟨25, _⟩ => ⟨S512x256, .bf16⟩
  | .local _ .vmem, ⟨26, _⟩ => ⟨S32x256, .f32⟩
  | .local _ .vmem, ⟨27, _⟩ => ⟨S8x256, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S32x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ConvBwdRefIdeal.lean ====
abbrev S8192x1792 : Shape := ⟨2, ![8192, 1792]⟩
abbrev S31x256 : Shape := ⟨2, ![31, 256]⟩
abbrev S4x256 : Shape := ⟨2, ![4, 256]⟩
abbrev S8192x256 : Shape := ⟨2, ![8192, 256]⟩
abbrev S_ : Shape := ⟨0, ![]⟩
abbrev S30x256 : Shape := ⟨2, ![30, 256]⟩
abbrev S8222x256 : Shape := ⟨2, ![8222, 256]⟩
abbrev S31 : Shape := ⟨1, ![31]⟩
abbrev S31x1 : Shape := ⟨2, ![31, 1]⟩
abbrev S8192 : Shape := ⟨1, ![8192]⟩
abbrev S1x8192 : Shape := ⟨2, ![1, 8192]⟩
abbrev S31x8192 : Shape := ⟨2, ![31, 8192]⟩
abbrev S31x8192x1 : Shape := ⟨3, ![31, 8192, 1]⟩
abbrev S31x8192x256 : Shape := ⟨3, ![31, 8192, 256]⟩
abbrev S31x1x256 : Shape := ⟨3, ![31, 1, 256]⟩
abbrev S3x256 : Shape := ⟨2, ![3, 256]⟩
abbrev S8195x256 : Shape := ⟨2, ![8195, 256]⟩
abbrev S4 : Shape := ⟨1, ![4]⟩
abbrev S4x1 : Shape := ⟨2, ![4, 1]⟩
abbrev S4x8192 : Shape := ⟨2, ![4, 8192]⟩
abbrev S4x8192x1 : Shape := ⟨3, ![4, 8192, 1]⟩
abbrev S4x8192x256 : Shape := ⟨3, ![4, 8192, 256]⟩
abbrev S4x1x256 : Shape := ⟨3, ![4, 1, 256]⟩
abbrev S8192x512 : Shape := ⟨2, ![8192, 512]⟩
abbrev S32x256 : Shape := ⟨2, ![32, 256]⟩
abbrev S8x256 : Shape := ⟨2, ![8, 256]⟩

abbrev nBuf : Space → Nat
  | .hbm => 113
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S31x256, .f32⟩
  | .hbm, ⟨2, _⟩ => ⟨S4x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S_, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S8192x256, .f32⟩
  | .hbm, ⟨15, _⟩ => ⟨S8192x256, .f32⟩
  | .hbm, ⟨16, _⟩ => ⟨S_, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S_, .f32⟩
  | .hbm, ⟨22, _⟩ => ⟨S30x256, .f32⟩
  | .hbm, ⟨23, _⟩ => ⟨S8222x256, .f32⟩
  | .hbm, ⟨24, _⟩ => ⟨S_, .f32⟩
  | .hbm, ⟨25, _⟩ => ⟨S30x256, .f32⟩
  | .hbm, ⟨26, _⟩ => ⟨S31, .i32⟩
  | .hbm, ⟨27, _⟩ => ⟨S31x1, .i32⟩
  | .hbm, ⟨28, _⟩ => ⟨S8192, .i32⟩
  | .hbm, ⟨29, _⟩ => ⟨S1x8192, .i32⟩
  | .hbm, ⟨30, _⟩ => ⟨S31x8192, .i32⟩
  | .hbm, ⟨31, _⟩ => ⟨S31x8192, .i32⟩
  | .hbm, ⟨32, _⟩ => ⟨S31x8192, .i32⟩
  | .hbm, ⟨33, _⟩ => ⟨S_, .i32⟩
  | .hbm, ⟨34, _⟩ => ⟨S31x8192, .i32⟩
  | .hbm, ⟨35, _⟩ => ⟨S31x8192, .i1⟩
  | .hbm, ⟨36, _⟩ => ⟨S_, .i32⟩
  | .hbm, ⟨37, _⟩ => ⟨S31x8192, .i32⟩
  | .hbm, ⟨38, _⟩ => ⟨S31x8192, .i32⟩
  | .hbm, ⟨39, _⟩ => ⟨S31x8192, .i32⟩
  | .hbm, ⟨40, _⟩ => ⟨S31x8192x1, .i32⟩
  | .hbm, ⟨41, _⟩ => ⟨S31x8192x256, .f32⟩
  | .hbm, ⟨42, _⟩ => ⟨S31x1x256, .f32⟩
  | .hbm, ⟨43, _⟩ => ⟨S31x8192x256, .f32⟩
  | .hbm, ⟨44, _⟩ => ⟨S31x8192x256, .f32⟩
  | .hbm, ⟨45, _⟩ => ⟨S_, .f32⟩
  | .hbm, ⟨46, _⟩ => ⟨S8192x256, .f32⟩
  | .hbm, ⟨47, _⟩ => ⟨S_, .f32⟩
  | .hbm, ⟨48, _⟩ => ⟨S3x256, .f32⟩
  | .hbm, ⟨49, _⟩ => ⟨S8195x256, .f32⟩
  | .hbm, ⟨50, _⟩ => ⟨S_, .f32⟩
  | .hbm, ⟨51, _⟩ => ⟨S3x256, .f32⟩
  | .hbm, ⟨52, _⟩ => ⟨S4, .i32⟩
  | .hbm, ⟨53, _⟩ => ⟨S4x1, .i32⟩
  | .hbm, ⟨54, _⟩ => ⟨S8192, .i32⟩
  | .hbm, ⟨55, _⟩ => ⟨S1x8192, .i32⟩
  | .hbm, ⟨56, _⟩ => ⟨S4x8192, .i32⟩
  | .hbm, ⟨57, _⟩ => ⟨S4x8192, .i32⟩
  | .hbm, ⟨58, _⟩ => ⟨S4x8192, .i32⟩
  | .hbm, ⟨59, _⟩ => ⟨S_, .i32⟩
  | .hbm, ⟨60, _⟩ => ⟨S4x8192, .i32⟩
  | .hbm, ⟨61, _⟩ => ⟨S4x8192, .i1⟩
  | .hbm, ⟨62, _⟩ => ⟨S_, .i32⟩
  | .hbm, ⟨63, _⟩ => ⟨S4x8192, .i32⟩
  | .hbm, ⟨64, _⟩ => ⟨S4x8192, .i32⟩
  | .hbm, ⟨65, _⟩ => ⟨S4x8192, .i32⟩
  | .hbm, ⟨66, _⟩ => ⟨S4x8192x1, .i32⟩
  | .hbm, ⟨67, _⟩ => ⟨S4x8192x256, .f32⟩
  | .hbm, ⟨68, _⟩ => ⟨S4x1x256, .f32⟩
  | .hbm, ⟨69, _⟩ => ⟨S4x8192x256, .f32⟩
  | .hbm, ⟨70, _⟩ => ⟨S4x8192x256, .f32⟩
  | .hbm, ⟨71, _⟩ => ⟨S_, .f32⟩
  | .hbm, ⟨72, _⟩ => ⟨S8192x256, .f32⟩
  | .hbm, ⟨73, _⟩ => ⟨S4x8192x256, .f32⟩
  | .hbm, ⟨74, _⟩ => ⟨S4x8192x256, .f32⟩
  | .hbm, ⟨75, _⟩ => ⟨S4x8192x256, .f32⟩
  | .hbm, ⟨76, _⟩ => ⟨S4x8192x256, .f32⟩
  | .hbm, ⟨77, _⟩ => ⟨S_, .f32⟩
  | .hbm, ⟨78, _⟩ => ⟨S4x256, .f32⟩
  | .hbm, ⟨79, _⟩ => ⟨S4x1x256, .f32⟩
  | .hbm, ⟨80, _⟩ => ⟨S_, .f32⟩
  | .hbm, ⟨81, _⟩ => ⟨S4x256, .f32⟩
  | .hbm, ⟨82, _⟩ => ⟨S_, .f32⟩
  | .hbm, ⟨83, _⟩ => ⟨S8195x256, .f32⟩
  | .hbm, ⟨84, _⟩ => ⟨S8195x256, .f32⟩
  | .hbm, ⟨85, _⟩ => ⟨S3x256, .f32⟩
  | .hbm, ⟨86, _⟩ => ⟨S8192x256, .f32⟩
  | .hbm, ⟨87, _⟩ => ⟨S31x8192x256, .f32⟩
  | .hbm, ⟨88, _⟩ => ⟨S31x8192x256, .f32⟩
  | .hbm, ⟨89, _⟩ => ⟨S31x8192x256, .f32⟩
  | .hbm, ⟨90, _⟩ => ⟨S31x8192x256, .f32⟩
  | .hbm, ⟨91, _⟩ => ⟨S_, .f32⟩
  | .hbm, ⟨92, _⟩ => ⟨S31x256, .f32⟩
  | .hbm, ⟨93, _⟩ => ⟨S31x1x256, .f32⟩
  | .hbm, ⟨94, _⟩ => ⟨S_, .f32⟩
  | .hbm, ⟨95, _⟩ => ⟨S31x256, .f32⟩
  | .hbm, ⟨96, _⟩ => ⟨S_, .f32⟩
  | .hbm, ⟨97, _⟩ => ⟨S8222x256, .f32⟩
  | .hbm, ⟨98, _⟩ => ⟨S8222x256, .f32⟩
  | .hbm, ⟨99, _⟩ => ⟨S30x256, .f32⟩
  | .hbm, ⟨100, _⟩ => ⟨S8192x256, .f32⟩
  | .hbm, ⟨101, _⟩ => ⟨S8192x256, .f32⟩
  | .hbm, ⟨102, _⟩ => ⟨S8192x256, .f32⟩
  | .hbm, ⟨103, _⟩ => ⟨S8192x256, .f32⟩
  | .hbm, ⟨104, _⟩ => ⟨S8192x512, .f32⟩
  | .hbm, ⟨105, _⟩ => ⟨S8192x512, .bf16⟩
  | .hbm, ⟨106, _⟩ => ⟨S8192x256, .bf16⟩
  | .hbm, ⟨107, _⟩ => ⟨S_, .i32⟩
  | .hbm, ⟨108, _⟩ => ⟨S_, .f32⟩
  | .hbm, ⟨109, _⟩ => ⟨S32x256, .f32⟩
  | .hbm, ⟨110, _⟩ => ⟨S_, .i32⟩
  | .hbm, ⟨111, _⟩ => ⟨S_, .f32⟩
  | .hbm, ⟨112, _⟩ => ⟨S8x256, .f32⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_8 : Ref sig .tc := ⟨.hbm, 59, rfl⟩
abbrev main_v44 : Ref sig .tc := ⟨.hbm, 60, rfl⟩
abbrev main_v45 : Ref sig .tc := ⟨.hbm, 61, rfl⟩
abbrev main_c_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_v71 : Ref sig .tc := ⟨.hbm, 93, rfl⟩
abbrev main_cst_15 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_c_17 : Ref sig .tc := ⟨.hbm, 107, rfl⟩
abbrev main_call0_v0 : Ref sig .tc := ⟨.hbm, 108, rfl⟩
abbrev main_v83 : Ref sig .tc := ⟨.hbm, 109, rfl⟩
abbrev main_c_18 : Ref sig .tc := ⟨.hbm, 110, rfl⟩
abbrev main_call1_v0 : Ref sig .tc := ⟨.hbm, 111, rfl⟩
abbrev main_v84 : Ref sig .tc := ⟨.hbm, 112, rfl⟩

abbrev nD : Nat := 1
abbrev τ : Topo := Topo.v7x

variable {F : FTy → Type} [FloatOps F]
-- ==== InprojBwd.lean ====
abbrev S8192x1024 : Shape := ⟨2, ![8192, 1024]⟩
abbrev S1024 : Shape := ⟨1, ![1024]⟩
abbrev S1024x1792 : Shape := ⟨2, ![1024, 1792]⟩
abbrev S8192x1792 : Shape := ⟨2, ![8192, 1792]⟩
abbrev S8192x512 : Shape := ⟨2, ![8192, 512]⟩
abbrev S8192x256 : Shape := ⟨2, ![8192, 256]⟩
abbrev S1x1024 : Shape := ⟨2, ![1, 1024]⟩
abbrev S1792x1024 : Shape := ⟨2, ![1792, 1024]⟩
abbrev S512x512 : Shape := ⟨2, ![512, 512]⟩
abbrev S512x256 : Shape := ⟨2, ![512, 256]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩

abbrev nBuf : Space → Nat
  | .hbm => 17
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x1792, .f32⟩
  | .hbm, ⟨4, _⟩ => ⟨S8192x1024, .f32⟩
  | .hbm, ⟨5, _⟩ => ⟨S8192x1792, .bf16⟩
  | .hbm, ⟨6, _⟩ => ⟨S8192x512, .bf16⟩
  | .hbm, ⟨7, _⟩ => ⟨S8192x256, .bf16⟩
  | .hbm, ⟨8, _⟩ => ⟨S8192x512, .bf16⟩
  | .hbm, ⟨9, _⟩ => ⟨S8192x256, .bf16⟩
  | .hbm, ⟨10, _⟩ => ⟨S8192x256, .bf16⟩
  | .hbm, ⟨11, _⟩ => ⟨S1x1024, .f32⟩
  | .hbm, ⟨12, _⟩ => ⟨S1792x1024, .f32⟩
  | .hbm, ⟨13, _⟩ => ⟨S1792x1024, .bf16⟩
  | .hbm, ⟨14, _⟩ => ⟨S8192x1024, .f32⟩
  | .hbm, ⟨15, _⟩ => ⟨S1792x1024, .f32⟩
  | .hbm, ⟨16, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1792x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1792x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1792x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1792x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InprojBwdRefIdeal.lean ====
abbrev S8192x1024 : Shape := ⟨2, ![8192, 1024]⟩
abbrev S1024 : Shape := ⟨1, ![1024]⟩
abbrev S1024x1792 : Shape := ⟨2, ![1024, 1792]⟩
abbrev S8192x1792 : Shape := ⟨2, ![8192, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1792x1024 : Shape := ⟨2, ![1792, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x1792, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1792, .f32⟩
  | .hbm, ⟨26, _⟩ => ⟨S1792x1024, .f32⟩
  | .hbm, ⟨27, _⟩ => ⟨S1024x1792, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1792x1024, .f32⟩
  | .hbm, ⟨56, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== AttnBwd.lean ====
abbrev S8192x1792 : Shape := ⟨2, ![8192, 1792]⟩
abbrev S8 : Shape := ⟨1, ![8]⟩
abbrev S512 : Shape := ⟨1, ![512]⟩
abbrev S8192x1024 : Shape := ⟨2, ![8192, 1024]⟩
abbrev S8x128 : Shape := ⟨2, ![8, 128]⟩
abbrev S1024 : Shape := ⟨1, ![1024]⟩
abbrev S1x1024 : Shape := ⟨2, ![1, 1024]⟩
abbrev S128 : Shape := ⟨1, ![128]⟩
abbrev S1x128 : Shape := ⟨2, ![1, 128]⟩
abbrev S256 : Shape := ⟨1, ![256]⟩
abbrev S256x1 : Shape := ⟨2, ![256, 1]⟩
abbrev S256x128 : Shape := ⟨2, ![256, 128]⟩
abbrev S_ : Shape := ⟨0, ![]⟩
abbrev S1x256x128 : Shape := ⟨3, ![1, 256, 128]⟩
abbrev S2x256x128 : Shape := ⟨3, ![2, 256, 128]⟩
abbrev S1x2x1x256x1x128 : Shape := ⟨6, ![1, 2, 1, 256, 1, 128]⟩
abbrev S1x2x1x256x4x128 : Shape := ⟨6, ![1, 2, 1, 256, 4, 128]⟩
abbrev S2x256x512 : Shape := ⟨3, ![2, 256, 512]⟩
abbrev S8192x512 : Shape := ⟨2, ![8192, 512]⟩
abbrev S1x8192x512 : Shape := ⟨3, ![1, 8192, 512]⟩
abbrev S8192x128 : Shape := ⟨2, ![8192, 128]⟩
abbrev S1x8192x128 : Shape := ⟨3, ![1, 8192, 128]⟩
abbrev S1x64x128x2x4x64 : Shape := ⟨6, ![1, 64, 128, 2, 4, 64]⟩
abbrev S1x64x128x2x64 : Shape := ⟨5, ![1, 64, 128, 2, 64]⟩
abbrev S1x1x128x2x64 : Shape := ⟨5, ![1, 1, 128, 2, 64]⟩
abbrev S1x63x128x2x64 : Shape := ⟨5, ![1, 63, 128, 2, 64]⟩
abbrev S1x64x256x2x64 : Shape := ⟨5, ![1, 64, 256, 2, 64]⟩
abbrev S1x64x2x256x128x4 : Shape := ⟨6, ![1, 64, 2, 256, 128, 4]⟩
abbrev S1x64x2x4x128x256 : Shape := ⟨6, ![1, 64, 2, 4, 128, 256]⟩
abbrev S64x128x256 : Shape := ⟨3, ![64, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S1x512 : Shape := ⟨2, ![1, 512]⟩
abbrev S8192x256 : Shape := ⟨2, ![8192, 256]⟩
abbrev S1024x512 : Shape := ⟨2, ![1024, 512]⟩
abbrev S1024x256 : Shape := ⟨2, ![1024, 256]⟩
abbrev S128x256 : Shape := ⟨2, ![128, 256]⟩
abbrev S128x128 : Shape := ⟨2, ![128, 128]⟩
abbrev S1x256x512 : Shape := ⟨3, ![1, 256, 512]⟩
abbrev S256x512 : Shape := ⟨2, ![256, 512]⟩
abbrev S128x512 : Shape := ⟨2, ![128, 512]⟩
abbrev S512x128 : Shape := ⟨2, ![512, 128]⟩
abbrev S128x1 : Shape := ⟨2, ![128, 1]⟩
abbrev S256x256 : Shape := ⟨2, ![256, 256]⟩
abbrev S1 : Shape := ⟨1, ![1]⟩
abbrev S1x1 : Shape := ⟨2, ![1, 1]⟩

abbrev nBuf : Space → Nat
  | .hbm => 120
  | .vmem => 21
  | .smem => 0
  | _ => 0

abbrev bufTy : (tb : Table) → Fin (tcTables nBuf tb) → BufTy
  | .hbm, ⟨0, _⟩ => ⟨S8192x1792, .f32⟩
  | .hbm, ⟨1, _⟩ => ⟨S8, .f32⟩
  | .hbm, ⟨2, _⟩ => ⟨S512, .f32⟩
  | .hbm, ⟨3, _⟩ => ⟨S8192x1024, .f32⟩
  | .hbm, ⟨4, _⟩ => ⟨S8x128, .f32⟩
  | .hbm, ⟨5, _⟩ => ⟨S1024, .f32⟩
  | .hbm, ⟨6, _⟩ => ⟨S1x1024, .f32⟩
  | .hbm, ⟨7, _⟩ => ⟨S128, .i32⟩
  | .hbm, ⟨8, _⟩ => ⟨S1x128, .i32⟩
  | .hbm, ⟨9, _⟩ => ⟨S256, .i32⟩
  | .hbm, ⟨10, _⟩ => ⟨S256x1, .i32⟩
  | .hbm, ⟨11, _⟩ => ⟨S256x128, .i32⟩
  | .hbm, ⟨12, _⟩ => ⟨S256x128, .i32⟩
  | .hbm, ⟨13, _⟩ => ⟨S256x128, .i1⟩
  | .hbm, ⟨14, _⟩ => ⟨S_, .i32⟩
  | .hbm, ⟨15, _⟩ => ⟨S1x128, .i32⟩
  | .hbm, ⟨16, _⟩ => ⟨S1x128, .i32⟩
  | .hbm, ⟨17, _⟩ => ⟨S256x128, .i32⟩
  | .hbm, ⟨18, _⟩ => ⟨S256x128, .i32⟩
  | .hbm, ⟨19, _⟩ => ⟨S256x128, .i1⟩
  | .hbm, ⟨20, _⟩ => ⟨S256x128, .i1⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x128, .i1⟩
  | .hbm, ⟨25, _⟩ => ⟨S256x128, .i1⟩
  | .hbm, ⟨26, _⟩ => ⟨S1x256x128, .i1⟩
  | .hbm, ⟨27, _⟩ => ⟨S1x256x128, .i1⟩
  | .hbm, ⟨28, _⟩ => ⟨S2x256x128, .i1⟩
  | .hbm, ⟨29, _⟩ => ⟨S_, .f32⟩
  | .hbm, ⟨30, _⟩ => ⟨S_, .f32⟩
  | .hbm, ⟨31, _⟩ => ⟨S2x256x128, .f32⟩
  | .hbm, ⟨32, _⟩ => ⟨S2x256x128, .f32⟩
  | .hbm, ⟨33, _⟩ => ⟨S2x256x128, .f32⟩
  | .hbm, ⟨34, _⟩ => ⟨S2x256x128, .f32⟩
  | .hbm, ⟨35, _⟩ => ⟨S1x2x1x256x1x128, .f32⟩
  | .hbm, ⟨36, _⟩ => ⟨S1x2x1x256x4x128, .f32⟩
  | .hbm, ⟨37, _⟩ => ⟨S2x256x512, .f32⟩
  | .hbm, ⟨38, _⟩ => ⟨S8192x512, .f32⟩
  | .hbm, ⟨39, _⟩ => ⟨S1x8192x512, .f32⟩
  | .hbm, ⟨40, _⟩ => ⟨S8192x128, .f32⟩
  | .hbm, ⟨41, _⟩ => ⟨S1x8192x128, .f32⟩
  | .hbm, ⟨42, _⟩ => ⟨S8192x128, .f32⟩
  | .hbm, ⟨43, _⟩ => ⟨S1x8192x128, .f32⟩
  | .hbm, ⟨44, _⟩ => ⟨S1x64x128x2x4x64, .f32⟩
  | .hbm, ⟨45, _⟩ => ⟨S1x64x128x2x64, .f32⟩
  | .hbm, ⟨46, _⟩ => ⟨S1x64x128x2x64, .f32⟩
  | .hbm, ⟨47, _⟩ => ⟨S1x1x128x2x64, .f32⟩
  | .hbm, ⟨48, _⟩ => ⟨S_, .f32⟩
  | .hbm, ⟨49, _⟩ => ⟨S1x1x128x2x64, .f32⟩
  | .hbm, ⟨50, _⟩ => ⟨S1x63x128x2x64, .f32⟩
  | .hbm, ⟨51, _⟩ => ⟨S1x64x128x2x64, .f32⟩
  | .hbm, ⟨52, _⟩ => ⟨S1x64x256x2x64, .f32⟩
  | .hbm, ⟨53, _⟩ => ⟨S1x1x128x2x64, .f32⟩
  | .hbm, ⟨54, _⟩ => ⟨S_, .f32⟩
  | .hbm, ⟨55, _⟩ => ⟨S1x1x128x2x64, .f32⟩
  | .hbm, ⟨56, _⟩ => ⟨S1x63x128x2x64, .f32⟩
  | .hbm, ⟨57, _⟩ => ⟨S1x64x128x2x64, .f32⟩
  | .hbm, ⟨58, _⟩ => ⟨S1x64x256x2x64, .f32⟩
  | .hbm, ⟨59, _⟩ => ⟨S1x64x2x256x128x4, .f32⟩
  | .hbm, ⟨60, _⟩ => ⟨S1x64x2x4x128x256, .f32⟩
  | .hbm, ⟨61, _⟩ => ⟨S_, .f32⟩
  | .hbm, ⟨62, _⟩ => ⟨S1x64x2x4x128x256, .f32⟩
  | .hbm, ⟨63, _⟩ => ⟨S1x64x2x4x128x256, .f32⟩
  | .hbm, ⟨64, _⟩ => ⟨S64x128x256, .i32⟩
  | .hbm, ⟨65, _⟩ => ⟨S64x128x256, .i32⟩
  | .hbm, ⟨66, _⟩ => ⟨S64x128x256, .i32⟩
  | .hbm, ⟨67, _⟩ => ⟨S_, .i32⟩
  | .hbm, ⟨68, _⟩ => ⟨S64x128x256, .i32⟩
  | .hbm, ⟨69, _⟩ => ⟨S_, .i32⟩
  | .hbm, ⟨70, _⟩ => ⟨S64x128x256, .i32⟩
  | .hbm, ⟨71, _⟩ => ⟨S_, .i32⟩
  | .hbm, ⟨72, _⟩ => ⟨S64x128x256, .i32⟩
  | .hbm, ⟨73, _⟩ => ⟨S64x128x256, .i32⟩
  | .hbm, ⟨74, _⟩ => ⟨S64x128x256, .i32⟩
  | .hbm, ⟨75, _⟩ => ⟨S64x128x256, .i32⟩
  | .hbm, ⟨76, _⟩ => ⟨S64x128x256, .i32⟩
  | .hbm, ⟨77, _⟩ => ⟨S64x128x256, .i32⟩
  | .hbm, ⟨78, _⟩ => ⟨S64x128x256, .i32⟩
  | .hbm, ⟨79, _⟩ => ⟨S64x128x256, .i1⟩
  | .hbm, ⟨80, _⟩ => ⟨S64x128x256, .i1⟩
  | .hbm, ⟨81, _⟩ => ⟨S64x128x256, .i1⟩
  | .hbm, ⟨82, _⟩ => ⟨S64x128x256, .i1⟩
  | .hbm, ⟨83, _⟩ => ⟨S64x128x256, .i1⟩
  | .hbm, ⟨84, _⟩ => ⟨S1x64x1x1x128x256, .i1⟩
  | .hbm, ⟨85, _⟩ => ⟨S_, .f32⟩
  | .hbm, ⟨86, _⟩ => ⟨S_, .f32⟩
  | .hbm, ⟨87, _⟩ => ⟨S1x64x2x4x128x256, .i1⟩
  | .hbm, ⟨88, _⟩ => ⟨S1x64x2x4x128x256, .f32⟩
  | .hbm, ⟨89, _⟩ => ⟨S1x64x2x4x128x256, .f32⟩
  | .hbm, ⟨90, _⟩ => ⟨S2x4, .f32⟩
  | .hbm, ⟨91, _⟩ => ⟨S1x1x2x4x1x1, .f32⟩
  | .hbm, ⟨92, _⟩ => ⟨S_, .f32⟩
  | .hbm, ⟨93, _⟩ => ⟨S1x64x2x4x128, .f32⟩
  | .hbm, ⟨94, _⟩ => ⟨S1x64x2x4x128x1, .f32⟩
  | .hbm, ⟨95, _⟩ => ⟨S1x64x2x4x128x1, .f32⟩
  | .hbm, ⟨96, _⟩ => ⟨S1x64x2x4x128x1, .f32⟩
  | .hbm, ⟨97, _⟩ => ⟨S1x64x2x4x128x256, .f32⟩
  | .hbm, ⟨98, _⟩ => ⟨S1x64x2x4x128x256, .f32⟩
  | .hbm, ⟨99, _⟩ => ⟨S1x64x2x4x128x256, .f32⟩
  | .hbm, ⟨100, _⟩ => ⟨S_, .f32⟩
  | .hbm, ⟨101, _⟩ => ⟨S1x64x2x4x128, .f32⟩
  | .hbm, ⟨102, _⟩ => ⟨S1x64x2x4x128x1, .f32⟩
  | .hbm, ⟨103, _⟩ => ⟨S1x64x2x4x128x1, .f32⟩
  | .hbm, ⟨104, _⟩ => ⟨S1x64x2x4x128x1, .f32⟩
  | .hbm, ⟨105, _⟩ => ⟨S1x64x2x4x128x1, .f32⟩
  | .hbm, ⟨106, _⟩ => ⟨S1x64x2x4x128x1, .f32⟩
  | .hbm, ⟨107, _⟩ => ⟨S1x64x2x4x128x256, .f32⟩
  | .hbm, ⟨108, _⟩ => ⟨S1x64x2x4x128x256, .f32⟩
  | .hbm, ⟨109, _⟩ => ⟨S1x64x2x64x4x128, .f32⟩
  | .hbm, ⟨110, _⟩ => ⟨S1x64x128x2x4x64, .f32⟩
  | .hbm, ⟨111, _⟩ => ⟨S1x8192x512, .f32⟩
  | .hbm, ⟨112, _⟩ => ⟨S8192x512, .f32⟩
  | .hbm, ⟨113, _⟩ => ⟨S8192x1792, .bf16⟩
  | .hbm, ⟨114, _⟩ => ⟨S8192x512, .bf16⟩
  | .hbm, ⟨115, _⟩ => ⟨S1x512, .f32⟩
  | .hbm, ⟨116, _⟩ => ⟨S8192x512, .bf16⟩
  | .hbm, ⟨117, _⟩ => ⟨S8192x256, .bf16⟩
  | .hbm, ⟨118, _⟩ => ⟨S8x128, .f32⟩
  | .hbm, ⟨119, _⟩ => ⟨S1x512, .f32⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S128x256, .bf16⟩
  | .local _ .vmem, ⟨5, _⟩ => ⟨S128x256, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1x1024, .f32⟩
  | .local _ .vmem, ⟨11, _⟩ => ⟨S2x256x512, .f32⟩
  | .local _ .vmem, ⟨12, _⟩ => ⟨S1x512, .f32⟩
  | .local _ .vmem, ⟨13, _⟩ => ⟨S1024x512, .bf16⟩
  | .local _ .vmem, ⟨14, _⟩ => ⟨S1024x512, .bf16⟩
  | .local _ .vmem, ⟨15, _⟩ => ⟨S1024x256, .bf16⟩
  | .local _ .vmem, ⟨16, _⟩ => ⟨S1024x256, .bf16⟩
  | .local _ .vmem, ⟨17, _⟩ => ⟨S8x128, .f32⟩
  | .local _ .vmem, ⟨18, _⟩ => ⟨S1x512, .f32⟩
  | .local _ .vmem, ⟨19, _⟩ => ⟨S128x256, .f32⟩
  | .local _ .vmem, ⟨20, _⟩ => ⟨S1x1024, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c_5 : Ref sig .tc := ⟨.hbm, 67, rfl⟩
abbrev main_v54 : Ref sig .tc := ⟨.hbm, 68, rfl⟩
abbrev main_c_6 : Ref sig .tc := ⟨.hbm, 69, rfl⟩
abbrev main_v55 : Ref sig .tc := ⟨.hbm, 70, rfl⟩
abbrev main_c_7 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_8 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_9 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_10 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94_0 : Ref sig .tc := ⟨.hbm, 116, rfl⟩
abbrev main_v94_1 : Ref sig .tc := ⟨.hbm, 117, rfl⟩
abbrev main_v94_2 : Ref sig .tc := ⟨.hbm, 118, rfl⟩
abbrev main_v94_3 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let c7_i32 : BitVec 32 := 7#32
  let arg0 : BitVec 32 := BitVec.ofNat 32 (i 0).val
  let v0 : BitVec 32 := Scalar.subi c7_i32 arg0
  let c1_i32 : BitVec 32 := 1#32
  let v12 : BitVec 32 := Scalar.minsi v0 c1_i32
  let v13 : Index := Scalar.indexCast v12
  let c0_4 : Index := 0#32
  let c0_5 : Index := 0#32
  ![v13.toNat, 0, 0]
def k0_cond2 (i : grid0.Coords) : BitVec 1 :=
  let arg0 : BitVec 32 := BitVec.ofNat 32 (i 0).val
  let c7_i32_564 : BitVec 32 := 7#32
  let v1712 : BitVec 1 := Scalar.cmpi .eq arg0 c7_i32_564
  let v1713 : BitVec 32 := Scalar.extui v1712
  let c0_i32_565 : BitVec 32 := 0#32
  let v1714 : BitVec 1 := Scalar.cmpi .ne v1713 c0_i32_565
  v1714

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== AttnBwdRefIdeal.lean ====
abbrev S8192x1792 : Shape := ⟨2, ![8192, 1792]⟩
abbrev S8 : Shape := ⟨1, ![8]⟩
abbrev S512 : Shape := ⟨1, ![512]⟩
abbrev S8192x1024 : Shape := ⟨2, ![8192, 1024]⟩
abbrev S8192x512 : Shape := ⟨2, ![8192, 512]⟩
abbrev S8192x128 : Shape := ⟨2, ![8192, 128]⟩
abbrev S1x8192x512 : Shape := ⟨3, ![1, 8192, 512]⟩
abbrev S1x8192x128 : Shape := ⟨3, ![1, 8192, 128]⟩
abbrev S1x64x128x2x4x64 : Shape := ⟨6, ![1, 64, 128, 2, 4, 64]⟩
abbrev S1x64x128x2x64 : Shape := ⟨5, ![1, 64, 128, 2, 64]⟩
abbrev S1x1x128x2x64 : Shape := ⟨5, ![1, 1, 128, 2, 64]⟩
abbrev S_ : Shape := ⟨0, ![]⟩
abbrev S1x63x128x2x64 : Shape := ⟨5, ![1, 63, 128, 2, 64]⟩
abbrev S1x64x256x2x64 : Shape := ⟨5, ![1, 64, 256, 2, 64]⟩
abbrev S1x64x2x256x128x4 : Shape := ⟨6, ![1, 64, 2, 256, 128, 4]⟩
abbrev S1x64x2x4x128x256 : Shape := ⟨6, ![1, 64, 2, 4, 128, 256]⟩
abbrev S64 : Shape := ⟨1, ![64]⟩
abbrev S64x1 : Shape := ⟨2, ![64, 1]⟩
abbrev S128 : Shape := ⟨1, ![128]⟩
abbrev S1x128 : Shape := ⟨2, ![1, 128]⟩
abbrev S64x128 : Shape := ⟨2, ![64, 128]⟩
abbrev S256 : Shape := ⟨1, ![256]⟩
abbrev S1x256 : Shape := ⟨2, ![1, 256]⟩
abbrev S64x256 : Shape := ⟨2, ![64, 256]⟩
abbrev S64x128x1 : Shape := ⟨3, ![64, 128, 1]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S8192 : Shape := ⟨1, ![8192]⟩
abbrev S8192x1 : Shape := ⟨2, ![8192, 1]⟩
abbrev S1x512 : Shape := ⟨2, ![1, 512]⟩
abbrev S1x64x2x64x256 : Shape := ⟨5, ![1, 64, 2, 64, 256]⟩
abbrev S1x2x4x1 : Shape := ⟨4, ![1, 2, 4, 1]⟩
abbrev S64x2x4x128 : Shape := ⟨4, ![64, 2, 4, 128]⟩
abbrev S1x64x2x128x4x64 : Shape := ⟨6, ![1, 64, 2, 128, 4, 64]⟩
abbrev S1x64x2x256x64 : Shape := ⟨5, ![1, 64, 2, 256, 64]⟩
abbrev S8192x256 : Shape := ⟨2, ![8192, 256]⟩
abbrev S8x1 : Shape := ⟨2, ![8, 1]⟩
abbrev S8x128 : Shape := ⟨2, ![8, 128]⟩

abbrev nBuf : Space → Nat
  | .hbm => 271
  | .vmem => 0
  | .smem => 0
  | _ => 0

abbrev hbmTy0_0 (i : Nat) : BufTy := match i % 128 with
  | 0 => ⟨S8192x1792, .f32⟩
  | 1 => ⟨S8, .f32⟩
  | 2 => ⟨S512, .f32⟩
  | 3 => ⟨S8192x1024, .f32⟩
  | 4 => ⟨S8192x512, .f32⟩
  | 5 => ⟨S8192x128, .f32⟩
  | 6 => ⟨S8192x128, .f32⟩
  | 7 => ⟨S1x8192x512, .f32⟩
  | 8 => ⟨S1x8192x128, .f32⟩
  | 9 => ⟨S1x8192x128, .f32⟩
  | 10 => ⟨S1x64x128x2x4x64, .f32⟩
  | 11 => ⟨S1x64x128x2x64, .f32⟩
  | 12 => ⟨S1x64x128x2x64, .f32⟩
  | 13 => ⟨S1x1x128x2x64, .f32⟩
  | 14 => ⟨S_, .f32⟩
  | 15 => ⟨S1x1x128x2x64, .f32⟩
  | 16 => ⟨S1x63x128x2x64, .f32⟩
  | 17 => ⟨S1x64x128x2x64, .f32⟩
  | 18 => ⟨S_, .f32⟩
  | 19 => ⟨S1x1x128x2x64, .f32⟩
  | 20 => ⟨S1x64x256x2x64, .f32⟩
  | 21 => ⟨S1x1x128x2x64, .f32⟩
  | 22 => ⟨S_, .f32⟩
  | 23 => ⟨S1x1x128x2x64, .f32⟩
  | 24 => ⟨S1x63x128x2x64, .f32⟩
  | 25 => ⟨S1x64x128x2x64, .f32⟩
  | 26 => ⟨S_, .f32⟩
  | 27 => ⟨S1x1x128x2x64, .f32⟩
  | 28 => ⟨S1x64x256x2x64, .f32⟩
  | 29 => ⟨S1x64x2x256x128x4, .f32⟩
  | 30 => ⟨S1x64x2x4x128x256, .f32⟩
  | 31 => ⟨S_, .f32⟩
  | 32 => ⟨S1x64x2x4x128x256, .f32⟩
  | 33 => ⟨S1x64x2x4x128x256, .f32⟩
  | 34 => ⟨S64, .i32⟩
  | 35 => ⟨S64x1, .i32⟩
  | 36 => ⟨S_, .i32⟩
  | 37 => ⟨S64x1, .i32⟩
  | 38 => ⟨S64x1, .i32⟩
  | 39 => ⟨S128, .i32⟩
  | 40 => ⟨S1x128, .i32⟩
  | 41 => ⟨S64x128, .i32⟩
  | 42 => ⟨S64x128, .i32⟩
  | 43 => ⟨S64x128, .i32⟩
  | 44 => ⟨S_, .i32⟩
  | 45 => ⟨S64x1, .i32⟩
  | 46 => ⟨S64x1, .i32⟩
  | 47 => ⟨S_, .i32⟩
  | 48 => ⟨S64x1, .i32⟩
  | 49 => ⟨S64x1, .i32⟩
  | 50 => ⟨S256, .i32⟩
  | 51 => ⟨S1x256, .i32⟩
  | 52 => ⟨S64x256, .i32⟩
  | 53 => ⟨S64x256, .i32⟩
  | 54 => ⟨S64x256, .i32⟩
  | 55 => ⟨S64x128x1, .i32⟩
  | 56 => ⟨S64x1x256, .i32⟩
  | 57 => ⟨S64x128x256, .i32⟩
  | 58 => ⟨S64x128x256, .i32⟩
  | 59 => ⟨S64x128x256, .i32⟩
  | 60 => ⟨S_, .i32⟩
  | 61 => ⟨S64x128x256, .i32⟩
  | 62 => ⟨S64x128x256, .i1⟩
  | 63 => ⟨S_, .i32⟩
  | 64 => ⟨S64x128x256, .i32⟩
  | 65 => ⟨S64x128x256, .i1⟩
  | 66 => ⟨S64x128x256, .i1⟩
  | 67 => ⟨S64x1x256, .i32⟩
  | 68 => ⟨S_, .i32⟩
  | 69 => ⟨S64x1x256, .i32⟩
  | 70 => ⟨S64x1x256, .i1⟩
  | 71 => ⟨S64x128x256, .i1⟩
  | 72 => ⟨S64x128x256, .i1⟩
  | 73 => ⟨S1x64x1x1x128x256, .i1⟩
  | 74 => ⟨S_, .f32⟩
  | 75 => ⟨S_, .f32⟩
  | 76 => ⟨S1x64x2x4x128x256, .i1⟩
  | 77 => ⟨S1x64x2x4x128x256, .f32⟩
  | 78 => ⟨S1x64x2x4x128x256, .f32⟩
  | 79 => ⟨S_, .f32⟩
  | 80 => ⟨S1x64x2x4x128x256, .f32⟩
  | 81 => ⟨S2x4, .f32⟩
  | 82 => ⟨S1x1x2x4x1x1, .f32⟩
  | 83 => ⟨S_, .f32⟩
  | 84 => ⟨S1x64x2x4x128, .f32⟩
  | 85 => ⟨S1x64x2x4x128x1, .f32⟩
  | 86 => ⟨S1x64x2x4x128x256, .f32⟩
  | 87 => ⟨S1x64x2x4x128x256, .i1⟩
  | 88 => ⟨S1x64x2x4x128x256, .f32⟩
  | 89 => ⟨S_, .f32⟩
  | 90 => ⟨S1x64x2x4x128, .f32⟩
  | 91 => ⟨S1x64x2x4x128x1, .f32⟩
  | 92 => ⟨S1x64x2x4x128x1, .f32⟩
  | 93 => ⟨S1x64x2x4x128x1, .f32⟩
  | 94 => ⟨S1x64x2x4x128x1, .f32⟩
  | 95 => ⟨S1x64x2x4x128x1, .i1⟩
  | 96 => ⟨S1x64x2x4x128x1, .f32⟩
  | 97 => ⟨S1x64x2x4x128x1, .i1⟩
  | 98 => ⟨S_, .f32⟩
  | 99 => ⟨S1x64x2x4x128x1, .f32⟩
  | 100 => ⟨S_, .f32⟩
  | 101 => ⟨S1x64x2x4x128x1, .f32⟩
  | 102 => ⟨S_, .f32⟩
  | 103 => ⟨S1x64x2x4x128x1, .f32⟩
  | 104 => ⟨S1x64x2x4x128x1, .f32⟩
  | 105 => ⟨S1x64x2x4x128x1, .f32⟩
  | 106 => ⟨S1x64x2x4x128x1, .f32⟩
  | 107 => ⟨S1x64x2x4x128x1, .i1⟩
  | 108 => ⟨S1x64x2x4x128x1, .f32⟩
  | 109 => ⟨S1x64x2x4x128x1, .i1⟩
  | 110 => ⟨S_, .f32⟩
  | 111 => ⟨S1x64x2x4x128x1, .f32⟩
  | 112 => ⟨S_, .f32⟩
  | 113 => ⟨S1x64x2x4x128x1, .f32⟩
  | 114 => ⟨S_, .f32⟩
  | 115 => ⟨S1x64x2x4x128x1, .f32⟩
  | 116 => ⟨S1x64x2x4x128x1, .f32⟩
  | 117 => ⟨S1x64x2x4x128x1, .f32⟩
  | 118 => ⟨S1x64x2x4x128x256, .f32⟩
  | 119 => ⟨S1x64x2x4x128x256, .f32⟩
  | 120 => ⟨S1x64x2x4x128x256, .f32⟩
  | 121 => ⟨S_, .f32⟩
  | 122 => ⟨S1x64x2x4x128, .f32⟩
  | 123 => ⟨S1x64x2x4x128x1, .f32⟩
  | 124 => ⟨S1x64x2x4x128x1, .f32⟩
  | 125 => ⟨S1x64x2x4x128x1, .f32⟩
  | 126 => ⟨S1x64x2x4x128x1, .f32⟩
  | 127 => ⟨S1x64x2x4x128x1, .f32⟩
  | _ => ⟨S8192x1792, .f32⟩

abbrev hbmTy0_1 (i : Nat) : BufTy := match i % 128 with
  | 0 => ⟨S1x64x2x4x128x256, .f32⟩
  | 1 => ⟨S1x64x2x4x128x256, .f32⟩
  | 2 => ⟨S1x64x2x4x128x1, .f32⟩
  | 3 => ⟨S_, .f32⟩
  | 4 => ⟨S1x64x2x4x128x1, .f32⟩
  | 5 => ⟨S1x64x2x4x128x1, .f32⟩
  | 6 => ⟨S1x64x2x64x4x128, .f32⟩
  | 7 => ⟨S1x64x128x2x4x64, .f32⟩
  | 8 => ⟨S1x8192x512, .f32⟩
  | 9 => ⟨S8192x512, .f32⟩
  | 10 => ⟨S8192x512, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x512, .f32⟩
  | 26 => ⟨S8192x512, .f32⟩
  | 27 => ⟨S1x512, .f32⟩
  | 28 => ⟨S8192x512, .f32⟩
  | 29 => ⟨S8192x512, .f32⟩
  | 30 => ⟨S8192x512, .f32⟩
  | 31 => ⟨S8192x512, .f32⟩
  | 32 => ⟨S_, .f32⟩
  | 33 => ⟨S512, .f32⟩
  | 34 => ⟨S1x512, .f32⟩
  | 35 => ⟨S8192x512, .f32⟩
  | 36 => ⟨S8192x512, .f32⟩
  | 37 => ⟨S_, .f32⟩
  | 38 => ⟨S512, .f32⟩
  | 39 => ⟨S8192x512, .f32⟩
  | 40 => ⟨S_, .f32⟩
  | 41 => ⟨S8192, .f32⟩
  | 42 => ⟨S8192x1, .f32⟩
  | 43 => ⟨S8192x512, .f32⟩
  | 44 => ⟨S8192x512, .f32⟩
  | 45 => ⟨S8192x1, .f32⟩
  | 46 => ⟨S_, .f32⟩
  | 47 => ⟨S8192x1, .f32⟩
  | 48 => ⟨S8192x1, .f32⟩
  | 49 => ⟨S_, .f32⟩
  | 50 => ⟨S8192, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S1x8192x512, .f32⟩
  | 57 => ⟨S1x64x128x2x4x64, .f32⟩
  | 58 => ⟨S1x64x2x64x4x128, .f32⟩
  | 59 => ⟨S1x64x2x4x128x256, .f32⟩
  | 60 => ⟨S1x64x2x64x256, .f32⟩
  | 61 => ⟨S1x64x256x2x64, .f32⟩
  | 62 => ⟨S1x64x2x4x128x256, .f32⟩
  | 63 => ⟨S1x64x2x4x128x256, .f32⟩
  | 64 => ⟨S1x64x2x4x128x256, .f32⟩
  | 65 => ⟨S_, .f32⟩
  | 66 => ⟨S1x64x2x4x128, .f32⟩
  | 67 => ⟨S1x64x2x4x128x1, .f32⟩
  | 68 => ⟨S1x64x2x4x128x1, .f32⟩
  | 69 => ⟨S1x64x2x4x128x256, .f32⟩
  | 70 => ⟨S1x64x2x4x128x256, .f32⟩
  | 71 => ⟨S1x64x2x4x128x1, .f32⟩
  | 72 => ⟨S_, .f32⟩
  | 73 => ⟨S1x2x4x1, .f32⟩
  | 74 => ⟨S1x1x2x4x1x1, .f32⟩
  | 75 => ⟨S1x64x2x4x128x1, .f32⟩
  | 76 => ⟨S_, .f32⟩
  | 77 => ⟨S64x2x4x128, .f32⟩
  | 78 => ⟨S1x64x2x4x128, .f32⟩
  | 79 => ⟨S1x64x2x4x128x256, .f32⟩
  | 80 => ⟨S1x64x2x4x128x256, .f32⟩
  | 81 => ⟨S1x64x2x4x128x256, .f32⟩
  | 82 => ⟨S1x64x2x4x128x256, .f32⟩
  | 83 => ⟨S_, .f32⟩
  | 84 => ⟨S1x64x2x4x128, .f32⟩
  | 85 => ⟨S1x64x2x4x128x1, .f32⟩
  | 86 => ⟨S1x64x2x4x128x1, .f32⟩
  | 87 => ⟨S1x64x2x4x128x1, .f32⟩
  | 88 => ⟨S_, .f32⟩
  | 89 => ⟨S1x2x4x1, .f32⟩
  | 90 => ⟨S1x1x2x4x1x1, .f32⟩
  | 91 => ⟨S1x1x2x4x1x1, .f32⟩
  | 92 => ⟨S1x64x2x4x128x1, .f32⟩
  | 93 => ⟨S_, .f32⟩
  | 94 => ⟨S64x2x4x128, .f32⟩
  | 95 => ⟨S1x64x2x4x128, .f32⟩
  | 96 => ⟨S1x64x2x4x128, .f32⟩
  | 97 => ⟨S1x64x2x4x128x256, .f32⟩
  | 98 => ⟨S1x64x2x4x128x256, .f32⟩
  | 99 => ⟨S1x64x2x4x128x256, .f32⟩
  | 100 => ⟨S_, .f32⟩
  | 101 => ⟨S2x4, .f32⟩
  | 102 => ⟨S8, .f32⟩
  | 103 => ⟨S_, .f32⟩
  | 104 => ⟨S1x64x2x4x128x256, .f32⟩
  | 105 => ⟨S1x64x2x4x128x256, .f32⟩
  | 106 => ⟨S_, .f32⟩
  | 107 => ⟨S1x64x2x4x128x256, .f32⟩
  | 108 => ⟨S1x64x2x4x128x256, .f32⟩
  | 109 => ⟨S1x64x2x256x128x4, .f32⟩
  | 110 => ⟨S1x64x2x128x4x64, .f32⟩
  | 111 => ⟨S1x64x128x2x4x64, .f32⟩
  | 112 => ⟨S1x64x2x256x64, .f32⟩
  | 113 => ⟨S1x64x256x2x64, .f32⟩
  | 114 => ⟨S1x64x128x2x64, .f32⟩
  | 115 => ⟨S1x64x128x2x64, .f32⟩
  | 116 => ⟨S1x1x128x2x64, .f32⟩
  | 117 => ⟨S1x63x128x2x64, .f32⟩
  | 118 => ⟨S_, .f32⟩
  | 119 => ⟨S1x64x128x2x64, .f32⟩
  | 120 => ⟨S1x64x128x2x64, .f32⟩
  | 121 => ⟨S1x64x128x2x64, .f32⟩
  | 122 => ⟨S1x64x128x2x64, .f32⟩
  | 123 => ⟨S1x1x128x2x64, .f32⟩
  | 124 => ⟨S1x63x128x2x64, .f32⟩
  | 125 => ⟨S_, .f32⟩
  | 126 => ⟨S1x64x128x2x64, .f32⟩
  | 127 => ⟨S1x64x128x2x64, .f32⟩
  | _ => ⟨S8192x1792, .f32⟩

abbrev hbmTy0_2 (i : Nat) : BufTy := match i % 128 with
  | 0 => ⟨S1x8192x128, .f32⟩
  | 1 => ⟨S1x8192x128, .f32⟩
  | 2 => ⟨S1x8192x512, .f32⟩
  | 3 => ⟨S_, .f32⟩
  | 4 => ⟨S8192x128, .f32⟩
  | 5 => ⟨S_, .f32⟩
  | 6 => ⟨S8192x128, .f32⟩
  | 7 => ⟨S_, .f32⟩
  | 8 => ⟨S8192x512, .f32⟩
  | 9 => ⟨S8192x512, .bf16⟩
  | 10 => ⟨S8192x256, .f32⟩
  | 11 => ⟨S8192x256, .bf16⟩
  | 12 => ⟨S8x1, .f32⟩
  | 13 => ⟨S8x128, .f32⟩
  | 14 => ⟨S1x512, .f32⟩
  | _ => ⟨S8192x1792, .f32⟩

abbrev hbmTy (i : Nat) : BufTy := match i / 128 with
  | 0 => hbmTy0_0 i
  | 1 => hbmTy0_1 i
  | 2 => hbmTy0_2 i
  | _ => ⟨S8192x1792, .f32⟩

abbrev bufTy : (tb : Table) → Fin (tcTables nBuf tb) → BufTy
  | .hbm, ⟨i, _⟩ => hbmTy i
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_6 : Ref sig .tc := ⟨.hbm, 60, rfl⟩
abbrev main_v48 : Ref sig .tc := ⟨.hbm, 61, rfl⟩
abbrev main_v49 : Ref sig .tc := ⟨.hbm, 62, rfl⟩
abbrev main_c_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_8 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_call0_v0 : Ref sig .tc := ⟨.hbm, 75, rfl⟩
abbrev main_v59_1 : Ref sig .tc := ⟨.hbm, 76, rfl⟩
abbrev main_call0_v2 : Ref sig .tc := ⟨.hbm, 77, rfl⟩
abbrev main_v59_0 : Ref sig .tc := ⟨.hbm, 78, rfl⟩
abbrev main_call0_cst : Ref sig .tc := ⟨.hbm, 79, rfl⟩
abbrev main_v59_2 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_12 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_15 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_18 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_19 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_20 : Ref sig .tc := ⟨.hbm, 139, rfl⟩
abbrev main_v108 : Ref sig .tc := ⟨.hbm, 140, rfl⟩
abbrev main_v109 : Ref sig .tc := ⟨.hbm, 141, rfl⟩
abbrev main_cst_21 : Ref sig .tc := ⟨.hbm, 142, rfl⟩
abbrev main_v110 : Ref sig .tc := ⟨.hbm, 143, rfl⟩
abbrev main_v111 : Ref sig .tc := ⟨.hbm, 144, rfl⟩
abbrev main_cst_22 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_23 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_24 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_25 : Ref sig .tc := ⟨.hbm, 165, rfl⟩
abbrev main_v129 : Ref sig .tc := ⟨.hbm, 166, rfl⟩
abbrev main_v130 : Ref sig .tc := ⟨.hbm, 167, rfl⟩
abbrev main_cst_26 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_27 : Ref sig .tc := ⟨.hbm, 174, rfl⟩
abbrev main_v136 : Ref sig .tc := ⟨.hbm, 175, rfl⟩
abbrev main_v137 : Ref sig .tc := ⟨.hbm, 176, rfl⟩
abbrev main_cst_28 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_29 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_30 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_cst_31 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_cst_32 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_cst_33 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_cst_34 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_cst_35 : Ref sig .tc := ⟨.hbm, 228, rfl⟩
abbrev main_v182 : Ref sig .tc := ⟨.hbm, 229, rfl⟩
abbrev main_v183 : Ref sig .tc := ⟨.hbm, 230, rfl⟩
abbrev main_call1_cst : Ref sig .tc := ⟨.hbm, 231, rfl⟩
abbrev main_call1_v0 : Ref sig .tc := ⟨.hbm, 232, rfl⟩
abbrev main_v184 : Ref sig .tc := ⟨.hbm, 233, rfl⟩
abbrev main_cst_36 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_cst_37 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_cst_38 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_cst_39 : Ref sig .tc := ⟨.hbm, 259, rfl⟩
abbrev main_v207 : Ref sig .tc := ⟨.hbm, 260, rfl⟩
abbrev main_cst_40 : Ref sig .tc := ⟨.hbm, 261, rfl⟩
abbrev main_v208 : Ref sig .tc := ⟨.hbm, 262, rfl⟩
abbrev main_cst_41 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩

abbrev nD : Nat := 1
abbrev τ : Topo := Topo.v7x

variable {F : FTy → Type} [FloatOps F]
-- ==== MlpBwd.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 32
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S4096x1024, .bf16⟩
  | .hbm, ⟨9, _⟩ => ⟨S4x1024x1024, .bf16⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x4096, .f32⟩
  | .hbm, ⟨27, _⟩ => ⟨S8192x4096, .bf16⟩
  | .hbm, ⟨28, _⟩ => ⟨S1x1024, .f32⟩
  | .hbm, ⟨29, _⟩ => ⟨S8192x4096, .bf16⟩
  | .hbm, ⟨30, _⟩ => ⟨S8192x1024, .f32⟩
  | .hbm, ⟨31, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1024, .bf16⟩
  | .local _ .vmem, ⟨8, _⟩ => ⟨S4x1024x1024, .bf16⟩
  | .local _ .vmem, ⟨9, _⟩ => ⟨S512x4096, .bf16⟩
  | .local _ .vmem, ⟨10, _⟩ => ⟨S512x4096, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MlpBwdRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .i1⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x1024, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192x4096, .f32⟩
  | .hbm, ⟨43, _⟩ => ⟨S8192x4096, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x4096, .bf16⟩
  | .hbm, ⟨71, _⟩ => ⟨S8192x1024, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== LastLayer.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S8192x512 : Shape := ⟨2, ![8192, 512]⟩
abbrev S8192x256 : Shape := ⟨2, ![8192, 256]⟩
abbrev S1x1024 : Shape := ⟨2, ![1, 1024]⟩
abbrev S8192x4096 : Shape := ⟨2, ![8192, 4096]⟩
abbrev S8x128 : Shape := ⟨2, ![8, 128]⟩
abbrev S256x512 : Shape := ⟨2, ![256, 512]⟩
abbrev S256x256 : Shape := ⟨2, ![256, 256]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1 : Shape := ⟨1, ![1]⟩
abbrev S1x1 : Shape := ⟨2, ![1, 1]⟩

abbrev nBuf : Space → Nat
  | .hbm => 26
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8192x1024, .f32⟩
  | .hbm, ⟨7, _⟩ => ⟨S1024, .f32⟩
  | .hbm, ⟨8, _⟩ => ⟨S1024x4096, .bf16⟩
  | .hbm, ⟨9, _⟩ => ⟨S1024x4x1024, .bf16⟩
  | .hbm, ⟨10, _⟩ => ⟨S4x1024x1024, .bf16⟩
  | .hbm, ⟨11, _⟩ => ⟨S4096x1024, .bf16⟩
  | .hbm, ⟨12, _⟩ => ⟨S4x1024x1024, .bf16⟩
  | .hbm, ⟨13, _⟩ => ⟨S8192x1024, .bf16⟩
  | .hbm, ⟨14, _⟩ => ⟨S8192x512, .bf16⟩
  | .hbm, ⟨15, _⟩ => ⟨S8192x256, .bf16⟩
  | .hbm, ⟨16, _⟩ => ⟨S8192x256, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S8192x1024, .f32⟩
  | .hbm, ⟨21, _⟩ => ⟨S8192x1024, .bf16⟩
  | .hbm, ⟨22, _⟩ => ⟨S8192x4096, .bf16⟩
  | .hbm, ⟨23, _⟩ => ⟨S8192x1024, .f32⟩
  | .hbm, ⟨24, _⟩ => ⟨S8x128, .f32⟩
  | .hbm, ⟨25, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1x1024, .f32⟩
  | .local _ .vmem, ⟨10, _⟩ => ⟨S4x1024x1024, .bf16⟩
  | .local _ .vmem, ⟨11, _⟩ => ⟨S4x1024x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x4096, .bf16⟩
  | .local _ .vmem, ⟨20, _⟩ => ⟨S256x4096, .bf16⟩
  | .local _ .vmem, ⟨21, _⟩ => ⟨S256x1024, .f32⟩
  | .local _ .vmem, ⟨22, _⟩ => ⟨S256x1024, .f32⟩
  | .local _ .vmem, ⟨23, _⟩ => ⟨S8x128, .f32⟩
  | .local _ .vmem, ⟨24, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== LastLayerRefIdeal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8x128 : Shape := ⟨2, ![8, 128]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x1024, .f32⟩
  | .hbm, ⟨92, _⟩ => ⟨S8192x1024, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .bf16⟩
  | .hbm, ⟨103, _⟩ => ⟨S8192x4096, .bf16⟩
  | .hbm, ⟨104, _⟩ => ⟨S8x128, .f32⟩
  | .hbm, ⟨105, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_cst_12 : Ref sig .tc := ⟨.hbm, 70, rfl⟩
abbrev main_cst_13 : Ref sig .tc := ⟨.hbm, 71, rfl⟩
abbrev main_v47 : Ref sig .tc := ⟨.hbm, 72, rfl⟩
abbrev main_v48 : Ref sig .tc := ⟨.hbm, 73, rfl⟩
abbrev main_cst_14 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_15 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_16 : Ref sig .tc := ⟨.hbm, 85, rfl⟩
abbrev main_v58 : Ref sig .tc := ⟨.hbm, 86, rfl⟩
abbrev main_v59 : Ref sig .tc := ⟨.hbm, 87, rfl⟩
abbrev main_cst_17 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_18 : Ref sig .tc := ⟨.hbm, 94, rfl⟩
abbrev main_v65 : Ref sig .tc := ⟨.hbm, 95, rfl⟩
abbrev main_v66 : Ref sig .tc := ⟨.hbm, 96, rfl⟩
abbrev main_cst_19 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]
-- ==== AttnFwd.lean ====
abbrev S8192x1792 : Shape := ⟨2, ![8192, 1792]⟩
abbrev S8 : Shape := ⟨1, ![8]⟩
abbrev S512 : Shape := ⟨1, ![512]⟩
abbrev S8x128 : Shape := ⟨2, ![8, 128]⟩
abbrev S1024 : Shape := ⟨1, ![1024]⟩
abbrev S1x1024 : Shape := ⟨2, ![1, 1024]⟩
abbrev S128 : Shape := ⟨1, ![128]⟩
abbrev S1x128 : Shape := ⟨2, ![1, 128]⟩
abbrev S256 : Shape := ⟨1, ![256]⟩
abbrev S256x1 : Shape := ⟨2, ![256, 1]⟩
abbrev S256x128 : Shape := ⟨2, ![256, 128]⟩
abbrev S_ : Shape := ⟨0, ![]⟩
abbrev S1x256x128 : Shape := ⟨3, ![1, 256, 128]⟩
abbrev S2x256x128 : Shape := ⟨3, ![2, 256, 128]⟩
abbrev S1x2x1x256x1x128 : Shape := ⟨6, ![1, 2, 1, 256, 1, 128]⟩
abbrev S1x2x1x256x4x128 : Shape := ⟨6, ![1, 2, 1, 256, 4, 128]⟩
abbrev S2x256x512 : Shape := ⟨3, ![2, 256, 512]⟩
abbrev S1x512 : Shape := ⟨2, ![1, 512]⟩
abbrev S8192x512 : Shape := ⟨2, ![8192, 512]⟩
abbrev S1024x512 : Shape := ⟨2, ![1024, 512]⟩
abbrev S1024x256 : Shape := ⟨2, ![1024, 256]⟩
abbrev S128x256 : Shape := ⟨2, ![128, 256]⟩
abbrev S128x128 : Shape := ⟨2, ![128, 128]⟩
abbrev S1x256x512 : Shape := ⟨3, ![1, 256, 512]⟩
abbrev S256x512 : Shape := ⟨2, ![256, 512]⟩
abbrev S128x512 : Shape := ⟨2, ![128, 512]⟩
abbrev S512x128 : Shape := ⟨2, ![512, 128]⟩
abbrev S128x1 : Shape := ⟨2, ![128, 1]⟩

abbrev nBuf : Space → Nat
  | .hbm => 41
  | .vmem => 13
  | .smem => 0
  | _ => 0

abbrev bufTy : (tb : Table) → Fin (tcTables nBuf tb) → BufTy
  | .hbm, ⟨0, _⟩ => ⟨S8192x1792, .f32⟩
  | .hbm, ⟨1, _⟩ => ⟨S8, .f32⟩
  | .hbm, ⟨2, _⟩ => ⟨S512, .f32⟩
  | .hbm, ⟨3, _⟩ => ⟨S8x128, .f32⟩
  | .hbm, ⟨4, _⟩ => ⟨S1024, .f32⟩
  | .hbm, ⟨5, _⟩ => ⟨S1x1024, .f32⟩
  | .hbm, ⟨6, _⟩ => ⟨S128, .i32⟩
  | .hbm, ⟨7, _⟩ => ⟨S1x128, .i32⟩
  | .hbm, ⟨8, _⟩ => ⟨S256, .i32⟩
  | .hbm, ⟨9, _⟩ => ⟨S256x1, .i32⟩
  | .hbm, ⟨10, _⟩ => ⟨S256x128, .i32⟩
  | .hbm, ⟨11, _⟩ => ⟨S256x128, .i32⟩
  | .hbm, ⟨12, _⟩ => ⟨S256x128, .i1⟩
  | .hbm, ⟨13, _⟩ => ⟨S_, .i32⟩
  | .hbm, ⟨14, _⟩ => ⟨S1x128, .i32⟩
  | .hbm, ⟨15, _⟩ => ⟨S1x128, .i32⟩
  | .hbm, ⟨16, _⟩ => ⟨S256x128, .i32⟩
  | .hbm, ⟨17, _⟩ => ⟨S256x128, .i32⟩
  | .hbm, ⟨18, _⟩ => ⟨S256x128, .i1⟩
  | .hbm, ⟨19, _⟩ => ⟨S256x128, .i1⟩
  | .hbm, ⟨20, _⟩ => ⟨S_, .i32⟩
  | .hbm, ⟨21, _⟩ => ⟨S256x1, .i32⟩
  | .hbm, ⟨22, _⟩ => ⟨S256x1, .i1⟩
  | .hbm, ⟨23, _⟩ => ⟨S256x128, .i1⟩
  | .hbm, ⟨24, _⟩ => ⟨S256x128, .i1⟩
  | .hbm, ⟨25, _⟩ => ⟨S1x256x128, .i1⟩
  | .hbm, ⟨26, _⟩ => ⟨S1x256x128, .i1⟩
  | .hbm, ⟨27, _⟩ => ⟨S2x256x128, .i1⟩
  | .hbm, ⟨28, _⟩ => ⟨S_, .f32⟩
  | .hbm, ⟨29, _⟩ => ⟨S_, .f32⟩
  | .hbm, ⟨30, _⟩ => ⟨S2x256x128, .f32⟩
  | .hbm, ⟨31, _⟩ => ⟨S2x256x128, .f32⟩
  | .hbm, ⟨32, _⟩ => ⟨S2x256x128, .f32⟩
  | .hbm, ⟨33, _⟩ => ⟨S2x256x128, .f32⟩
  | .hbm, ⟨34, _⟩ => ⟨S1x2x1x256x1x128, .f32⟩
  | .hbm, ⟨35, _⟩ => ⟨S1x2x1x256x4x128, .f32⟩
  | .hbm, ⟨36, _⟩ => ⟨S2x256x512, .f32⟩
  | .hbm, ⟨37, _⟩ => ⟨S8192x1792, .bf16⟩
  | .hbm, ⟨38, _⟩ => ⟨S1x512, .f32⟩
  | .hbm, ⟨39, _⟩ => ⟨S8192x512, .bf16⟩
  | .hbm, ⟨40, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S128x256, .bf16⟩
  | .local _ .vmem, ⟨5, _⟩ => ⟨S128x256, .bf16⟩
  | .local _ .vmem, ⟨6, _⟩ => ⟨S1x1024, .f32⟩
  | .local _ .vmem, ⟨7, _⟩ => ⟨S2x256x512, .f32⟩
  | .local _ .vmem, ⟨8, _⟩ => ⟨S1x512, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let c1_i32 : BitVec 32 := 1#32
  let v5 : BitVec 32 := Scalar.minsi arg0 c1_i32
  let v6 : Index := Scalar.indexCast v5
  let c0_1 : Index := 0#32
  let c0_2 : Index := 0#32
  ![v6.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnFwdRefIdeal.lean ====
abbrev S8192x1792 : Shape := ⟨2, ![8192, 1792]⟩
abbrev S8 : Shape := ⟨1, ![8]⟩
abbrev S512 : Shape := ⟨1, ![512]⟩
abbrev S8192x512 : Shape := ⟨2, ![8192, 512]⟩
abbrev S1x8192x512 : Shape := ⟨3, ![1, 8192, 512]⟩
abbrev S8192x128 : Shape := ⟨2, ![8192, 128]⟩
abbrev S1x8192x128 : Shape := ⟨3, ![1, 8192, 128]⟩
abbrev S1x64x128x2x4x64 : Shape := ⟨6, ![1, 64, 128, 2, 4, 64]⟩
abbrev S1x64x128x2x64 : Shape := ⟨5, ![1, 64, 128, 2, 64]⟩
abbrev S1x1x128x2x64 : Shape := ⟨5, ![1, 1, 128, 2, 64]⟩
abbrev S_ : Shape := ⟨0, ![]⟩
abbrev S1x63x128x2x64 : Shape := ⟨5, ![1, 63, 128, 2, 64]⟩
abbrev S1x64x256x2x64 : Shape := ⟨5, ![1, 64, 256, 2, 64]⟩
abbrev S1x64x2x256x128x4 : Shape := ⟨6, ![1, 64, 2, 256, 128, 4]⟩
abbrev S1x64x2x4x128x256 : Shape := ⟨6, ![1, 64, 2, 4, 128, 256]⟩
abbrev S64 : Shape := ⟨1, ![64]⟩
abbrev S64x1 : Shape := ⟨2, ![64, 1]⟩
abbrev S128 : Shape := ⟨1, ![128]⟩
abbrev S1x128 : Shape := ⟨2, ![1, 128]⟩
abbrev S64x128 : Shape := ⟨2, ![64, 128]⟩
abbrev S256 : Shape := ⟨1, ![256]⟩
abbrev S1x256 : Shape := ⟨2, ![1, 256]⟩
abbrev S64x256 : Shape := ⟨2, ![64, 256]⟩
abbrev S64x128x1 : Shape := ⟨3, ![64, 128, 1]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S8192 : Shape := ⟨1, ![8192]⟩
abbrev S8192x1 : Shape := ⟨2, ![8192, 1]⟩
abbrev S1x512 : Shape := ⟨2, ![1, 512]⟩

abbrev nBuf : Space → Nat
  | .hbm => 115
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S8, .f32⟩
  | .hbm, ⟨2, _⟩ => ⟨S512, .f32⟩
  | .hbm, ⟨3, _⟩ => ⟨S8192x512, .f32⟩
  | .hbm, ⟨4, _⟩ => ⟨S1x8192x512, .f32⟩
  | .hbm, ⟨5, _⟩ => ⟨S8192x128, .f32⟩
  | .hbm, ⟨6, _⟩ => ⟨S1x8192x128, .f32⟩
  | .hbm, ⟨7, _⟩ => ⟨S8192x128, .f32⟩
  | .hbm, ⟨8, _⟩ => ⟨S1x8192x128, .f32⟩
  | .hbm, ⟨9, _⟩ => ⟨S1x64x128x2x4x64, .f32⟩
  | .hbm, ⟨10, _⟩ => ⟨S1x64x128x2x64, .f32⟩
  | .hbm, ⟨11, _⟩ => ⟨S1x64x128x2x64, .f32⟩
  | .hbm, ⟨12, _⟩ => ⟨S1x1x128x2x64, .f32⟩
  | .hbm, ⟨13, _⟩ => ⟨S_, .f32⟩
  | .hbm, ⟨14, _⟩ => ⟨S1x1x128x2x64, .f32⟩
  | .hbm, ⟨15, _⟩ => ⟨S1x63x128x2x64, .f32⟩
  | .hbm, ⟨16, _⟩ => ⟨S1x64x128x2x64, .f32⟩
  | .hbm, ⟨17, _⟩ => ⟨S1x64x256x2x64, .f32⟩
  | .hbm, ⟨18, _⟩ => ⟨S1x1x128x2x64, .f32⟩
  | .hbm, ⟨19, _⟩ => ⟨S_, .f32⟩
  | .hbm, ⟨20, _⟩ => ⟨S1x1x128x2x64, .f32⟩
  | .hbm, ⟨21, _⟩ => ⟨S1x63x128x2x64, .f32⟩
  | .hbm, ⟨22, _⟩ => ⟨S1x64x128x2x64, .f32⟩
  | .hbm, ⟨23, _⟩ => ⟨S1x64x256x2x64, .f32⟩
  | .hbm, ⟨24, _⟩ => ⟨S1x64x2x256x128x4, .f32⟩
  | .hbm, ⟨25, _⟩ => ⟨S1x64x2x4x128x256, .f32⟩
  | .hbm, ⟨26, _⟩ => ⟨S_, .f32⟩
  | .hbm, ⟨27, _⟩ => ⟨S1x64x2x4x128x256, .f32⟩
  | .hbm, ⟨28, _⟩ => ⟨S1x64x2x4x128x256, .f32⟩
  | .hbm, ⟨29, _⟩ => ⟨S64, .i32⟩
  | .hbm, ⟨30, _⟩ => ⟨S64x1, .i32⟩
  | .hbm, ⟨31, _⟩ => ⟨S_, .i32⟩
  | .hbm, ⟨32, _⟩ => ⟨S64x1, .i32⟩
  | .hbm, ⟨33, _⟩ => ⟨S64x1, .i32⟩
  | .hbm, ⟨34, _⟩ => ⟨S128, .i32⟩
  | .hbm, ⟨35, _⟩ => ⟨S1x128, .i32⟩
  | .hbm, ⟨36, _⟩ => ⟨S64x128, .i32⟩
  | .hbm, ⟨37, _⟩ => ⟨S64x128, .i32⟩
  | .hbm, ⟨38, _⟩ => ⟨S64x128, .i32⟩
  | .hbm, ⟨39, _⟩ => ⟨S_, .i32⟩
  | .hbm, ⟨40, _⟩ => ⟨S64x1, .i32⟩
  | .hbm, ⟨41, _⟩ => ⟨S64x1, .i32⟩
  | .hbm, ⟨42, _⟩ => ⟨S_, .i32⟩
  | .hbm, ⟨43, _⟩ => ⟨S64x1, .i32⟩
  | .hbm, ⟨44, _⟩ => ⟨S64x1, .i32⟩
  | .hbm, ⟨45, _⟩ => ⟨S256, .i32⟩
  | .hbm, ⟨46, _⟩ => ⟨S1x256, .i32⟩
  | .hbm, ⟨47, _⟩ => ⟨S64x256, .i32⟩
  | .hbm, ⟨48, _⟩ => ⟨S64x256, .i32⟩
  | .hbm, ⟨49, _⟩ => ⟨S64x256, .i32⟩
  | .hbm, ⟨50, _⟩ => ⟨S64x128x1, .i32⟩
  | .hbm, ⟨51, _⟩ => ⟨S64x1x256, .i32⟩
  | .hbm, ⟨52, _⟩ => ⟨S64x128x256, .i32⟩
  | .hbm, ⟨53, _⟩ => ⟨S64x128x256, .i32⟩
  | .hbm, ⟨54, _⟩ => ⟨S64x128x256, .i32⟩
  | .hbm, ⟨55, _⟩ => ⟨S_, .i32⟩
  | .hbm, ⟨56, _⟩ => ⟨S64x128x256, .i32⟩
  | .hbm, ⟨57, _⟩ => ⟨S64x128x256, .i1⟩
  | .hbm, ⟨58, _⟩ => ⟨S_, .i32⟩
  | .hbm, ⟨59, _⟩ => ⟨S64x128x256, .i32⟩
  | .hbm, ⟨60, _⟩ => ⟨S64x128x256, .i1⟩
  | .hbm, ⟨61, _⟩ => ⟨S64x128x256, .i1⟩
  | .hbm, ⟨62, _⟩ => ⟨S64x1x256, .i32⟩
  | .hbm, ⟨63, _⟩ => ⟨S_, .i32⟩
  | .hbm, ⟨64, _⟩ => ⟨S64x1x256, .i32⟩
  | .hbm, ⟨65, _⟩ => ⟨S64x1x256, .i1⟩
  | .hbm, ⟨66, _⟩ => ⟨S64x128x256, .i1⟩
  | .hbm, ⟨67, _⟩ => ⟨S64x128x256, .i1⟩
  | .hbm, ⟨68, _⟩ => ⟨S1x64x1x1x128x256, .i1⟩
  | .hbm, ⟨69, _⟩ => ⟨S_, .f32⟩
  | .hbm, ⟨70, _⟩ => ⟨S_, .f32⟩
  | .hbm, ⟨71, _⟩ => ⟨S1x64x2x4x128x256, .i1⟩
  | .hbm, ⟨72, _⟩ => ⟨S1x64x2x4x128x256, .f32⟩
  | .hbm, ⟨73, _⟩ => ⟨S1x64x2x4x128x256, .f32⟩
  | .hbm, ⟨74, _⟩ => ⟨S2x4, .f32⟩
  | .hbm, ⟨75, _⟩ => ⟨S1x1x2x4x1x1, .f32⟩
  | .hbm, ⟨76, _⟩ => ⟨S_, .f32⟩
  | .hbm, ⟨77, _⟩ => ⟨S1x64x2x4x128, .f32⟩
  | .hbm, ⟨78, _⟩ => ⟨S1x64x2x4x128x1, .f32⟩
  | .hbm, ⟨79, _⟩ => ⟨S1x64x2x4x128x1, .f32⟩
  | .hbm, ⟨80, _⟩ => ⟨S1x64x2x4x128x1, .f32⟩
  | .hbm, ⟨81, _⟩ => ⟨S1x64x2x4x128x256, .f32⟩
  | .hbm, ⟨82, _⟩ => ⟨S1x64x2x4x128x256, .f32⟩
  | .hbm, ⟨83, _⟩ => ⟨S1x64x2x4x128x256, .f32⟩
  | .hbm, ⟨84, _⟩ => ⟨S_, .f32⟩
  | .hbm, ⟨85, _⟩ => ⟨S1x64x2x4x128, .f32⟩
  | .hbm, ⟨86, _⟩ => ⟨S1x64x2x4x128x1, .f32⟩
  | .hbm, ⟨87, _⟩ => ⟨S1x64x2x4x128x1, .f32⟩
  | .hbm, ⟨88, _⟩ => ⟨S1x64x2x4x128x1, .f32⟩
  | .hbm, ⟨89, _⟩ => ⟨S1x64x2x4x128x1, .f32⟩
  | .hbm, ⟨90, _⟩ => ⟨S1x64x2x4x128x1, .f32⟩
  | .hbm, ⟨91, _⟩ => ⟨S1x64x2x4x128x256, .f32⟩
  | .hbm, ⟨92, _⟩ => ⟨S1x64x2x4x128x256, .f32⟩
  | .hbm, ⟨93, _⟩ => ⟨S1x64x2x64x4x128, .f32⟩
  | .hbm, ⟨94, _⟩ => ⟨S1x64x128x2x4x64, .f32⟩
  | .hbm, ⟨95, _⟩ => ⟨S1x8192x512, .f32⟩
  | .hbm, ⟨96, _⟩ => ⟨S8192x512, .f32⟩
  | .hbm, ⟨97, _⟩ => ⟨S8192x512, .bf16⟩
  | .hbm, ⟨98, _⟩ => ⟨S8192x512, .f32⟩
  | .hbm, ⟨99, _⟩ => ⟨S_, .f32⟩
  | .hbm, ⟨100, _⟩ => ⟨S8192, .f32⟩
  | .hbm, ⟨101, _⟩ => ⟨S8192x1, .f32⟩
  | .hbm, ⟨102, _⟩ => ⟨S_, .f32⟩
  | .hbm, ⟨103, _⟩ => ⟨S8192x1, .f32⟩
  | .hbm, ⟨104, _⟩ => ⟨S8192x1, .f32⟩
  | .hbm, ⟨105, _⟩ => ⟨S_, .f32⟩
  | .hbm, ⟨106, _⟩ => ⟨S8192x1, .f32⟩
  | .hbm, ⟨107, _⟩ => ⟨S8192x1, .f32⟩
  | .hbm, ⟨108, _⟩ => ⟨S8192x1, .f32⟩
  | .hbm, ⟨109, _⟩ => ⟨S8192x512, .f32⟩
  | .hbm, ⟨110, _⟩ => ⟨S8192x512, .f32⟩
  | .hbm, ⟨111, _⟩ => ⟨S1x512, .f32⟩
  | .hbm, ⟨112, _⟩ => ⟨S8192x512, .f32⟩
  | .hbm, ⟨113, _⟩ => ⟨S8192x512, .f32⟩
  | .hbm, ⟨114, _⟩ => ⟨S8192x512, .bf16⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_2 : Ref sig .tc := ⟨.hbm, 39, rfl⟩
abbrev main_v32 : Ref sig .tc := ⟨.hbm, 40, rfl⟩
abbrev main_v33 : Ref sig .tc := ⟨.hbm, 41, rfl⟩
abbrev main_c_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c_4 : Ref sig .tc := ⟨.hbm, 55, rfl⟩
abbrev main_v46 : Ref sig .tc := ⟨.hbm, 56, rfl⟩
abbrev main_v47 : Ref sig .tc := ⟨.hbm, 57, rfl⟩
abbrev main_c_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_7 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_10 : Ref sig .tc := ⟨.hbm, 99, rfl⟩
abbrev main_v81 : Ref sig .tc := ⟨.hbm, 100, rfl⟩
abbrev main_v82 : Ref sig .tc := ⟨.hbm, 101, rfl⟩
abbrev main_cst_11 : Ref sig .tc := ⟨.hbm, 102, rfl⟩
abbrev main_v83 : Ref sig .tc := ⟨.hbm, 103, rfl⟩
abbrev main_v84 : Ref sig .tc := ⟨.hbm, 104, rfl⟩
abbrev main_cst_12 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩

abbrev nD : Nat := 1
abbrev τ : Topo := Topo.v7x

variable {F : FTy → Type} [FloatOps F]
-- ==== InprojFwd.lean ====
abbrev S8192x1024 : Shape := ⟨2, ![8192, 1024]⟩
abbrev S1024 : Shape := ⟨1, ![1024]⟩
abbrev S1024x1792 : Shape := ⟨2, ![1024, 1792]⟩
abbrev S1x1024 : Shape := ⟨2, ![1, 1024]⟩
abbrev S1792x1024 : Shape := ⟨2, ![1792, 1024]⟩
abbrev S8192x1792 : Shape := ⟨2, ![8192, 1792]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S1x1024, .f32⟩
  | .hbm, ⟨4, _⟩ => ⟨S1792x1024, .f32⟩
  | .hbm, ⟨5, _⟩ => ⟨S1792x1024, .bf16⟩
  | .hbm, ⟨6, _⟩ => ⟨S8192x1792, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1792x1024, .bf16⟩
  | .local _ .vmem, ⟨4, _⟩ => ⟨S512x1792, .bf16⟩
  | .local _ .vmem, ⟨5, _⟩ => ⟨S512x1792, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InprojFwdRefIdeal.lean ====
abbrev S8192x1024 : Shape := ⟨2, ![8192, 1024]⟩
abbrev S1024 : Shape := ⟨1, ![1024]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1792 : Shape := ⟨2, ![8192, 1792]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1792, .f32⟩
  | .hbm, ⟨20, _⟩ => ⟨S8192x1792, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OutprojFwd.lean ====
abbrev S8192x1024 : Shape := ⟨2, ![8192, 1024]⟩
abbrev S1024x1024 : Shape := ⟨2, ![1024, 1024]⟩
abbrev S1024 : Shape := ⟨1, ![1024]⟩
abbrev S8192x512 : Shape := ⟨2, ![8192, 512]⟩
abbrev S8192x256 : Shape := ⟨2, ![8192, 256]⟩
abbrev S1x1024 : Shape := ⟨2, ![1, 1024]⟩
abbrev S512x512 : Shape := ⟨2, ![512, 512]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192x1024, .bf16⟩
  | .hbm, ⟨5, _⟩ => ⟨S8192x512, .bf16⟩
  | .hbm, ⟨6, _⟩ => ⟨S8192x256, .bf16⟩
  | .hbm, ⟨7, _⟩ => ⟨S8192x256, .bf16⟩
  | .hbm, ⟨8, _⟩ => ⟨S1024x1024, .bf16⟩
  | .hbm, ⟨9, _⟩ => ⟨S1x1024, .f32⟩
  | .hbm, ⟨10, _⟩ => ⟨S8192x1024, .f32⟩
  | .hbm, ⟨11, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutprojFwdRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MlpFwd.lean ====
abbrev S8192x1024 : Shape := ⟨2, ![8192, 1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S1024x4x1024, .bf16⟩
  | .hbm, ⟨6, _⟩ => ⟨S4x1024x1024, .bf16⟩
  | .hbm, ⟨7, _⟩ => ⟨S4096x1024, .bf16⟩
  | .hbm, ⟨8, _⟩ => ⟨S4x1024x1024, .bf16⟩
  | .hbm, ⟨9, _⟩ => ⟨S8192x1024, .bf16⟩
  | .hbm, ⟨10, _⟩ => ⟨S8192x4096, .bf16⟩
  | .hbm, ⟨11, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S4x1024x1024, .bf16⟩
  | .local _ .vmem, ⟨5, _⟩ => ⟨S4x1024x1024, .bf16⟩
  | .local _ .vmem, ⟨6, _⟩ => ⟨S512x4096, .bf16⟩
  | .local _ .vmem, ⟨7, _⟩ => ⟨S512x4096, .bf16⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpFwdRefIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S8192x4096, .f32⟩
  | .hbm, ⟨5, _⟩ => ⟨S8192x4096, .bf16⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Conv.Block.lean ====
/-
  What one grid step of `branch_bwd_b` computes, as a function of its blocks, over any float values: the gradient of a
  causal depthwise convolution of `K` taps by sublane rolls and slices of one padded block (`tap`, `tapSum`, `dwRow`),
  and the four stores of the body in these words (`out_*`).
-/
module

public import proofs.«01_k».proof.Proof.Gen.ConvBwdIdeal.Value
public import Idealize.ShloMosaic.Lib.Tactic
public import Idealize.ShloMosaic.Lib.Pipeline.Value

@[expose] public section

set_option maxRecDepth 65536

noncomputable section

namespace Cert.ConvBwdIdeal.Block

open Cert.ConvBwdIdeal Cert.ConvBwdIdeal.Gen Idealize.ShloMosaic Idealize.ShloMosaic.TcCoe Idealize.SL.Sem

variable {F : FTy → Type} [FloatOps F]

/-- 544 rows moved up by `b` sublanes (around the end). -/
def rollUp (x : FVec F S544x256 .f32) : ℕ → FVec F S544x256 .f32
  | 0 => x
  | b + 1 => dynamicRotate 0 (BitVec.ofNat 32 (544 - (b + 1))) none x rotates_S544x256_d0

/-- 544 rows moved down by `b` sublanes (around the end). -/
def rollDown (x : FVec F S544x256 .f32) : ℕ → FVec F S544x256 .f32
  | 0 => x
  | b + 1 => dynamicRotate 0 (BitVec.ofNat 32 (b + 1)) none x rotates_S544x256_d0

theorem slices_rows (o : ℕ) (h : o ≤ 32) : S544x256.Slices ![o, 0] S512x256 :=
  ⟨rfl, fun a => by fin_cases a <;> simp [S544x256, S512x256] <;> omega⟩

/-- Tap `k` of `K`: the rows that stand `K - 1 - k` below, times the tap's weights. -/
def tap {K : ℕ} (hK : K ≤ 32) (d : FVec F S544x256 .f32) (w : Fin K → FVec F S1x256 .f32) (k : Fin K) : FVec F S512x256 .f32 :=
  mulf (extractStridedSlice S512x256 ![8 * ((K - 1 - k.val) / 8), 0] (rollUp d ((K - 1 - k.val) % 8))
      (slices_rows _ (by omega)))
    (broadcastTo S512x256 (w k) broadcasts_S1x256_S512x256)

/-- The taps `0 … n` added in order. -/
def tapSum {K : ℕ} (hK : K ≤ 32) (d : FVec F S544x256 .f32) (w : Fin K → FVec F S1x256 .f32) : (n : ℕ) → n < K → FVec F S512x256 .f32
  | 0, h => tap hK d w ⟨0, h⟩
  | n + 1, h => addf (tapSum hK d w n (Nat.lt_of_succ_lt h)) (tap hK d w ⟨n + 1, h⟩)

/-- The weight gradient of tap `k` of `K` over the block: the column sums of the cotangent times the rows of the input
    that stand `K - 1 - k` above. -/
def dwRow (K : ℕ) (hK : K ≤ 32) (d u : FVec F S544x256 .f32) (k : ℕ) : FVec F S1x256 .f32 :=
  shapeCast S1x256
    (multiReduction .add [0] S256
      (mulf (extractStridedSlice S512x256 ![0, 0] d slices_S544x256_o0_0_S512x256)
        (extractStridedSlice S512x256 ![32 - 8 * ((K - 1 - k) / 8), 0] (rollDown u ((K - 1 - k) % 8)) (slices_rows _ (by omega))))
      0x00000000#32 reduces_S512x256_S256 (.inl rfl) rfl)
    shapeCasts_S256_S1x256

/-- The cotangent's block with the 32 rows after it (zero after the last block). -/
def dPad (i : grid0.Coords) (x : Vec F S512x256 .f32) (h : Vec F S32x256 .f32) : FVec F S544x256 .f32 :=
  concatenate S544x256 0
    [⟨S512x256, x⟩, ⟨S32x256, Scalar.select (Scalar.cmpi .eq (BitVec.ofNat 32 (i 0).val) 15#32)
      (broadcast S32x256 (Scalar.ofBits .f32 0x00000000#32)) h⟩] concatenates_S512x256_S32x256_S544x256_d0

/-- An input's block behind the 32 rows before it (zero before the first block). -/
def uPad (i : grid0.Coords) (h : FVec F S32x256 .f32) (x : FVec F S512x256 .f32) : FVec F S544x256 .f32 :=
  concatenate S544x256 0
    [⟨S32x256, Scalar.select (Scalar.cmpi .eq (BitVec.ofNat 32 (i 0).val) 0#32)
      (broadcast S32x256 (Scalar.ofBits .f32 0x00000000#32)) h⟩, ⟨S512x256, x⟩] concatenates_S32x256_S512x256_S544x256_d0

theorem slices_w32 (k : Fin 31) : S32x256.Slices ![k.val, 0] S1x256 :=
  ⟨rfl, fun a => by fin_cases a <;> simp [S32x256, S1x256] <;> omega⟩

theorem slices_w8 (k : Fin 4) : S8x256.Slices ![k.val, 0] S1x256 :=
  ⟨rfl, fun a => by fin_cases a <;> simp [S8x256, S1x256] <;> omega⟩

/-- The rows of the 31 taps' weights. -/
def w31 (w : Vec F S32x256 .f32) (k : Fin 31) : FVec F S1x256 .f32 :=
  extractStridedSlice S1x256 ![k.val, 0] (shapeCast S32x256 w shapeCasts_S32x256_S32x256) (slices_w32 k)

/-- The rows of the 4 taps' weights. -/
def w4 (w : Vec F S8x256 .f32) (k : Fin 4) : FVec F S1x256 .f32 :=
  extractStridedSlice S1x256 ![k.val, 0] (shapeCast S8x256 w shapeCasts_S8x256_S8x256) (slices_w8 k)

/-- A 512-row block of 16-bit floats, widened. -/
abbrev wide (x : Vec F S512x256 .bf16) : FVec F S512x256 .f32 :=
  extf .f32 (shapeCast S512x256 x shapeCasts_S512x256_S512x256) bitsLt_bf16_f32

/-- A 32-row halo of 16-bit floats, widened. -/
abbrev wideH (x : Vec F S32x256 .bf16) : FVec F S32x256 .f32 :=
  extf .f32 (shapeCast S32x256 x shapeCasts_S32x256_S32x256) bitsLt_bf16_f32

/-- The gated input `u` with its halo. -/
def gated (i : grid0.Coords) (cv cg : Vec F S512x256 .bf16) (cvh cgh : Vec F S32x256 .bf16) : FVec F S544x256 .f32 :=
  uPad i (mulf (wideH cvh) (logistic (wideH cgh))) (mulf (wide cv) (logistic (wide cg)))

/-- The two halves of the gated unit's gradient, side by side. -/
def dzc (i : grid0.Coords) (cv cg : Vec F S512x256 .bf16) (d : Vec F S512x256 .f32) (dh w : Vec F S32x256 .f32) : FVec F S512x512 .bf16 :=
  let du := tapSum (K := 31) (by decide) (dPad i d dh) (w31 w) 30 (by decide)
  truncf .bf16
    (concatenate S512x512 1
      [⟨S512x256, mulf du (logistic (wide cg))⟩,
       ⟨S512x256, mulf (mulf (mulf du (wide cv)) (logistic (wide cg)))
         (subf (broadcast S512x256 (Scalar.ofBits .f32 0x3F800000#32)) (logistic (wide cg)))⟩]
      concatenates_S512x256_S512x256_S512x512_d1) bitsLt_bf16_f32

/-- The recurrent branch's input gradient: the 4-tap convolution's. -/
def dzr (i : grid0.Coords) (d : Vec F S512x256 .f32) (dh : Vec F S32x256 .f32) (w : Vec F S8x256 .f32) : FVec F S512x256 .bf16 :=
  truncf .bf16 (tapSum (K := 4) (by decide) (dPad i d dh) (w4 w) 3 (by decide)) bitsLt_bf16_f32

/-- The block's share of the 31 taps' weight gradient; the last of the 32 rows is zero. -/
def dcw (d u : FVec F S544x256 .f32) : FVec F S32x256 .f32 :=
  concatenate S32x256 0
    (List.ofFn fun k : Fin 32 => ⟨S1x256, if k.val < 31 then dwRow 31 (by decide) d u k.val
      else broadcast S1x256 (Scalar.ofBits .f32 0x00000000#32)⟩)
    (by rw [List.map_ofFn]; exact (by decide : Shape.Concatenates (List.ofFn fun _ : Fin 32 => S1x256) S32x256 0))

/-- The block's share of the 4 taps' weight gradient; the last 4 of the 8 rows are zero. -/
def dlw (d u : FVec F S544x256 .f32) : FVec F S8x256 .f32 :=
  concatenate S8x256 0
    [⟨S1x256, dwRow 4 (by decide) d u 0⟩, ⟨S1x256, dwRow 4 (by decide) d u 1⟩, ⟨S1x256, dwRow 4 (by decide) d u 2⟩,
     ⟨S1x256, dwRow 4 (by decide) d u 3⟩, ⟨S4x256, broadcast S4x256 (Scalar.ofBits .f32 0x00000000#32)⟩]
    concatenates_S1x256_S1x256_S1x256_S1x256_S4x256_S8x256_d0

variable (m : (ℓ : Loc nD τ sig) → Buf (Elt F) ℓ) (c : Dev nD) (t : Fin cfg0.N)

theorem hz : (![0, 0] : Fin 2 → Nat) = fun _ => 0 := funext fun a => by fin_cases a <;> rfl

/-- The first output's block at point `t`. -/
def dzcAt : FVec F S512x512 .bf16 :=
  dzc (grid0.coords t) (iblk m c 0 t) (iblk m c 1 t) (iblk m c 6 t) (iblk m c 7 t) (iblk m c 10 t)

/-- The second output's block at point `t`. -/
def dzrAt : FVec F S512x256 .bf16 := dzr (grid0.coords t) (iblk m c 8 t) (iblk m c 9 t) (iblk m c 11 t)

/-- Point `t`'s share of the 31 taps' weight gradient. -/
def dcwAt : FVec F S32x256 .f32 :=
  dcw (dPad (grid0.coords t) (iblk m c 6 t) (iblk m c 7 t))
    (gated (grid0.coords t) (iblk m c 0 t) (iblk m c 1 t) (iblk m c 2 t) (iblk m c 3 t))

/-- Point `t`'s share of the 4 taps' weight gradient. -/
def dlwAt : FVec F S8x256 .f32 :=
  dlw (dPad (grid0.coords t) (iblk m c 8 t) (iblk m c 9 t)) (uPad (grid0.coords t) (wideH (iblk m c 5 t)) (wide (iblk m c 4 t)))

theorem outs12_A (h0 : t.val % 16 = 0) : (outsAt0 m c t.val t.isLt).1 = dzcAt m c t := by
  rw [outsAt0_A m c t h0]
  dsimp only
  unfold out0_A_12
  rw [View.read_writes_eq_canon _ _ _ (by intro y; apply cover0_A_12)]
  unfold kernelRun0_A
  dsimp only
  rw [View.canon_unit_zero hz]
  sl_unfold_words
  simp only [View.readAt_eq_ld, Memref.IsWhole.read_unread, View.ld_unit_zero (S := S512x256) hz, View.ld_unit_zero (S := S32x256) hz,
    View.ld_unit_zero (S := S8x256) hz]
  rfl

theorem outs12_B (h0 : ¬t.val % 16 = 0) : (outsAt0 m c t.val t.isLt).1 = dzcAt m c t := by
  rw [outsAt0_B m c t h0]
  dsimp only
  unfold out0_B_12
  rw [View.read_writes_eq_canon _ _ _ (by intro y; apply cover0_B_12)]
  unfold kernelRun0_B
  dsimp only
  rw [View.canon_unit_zero hz]
  sl_unfold_words
  simp only [View.readAt_eq_ld, Memref.IsWhole.read_unread, View.ld_unit_zero (S := S512x256) hz, View.ld_unit_zero (S := S32x256) hz,
    View.ld_unit_zero (S := S8x256) hz]
  rfl

theorem outs13_A (h0 : t.val % 16 = 0) : (outsAt0 m c t.val t.isLt).2.1 = dzrAt m c t := by
  rw [outsAt0_A m c t h0]
  dsimp only
  unfold out0_A_13
  rw [View.read_writes_eq_canon _ _ _ (by intro y; apply cover0_A_13)]
  unfold kernelRun0_A
  dsimp only
  rw [View.canon_unit_zero hz]
  sl_unfold_words
  simp only [View.readAt_eq_ld, Memref.IsWhole.read_unread, View.ld_unit_zero (S := S512x256) hz, View.ld_unit_zero (S := S32x256) hz,
    View.ld_unit_zero (S := S8x256) hz]
  rfl

theorem outs13_B (h0 : ¬t.val % 16 = 0) : (outsAt0 m c t.val t.isLt).2.1 = dzrAt m c t := by
  rw [outsAt0_B m c t h0]
  dsimp only
  unfold out0_B_13
  rw [View.read_writes_eq_canon _ _ _ (by intro y; apply cover0_B_13)]
  unfold kernelRun0_B
  dsimp only
  rw [View.canon_unit_zero hz]
  sl_unfold_words
  simp only [View.readAt_eq_ld, Memref.IsWhole.read_unread, View.ld_unit_zero (S := S512x256) hz, View.ld_unit_zero (S := S32x256) hz,
    View.ld_unit_zero (S := S8x256) hz]
  rfl

theorem outs14_A (h0 : t.val % 16 = 0) :
    (outsAt0 m c t.val t.isLt).2.2.1 = addf (broadcast S32x256 (Scalar.ofBits .f32 0x00000000#32)) (dcwAt m c t) := by
  rw [outsAt0_A m c t h0]
  dsimp only
  unfold out0_A_14
  rw [View.read_writes_eq_canon _ _ _ (by intro y; apply cover0_A_14)]
  unfold kernelRun0_A
  dsimp only
  sl_unfold_words
  rw [View.canon_cons_unit_zero (S := S32x256) hz, View.readCov_unit_zero (S := S32x256) _ hz]
  simp only [View.readAt_eq_ld, Memref.IsWhole.read_unread, View.ld_unit_zero (S := S512x256) hz, View.ld_unit_zero (S := S32x256) hz,
    View.ld_unit_zero (S := S8x256) hz]
  refine Eq.trans (b := addf (shapeCast S32x256 (broadcast S32x256 (Scalar.ofBits .f32 0x00000000#32)) shapeCasts_S32x256_S32x256) (dcwAt m c t)) rfl ?_
  rw [shapeCast_self]

theorem outs14_B (h0 : ¬t.val % 16 = 0) :
    (outsAt0 m c t.val t.isLt).2.2.1 = addf (outsAt0 m c (t.val - 1) (by omega)).2.2.1 (dcwAt m c t) := by
  rw [outsAt0_B m c t h0]
  dsimp only
  unfold out0_B_14
  rw [View.read_writes_eq_canon _ _ _ (by intro y; apply cover0_B_14)]
  unfold kernelRun0_B
  dsimp only
  rw [View.canon_unit_zero hz]
  sl_unfold_words
  simp only [View.readAt_eq_ld, Memref.IsWhole.read_unread, View.ld_unit_zero (S := S512x256) hz, View.ld_unit_zero (S := S32x256) hz,
    View.ld_unit_zero (S := S8x256) hz]
  refine Eq.trans (b := addf (shapeCast S32x256 (outsAt0 m c (t.val - 1) (by omega)).2.2.1 shapeCasts_S32x256_S32x256) (dcwAt m c t)) rfl ?_
  rw [shapeCast_self]

theorem outs15_A (h0 : t.val % 16 = 0) :
    (outsAt0 m c t.val t.isLt).2.2.2 = addf (broadcast S8x256 (Scalar.ofBits .f32 0x00000000#32)) (dlwAt m c t) := by
  rw [outsAt0_A m c t h0]
  dsimp only
  unfold out0_A_15
  rw [View.read_writes_eq_canon _ _ _ (by intro y; apply cover0_A_15)]
  unfold kernelRun0_A
  dsimp only
  sl_unfold_words
  rw [View.canon_cons_unit_zero (S := S8x256) hz, View.readCov_unit_zero (S := S8x256) _ hz]
  simp only [View.readAt_eq_ld, Memref.IsWhole.read_unread, View.ld_unit_zero (S := S512x256) hz, View.ld_unit_zero (S := S32x256) hz,
    View.ld_unit_zero (S := S8x256) hz]
  refine Eq.trans (b := addf (shapeCast S8x256 (broadcast S8x256 (Scalar.ofBits .f32 0x00000000#32)) shapeCasts_S8x256_S8x256) (dlwAt m c t)) rfl ?_
  rw [shapeCast_self]

theorem outs15_B (h0 : ¬t.val % 16 = 0) :
    (outsAt0 m c t.val t.isLt).2.2.2 = addf (outsAt0 m c (t.val - 1) (by omega)).2.2.2 (dlwAt m c t) := by
  rw [outsAt0_B m c t h0]
  dsimp only
  unfold out0_B_15
  rw [View.read_writes_eq_canon _ _ _ (by intro y; apply cover0_B_15)]
  unfold kernelRun0_B
  dsimp only
  rw [View.canon_unit_zero hz]
  sl_unfold_words
  simp only [View.readAt_eq_ld, Memref.IsWhole.read_unread, View.ld_unit_zero (S := S512x256) hz, View.ld_unit_zero (S := S32x256) hz,
    View.ld_unit_zero (S := S8x256) hz]
  refine Eq.trans (b := addf (shapeCast S8x256 (outsAt0 m c (t.val - 1) (by omega)).2.2.2 shapeCasts_S8x256_S8x256) (dlwAt m c t)) rfl ?_
  rw [shapeCast_self]

end Cert.ConvBwdIdeal.Block
end
-- ==== Proof.Conv.BlockVal.lean ====
/-
  `branch_bwd_b`'s block over the extended reals, entry by entry: a tap reads the row `K - 1 - k` below, the taps add up
  to a sum over `k`, and a weight's gradient is a sum over the block's 512 rows.
-/
module

public import proofs.«01_k».proof.Proof.Conv.Block
public import Idealize.ShloMosaic.Lib.Pointwise
public import Idealize.ShloMosaic.Lib.KernelVsHost

@[expose] public section

set_option maxRecDepth 16384

noncomputable section

namespace Cert.ConvBwdIdeal.Block

open Cert.ConvBwdIdeal Cert.ConvBwdIdeal.Gen Idealize.ShloMosaic Idealize.ShloMosaic.TcCoe Idealize.SL.Sem

theorem rollUp_apply (x : FVec Ideal S544x256 .f32) (b : ℕ) (hb : b < 8) (r : Fin 544) (c : Fin 256) (hr : r.val + b < 544) :
    rollUp x b (ix2 r c) = x (ix2 ⟨r.val + b, hr⟩ c) := by
  match b with
  | 0 => rfl
  | b + 1 =>
    refine dynamicRotate_apply _ _ _ rotates_S544x256_d0 _ _ fun a => ?_
    match a with
    | ⟨0, _⟩ =>
      refine Eq.trans ?_ (if_pos rfl).symm
      rw [BitVec.toNat_ofNat]
      show r.val + (b + 1) = (r.val + 544 - (544 - (b + 1)) % 2 ^ 32 % 544) % 544
      omega
    | ⟨1, h⟩ => exact (if_neg fun e => absurd (congrArg Fin.val e) (by decide : ¬(1 : ℕ) = 0)).symm

theorem rollDown_apply (x : FVec Ideal S544x256 .f32) (b : ℕ) (hb : b < 8) (r : Fin 544) (c : Fin 256) (hr : b ≤ r.val) :
    rollDown x b (ix2 r c) = x (ix2 ⟨r.val - b, by omega⟩ c) := by
  match b with
  | 0 => rfl
  | b + 1 =>
    refine dynamicRotate_apply _ _ _ rotates_S544x256_d0 _ _ fun a => ?_
    match a with
    | ⟨0, _⟩ =>
      refine Eq.trans ?_ (if_pos rfl).symm
      rw [BitVec.toNat_ofNat]
      show r.val - (b + 1) = (r.val + 544 - (b + 1) % 2 ^ 32 % 544) % 544
      omega
    | ⟨1, h⟩ => exact (if_neg fun e => absurd (congrArg Fin.val e) (by decide : ¬(1 : ℕ) = 0)).symm

theorem slice_apply (x : FVec Ideal S544x256 .f32) (o : ℕ) (h : S544x256.Slices ![o, 0] S512x256) (q : Fin 512) (c : Fin 256)
    (ho : o + q.val < 544) : extractStridedSlice S512x256 ![o, 0] x h (ix2 q c) = x (ix2 ⟨o + q.val, ho⟩ c) := by
  refine extractStridedSlice_apply _ _ _ _ _ fun a => ?_
  match a with
  | ⟨0, _⟩ => rfl
  | ⟨1, _⟩ => show c.val = 0 + c.val; omega

theorem row_apply (x : FVec Ideal S1x256 .f32) (q : Fin 512) (c : Fin 256) :
    broadcastTo S512x256 x broadcasts_S1x256_S512x256 (ix2 q c) = x (ix2 0 c) := by
  refine broadcastTo_apply _ _ _ _ fun a => ?_
  match a with
  | ⟨0, _⟩ => rfl
  | ⟨1, _⟩ => rfl

section Taps

variable {K : ℕ} (hK : K ≤ 32) (d u : FVec Ideal S544x256 .f32) (w : Fin K → FVec Ideal S1x256 .f32)

theorem tap_apply (k : Fin K) (q : Fin 512) (c : Fin 256) :
    tap hK d w k (ix2 q c) = d (ix2 ⟨q.val + (K - 1 - k.val), by omega⟩ c) * w k (ix2 0 c) := by
  show extractStridedSlice S512x256 _ _ _ (ix2 q c) * broadcastTo S512x256 _ _ (ix2 q c) = _
  rw [row_apply, slice_apply _ _ _ _ _ (by omega), rollUp_apply _ _ (by omega) _ _ (by simp only; omega)]
  congr 3
  exact Fin.ext (by simp only; omega)

theorem tapSum_apply (n : ℕ) (h : n < K) (q : Fin 512) (c : Fin 256) :
    tapSum hK d w n h (ix2 q c)
      = ∑ k : Fin (n + 1), d (ix2 ⟨q.val + (K - 1 - k.val), by omega⟩ c) * w ⟨k.val, by omega⟩ (ix2 0 c) := by
  induction n with
  | zero => simp only [tapSum, tap_apply]; simp
  | succ n ih =>
    rw [Fin.sum_univ_castSucc]
    show tapSum hK d w n _ (ix2 q c) + tap hK d w ⟨n + 1, h⟩ (ix2 q c) = _
    rw [ih, tap_apply]
    rfl

theorem dwRow_apply (k : ℕ) (hk : k < K) (c : Fin 256) :
    dwRow K hK d u k (ix2 0 c)
      = ∑ q : Fin 512, d (ix2 ⟨q.val, by omega⟩ c) * u (ix2 ⟨q.val + 32 - (K - 1 - k), by omega⟩ c) := by
  unfold dwRow
  refine (shapeCast_addUnit_apply ![256] _ shapeCasts_S256_S1x256 (ix2 0 c)).trans ?_
  show Ideal.reduceAdd reduces_S512x256_S256 _ _ = _
  refine (Ideal.reduceAdd_r2_a0 (n0 := 512) (n1 := 256) _ _ _).trans ?_
  refine Finset.sum_congr rfl fun q _ => ?_
  show extractStridedSlice S512x256 _ _ _ (ix2 q c) * extractStridedSlice S512x256 _ _ _ (ix2 q c) = _
  rw [slice_apply _ _ _ _ _ (by omega), slice_apply _ _ _ _ _ (by omega), rollDown_apply _ _ (by omega) _ _ (by simp only; omega)]
  exact congrArg₂ (· * ·) (congrArg (fun r => d (ix2 r c)) (Fin.ext (Nat.zero_add _)))
    (congrArg (fun r => u (ix2 r c)) (Fin.ext (by dsimp only; omega)))

end Taps

theorem dPad_lo (i : grid0.Coords) (x : Vec Ideal S512x256 .f32) (h : Vec Ideal S32x256 .f32) (r : Fin 544) (c : Fin 256)
    (hr : r.val < 512) : dPad i x h (ix2 r c) = x (ix2 ⟨r.val, hr⟩ c) := by
  unfold dPad
  refine concatenate_pair_apply_left (t := S544x256) (s₁ := S512x256) (s₂ := S32x256) _ _ _ _ _ rfl _ fun b => ?_
  match b with
  | ⟨0, _⟩ => rfl
  | ⟨1, _⟩ => rfl

theorem cmp15 (n : ℕ) (hn : n < 16) : Scalar.cmpi .eq (BitVec.ofNat 32 n) 15#32 = if n = 15 then 1#1 else 0#1 := by
  interval_cases n <;> rfl

theorem cmp0 (n : ℕ) (hn : n < 16) : Scalar.cmpi .eq (BitVec.ofNat 32 n) 0#32 = if n = 0 then 1#1 else 0#1 := by
  interval_cases n <;> rfl

theorem dPad_hi (i : grid0.Coords) (x : Vec Ideal S512x256 .f32) (h : Vec Ideal S32x256 .f32) (r : Fin 544) (c : Fin 256)
    (hr : 512 ≤ r.val) :
    dPad i x h (ix2 r c) = if (i 0).val = 15 then 0 else h (ix2 ⟨r.val - 512, by omega⟩ c) := by
  unfold dPad
  refine (concatenate_pair_apply_right (t := S544x256) (s₁ := S512x256) (s₂ := S32x256) _ _ _ _ _ rfl rfl (ix2 (⟨r.val - 512, by omega⟩ : Fin 32) c) (fun b hb => ?_) ?_).trans ?_
  · match b with
    | ⟨0, _⟩ => exact absurd rfl hb
    | ⟨1, _⟩ => rfl
  · show r.val - 512 + 512 = r.val
    omega
  · rw [cmp15 _ (i 0).isLt]
    split
    · exact Ideal.ofBits_zero_f32
    · rfl

theorem uPad_hi (i : grid0.Coords) (h : FVec Ideal S32x256 .f32) (x : FVec Ideal S512x256 .f32) (r : Fin 544) (c : Fin 256)
    (hr : 32 ≤ r.val) : uPad i h x (ix2 r c) = x (ix2 ⟨r.val - 32, by omega⟩ c) := by
  unfold uPad
  refine concatenate_pair_apply_right (t := S544x256) (s₁ := S32x256) (s₂ := S512x256) _ _ _ _ _ rfl rfl (ix2 (⟨r.val - 32, by omega⟩ : Fin 512) c) (fun b hb => ?_) ?_
  · match b with
    | ⟨0, _⟩ => exact absurd rfl hb
    | ⟨1, _⟩ => rfl
  · show r.val - 32 + 32 = r.val
    omega

theorem uPad_lo (i : grid0.Coords) (h : FVec Ideal S32x256 .f32) (x : FVec Ideal S512x256 .f32) (r : Fin 544) (c : Fin 256)
    (hr : r.val < 32) : uPad i h x (ix2 r c) = if (i 0).val = 0 then 0 else h (ix2 ⟨r.val, hr⟩ c) := by
  unfold uPad
  refine (concatenate_pair_apply_left (t := S544x256) (s₁ := S32x256) (s₂ := S512x256) _ _ _ _ _ rfl (ix2 (⟨r.val, hr⟩ : Fin 32) c) fun b => ?_).trans ?_
  · match b with
    | ⟨0, _⟩ => rfl
    | ⟨1, _⟩ => rfl
  · rw [cmp0 _ (i 0).isLt]
    split
    · exact Ideal.ofBits_zero_f32
    · rfl

theorem dcw_apply (d u : FVec Ideal S544x256 .f32) (k : Fin 32) (c : Fin 256) : dcw d u (ix2 k c) = if k.val < 31 then dwRow 31 (by decide) d u k.val (ix2 0 c) else 0 := by
  unfold dcw
  refine (concatenate_ofFn_unit_apply (t := S32x256) (s₁ := S1x256) 0 _ _ rfl rfl (ix2 k c) k rfl (ix2 0 c) fun b hb => ?_).trans ?_
  · match b with
    | ⟨0, _⟩ => exact absurd rfl hb
    | ⟨1, _⟩ => rfl
  · split
    · rfl
    · exact Ideal.ofBits_zero_f32

theorem dlw_apply (d u : FVec Ideal S544x256 .f32) (k : Fin 8) (c : Fin 256) : dlw d u (ix2 k c) = if k.val < 4 then dwRow 4 (by decide) d u k.val (ix2 0 c) else 0 := by
  have piece (j : ℕ) (hj : j < 4) (hk : k.val = j) : dlw d u (ix2 k c) = dwRow 4 (by decide) d u j (ix2 0 c) := by
    unfold dlw
    refine concatenate_apply_piece (t := S8x256) _ _ _ (ix2 k c) j ?_ S1x256
      (dwRow 4 (by decide) d u j) ?_ rfl j ?_ (ix2 0 c) (fun b hb => ?_) ?_
    · show j < 5
      omega
    · interval_cases j <;> rfl
    · interval_cases j <;> rfl
    · match b with
      | ⟨0, _⟩ => exact absurd rfl hb
      | ⟨1, _⟩ => rfl
    · exact hk.symm
  split
  · exact piece k.val ‹_› rfl
  · unfold dlw
    refine (concatenate_apply_piece (t := S8x256) _ _ _ (ix2 k c) 4 ?_ S4x256 _ rfl rfl 4 rfl
      (ix2 (⟨k.val - 4, by omega⟩ : Fin 4) c)
      (fun b hb => ?_) ?_).trans Ideal.ofBits_zero_f32
    · show 4 < 5
      omega
    · match b with
      | ⟨0, _⟩ => exact absurd rfl hb
      | ⟨1, _⟩ => rfl
    · show 4 + (k.val - 4) = k.val
      omega

theorem w31_apply (w : Vec Ideal S32x256 .f32) (k : Fin 31) (c : Fin 256) : w31 w k (ix2 0 c) = w (ix2 ⟨k.val, by omega⟩ c) := by
  unfold w31
  rw [shapeCast_self]
  refine extractStridedSlice_apply _ _ _ _ _ fun a => ?_
  match a with
  | ⟨0, _⟩ => rfl
  | ⟨1, _⟩ => exact (Nat.zero_add _).symm

theorem w4_apply (w : Vec Ideal S8x256 .f32) (k : Fin 4) (c : Fin 256) : w4 w k (ix2 0 c) = w (ix2 ⟨k.val, by omega⟩ c) := by
  unfold w4
  rw [shapeCast_self]
  refine extractStridedSlice_apply _ _ _ _ _ fun a => ?_
  match a with
  | ⟨0, _⟩ => rfl
  | ⟨1, _⟩ => exact (Nat.zero_add _).symm

end Cert.ConvBwdIdeal.Block
end
-- ==== Proof.Conv.Kernel.lean ====
/-
  `branch_bwd_b`'s blocks as entries of the arguments (extended reals): row `r` of the padded cotangent at point `t` is
  row `512 t + r` of the cotangent (zero past the end), row `r` of the padded input is row `512 t + r - 32` of the
  input (zero before the start).
-/
module

public import proofs.«01_k».proof.Proof.Conv.BlockVal
public import Idealize.ShloMosaic.Lib.Pipeline.ValueKit.Point
public import Idealize.ShloMosaic.Lib.Claim

@[expose] public section

set_option maxRecDepth 16384

noncomputable section

namespace Cert.ConvBwdIdeal.Block

open Cert.ConvBwdIdeal Cert.ConvBwdIdeal.Gen Idealize.ShloMosaic Idealize.ShloMosaic.TcCoe Idealize.SL.Sem

/-- Row `s` of a 8192-row array, zero past its end. -/
def rowOf (D : Fin 8192 → Fin 256 → EReal) (s : ℕ) (c : Fin 256) : EReal := if h : s < 8192 then D ⟨s, h⟩ c else 0

/-- Row `s` of a 8192-row array behind 32 zero rows. -/
def behind (D : Fin 8192 → Fin 256 → EReal) (s : ℕ) (c : Fin 256) : EReal := if s < 32 then 0 else rowOf D (s - 32) c

variable (m : (ℓ : Loc nD τ sig) → Buf (Elt Ideal) ℓ) (c : Dev nD) (t : Fin cfg0.N)

/-- 256 columns of `z`, from column `o`. -/
def zCol (o : ℕ) (h : o ≤ 1536) (r : Fin 8192) (j : Fin 256) : EReal := m ((c : Thread nD τ).loc main_arg0) (ix2 r (⟨o + j.val, by omega⟩ : Fin 1792))

/-- The 31 taps' weights, the 4 taps' weights and the two cotangents. -/
def cW (k : Fin 31) (j : Fin 256) : EReal := m ((c : Thread nD τ).loc main_arg1) (ix2 k j)
def lW (k : Fin 4) (j : Fin 256) : EReal := m ((c : Thread nD τ).loc main_arg2) (ix2 k j)
def dC (r : Fin 8192) (j : Fin 256) : EReal := m ((c : Thread nD τ).loc main_arg3) (ix2 r j)
def dX (r : Fin 8192) (j : Fin 256) : EReal := m ((c : Thread nD τ).loc main_arg4) (ix2 r j)

theorem coord : ∀ t : Fin cfg0.N, ((grid0.coords t) 0).val = t.val := (by decide +kernel : ∀ t : Fin grid0.N, _)

theorem lt16 : t.val < 16 := t.isLt

theorem e0 : ∀ t : Fin cfg0.N, win0_0.index t = ![t.val, 3] := (by decide +kernel : ∀ t : Fin grid0.N, _)
theorem e1 : ∀ t : Fin cfg0.N, win0_1.index t = ![t.val, 4] := (by decide +kernel : ∀ t : Fin grid0.N, _)
theorem e2 : ∀ t : Fin cfg0.N, win0_2.index t = ![16 * t.val - 1, 3] := (by decide +kernel : ∀ t : Fin grid0.N, _)
theorem e3 : ∀ t : Fin cfg0.N, win0_3.index t = ![16 * t.val - 1, 4] := (by decide +kernel : ∀ t : Fin grid0.N, _)
theorem e4 : ∀ t : Fin cfg0.N, win0_4.index t = ![t.val, 5] := (by decide +kernel : ∀ t : Fin grid0.N, _)
theorem e5 : ∀ t : Fin cfg0.N, win0_5.index t = ![16 * t.val - 1, 5] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![min (16 * t.val + 16) 255, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![min (16 * t.val + 16) 255, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![0, 0] := (by decide +kernel : ∀ t : Fin grid0.N, _)

theorem blk0 (q : Fin 512) (j : Fin 256) : iblk m c 0 t (ix2 q j)
    = zCol m c 768 (by decide) ⟨512 * t.val + q.val, by have := lt16 t; omega⟩ j := by
  unfold zCol
  have := lt16 t
  blk_simp [iblk]
  entry_read
  pointwise
  blk_ext [e0 t]

theorem blk1 (q : Fin 512) (j : Fin 256) : iblk m c 1 t (ix2 q j)
    = zCol m c 1024 (by decide) ⟨512 * t.val + q.val, by have := lt16 t; omega⟩ j := by
  unfold zCol
  have := lt16 t
  blk_simp [iblk]
  entry_read
  pointwise
  blk_ext [e1 t]

theorem blk2 (q : Fin 32) (j : Fin 256) (ht : t.val ≠ 0) : iblk m c 2 t (ix2 q j)
    = zCol m c 768 (by decide) ⟨512 * t.val + q.val - 32, by have := lt16 t; omega⟩ j := by
  unfold zCol
  have := lt16 t
  blk_simp [iblk]
  entry_read
  pointwise
  blk_ext [e2 t]

theorem blk3 (q : Fin 32) (j : Fin 256) (ht : t.val ≠ 0) : iblk m c 3 t (ix2 q j)
    = zCol m c 1024 (by decide) ⟨512 * t.val + q.val - 32, by have := lt16 t; omega⟩ j := by
  unfold zCol
  have := lt16 t
  blk_simp [iblk]
  entry_read
  pointwise
  blk_ext [e3 t]

theorem blk4 (q : Fin 512) (j : Fin 256) : iblk m c 4 t (ix2 q j)
    = zCol m c 1280 (by decide) ⟨512 * t.val + q.val, by have := lt16 t; omega⟩ j := by
  unfold zCol
  have := lt16 t
  blk_simp [iblk]
  entry_read
  pointwise
  blk_ext [e4 t]

theorem blk5 (q : Fin 32) (j : Fin 256) (ht : t.val ≠ 0) : iblk m c 5 t (ix2 q j)
    = zCol m c 1280 (by decide) ⟨512 * t.val + q.val - 32, by have := lt16 t; omega⟩ j := by
  unfold zCol
  have := lt16 t
  blk_simp [iblk]
  entry_read
  pointwise
  blk_ext [e5 t]

theorem blk6 (q : Fin 512) (j : Fin 256) : iblk m c 6 t (ix2 q j)
    = dC m c ⟨512 * t.val + q.val, by have := lt16 t; omega⟩ j := by
  unfold dC
  have := lt16 t
  blk_simp [iblk]
  rw [V_main_arg3]
  blk_ext [e6 t]

theorem blk7 (q : Fin 32) (j : Fin 256) (ht : t.val ≠ 15) : iblk m c 7 t (ix2 q j)
    = dC m c ⟨512 * t.val + 512 + q.val, by have := lt16 t; omega⟩ j := by
  unfold dC
  have := lt16 t
  blk_simp [iblk]
  rw [V_main_arg3]
  blk_ext [e7 t]

theorem blk8 (q : Fin 512) (j : Fin 256) : iblk m c 8 t (ix2 q j)
    = dX m c ⟨512 * t.val + q.val, by have := lt16 t; omega⟩ j := by
  unfold dX
  have := lt16 t
  blk_simp [iblk]
  rw [V_main_arg4]
  blk_ext [e8 t]

theorem blk9 (q : Fin 32) (j : Fin 256) (ht : t.val ≠ 15) : iblk m c 9 t (ix2 q j)
    = dX m c ⟨512 * t.val + 512 + q.val, by have := lt16 t; omega⟩ j := by
  unfold dX
  have := lt16 t
  blk_simp [iblk]
  rw [V_main_arg4]
  blk_ext [e9 t]

theorem entry10_apply (q : Fin 31) (j : Fin 256) : V m c main_v0 (ix2 (⟨q.val, by omega⟩ : Fin 32) j) = cW m c q j := by
  unfold V
  simp only [hostOps0, hostOps0_1, hostOps0_2, hostOps0_3, hostOps0_4, List.flatten_cons, List.flatten_nil, List.append_nil,
    List.cons_append, List.nil_append]
  entry_read
  refine Eq.trans (b := pad S32x256 ![0, 0] ![1, 0] ![0, 0] (m ((c : Thread nD τ).loc main_arg1))
    (sitofp (F := Ideal) FTy.f32 (constantI S_ 32 0#32)) pads_S31x256_S32x256_010_000 h_S_ (ix2 (⟨q.val, by omega⟩ : Fin 32) j)) rfl ?_
  refine pad_apply_of_inside _ _ _ _ _ _ _ _ _ fun a => ?_
  match a with
  | ⟨0, _⟩ => show q.val = 0 + q.val * (0 + 1); omega
  | ⟨1, _⟩ => show j.val = 0 + j.val * (0 + 1); omega

theorem blk10 (q : Fin 31) (j : Fin 256) : iblk m c 10 t (ix2 ⟨q.val, by omega⟩ j) = cW m c q j := by
  rw [← entry10_apply]
  blk_simp [iblk]
  blk_ext [e10 t]

theorem entry11_apply (q : Fin 4) (j : Fin 256) : V m c main_v1 (ix2 (⟨q.val, by omega⟩ : Fin 8) j) = lW m c q j := by
  unfold V
  simp only [hostOps0, hostOps0_1, hostOps0_2, hostOps0_3, hostOps0_4, List.flatten_cons, List.flatten_nil, List.append_nil,
    List.cons_append, List.nil_append]
  entry_read
  refine Eq.trans (b := pad S8x256 ![0, 0] ![4, 0] ![0, 0] (m ((c : Thread nD τ).loc main_arg2))
    (sitofp (F := Ideal) FTy.f32 (constantI S_ 32 0#32)) pads_S4x256_S8x256_040_000 h_S_ (ix2 (⟨q.val, by omega⟩ : Fin 8) j)) rfl ?_
  refine pad_apply_of_inside _ _ _ _ _ _ _ _ _ fun a => ?_
  match a with
  | ⟨0, _⟩ => show q.val = 0 + q.val * (0 + 1); omega
  | ⟨1, _⟩ => show j.val = 0 + j.val * (0 + 1); omega

theorem blk11 (q : Fin 4) (j : Fin 256) : iblk m c 11 t (ix2 ⟨q.val, by omega⟩ j) = lW m c q j := by
  rw [← entry11_apply]
  blk_simp [iblk]
  blk_ext [e11 t]

/-- The gated input and its gate. -/
def gate (r : Fin 8192) (j : Fin 256) : EReal := Ideal.logistic (zCol m c 1024 (by decide) r j)
def uG (r : Fin 8192) (j : Fin 256) : EReal := zCol m c 768 (by decide) r j * gate m c r j

variable {m c t}

/-- A cotangent's block with its halo, as rows of the cotangent. -/
theorem dPad_rows {x : Vec Ideal S512x256 .f32} {h : Vec Ideal S32x256 .f32} {D : Fin 8192 → Fin 256 → EReal}
    (hx : ∀ (q : Fin 512) (j : Fin 256), x (ix2 q j) = D ⟨512 * t.val + q.val, by have := lt16 t; omega⟩ j)
    (hh : ∀ (q : Fin 32) (j : Fin 256) (ht : t.val ≠ 15), h (ix2 q j) = D ⟨512 * t.val + 512 + q.val, by have := lt16 t; omega⟩ j)
    (r : Fin 544) (j : Fin 256) : dPad (grid0.coords t) x h (ix2 r j) = rowOf D (512 * t.val + r.val) j := by
  have := lt16 t
  unfold rowOf
  by_cases hr : r.val < 512
  · rw [dPad_lo _ _ _ _ _ hr, hx, dif_pos (by omega)]
  · rw [dPad_hi _ _ _ _ _ (by omega), coord t]
    by_cases ht : t.val = 15
    · rw [if_pos ht, dif_neg (by omega)]
    · rw [if_neg ht, dif_pos (by omega), hh _ _ ht]
      exact congrArg (fun r => D r j) (Fin.ext (show 512 * t.val + 512 + (r.val - 512) = 512 * t.val + r.val by omega))

/-- An input's block behind its halo, as rows of the input behind 32 zero rows. -/
theorem uPad_rows {x : FVec Ideal S512x256 .f32} {h : FVec Ideal S32x256 .f32} {U : Fin 8192 → Fin 256 → EReal}
    (hx : ∀ (q : Fin 512) (j : Fin 256), x (ix2 q j) = U ⟨512 * t.val + q.val, by have := lt16 t; omega⟩ j)
    (hh : ∀ (q : Fin 32) (j : Fin 256) (ht : t.val ≠ 0), h (ix2 q j) = U ⟨512 * t.val + q.val - 32, by have := lt16 t; omega⟩ j)
    (r : Fin 544) (j : Fin 256) : (uPad (grid0.coords t) h x : S544x256.Idx → EReal) (ix2 r j) = behind U (512 * t.val + r.val) j := by
  have := lt16 t
  unfold behind rowOf
  by_cases hr : r.val < 32
  · rw [uPad_lo _ _ _ _ _ hr, coord t]
    by_cases ht : t.val = 0
    · rw [if_pos ht, if_pos (by omega)]
    · rw [if_neg ht, if_neg (by omega), dif_pos (by omega), hh _ _ ht]
  · rw [uPad_hi _ _ _ _ _ (by omega), hx, if_neg (by omega), dif_pos (by omega)]
    exact congrArg (fun r => U r j) (Fin.ext (show 512 * t.val + (r.val - 32) = 512 * t.val + r.val - 32 by omega))

variable (m c t)

theorem dPadC (r : Fin 544) (j : Fin 256) :
    dPad (grid0.coords t) (iblk m c 6 t) (iblk m c 7 t) (ix2 r j) = rowOf (dC m c) (512 * t.val + r.val) j :=
  dPad_rows (blk6 m c t) (blk7 m c t) r j

theorem dPadX (r : Fin 544) (j : Fin 256) :
    dPad (grid0.coords t) (iblk m c 8 t) (iblk m c 9 t) (ix2 r j) = rowOf (dX m c) (512 * t.val + r.val) j :=
  dPad_rows (blk8 m c t) (blk9 m c t) r j

theorem wide_apply (x : Vec Ideal S512x256 .bf16) (i : S512x256.Idx) : wide x i = x i := by
  unfold wide
  rw [shapeCast_self]
  rfl

theorem wideH_apply (x : Vec Ideal S32x256 .bf16) (i : S32x256.Idx) : wideH x i = x i := by
  unfold wideH
  rw [shapeCast_self]
  rfl

theorem uPadX (r : Fin 544) (j : Fin 256) :
    uPad (grid0.coords t) (wideH (iblk m c 5 t)) (wide (iblk m c 4 t)) (ix2 r j)
      = behind (zCol m c 1280 (by decide)) (512 * t.val + r.val) j :=
  uPad_rows (fun q j => (wide_apply _ _).trans (blk4 m c t q j)) (fun q j ht => (wideH_apply _ _).trans (blk5 m c t q j ht)) r j

theorem gated_apply (r : Fin 544) (j : Fin 256) :
    gated (grid0.coords t) (iblk m c 0 t) (iblk m c 1 t) (iblk m c 2 t) (iblk m c 3 t) (ix2 r j)
      = behind (uG m c) (512 * t.val + r.val) j := by
  refine uPad_rows (fun q j => ?_) (fun q j ht => ?_) r j
  · show (wide (iblk m c 0 t) (ix2 q j) : EReal) * Ideal.logistic (wide (iblk m c 1 t) (ix2 q j)) = _
    rw [wide_apply, wide_apply, blk0, blk1]
    rfl
  · show (wideH (iblk m c 2 t) (ix2 q j) : EReal) * Ideal.logistic (wideH (iblk m c 3 t) (ix2 q j)) = _
    rw [wideH_apply, wideH_apply, blk2 _ _ _ _ _ ht, blk3 _ _ _ _ _ ht]
    rfl

/-- The gradient of a `K`-tap causal convolution's input at row `s`. -/
def dIn {K : ℕ} (D : Fin 8192 → Fin 256 → EReal) (W : Fin K → Fin 256 → EReal) (s : ℕ) (j : Fin 256) : EReal :=
  ∑ k : Fin K, rowOf D (s + (K - 1 - k.val)) j * W k j

/-- The gradient of a `K`-tap causal convolution's weights. -/
def dWt (K : ℕ) (D U : Fin 8192 → Fin 256 → EReal) (k : ℕ) (j : Fin 256) : EReal :=
  ∑ s : Fin 8192, D s j * behind U (s.val + 32 - (K - 1 - k)) j

theorem dzrAt_apply (q : Fin 512) (j : Fin 256) : dzrAt m c t (ix2 q j) = dIn (dX m c) (lW m c) (512 * t.val + q.val) j := by
  show tapSum (F := Ideal) (K := 4) _ _ _ 3 _ (ix2 q j) = _
  rw [tapSum_apply]
  refine Finset.sum_congr rfl fun k _ => ?_
  rw [dPadX, w4_apply, blk11]
  exact congrArg (fun s => rowOf (dX m c) s j * lW m c k j) (Nat.add_assoc _ _ _).symm

theorem du_apply (q : Fin 512) (j : Fin 256) :
    tapSum (K := 31) (by decide) (dPad (grid0.coords t) (iblk m c 6 t) (iblk m c 7 t)) (w31 (iblk m c 10 t)) 30 (by decide) (ix2 q j)
      = dIn (dC m c) (cW m c) (512 * t.val + q.val) j := by
  rw [tapSum_apply]
  refine Finset.sum_congr rfl fun k _ => ?_
  rw [dPadC, w31_apply, blk10]
  exact congrArg (fun s => rowOf (dC m c) s j * cW m c k j) (Nat.add_assoc _ _ _).symm

/-- The first result at row `s`: the value half, then the gate half. -/
def dZc (s : Fin 8192) (j : Fin 512) : EReal :=
  if h : j.val < 256 then dIn (dC m c) (cW m c) s ⟨j.val, h⟩ * gate m c s ⟨j.val, h⟩
  else dIn (dC m c) (cW m c) s ⟨j.val - 256, by omega⟩ * zCol m c 768 (by decide) s ⟨j.val - 256, by omega⟩
    * gate m c s ⟨j.val - 256, by omega⟩ * (1 - gate m c s ⟨j.val - 256, by omega⟩)

theorem halves_lo (x y : FVec Ideal S512x256 .f32) (q j : Fin 512) (h : j.val < 256) :
    truncf .bf16 (concatenate S512x512 1 [⟨S512x256, x⟩, ⟨S512x256, y⟩] concatenates_S512x256_S512x256_S512x512_d1) bitsLt_bf16_f32
      (ix2 q j) = x (ix2 q ⟨j.val, h⟩) :=
  concatenate_pair_apply_left (t := S512x512) (s₁ := S512x256) (s₂ := S512x256) 1 x y
    concatenates_S512x256_S512x256_S512x512_d1 _ rfl
    (ix2 q (⟨j.val, h⟩ : Fin 256)) fun b => by
      match b with
      | ⟨0, _⟩ => rfl
      | ⟨1, _⟩ => rfl

theorem halves_hi (x y : FVec Ideal S512x256 .f32) (q j : Fin 512) (h : 256 ≤ j.val) :
    truncf .bf16 (concatenate S512x512 1 [⟨S512x256, x⟩, ⟨S512x256, y⟩] concatenates_S512x256_S512x256_S512x512_d1) bitsLt_bf16_f32
      (ix2 q j) = y (ix2 q ⟨j.val - 256, by omega⟩) := by
  refine concatenate_pair_apply_right (t := S512x512) (s₁ := S512x256) (s₂ := S512x256) 1 x y
    concatenates_S512x256_S512x256_S512x512_d1 _ rfl rfl
    (ix2 q (⟨j.val - 256, by omega⟩ : Fin 256)) (fun b hb => ?_) ?_
  · match b with
    | ⟨0, _⟩ => rfl
    | ⟨1, _⟩ => exact absurd rfl hb
  · show j.val - 256 + 256 = j.val
    omega

theorem one_f32 : Ideal.ofBits .f32 0x3F800000#32 = 1 := by simp [Ideal.ofBits, Ideal.ieee, -EReal.coe_mul]; norm_num

theorem dzcAt_apply (q : Fin 512) (j : Fin 512) :
    dzcAt m c t (ix2 q j) = dZc m c ⟨512 * t.val + q.val, by have := lt16 t; omega⟩ j := by
  unfold dZc dzcAt dzc
  dsimp only
  split
  · rename_i h
    rw [halves_lo _ _ _ _ h]
    refine congrArg₂ (· * ·) (du_apply m c t q _) (congrArg Ideal.logistic ?_)
    rw [wide_apply, blk1]
  · rename_i h
    rw [halves_hi _ _ _ _ (by omega)]
    refine congrArg₂ (· * ·) (congrArg₂ (· * ·) (congrArg₂ (· * ·) (du_apply m c t q _) ?_) (congrArg Ideal.logistic ?_))
      (congrArg₂ (· - ·) one_f32 (congrArg Ideal.logistic ?_))
    · rw [wide_apply, blk0]
    · rw [wide_apply, blk1]
    · rw [wide_apply, blk1]

theorem dcwAt_apply (k : Fin 32) (j : Fin 256) : dcwAt m c t (ix2 k j)
    = if k.val < 31 then ∑ q : Fin 512, rowOf (dC m c) (512 * t.val + q.val) j
        * behind (uG m c) (512 * t.val + q.val + 32 - (30 - k.val)) j else 0 := by
  unfold dcwAt
  rw [dcw_apply]
  split
  · rw [dwRow_apply _ _ _ _ ‹_›]
    refine Finset.sum_congr rfl fun q _ => ?_
    rw [dPadC, gated_apply]
    exact congrArg (fun s => _ * behind (uG m c) s j) (by dsimp only; omega)
  · rfl

theorem dlwAt_apply (k : Fin 8) (j : Fin 256) : dlwAt m c t (ix2 k j)
    = if k.val < 4 then ∑ q : Fin 512, rowOf (dX m c) (512 * t.val + q.val) j
        * behind (zCol m c 1280 (by decide)) (512 * t.val + q.val + 32 - (3 - k.val)) j else 0 := by
  unfold dlwAt
  rw [dlw_apply]
  split
  · rw [dwRow_apply _ _ _ _ ‹_›]
    refine Finset.sum_congr rfl fun q _ => ?_
    rw [dPadX, uPadX]
    exact congrArg (fun s => _ * behind _ s j) (by dsimp only; omega)
  · rfl

/-- 16 blocks of 512 rows are 8192 rows. -/
theorem sum_blocks (f : ℕ → EReal) :
    ∑ t ∈ Finset.range 16, ∑ q : Fin 512, f (512 * t + q.val) = ∑ s : Fin 8192, f s.val := by
  rw [Finset.sum_range, Idealize.ShloMosaic.Fin.sum_univ_tiles 16 512 rfl fun s : Fin 8192 => f s.val]
  refine Finset.sum_congr rfl fun t _ => Finset.sum_congr rfl fun q _ => congrArg f ?_
  rw [Nat.mul_comm]

theorem acc14 (n : ℕ) (hn : n < cfg0.N) (x : S32x256.Idx) :
    (outsAt0 m c n hn).2.2.1 x = ∑ t ∈ Finset.range (n + 1), if h : t < cfg0.N then dcwAt m c ⟨t, h⟩ x else 0 := by
  induction n with
  | zero =>
    rw [outs14_A m c ⟨0, hn⟩ rfl, Finset.sum_range_one, dif_pos hn]
    show Ideal.ofBits .f32 0x00000000#32 + _ = _
    rw [Ideal.ofBits_zero_f32, zero_add]
  | succ n ih =>
    have hN : n + 1 < 16 := hn
    rw [outs14_B m c ⟨n + 1, hn⟩ (by dsimp only; omega), Finset.sum_range_succ, dif_pos hn, ← ih (by omega)]
    rfl

theorem acc15 (n : ℕ) (hn : n < cfg0.N) (x : S8x256.Idx) :
    (outsAt0 m c n hn).2.2.2 x = ∑ t ∈ Finset.range (n + 1), if h : t < cfg0.N then dlwAt m c ⟨t, h⟩ x else 0 := by
  induction n with
  | zero =>
    rw [outs15_A m c ⟨0, hn⟩ rfl, Finset.sum_range_one, dif_pos hn]
    show Ideal.ofBits .f32 0x00000000#32 + _ = _
    rw [Ideal.ofBits_zero_f32, zero_add]
  | succ n ih =>
    have hN : n + 1 < 16 := hn
    rw [outs15_B m c ⟨n + 1, hn⟩ (by dsimp only; omega), Finset.sum_range_succ, dif_pos hn, ← ih (by omega)]
    rfl

/-- The third result: the 31 taps' weight gradient over all rows, and a zero row. -/
def dCw (k : Fin 32) (j : Fin 256) : EReal := if k.val < 31 then dWt 31 (dC m c) (uG m c) k.val j else 0

/-- The fourth result: the 4 taps' weight gradient over all rows, and four zero rows. -/
def dLw (k : Fin 8) (j : Fin 256) : EReal := if k.val < 4 then dWt 4 (dX m c) (zCol m c 1280 (by decide)) k.val j else 0

theorem last14 (k : Fin 32) (j : Fin 256) (n : ℕ) (h : n < cfg0.N) (hn : n = 15) :
    (outsAt0 m c n h).2.2.1 (ix2 k j) = dCw m c k j := by
  subst hn
  rw [acc14]
  unfold dCw dWt
  have e : ∀ t ∈ Finset.range (15 + 1), (if h : t < cfg0.N then dcwAt m c ⟨t, h⟩ (ix2 k j) else 0)
      = if k.val < 31 then ∑ q : Fin 512, rowOf (dC m c) (512 * t + q.val) j
        * behind (uG m c) (512 * t + q.val + 32 - (30 - k.val)) j else 0 := fun t ht => by
    rw [dif_pos (show t < cfg0.N from Finset.mem_range.mp ht), dcwAt_apply]
  rw [Finset.sum_congr rfl e]
  split
  · rw [sum_blocks fun s => rowOf (dC m c) s j * behind (uG m c) (s + 32 - (30 - k.val)) j]
    refine Finset.sum_congr rfl fun s _ => ?_
    rw [rowOf, dif_pos s.isLt]
  · exact Finset.sum_const_zero

theorem last15 (k : Fin 8) (j : Fin 256) (n : ℕ) (h : n < cfg0.N) (hn : n = 15) :
    (outsAt0 m c n h).2.2.2 (ix2 k j) = dLw m c k j := by
  subst hn
  rw [acc15]
  unfold dLw dWt
  have e : ∀ t ∈ Finset.range (15 + 1), (if h : t < cfg0.N then dlwAt m c ⟨t, h⟩ (ix2 k j) else 0)
      = if k.val < 4 then ∑ q : Fin 512, rowOf (dX m c) (512 * t + q.val) j
        * behind (zCol m c 1280 (by decide)) (512 * t + q.val + 32 - (3 - k.val)) j else 0 := fun t ht => by
    rw [dif_pos (show t < cfg0.N from Finset.mem_range.mp ht), dlwAt_apply]
  rw [Finset.sum_congr rfl e]
  split
  · rw [sum_blocks fun s => rowOf (dX m c) s j * behind (zCol m c 1280 (by decide)) (s + 32 - (3 - k.val)) j]
    refine Finset.sum_congr rfl fun s _ => ?_
    rw [rowOf, dif_pos s.isLt]
  · exact Finset.sum_const_zero

theorem o12 : ∀ t : Fin cfg0.N, win0_12.index t = ![t.val, 0] := (by decide +kernel : ∀ t : Fin grid0.N, _)
theorem o13 : ∀ t : Fin cfg0.N, win0_13.index t = ![t.val, 0] := (by decide +kernel : ∀ t : Fin grid0.N, _)
theorem o14 : ∀ t : Fin cfg0.N, win0_14.index t = ![0, 0] := (by decide +kernel : ∀ t : Fin grid0.N, _)
theorem o15 : ∀ t : Fin cfg0.N, win0_15.index t = ![0, 0] := (by decide +kernel : ∀ t : Fin grid0.N, _)

theorem outs12 : (outsAt0 m c t.val t.isLt).1 = dzcAt m c t := by
  by_cases h0 : t.val % 16 = 0
  · exact outs12_A m c t h0
  · exact outs12_B m c t h0

theorem outs13 : (outsAt0 m c t.val t.isLt).2.1 = dzrAt m c t := by
  by_cases h0 : t.val % 16 = 0
  · exact outs13_A m c t h0
  · exact outs13_B m c t h0

/-- The four results of the run. -/
theorem final12 : (dats m 0 c).arrAt 12 cfg0.N = fun i : S8192x512.Idx => dZc m c (i 0) (i 1) := by
  refine (dats m 0 c).arrAt_eq_of_covers 12 _ (by decide +kernel) fun t hf y => ?_
  blk_simp
  rw [after0_12, outs12]
  refine ((congrArg (dzcAt m c t) (eq_ix2 (n0 := 512) (n1 := 512) y)).trans (dzcAt_apply m c t _ _)).trans ?_
  exact congrArg₂ (dZc m c) (Fin.ext (by blk_simp [o12 t] <;> simp <;> try omega)) (Fin.ext (by blk_simp [o12 t] <;> simp))

theorem final13 : (dats m 0 c).arrAt 13 cfg0.N = fun i : S8192x256.Idx => dIn (dX m c) (lW m c) (i 0).val (i 1) := by
  refine (dats m 0 c).arrAt_eq_of_covers 13 _ (by decide +kernel) fun t hf y => ?_
  blk_simp
  rw [after0_13, outs13]
  refine ((congrArg (dzrAt m c t) (eq_ix2 (n0 := 512) (n1 := 256) y)).trans (dzrAt_apply m c t _ _)).trans ?_
  exact congrArg₂ (dIn (dX m c) (lW m c)) (by blk_simp [o13 t] <;> simp <;> try omega) (Fin.ext (by blk_simp [o13 t] <;> simp))

theorem flush14 : ∀ t : Fin cfg0.N, (cfg0.win 14).flush t = true → t.val = 15 :=
  (by decide +kernel : ∀ t : Fin grid0.N, win0_14.flush t = true → t.val = 15)
theorem flush15 : ∀ t : Fin cfg0.N, (cfg0.win 15).flush t = true → t.val = 15 :=
  (by decide +kernel : ∀ t : Fin grid0.N, win0_15.flush t = true → t.val = 15)

theorem final14 : (dats m 0 c).arrAt 14 cfg0.N = fun i : S32x256.Idx => dCw m c (i 0) (i 1) := by
  refine (dats m 0 c).arrAt_eq_of_covers 14 _ (by decide +kernel) fun t hf y => ?_
  have ht := flush14 t hf
  blk_simp
  rw [after0_14]
  refine ((congrArg (outsAt0 m c t.val t.isLt).2.2.1 (eq_ix2 (n0 := 32) (n1 := 256) y)).trans (last14 m c _ _ t.val t.isLt ht)).trans ?_
  exact congrArg₂ (dCw m c) (Fin.ext (by blk_simp [o14 t] <;> simp)) (Fin.ext (by blk_simp [o14 t] <;> simp))

theorem final15 : (dats m 0 c).arrAt 15 cfg0.N = fun i : S8x256.Idx => dLw m c (i 0) (i 1) := by
  refine (dats m 0 c).arrAt_eq_of_covers 15 _ (by decide +kernel) fun t hf y => ?_
  have ht := flush15 t hf
  blk_simp
  rw [after0_15]
  refine ((congrArg (outsAt0 m c t.val t.isLt).2.2.2 (eq_ix2 (n0 := 8) (n1 := 256) y)).trans (last15 m c _ _ t.val t.isLt ht)).trans ?_
  exact congrArg₂ (dLw m c) (Fin.ext (by blk_simp [o15 t] <;> simp)) (Fin.ext (by blk_simp [o15 t] <;> simp))

end Cert.ConvBwdIdeal.Block
end
-- ==== Proof.Conv.Taps.lean ====
/-
  Rows of an array gathered, and accumulated, at the rows `k + t` that a table of `K × T` indices names: entry by entry,
  at any extents.
-/
module

public import Idealize.ShloMosaic.Lib.Pointwise
public import Idealize.ShloMosaic.Lib.Routing.OpsPair
public import Idealize.ShloMosaic.Lib.WordCmp

@[expose] public section

set_option maxRecDepth 16384

noncomputable section

namespace Cert.Conv

open Idealize.ShloMosaic

/-- Words: `k + t`, wrapped as jnp wraps an index, is `k + t` where both are small. -/
theorem wrapped (k t N : ℕ) (hk : k < 32) (ht : t < 8192) :
    (Scalar.select (IntOp.cmpi .slt (IntOp.addi (BitVec.ofNat 32 k) (BitVec.ofNat 32 t)) 0#32)
      (IntOp.addi (IntOp.addi (BitVec.ofNat 32 k) (BitVec.ofNat 32 t)) (BitVec.ofNat 32 N))
      (IntOp.addi (BitVec.ofNat 32 k) (BitVec.ofNat 32 t))).toInt = ((k + t : ℕ) : Int) := by
  have e : IntOp.addi (BitVec.ofNat 32 k) (BitVec.ofNat 32 t) = BitVec.ofNat 32 (k + t) := (BitVec.ofNat_add ..).symm
  have h : (BitVec.ofNat 32 (k + t)).toNat = k + t := by rw [BitVec.toNat_ofNat]; omega
  rw [e, Routing.wrap_of_lt _ _ (by rw [h]; omega), BitVec.toInt_eq_toNat_of_lt (by rw [h]; omega), h]

variable {N K T C w : ℕ}

/-- A gather of whole rows: entry `(k, t, c)` is column `c` of the row that index `(k, t)` names. -/
theorem gather_rows {α : Type} (d : GatherDims ⟨2, ![N, C]⟩ ⟨3, ![K, T, 1]⟩ ⟨3, ![K, T, C]⟩) (ho : d.offsetDims = [2])
    (hc : d.collapsedSliceDims = [0]) (hb : d.operandBatchingDims = []) (hsb : d.startIndicesBatchingDims = [])
    (hm : d.startIndexMap = [0]) (hi : d.indexVectorDim = 2) (hz : d.sliceSizes = ![1, C])
    (x : (⟨2, ![N, C]⟩ : Shape).Idx → α) (idx : IVec ⟨3, ![K, T, 1]⟩ w) (k : Fin K) (t : Fin T) (c : Fin C) (r : Fin N)
    (h : (idx (ix3 k t 0)).toInt = (r.val : Int)) : Host.gather d x idx (ix3 k t c) = x (ix2 r c) := by
  obtain ⟨o, cs, ob, sb, sm, iv, ss, wf⟩ := d
  dsimp only at ho hc hb hsb hm hi hz
  subst ho hc hb hsb hm hi hz
  unfold Host.gather
  refine congrArg x (funext fun a => Fin.ext ?_)
  match a with
  | ⟨0, _⟩ =>
    show min (idx _).toInt.toNat (N - 1) + 0 + 0 = r.val
    have e : ∀ y : (⟨3, ![K, T, 1]⟩ : Shape).Idx, y = ix3 k t 0 → min (idx y).toInt.toNat (N - 1) + 0 + 0 = r.val := by
      rintro _ rfl
      rw [h]
      have := r.isLt
      simp only [Int.toNat_natCast]
      omega
    refine e _ (funext fun b => Fin.ext ?_)
    match b with
    | ⟨0, _⟩ => rfl
    | ⟨1, _⟩ => rfl
    | ⟨2, _⟩ => rfl
  | ⟨1, _⟩ => show 0 + 0 + c.val = c.val; omega

/-- Update `(k, t, c')` of an accumulation of whole rows lands on row `r`, column `c`, where its index names `r` and `c' = c`. -/
theorem scatter_rows_lands (d : ScatterDims ⟨2, ![N, C]⟩ ⟨3, ![K, T, 1]⟩ ⟨3, ![K, T, C]⟩) (hu : d.updateWindowDims = [2])
    (hi : d.insertedWindowDims = [0]) (hs : d.scatterDimsToOperandDims = [0]) (hv : d.indexVectorDim = 2)
    (idx : IVec ⟨3, ![K, T, 1]⟩ w) (k : Fin K) (t : Fin T) (c' : Fin C) (r : Fin N) (c : Fin C) :
    d.resultIdx? (ix3 k t c') idx = some (ix2 r c) ↔ (idx (ix3 k t 0)).toInt = (r.val : Int) ∧ c' = c := by
  obtain ⟨uw, iw, sd, iv, wf⟩ := d
  dsimp only at hu hi hs hv
  subst hu hi hs hv
  rw [Routing.resultIdx?_eq_some]
  have h0 : (ScatterDims.mk (s := ⟨2, ![N, C]⟩) (si := ⟨3, ![K, T, 1]⟩) (u := ⟨3, ![K, T, C]⟩) [2] [0] [0] 2 wf).start (ix3 k t c') idx 0
      = (idx (ix3 k t 0)).toInt := by
    show (idx _).toInt = _
    refine congrArg (fun y => (idx y).toInt) (funext fun b => Fin.ext ?_)
    match b with
    | ⟨0, _⟩ => rfl
    | ⟨1, _⟩ => rfl
    | ⟨2, _⟩ => rfl
  constructor
  · intro h
    have a0 := h 0
    have a1 := h 1
    rw [h0] at a0
    refine ⟨?_, Fin.ext ?_⟩
    · change (idx (ix3 k t 0)).toInt + ((0 : ℕ) : Int) = (r.val : Int) at a0
      omega
    · change (0 : Int) + ((c'.val : ℕ) : Int) = (c.val : Int) at a1
      omega
  · rintro ⟨h, rfl⟩ a
    match a with
    | ⟨0, _⟩ =>
      refine (congrArg (· + ((0 : ℕ) : Int)) h0).trans ?_
      rw [h]
      show (r.val : Int) + ((0 : ℕ) : Int) = r.val
      omega
    | ⟨1, _⟩ =>
      show (0 : Int) + ((c'.val : ℕ) : Int) = (c'.val : Int)
      omega

/-- Rows accumulated at the rows `k + t`: row `r` receives, of each `k`, the update of `t = r - k`. -/
theorem scatter_rows (d : ScatterDims ⟨2, ![N, C]⟩ ⟨3, ![K, T, 1]⟩ ⟨3, ![K, T, C]⟩) (hu : d.updateWindowDims = [2])
    (hi : d.insertedWindowDims = [0]) (hs : d.scatterDimsToOperandDims = [0]) (hv : d.indexVectorDim = 2)
    (x : (⟨2, ![N, C]⟩ : Shape).Idx → EReal) (idx : IVec ⟨3, ![K, T, 1]⟩ w) (upd : (⟨3, ![K, T, C]⟩ : Shape).Idx → EReal)
    (hidx : ∀ (k : Fin K) (t : Fin T), (idx (ix3 k t 0)).toInt = ((k.val + t.val : ℕ) : Int)) (r : Fin N) (c : Fin C) :
    Ideal.hostScatterAdd d x idx upd (ix2 r c)
      = x (ix2 r c) + ∑ k : Fin K, if h : k.val ≤ r.val ∧ r.val - k.val < T then upd (ix3 k ⟨r.val - k.val, h.2⟩ c) else 0 := by
  unfold Ideal.hostScatterAdd
  refine congrArg (x (ix2 r c) + ·) ?_
  rw [Finset.sum_filter, sum_idx3]
  refine Finset.sum_congr rfl fun k _ => ?_
  have e : ∀ t : Fin T, (∑ c' : Fin C, if d.resultIdx? (ix3 k t c') idx = some (ix2 r c) then upd (ix3 k t c') else 0)
      = if k.val + t.val = r.val then upd (ix3 k t c) else 0 := fun t => by
    rw [Finset.sum_eq_single c]
    · refine if_congr ?_ rfl rfl
      rw [scatter_rows_lands d hu hi hs hv, hidx]
      constructor
      · rintro ⟨h, -⟩; exact_mod_cast h
      · intro h; exact ⟨by exact_mod_cast h, rfl⟩
    · intro c' _ hc
      refine if_neg fun h => hc ?_
      exact ((scatter_rows_lands d hu hi hs hv idx k t c' r c).mp h).2
    · intro h; exact absurd (Finset.mem_univ c) h
  rw [Finset.sum_congr rfl fun t _ => e t]
  split
  · rename_i h
    rw [Finset.sum_eq_single ⟨r.val - k.val, h.2⟩]
    · rw [if_pos (by dsimp only; omega)]
    · intro t _ ht
      refine if_neg fun q => ht (Fin.ext (by dsimp only; omega))
    · intro q; exact absurd (Finset.mem_univ _) q
  · rename_i h
    refine Finset.sum_eq_zero fun t _ => if_neg fun q => h ?_
    have := t.isLt
    omega

end Cert.Conv
end
-- ==== Proof.Conv.Ref.lean ====
/-
  The reference's four results, entry by entry: a gather of shifted rows transposes to an accumulation of shifted rows, so
  each convolution's input gradient is a sum over its taps, and its weight gradient a sum over all rows.
-/
module

public import proofs.«01_k».proof.Proof.Gen.ConvBwdRefIdeal.Read
public import proofs.«01_k».proof.Proof.Conv.Kernel
public import proofs.«01_k».proof.Proof.Conv.Taps

@[expose] public section

set_option maxRecDepth 16384

noncomputable section

namespace Cert.ConvBwdRefIdeal.Rows

open Cert.ConvBwdRefIdeal Cert.ConvBwdRefIdeal.Gen Cert.ConvBwdRefIdeal.Read Idealize.ShloMosaic Idealize.ShloMosaic.TcCoe Idealize.SL.Sem
open Cert.ConvBwdIdeal.Block (rowOf behind dIn dWt one_f32)

variable (x0 : (⟨S8192x1792, .f32⟩ : BufTy).Contents (Elt Ideal)) (x1 : (⟨S31x256, .f32⟩ : BufTy).Contents (Elt Ideal))
  (x2 : (⟨S4x256, .f32⟩ : BufTy).Contents (Elt Ideal)) (x3 x4 : (⟨S8192x256, .f32⟩ : BufTy).Contents (Elt Ideal))

/-- 256 columns of `z`, from column `o`. -/
def zc (o : ℕ) (h : o ≤ 1536) (r : Fin 8192) (j : Fin 256) : EReal := x0 (ix2 r (⟨o + j.val, by omega⟩ : Fin 1792))

/-- The gate, the gated input, and the recurrent branch's input. -/
def gateR (r : Fin 8192) (j : Fin 256) : EReal := Ideal.logistic (zc x0 1024 (by decide) r j)
def uR (r : Fin 8192) (j : Fin 256) : EReal := zc x0 768 (by decide) r j * gateR x0 r j
def rR (r : Fin 8192) (j : Fin 256) : EReal := zc x0 1280 (by decide) r j

theorem v0_eq (r : Fin 8192) (j : Fin 256) : val_main_v0 (F := Ideal) x0 (ix2 r j) = zc x0 768 (by decide) r j := by
  rw [val_main_v0_apply]
  exact congrArg x0 (funext fun a => by
    match a with
    | ⟨0, _⟩ => rfl
    | ⟨1, _⟩ => rfl)

theorem v1_eq (r : Fin 8192) (j : Fin 256) : val_main_v1 (F := Ideal) x0 (ix2 r j) = zc x0 1024 (by decide) r j := by
  rw [val_main_v1_apply]
  exact congrArg x0 (funext fun a => by
    match a with
    | ⟨0, _⟩ => rfl
    | ⟨1, _⟩ => rfl)

theorem rR_eq (r : Fin 8192) (j : Fin 256) : val_main_v2 (F := Ideal) x0 (ix2 r j) = rR x0 r j := by
  rw [val_main_v2_apply]
  exact congrArg x0 (funext fun a => by
    match a with
    | ⟨0, _⟩ => rfl
    | ⟨1, _⟩ => rfl)

theorem v8_eq (r : Fin 8192) (j : Fin 256) : val_main_v8 (F := Ideal) x0 (ix2 r j) = gateR x0 r j := by
  simp only [val_main_v8_apply, val_main_v7_apply, val_main_v6_apply, val_main_v5_apply, val_main_v4_apply, val_main_v3_apply,
    val_main_cst_apply, val_main_cst_0_apply, v1_eq]
  show Ideal.div (Ideal.ofBits .f32 0x3F800000#32) (Ideal.ofBits .f32 0x3F800000#32 + Ideal.exp (-_)) = _
  rw [one_f32]
  rfl

theorem uR_eq (r : Fin 8192) (j : Fin 256) : val_main_v12 (F := Ideal) x0 (ix2 r j) = uR x0 r j := by
  rw [val_main_v12_apply, v0_eq, v8_eq]
  rfl

/-! ### The 31-tap convolution -/

theorem idx31 (k : Fin 31) (t : Fin 8192) : (val_main_v28 (F := Ideal) (ix3 k t 0)).toInt = ((k.val + t.val : ℕ) : Int) := by
  simp only [val_main_v28_apply, val_main_v27_apply, val_main_v24_apply, val_main_v23_apply, val_main_v22_apply, val_main_c_apply, val_main_v26_apply, val_main_c_4_apply, val_main_v25_apply, val_main_v20_apply, val_main_v17_apply, val_main_v16_apply, val_main_v21_apply, val_main_v19_apply, val_main_v18_apply]
  exact Cert.Conv.wrapped k.val t.val 8222 (by omega) t.isLt

theorem xp31 (r : Fin 8222) (j : Fin 256) : val_main_v14 (F := Ideal) x0 (ix2 r j)
    = if h : r.val < 30 then 0 else uR x0 ⟨r.val - 30, by omega⟩ j := by
  unfold val_main_v14
  split
  · rename_i h
    refine (concatenate_pair_apply_left (t := S8222x256) (s₁ := S30x256) (s₂ := S8192x256) 0 _ _ _ _ rfl (ix2 (⟨r.val, h⟩ : Fin 30) j)
      fun b => ?_).trans ?_
    · match b with
      | ⟨0, _⟩ => rfl
      | ⟨1, _⟩ => rfl
    · rw [val_main_v13_apply, val_main_cst_2_apply]
      exact Ideal.ofBits_zero_f32
  · rename_i h
    refine (concatenate_pair_apply_right (t := S8222x256) (s₁ := S30x256) (s₂ := S8192x256) 0 _ _ _ _ rfl rfl
      (ix2 (⟨r.val - 30, by omega⟩ : Fin 8192) j) (fun b hb => ?_) ?_).trans (uR_eq x0 _ _)
    · match b with
      | ⟨0, _⟩ => exact absurd rfl hb
      | ⟨1, _⟩ => rfl
    · show r.val - 30 + 30 = r.val
      omega

theorem gathered31 (k : Fin 31) (t : Fin 8192) (j : Fin 256) :
    val_main_v29 (F := Ideal) x0 (ix3 k t j) = behind (uR x0) (t.val + 32 - (31 - 1 - k.val)) j := by
  refine (Cert.Conv.gather_rows _ rfl rfl rfl rfl rfl rfl rfl _ _ k t j ⟨k.val + t.val, by omega⟩ (idx31 k t)).trans ?_
  rw [xp31]
  unfold behind rowOf
  by_cases h : k.val + t.val < 30
  · rw [dif_pos h, if_pos (by omega)]
  · rw [dif_neg h, if_neg (by omega), dif_pos (by omega)]
    exact congrArg (fun r => uR x0 r j) (Fin.ext (show k.val + t.val - 30 = t.val + 32 - (31 - 1 - k.val) - 32 by omega))

theorem din31 (s : Fin 8192) (j : Fin 256) : val_main_v76 (F := Ideal) x1 x3 (ix2 s j)
    = dIn (fun r j => x3 (ix2 r j)) (fun k j => x1 (ix2 k j) : Fin 31 → Fin 256 → EReal) s.val j := by
  rw [val_main_v76_apply]
  have e : idx_main_v76 (ix2 s j) = ix2 (⟨30 + s.val, by omega⟩ : Fin 8222) j := funext fun a => Fin.ext (by
    match a with
    | ⟨0, _⟩ => rfl
    | ⟨1, _⟩ => rfl)
  rw [e]
  refine (Cert.Conv.scatter_rows _ rfl rfl rfl rfl _ _ _ idx31 _ _).trans ?_
  rw [val_main_v73_apply, val_main_cst_16_apply]
  refine (congrArg (· + _) Ideal.ofBits_zero_f32).trans ?_
  rw [zero_add]
  unfold dIn
  refine Finset.sum_congr rfl fun k _ => ?_
  unfold rowOf
  by_cases h : s.val + (31 - 1 - k.val) < 8192
  · rw [dif_pos h, dif_pos (show k.val ≤ 30 + s.val ∧ 30 + s.val - k.val < 8192 by omega), val_main_v68_apply, val_main_v67_apply,
      val_main_v30_apply, val_main_v66_apply]
    refine (mul_comm _ _).trans (congrArg₂ (· * ·) (congrArg x3 (funext fun a => Fin.ext ?_)) (congrArg x1 (funext fun a => Fin.ext ?_)))
    · match a with
      | ⟨0, _⟩ => show 30 + s.val - k.val = s.val + (31 - 1 - k.val); omega
      | ⟨1, _⟩ => rfl
    · match a with
      | ⟨0, _⟩ => rfl
      | ⟨1, _⟩ => rfl
  · rw [dif_neg h, dif_neg (show ¬(k.val ≤ 30 + s.val ∧ 30 + s.val - k.val < 8192) by omega), zero_mul]

theorem taps31 (k : Fin 31) (j : Fin 256) : val_main_v70 (F := Ideal) x0 x3 (ix2 k j)
    = dWt 31 (fun r j => x3 (ix2 r j)) (uR x0) k.val j := by
  rw [val_main_v70_apply, val_main_cst_14_apply]
  refine (congrArg (· + _) Ideal.ofBits_zero_f32).trans ((zero_add _).trans ?_)
  unfold dWt
  refine Finset.sum_congr rfl fun s _ => ?_
  have e : idx_main_v70 (ix2 k j) s = ix3 k s j := funext fun a => by
    match a with
    | ⟨0, _⟩ => rfl
    | ⟨1, _⟩ => rfl
    | ⟨2, _⟩ => rfl
  rw [e, val_main_v69_apply, val_main_v66_apply]
  refine congrArg₂ (· * ·) (congrArg x3 (funext fun a => ?_)) (gathered31 x0 k s j)
  match a with
  | ⟨0, _⟩ => rfl
  | ⟨1, _⟩ => rfl

theorem dwt31 (k : Fin 31) (j : Fin 256) : val_main_v72 (F := Ideal) x0 x3 (ix2 k j)
    = dWt 31 (fun r j => x3 (ix2 r j)) (uR x0) k.val j := by
  rw [val_main_v72_apply, val_main_cst_15_apply, Fin.sum_univ_one]
  refine (congrArg (· + _) Ideal.ofBits_zero_f32).trans ((zero_add _).trans ?_)
  rw [val_main_v71_apply]
  refine (congrArg _ (funext fun a => Fin.ext ?_)).trans (taps31 x0 x3 k j)
  have := k.isLt
  have := j.isLt
  match a with
  | ⟨0, _⟩ => show ((k.val * 1 + 0) * 256 + j.val) / 256 = k.val; omega
  | ⟨1, _⟩ => show ((k.val * 1 + 0) * 256 + j.val) % 256 = j.val; omega

/-! ### The 4-tap convolution -/

theorem idx4 (k : Fin 4) (t : Fin 8192) : (val_main_v49 (F := Ideal) (ix3 k t 0)).toInt = ((k.val + t.val : ℕ) : Int) := by
  simp only [val_main_v49_apply, val_main_v48_apply, val_main_v45_apply, val_main_v44_apply, val_main_v43_apply, val_main_c_8_apply, val_main_v47_apply, val_main_c_9_apply, val_main_v46_apply, val_main_v41_apply, val_main_v38_apply, val_main_v37_apply, val_main_v42_apply, val_main_v40_apply, val_main_v39_apply]
  exact Cert.Conv.wrapped k.val t.val 8195 (by omega) t.isLt

theorem xp4 (r : Fin 8195) (j : Fin 256) : val_main_v35 (F := Ideal) x0 (ix2 r j)
    = if h : r.val < 3 then 0 else rR x0 ⟨r.val - 3, by omega⟩ j := by
  unfold val_main_v35
  split
  · rename_i h
    refine (concatenate_pair_apply_left (t := S8195x256) (s₁ := S3x256) (s₂ := S8192x256) 0 _ _ _ _ rfl (ix2 (⟨r.val, h⟩ : Fin 3) j)
      fun b => ?_).trans ?_
    · match b with
      | ⟨0, _⟩ => rfl
      | ⟨1, _⟩ => rfl
    · rw [val_main_v34_apply, val_main_cst_6_apply]
      exact Ideal.ofBits_zero_f32
  · rename_i h
    refine (concatenate_pair_apply_right (t := S8195x256) (s₁ := S3x256) (s₂ := S8192x256) 0 _ _ _ _ rfl rfl
      (ix2 (⟨r.val - 3, by omega⟩ : Fin 8192) j) (fun b hb => ?_) ?_).trans (rR_eq x0 _ _)
    · match b with
      | ⟨0, _⟩ => exact absurd rfl hb
      | ⟨1, _⟩ => rfl
    · show r.val - 3 + 3 = r.val
      omega

theorem gathered4 (k : Fin 4) (t : Fin 8192) (j : Fin 256) :
    val_main_v50 (F := Ideal) x0 (ix3 k t j) = behind (rR x0) (t.val + 32 - (4 - 1 - k.val)) j := by
  refine (Cert.Conv.gather_rows _ rfl rfl rfl rfl rfl rfl rfl _ _ k t j ⟨k.val + t.val, by omega⟩ (idx4 k t)).trans ?_
  rw [xp4]
  unfold behind rowOf
  by_cases h : k.val + t.val < 3
  · rw [dif_pos h, if_pos (by omega)]
  · rw [dif_neg h, if_neg (by omega), dif_pos (by omega)]
    exact congrArg (fun r => rR x0 r j) (Fin.ext (show k.val + t.val - 3 = t.val + 32 - (4 - 1 - k.val) - 32 by omega))

theorem din4 (s : Fin 8192) (j : Fin 256) : val_main_v65 (F := Ideal) x2 x4 (ix2 s j)
    = dIn (fun r j => x4 (ix2 r j)) (fun k j => x2 (ix2 k j) : Fin 4 → Fin 256 → EReal) s.val j := by
  rw [val_main_v65_apply]
  have e : idx_main_v65 (ix2 s j) = ix2 (⟨3 + s.val, by omega⟩ : Fin 8195) j := funext fun a => Fin.ext (by
    match a with
    | ⟨0, _⟩ => rfl
    | ⟨1, _⟩ => rfl)
  rw [e]
  refine (Cert.Conv.scatter_rows _ rfl rfl rfl rfl _ _ _ idx4 _ _).trans ?_
  rw [val_main_v62_apply, val_main_cst_13_apply]
  refine (congrArg (· + _) Ideal.ofBits_zero_f32).trans ?_
  rw [zero_add]
  unfold dIn
  refine Finset.sum_congr rfl fun k _ => ?_
  unfold rowOf
  by_cases h : s.val + (4 - 1 - k.val) < 8192
  · rw [dif_pos h, dif_pos (show k.val ≤ 3 + s.val ∧ 3 + s.val - k.val < 8192 by omega), val_main_v57_apply, val_main_v56_apply,
      val_main_v51_apply, val_main_v55_apply]
    refine (mul_comm _ _).trans (congrArg₂ (· * ·) (congrArg x4 (funext fun a => Fin.ext ?_)) (congrArg x2 (funext fun a => Fin.ext ?_)))
    · match a with
      | ⟨0, _⟩ => show 3 + s.val - k.val = s.val + (4 - 1 - k.val); omega
      | ⟨1, _⟩ => rfl
    · match a with
      | ⟨0, _⟩ => rfl
      | ⟨1, _⟩ => rfl
  · rw [dif_neg h, dif_neg (show ¬(k.val ≤ 3 + s.val ∧ 3 + s.val - k.val < 8192) by omega), zero_mul]

theorem taps4 (k : Fin 4) (j : Fin 256) : val_main_v59 (F := Ideal) x0 x4 (ix2 k j)
    = dWt 4 (fun r j => x4 (ix2 r j)) (rR x0) k.val j := by
  rw [val_main_v59_apply, val_main_cst_11_apply]
  refine (congrArg (· + _) Ideal.ofBits_zero_f32).trans ((zero_add _).trans ?_)
  unfold dWt
  refine Finset.sum_congr rfl fun s _ => ?_
  have e : idx_main_v59 (ix2 k j) s = ix3 k s j := funext fun a => by
    match a with
    | ⟨0, _⟩ => rfl
    | ⟨1, _⟩ => rfl
    | ⟨2, _⟩ => rfl
  rw [e, val_main_v58_apply, val_main_v55_apply]
  refine congrArg₂ (· * ·) (congrArg x4 (funext fun a => ?_)) (gathered4 x0 k s j)
  match a with
  | ⟨0, _⟩ => rfl
  | ⟨1, _⟩ => rfl

theorem dwt4 (k : Fin 4) (j : Fin 256) : val_main_v61 (F := Ideal) x0 x4 (ix2 k j)
    = dWt 4 (fun r j => x4 (ix2 r j)) (rR x0) k.val j := by
  rw [val_main_v61_apply, val_main_cst_12_apply, Fin.sum_univ_one]
  refine (congrArg (· + _) Ideal.ofBits_zero_f32).trans ((zero_add _).trans ?_)
  rw [val_main_v60_apply]
  refine (congrArg _ (funext fun a => Fin.ext ?_)).trans (taps4 x0 x4 k j)
  have := k.isLt
  have := j.isLt
  match a with
  | ⟨0, _⟩ => show ((k.val * 1 + 0) * 256 + j.val) / 256 = k.val; omega
  | ⟨1, _⟩ => show ((k.val * 1 + 0) * 256 + j.val) % 256 = j.val; omega

/-! ### The four results -/

theorem out0_lo (s : Fin 8192) (j : Fin 512) (h : j.val < 256) : val_main_v81 (F := Ideal) x0 x1 x3 (ix2 s j)
    = dIn (fun r j => x3 (ix2 r j)) (fun k j => x1 (ix2 k j) : Fin 31 → Fin 256 → EReal) s.val ⟨j.val, h⟩ * gateR x0 s ⟨j.val, h⟩ := by
  rw [val_main_v81_apply]
  unfold val_main_v80
  refine (concatenate_pair_apply_left (t := S8192x512) (s₁ := S8192x256) (s₂ := S8192x256) 1 _ _ _ _ rfl
    (ix2 s (⟨j.val, h⟩ : Fin 256)) fun b => ?_).trans ?_
  · match b with
    | ⟨0, _⟩ => rfl
    | ⟨1, _⟩ => rfl
  · rw [val_main_v78_apply, din31, v8_eq]
    rfl

theorem out0_hi (s : Fin 8192) (j : Fin 512) (h : 256 ≤ j.val) : val_main_v81 (F := Ideal) x0 x1 x3 (ix2 s j)
    = zc x0 768 (by decide) s ⟨j.val - 256, by omega⟩
      * dIn (fun r j => x3 (ix2 r j)) (fun k j => x1 (ix2 k j) : Fin 31 → Fin 256 → EReal) s.val ⟨j.val - 256, by omega⟩
      * (gateR x0 s ⟨j.val - 256, by omega⟩ * (1 - gateR x0 s ⟨j.val - 256, by omega⟩)) := by
  rw [val_main_v81_apply]
  unfold val_main_v80
  refine (concatenate_pair_apply_right (t := S8192x512) (s₁ := S8192x256) (s₂ := S8192x256) 1 _ _ _ _ rfl rfl
    (ix2 s (⟨j.val - 256, by omega⟩ : Fin 256)) (fun b hb => ?_) ?_).trans ?_
  · match b with
    | ⟨0, _⟩ => rfl
    | ⟨1, _⟩ => exact absurd rfl hb
  · show j.val - 256 + 256 = j.val
    omega
  · rw [val_main_v79_apply, val_main_v77_apply, val_main_v11_apply, val_main_v10_apply, val_main_v9_apply, val_main_cst_1_apply, v0_eq,
      v8_eq, din31]
    refine congrArg₂ (· * ·) rfl (congrArg₂ (· * ·) rfl (congrArg₂ (· - ·) one_f32 rfl))

theorem pad31 (k : Fin 32) (j : Fin 256) : val_main_v83 (F := Ideal) x0 x3 (ix2 k j)
    = if k.val < 31 then dWt 31 (fun r j => x3 (ix2 r j)) (uR x0) k.val j else 0 := by
  unfold val_main_v83
  split
  · rename_i h
    refine (pad_apply_of_inside _ _ _ _ _ _ _ _ (ix2 (⟨k.val, h⟩ : Fin 31) j) fun a => ?_).trans (dwt31 x0 x3 _ _)
    match a with
    | ⟨0, _⟩ => show k.val = 0 + k.val * (0 + 1); omega
    | ⟨1, _⟩ => show j.val = 0 + j.val * (0 + 1); omega
  · rename_i h
    refine (pad_apply_of_not_inside _ _ _ _ _ _ _ _ 0 fun q => h ?_).trans ?_
    · have := q.2.2
      change (k.val - 0) / (0 + 1) < 31 at this
      omega
    · rw [val_main_call0_v0_apply, val_main_c_17_apply]
      exact sitofp_zero (φ := .f32)

theorem pad4 (k : Fin 8) (j : Fin 256) : val_main_v84 (F := Ideal) x0 x4 (ix2 k j)
    = if k.val < 4 then dWt 4 (fun r j => x4 (ix2 r j)) (rR x0) k.val j else 0 := by
  unfold val_main_v84
  split
  · rename_i h
    refine (pad_apply_of_inside _ _ _ _ _ _ _ _ (ix2 (⟨k.val, h⟩ : Fin 4) j) fun a => ?_).trans (dwt4 x0 x4 _ _)
    match a with
    | ⟨0, _⟩ => show k.val = 0 + k.val * (0 + 1); omega
    | ⟨1, _⟩ => show j.val = 0 + j.val * (0 + 1); omega
  · rename_i h
    refine (pad_apply_of_not_inside _ _ _ _ _ _ _ _ 0 fun q => h ?_).trans ?_
    · have := q.2.2
      change (k.val - 0) / (0 + 1) < 4 at this
      omega
    · rw [val_main_call1_v0_apply, val_main_c_18_apply]
      exact sitofp_zero (φ := .f32)

end Cert.ConvBwdRefIdeal.Rows
end
-- ==== Proof.Conv.Claims.lean ====
/-
  The two programs of the convolution pair compute the same four arrays: from arguments that agree, the kernel's final
  arrays and the reference's results are the same functions of the entries.
-/
module

public import proofs.«01_k».proof.Defs
public import proofs.«01_k».proof.Proof.Gen.ConvBwd
public import proofs.«01_k».proof.Proof.Gen.ConvBwd.Frame
public import proofs.«01_k».proof.Proof.Gen.ConvBwdIdeal
public import proofs.«01_k».proof.Proof.Gen.ConvBwdIdeal.Frame
public import proofs.«01_k».proof.Proof.Gen.ConvBwdIdeal.Value
public import proofs.«01_k».proof.Proof.Gen.ConvBwdRefIdeal
public import proofs.«01_k».proof.Proof.Gen.ConvBwdRefIdeal.Run
public import proofs.«01_k».proof.Proof.Gen.ConvBwdRefIdeal.Read
public import proofs.«01_k».proof.Proof.Conv.Ref
public import Idealize.ShloMosaic.Adequacy
public import Idealize.ShloMosaic.Init

@[expose] public section

set_option maxRecDepth 16384

noncomputable section

namespace Cert.Conv

open Idealize.ShloMosaic Idealize.ShloMosaic.TcCoe Idealize.SL.Sem
open Cert.ConvBwdIdeal.Block Cert.ConvBwdRefIdeal.Rows Cert.ConvBwdRefIdeal.Read

variable (m : (ℓ : Loc Cert.ConvBwdIdeal.nD Cert.ConvBwdIdeal.τ Cert.ConvBwdIdeal.sig) → Buf (Elt Ideal) ℓ)
  (c : Dev Cert.ConvBwdIdeal.nD)

/-- The kernel's argument arrays on device `c`. -/
abbrev a0 : (⟨Cert.ConvBwdRefIdeal.S8192x1792, .f32⟩ : BufTy).Contents (Elt Ideal) :=
  m ((c.tc : Thread Cert.ConvBwdIdeal.nD Cert.ConvBwdIdeal.τ).loc Cert.ConvBwdIdeal.main_arg0)
abbrev a1 : (⟨Cert.ConvBwdRefIdeal.S31x256, .f32⟩ : BufTy).Contents (Elt Ideal) :=
  m ((c.tc : Thread Cert.ConvBwdIdeal.nD Cert.ConvBwdIdeal.τ).loc Cert.ConvBwdIdeal.main_arg1)
abbrev a2 : (⟨Cert.ConvBwdRefIdeal.S4x256, .f32⟩ : BufTy).Contents (Elt Ideal) :=
  m ((c.tc : Thread Cert.ConvBwdIdeal.nD Cert.ConvBwdIdeal.τ).loc Cert.ConvBwdIdeal.main_arg2)
abbrev a3 : (⟨Cert.ConvBwdRefIdeal.S8192x256, .f32⟩ : BufTy).Contents (Elt Ideal) :=
  m ((c.tc : Thread Cert.ConvBwdIdeal.nD Cert.ConvBwdIdeal.τ).loc Cert.ConvBwdIdeal.main_arg3)
abbrev a4 : (⟨Cert.ConvBwdRefIdeal.S8192x256, .f32⟩ : BufTy).Contents (Elt Ideal) :=
  m ((c.tc : Thread Cert.ConvBwdIdeal.nD Cert.ConvBwdIdeal.τ).loc Cert.ConvBwdIdeal.main_arg4)

/-- The gradient of the gated half of `z`. -/
theorem ref0 : val_main_v81 (F := Ideal) (a0 m c) (a1 m c) (a3 m c)
    = fun i : Cert.ConvBwdIdeal.S8192x512.Idx => dZc m c (i 0) (i 1) := by
  funext i
  refine (congrArg _ (eq_ix2 (n0 := 8192) (n1 := 512) i)).trans ?_
  unfold dZc
  by_cases h : (i 1).val < 256
  · rw [dif_pos h]
    exact out0_lo (a0 m c) (a1 m c) (a3 m c) (i 0) (i 1) h
  · rw [dif_neg h]
    refine (out0_hi (a0 m c) (a1 m c) (a3 m c) (i 0) (i 1) (by omega)).trans ?_
    rw [← mul_assoc]
    exact congrArg (· * _) (congrArg (· * _) (mul_comm _ _))

/-- The gradient of the recurrent branch's input. -/
theorem ref1 : val_main_v82 (F := Ideal) (a2 m c) (a4 m c)
    = fun i : Cert.ConvBwdIdeal.S8192x256.Idx => dIn (dX m c) (lW m c) (i 0).val (i 1) := by
  funext i
  refine (congrArg _ (eq_ix2 (n0 := 8192) (n1 := 256) i)).trans ((val_main_v82_apply _ _ _).trans ?_)
  exact din4 (a2 m c) (a4 m c) (i 0) (i 1)

/-- The gradient of the 31 taps, in 32 rows. -/
theorem ref2 : val_main_v83 (F := Ideal) (a0 m c) (a3 m c)
    = fun i : Cert.ConvBwdIdeal.S32x256.Idx => dCw m c (i 0) (i 1) := by
  funext i
  exact (congrArg _ (eq_ix2 (n0 := 32) (n1 := 256) i)).trans (pad31 (a0 m c) (a3 m c) (i 0) (i 1))

/-- The gradient of the 4 taps, in 8 rows. -/
theorem ref3 : val_main_v84 (F := Ideal) (a0 m c) (a4 m c)
    = fun i : Cert.ConvBwdIdeal.S8x256.Idx => dLw m c (i 0) (i 1) := by
  funext i
  exact (congrArg _ (eq_ix2 (n0 := 8) (n1 := 256) i)).trans (pad4 (a0 m c) (a4 m c) (i 0) (i 1))

theorem frame_kernel : Cert.quiescent_ConvBwd (hConvBwd := Cert.ConvBwd.Gen.facts) := fun m ρ _ => Cert.ConvBwd.Gen.frame m ρ

theorem frame_ideal : Cert.quiescent_ConvBwdIdeal (hConvBwdIdeal := Cert.ConvBwdIdeal.Gen.facts) := fun m ρ _ =>
  Cert.ConvBwdIdeal.Gen.frame m ρ

theorem frame_ref : Cert.quiescent_ConvBwdRefIdeal (hConvBwdRefIdeal := Cert.ConvBwdRefIdeal.Gen.facts) := fun m ρ _ =>
  (θ_run _ _ _).mono (fun r h => ⟨fun c => (h c).2.2.2.2, sem_eq_zero_of_no_sems (by decide) r.2⟩) (Cert.ConvBwdRefIdeal.Value.run m ρ)

/-- The kernel and the reference end with the same four arrays. -/
theorem algebraic : Cert.algebraic_ConvBwdIdeal_ConvBwdRefIdeal (hConvBwdIdeal := Cert.ConvBwdIdeal.Gen.facts)
    (hConvBwdRefIdeal := Cert.ConvBwdRefIdeal.Gen.facts) := fun m ρ m' ρ' _ hag =>
  ⟨fun c i => dZc m c (i 0) (i 1), fun c i => dIn (dX m c) (lW m c) (i 0).val (i 1), fun c i => dCw m c (i 0) (i 1),
    fun c i => dLw m c (i 0) (i 1),
    (θ_run _ _ _).mono (fun _ h c => ⟨(h c).1.trans (final12 m c), (h c).2.1.trans (final13 m c), (h c).2.2.1.trans (final14 m c),
      (h c).2.2.2.1.trans (final15 m c), (h c).2.2.2.2⟩) (Cert.ConvBwdIdeal.Value.run_blocks m ρ),
    (θ_run _ _ _).mono (fun r h c => by
      obtain ⟨g0, g1, g2, g3, g4⟩ := hag c
      have g0 : _ = a0 m c := g0
      have g1 : _ = a1 m c := g1
      have g2 : _ = a2 m c := g2
      have g3 : _ = a3 m c := g3
      have g4 : _ = a4 m c := g4
      obtain ⟨h0, h1, h2, h3, hk⟩ := h c
      refine ⟨h0.trans ((val_main_v81_eq m' c).trans ?_), h1.trans ((val_main_v82_eq _ _).trans ?_),
        h2.trans ((val_main_v83_eq _ _).trans ?_), h3.trans ((val_main_v84_eq _ _).trans ?_), hk⟩
      · rw [g0, g1, g3]; exact ref0 m c
      · rw [g2, g4]; exact ref1 m c
      · rw [g0, g3]; exact ref2 m c
      · rw [g0, g4]; exact ref3 m c) (Cert.ConvBwdRefIdeal.Value.run m' ρ')⟩

end Cert.Conv
end
-- ==== Proof.Inproj.Block.lean ====
/-
  What one grid step of `inproj_bwd` stores, over any float values: the row block's gradient, and the two accumulators'
  next values (from zero at the first step).
-/
module

public import proofs.«01_k».proof.Proof.Gen.InprojBwdIdeal.Value
public import Idealize.ShloMosaic.Lib.Tactic
public import Idealize.ShloMosaic.Lib.Pipeline.Value

@[expose] public section

set_option maxRecDepth 65536

noncomputable section

namespace Cert.InprojBwdIdeal.Block

open Cert.InprojBwdIdeal Cert.InprojBwdIdeal.Gen Idealize.ShloMosaic Idealize.ShloMosaic.TcCoe Idealize.SL.Sem

variable {F : FTy → Type} [FloatOps F]
variable (m : (ℓ : Loc nD τ sig) → Buf (Elt F) ℓ) (c : Dev nD) (t : Fin cfg0.N)

theorem hz : (![0, 0] : Fin 2 → Nat) = fun _ => 0 := funext fun a => by fin_cases a <;> rfl

/-- The block of `dz`, its product with the transposed weights, and the normalised block. -/
def dzB : FVec F S512x1792 .bf16 := k0_pay6 (iblk m c 0 t) (iblk m c 1 t) (iblk m c 2 t) (iblk m c 3 t) (iblk m c 4 t)
def dhnB : FVec F S512x1024 .f32 := k0_pay10 (iblk m c 0 t) (iblk m c 1 t) (iblk m c 2 t) (iblk m c 3 t) (iblk m c 4 t) (iblk m c 7 t)
def hnB : FVec F S512x1024 .f32 := k0_pay9 (iblk m c 5 t) (iblk m c 6 t)

/-- The gradient's row block. -/
def dhB : FVec F S512x1024 .f32 :=
  k0_pay2 (iblk m c 5 t) (k0_pay7 (iblk m c 6 t)) (k0_pay8 (iblk m c 5 t)) (dhnB m c t) (iblk m c 8 t)

/-- The weights' gradient and the gain's gradient after the step, from their values before it. -/
def dwB (a : FVec F S1792x1024 .f32) : FVec F S1792x1024 .f32 := k0_pay1 (dzB m c t) (hnB m c t) (k0_pay11 a)
def dgB (a : FVec F S1x1024 .f32) : FVec F S1x1024 .f32 := k0_pay3 (iblk m c 5 t) (k0_pay8 (iblk m c 5 t)) (dhnB m c t) a

theorem outs9 : (outsAt0 m c t.val t.isLt).1 = dhB m c t := by
  by_cases h0 : t.val % 16 = 0
  · rw [outsAt0_A m c t h0]
    dsimp only
    unfold out0_A_9
    rw [View.read_writes_eq_canon _ _ _ (by intro y; apply cover0_A_9)]
    unfold kernelRun0_A
    dsimp only
    rw [View.canon_unit_zero hz]
    sl_unfold_words
    simp only [View.readAt_eq_ld, Memref.IsWhole.read_unread, View.ld_unit_zero (S := S512x512) hz, View.ld_unit_zero (S := S512x256) hz,
      View.ld_unit_zero (S := S512x1024) hz, View.ld_unit_zero (S := S1x1024) hz, View.ld_unit_zero (S := S1792x1024) hz]
    rfl
  · rw [outsAt0_B m c t h0]
    dsimp only
    unfold out0_B_9
    rw [View.read_writes_eq_canon _ _ _ (by intro y; apply cover0_B_9)]
    unfold kernelRun0_B
    dsimp only
    rw [View.canon_unit_zero hz]
    sl_unfold_words
    simp only [View.readAt_eq_ld, Memref.IsWhole.read_unread, View.ld_unit_zero (S := S512x512) hz, View.ld_unit_zero (S := S512x256) hz,
      View.ld_unit_zero (S := S512x1024) hz, View.ld_unit_zero (S := S1x1024) hz, View.ld_unit_zero (S := S1792x1024) hz]
    rfl

theorem outs10_A (h0 : t.val % 16 = 0) : (outsAt0 m c t.val t.isLt).2.1 = dwB m c t (k0_pay4 (F := F)) := by
  rw [outsAt0_A m c t h0]
  dsimp only
  unfold out0_A_10
  rw [View.read_writes_eq_canon _ _ _ (by intro y; apply cover0_A_10)]
  unfold kernelRun0_A
  dsimp only
  sl_unfold_words
  rw [View.canon_cons_unit_zero (S := S1792x1024) hz, View.readCov_unit_zero (S := S1792x1024) _ hz]
  simp only [View.readAt_eq_ld, Memref.IsWhole.read_unread, View.ld_unit_zero (S := S512x512) hz, View.ld_unit_zero (S := S512x256) hz,
    View.ld_unit_zero (S := S512x1024) hz, View.ld_unit_zero (S := S1x1024) hz, View.ld_unit_zero (S := S1792x1024) hz]
  rfl

theorem outs10_B (h0 : ¬t.val % 16 = 0) :
    (outsAt0 m c t.val t.isLt).2.1 = dwB m c t (outsAt0 m c (t.val - 1) (by omega)).2.1 := by
  rw [outsAt0_B m c t h0]
  dsimp only
  unfold out0_B_10
  rw [View.read_writes_eq_canon _ _ _ (by intro y; apply cover0_B_10)]
  unfold kernelRun0_B
  dsimp only
  rw [View.canon_unit_zero hz]
  sl_unfold_words
  simp only [View.readAt_eq_ld, Memref.IsWhole.read_unread, View.ld_unit_zero (S := S512x512) hz, View.ld_unit_zero (S := S512x256) hz,
    View.ld_unit_zero (S := S512x1024) hz, View.ld_unit_zero (S := S1x1024) hz, View.ld_unit_zero (S := S1792x1024) hz]
  rfl

theorem outs11_A (h0 : t.val % 16 = 0) : (outsAt0 m c t.val t.isLt).2.2 = dgB m c t (k0_pay5 (F := F)) := by
  rw [outsAt0_A m c t h0]
  dsimp only
  unfold out0_A_11
  rw [View.read_writes_eq_canon _ _ _ (by intro y; apply cover0_A_11)]
  unfold kernelRun0_A
  dsimp only
  sl_unfold_words
  rw [View.canon_cons_unit_zero (S := S1x1024) hz, View.readCov_unit_zero (S := S1x1024) _ hz]
  simp only [View.readAt_eq_ld, Memref.IsWhole.read_unread, View.ld_unit_zero (S := S512x512) hz, View.ld_unit_zero (S := S512x256) hz,
    View.ld_unit_zero (S := S512x1024) hz, View.ld_unit_zero (S := S1x1024) hz, View.ld_unit_zero (S := S1792x1024) hz]
  rfl

theorem outs11_B (h0 : ¬t.val % 16 = 0) :
    (outsAt0 m c t.val t.isLt).2.2 = dgB m c t (outsAt0 m c (t.val - 1) (by omega)).2.2 := by
  rw [outsAt0_B m c t h0]
  dsimp only
  unfold out0_B_11
  rw [View.read_writes_eq_canon _ _ _ (by intro y; apply cover0_B_11)]
  unfold kernelRun0_B
  dsimp only
  rw [View.canon_unit_zero hz]
  sl_unfold_words
  simp only [View.readAt_eq_ld, Memref.IsWhole.read_unread, View.ld_unit_zero (S := S512x512) hz, View.ld_unit_zero (S := S512x256) hz,
    View.ld_unit_zero (S := S512x1024) hz, View.ld_unit_zero (S := S1x1024) hz, View.ld_unit_zero (S := S1792x1024) hz]
  rfl

end Cert.InprojBwdIdeal.Block
end
-- ==== Proof.Norm.Rms.lean ====
/-
  The gradient of a root-mean-square normalisation over the extended reals. For a row `x`, with `r = (mean x² + ε)^(-1/2)`
  and the cotangent `t` of `x r`, the gradient written out by hand is `r t - x r³ mean(t x)`; differentiated step by step
  it is `t r + x e + e x` with `e` the cotangent of the squares. The two are equal for every row, infinite entries
  included: the squares' mean plus ε is a positive real or `⊤`, and `r` is then a real.
-/
module

public import Idealize.ShloMosaic.PureOps.Ideal
public import Idealize.ShloMosaic.Lib.Claim

@[expose] public section

noncomputable section

namespace Cert.Norm

open Idealize.ShloMosaic

/-- The words of ε = 10⁻⁶ and of -1/2. -/
abbrev eps : EReal := Ideal.ofBits .f32 0x358637BD#32
abbrev negHalf : EReal := Ideal.ofBits .f32 0xBF000000#32

theorem eps_pos : 0 < eps := by
  have h : eps = ((8796093 * (2 : ℝ) ^ (-43 : ℤ) : ℝ) : EReal) := by
    simp [eps, Ideal.ofBits, Ideal.ieee, -EReal.coe_mul]
  rw [h]
  exact EReal.coe_pos.mpr (by positivity)

theorem negHalf_eq : negHalf = ((-(1 / 2) : ℝ) : EReal) := by
  simp [negHalf, Ideal.ofBits, Ideal.ieee, -EReal.coe_mul]
  norm_num

theorem mul_self_nonneg (a : EReal) : 0 ≤ a * a := by
  rcases le_total 0 a with h | h
  · exact mul_nonneg h h
  · have := mul_nonneg (a := -a) (b := -a) (EReal.neg_nonneg.mpr h) (EReal.neg_nonneg.mpr h)
    rwa [neg_mul_neg] at this

/-- A quotient by a positive real is the product with its inverse. -/
theorem div_pos {N : EReal} (hN : 0 < N) (a : EReal) : Ideal.div a N = a * N⁻¹ := if_neg hN.ne'

section
variable {n : ℕ} (N : EReal) (x t : Fin n → EReal) (j : Fin n)

/-- The squares' mean plus ε, and the row's factor. -/
def ms : EReal := Ideal.div (∑ k, x k * x k) N + eps
def rr : EReal := Ideal.rsqrt (ms N x)

/-- The gradient by hand. -/
def rmsD : EReal := rr N x * t j - x j * (rr N x * rr N x * rr N x) * Ideal.div (∑ k, t k * x k) N

theorem ms_pos (hN : 0 < N) : 0 < ms N x := by
  refine lt_of_lt_of_le eps_pos (le_add_of_nonneg_left ?_)
  rw [div_pos hN]
  exact mul_nonneg (Finset.sum_nonneg fun k _ => mul_self_nonneg _) (EReal.inv_nonneg_of_nonneg hN.le)

theorem rsqrt_cube {v : EReal} (hv : 0 < v) : Ideal.div (Ideal.rsqrt v) v = Ideal.rsqrt v * Ideal.rsqrt v * Ideal.rsqrt v := by
  induction v with
  | bot => exact absurd hv (not_lt_bot)
  | top => simp [Ideal.div]
  | coe r =>
    have h : 0 < r := EReal.coe_pos.mp hv
    have hs : Real.sqrt r * Real.sqrt r = r := Real.mul_self_sqrt h.le
    rw [div_pos hv, Ideal.rsqrt_coe, if_neg h.not_gt, if_neg h.ne', ← EReal.coe_inv, ← EReal.coe_mul, ← EReal.coe_mul, ← EReal.coe_mul]
    refine congrArg _ ?_
    rw [← mul_inv (Real.sqrt r) (Real.sqrt r), hs, mul_comm]

theorem half_add_half (a : EReal) : a * negHalf + a * negHalf = -a := by
  rw [negHalf_eq]
  induction a with
  | bot => rw [EReal.bot_mul_coe_of_neg (by norm_num)]; rfl
  | top => rw [EReal.top_mul_coe_of_neg (by norm_num)]; rfl
  | coe r =>
    rw [← EReal.coe_mul, ← EReal.coe_add, ← EReal.coe_neg]
    exact congrArg _ (by ring)

/-- The cotangent of the squares' sum, step by step. -/
def sqD : EReal := Ideal.div ((∑ k, x k * t k) * (negHalf * Ideal.div (rr N x) (ms N x))) N

/-- The step-by-step gradient is the one by hand. -/
theorem rms_steps (hN : 0 < N) (a : EReal) :
    a + t j * rr N x + x j * sqD N x t + sqD N x t * x j = a + rmsD N x t j := by
  have e : x j * sqD N x t = x j * (rr N x * rr N x * rr N x) * Ideal.div (∑ k, t k * x k) N * negHalf := by
    unfold sqD
    rw [show Ideal.div (rr N x) (ms N x) = rr N x * rr N x * rr N x from rsqrt_cube (ms_pos N x hN), div_pos hN, div_pos hN,
      Finset.sum_congr rfl fun k _ => mul_comm (x k) (t k)]
    ac_rfl
  rw [mul_comm (sqD N x t) (x j), e, add_assoc, half_add_half, add_assoc, mul_comm (t j)]
  rfl

end

/-- The words of 1024, 512 and 256. -/
abbrev w1024 : EReal := Ideal.ofBits .f32 0x44800000#32
abbrev w512 : EReal := Ideal.ofBits .f32 0x44000000#32
abbrev w256 : EReal := Ideal.ofBits .f32 0x43800000#32

theorem w1024_pos : 0 < w1024 := by
  rw [show w1024 = ((1024 : ℝ) : EReal) by simp [w1024, Ideal.ofBits, Ideal.ieee, -EReal.coe_mul]; norm_num]
  exact EReal.coe_pos.mpr (by norm_num)

theorem w512_pos : 0 < w512 := by
  rw [show w512 = ((512 : ℝ) : EReal) by simp [w512, Ideal.ofBits, Ideal.ieee, -EReal.coe_mul]; norm_num]
  exact EReal.coe_pos.mpr (by norm_num)

theorem w256_pos : 0 < w256 := by
  rw [show w256 = ((256 : ℝ) : EReal) by simp [w256, Ideal.ofBits, Ideal.ieee, -EReal.coe_mul]; norm_num]
  exact EReal.coe_pos.mpr (by norm_num)

end Cert.Norm
end
-- ==== Proof.Norm.Rows.lean ====
/-
  An accumulator that takes one block of 512 rows at each of 16 steps holds the sum over 8192 rows at the last.
-/
module

public import Idealize.ShloMosaic.PureOps.Ideal
public import Idealize.ShloMosaic.Lib.Pointwise.Sums

@[expose] public section

noncomputable section

namespace Cert.Norm

/-- 16 blocks of 512 rows are 8192 rows. -/
theorem sum_tiles (f : Fin 8192 → EReal) :
    ∑ t : Fin 16, ∑ q : Fin 512, f ⟨512 * t.val + q.val, by omega⟩ = ∑ s : Fin 8192, f s := by
  rw [Idealize.ShloMosaic.Fin.sum_univ_tiles 16 512 rfl f]
  exact Finset.sum_congr rfl fun t _ => Finset.sum_congr rfl fun q _ => congrArg f (Fin.ext (by
    show 512 * t.val + q.val = t.val * 512 + q.val
    omega))

/-- The accumulator at step `n`, from its start and its steps. -/
theorem acc_range (a b : (n : ℕ) → n < 16 → EReal) (h0 : a 0 (by omega) = b 0 (by omega))
    (hs : ∀ n (h : n + 1 < 16), a (n + 1) h = a n (by omega) + b (n + 1) h) (n : ℕ) (hn : n < 16) :
    a n hn = ∑ t ∈ Finset.range (n + 1), if h : t < 16 then b t h else 0 := by
  induction n with
  | zero => rw [h0, Finset.sum_range_one, dif_pos hn]
  | succ n ih => rw [hs, Finset.sum_range_succ, dif_pos hn, ih]

/-- The accumulator at the last step. -/
theorem acc_rows (a : (n : ℕ) → n < 16 → EReal) (f : Fin 8192 → EReal)
    (h0 : a 0 (by omega) = ∑ q : Fin 512, f ⟨512 * 0 + q.val, by omega⟩)
    (hs : ∀ n (h : n + 1 < 16), a (n + 1) h = a n (by omega) + ∑ q : Fin 512, f ⟨512 * (n + 1) + q.val, by omega⟩)
    (n : ℕ) (h : n < 16) (hn : n = 15) : a n h = ∑ s : Fin 8192, f s := by
  subst hn
  rw [acc_range a (fun t h => ∑ q : Fin 512, f ⟨512 * t + q.val, by omega⟩) h0 hs, Finset.sum_range, ← sum_tiles]
  exact Finset.sum_congr rfl fun t _ => dif_pos t.isLt

end Cert.Norm
end
-- ==== Proof.Inproj.Kernel.lean ====
/-
  `inproj_bwd`'s blocks and results as entries of the arguments (extended reals).
-/
module

public import proofs.«01_k».proof.Proof.Inproj.Block
public import proofs.«01_k».proof.Proof.Norm.Rms
public import proofs.«01_k».proof.Proof.Norm.Rows
public import Idealize.ShloMosaic.Lib.Pipeline.ValueKit.Point
public import Idealize.ShloMosaic.Lib.MatmulPlain

@[expose] public section

set_option maxRecDepth 16384

noncomputable section

namespace Cert.InprojBwdIdeal.Block

open Cert.InprojBwdIdeal Cert.InprojBwdIdeal.Gen Cert.Norm Idealize.ShloMosaic Idealize.ShloMosaic.TcCoe Idealize.SL.Sem

variable (m : (ℓ : Loc nD τ sig) → Buf (Elt Ideal) ℓ) (c : Dev nD) (t : Fin cfg0.N)

/-- The input, the gain, the weights, the projection's cotangent and the residual's cotangent. -/
def X (r : Fin 8192) (k : Fin 1024) : EReal := m ((c : Thread nD τ).loc main_arg0) (ix2 r k)
def G (k : Fin 1024) : EReal := m ((c : Thread nD τ).loc main_arg1) (ix1 k)
def W (k : Fin 1024) (j : Fin 1792) : EReal := m ((c : Thread nD τ).loc main_arg2) (ix2 k j)
def dZ (r : Fin 8192) (j : Fin 1792) : EReal := m ((c : Thread nD τ).loc main_arg3) (ix2 r j)
def dH1 (r : Fin 8192) (k : Fin 1024) : EReal := m ((c : Thread nD τ).loc main_arg4) (ix2 r k)

theorem lt16 : t.val < 16 := t.isLt

/-- Row `q` of the step's block. -/
abbrev row (q : Fin 512) : Fin 8192 := ⟨512 * t.val + q.val, by have := lt16 t; omega⟩

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val, 0] := (by decide +kernel : ∀ t : Fin grid0.N, _)

theorem blk0 (q : Fin 512) (j : Fin 512) : iblk m c 0 t (ix2 q j) = dZ m c (row t q) ⟨0 + j.val, by omega⟩ := by
  unfold dZ
  have := lt16 t
  blk_simp [iblk]
  entry_read
  pointwise
  blk_ext [e0 t]

theorem blk1 (q : Fin 512) (j : Fin 256) : iblk m c 1 t (ix2 q j) = dZ m c (row t q) ⟨512 + j.val, by omega⟩ := by
  unfold dZ
  have := lt16 t
  blk_simp [iblk]
  entry_read
  pointwise
  blk_ext [e1 t]

theorem blk2 (q : Fin 512) (j : Fin 512) : iblk m c 2 t (ix2 q j) = dZ m c (row t q) ⟨768 + j.val, by omega⟩ := by
  unfold dZ
  have := lt16 t
  blk_simp [iblk]
  entry_read
  pointwise
  blk_ext [e2 t]

theorem blk3 (q : Fin 512) (j : Fin 256) : iblk m c 3 t (ix2 q j) = dZ m c (row t q) ⟨1280 + j.val, by omega⟩ := by
  unfold dZ
  have := lt16 t
  blk_simp [iblk]
  entry_read
  pointwise
  blk_ext [e3 t]

theorem blk4 (q : Fin 512) (j : Fin 256) : iblk m c 4 t (ix2 q j) = dZ m c (row t q) ⟨1536 + j.val, by omega⟩ := by
  unfold dZ
  have := lt16 t
  blk_simp [iblk]
  entry_read
  pointwise
  blk_ext [e4 t]

theorem blk5 (q : Fin 512) (k : Fin 1024) : iblk m c 5 t (ix2 q k) = X m c (row t q) k := by
  unfold X
  have := lt16 t
  blk_simp [iblk]
  rw [V_main_arg0]
  blk_ext [e5 t]

theorem blk6 (k : Fin 1024) : iblk m c 6 t (ix2 (0 : Fin 1) k) = G m c k := by
  unfold G
  blk_simp [iblk]
  entry_read
  pointwise
  blk_ext [e6 t]

theorem blk7 (j : Fin 1792) (k : Fin 1024) : iblk m c 7 t (ix2 j k) = W m c k j := by
  unfold W
  blk_simp [iblk]
  entry_read
  pointwise
  blk_ext [e7 t]

theorem blk8 (q : Fin 512) (k : Fin 1024) : iblk m c 8 t (ix2 q k) = dH1 m c (row t q) k := by
  unfold dH1
  have := lt16 t
  blk_simp [iblk]
  rw [V_main_arg4]
  blk_ext [e8 t]

/-- The cotangent of the normalised input. -/
def dHn (r : Fin 8192) (k : Fin 1024) : EReal := ∑ j : Fin 1792, dZ m c r j * W m c k j

/-- The three results. -/
def dH (r : Fin 8192) (k : Fin 1024) : EReal := dH1 m c r k + rmsD w1024 (X m c r) (fun k => dHn m c r k * G m c k) k
def dW (j : Fin 1792) (k : Fin 1024) : EReal := ∑ r : Fin 8192, dZ m c r j * (X m c r k * rr w1024 (X m c r) * G m c k)
def dG (k : Fin 1024) : EReal := ∑ r : Fin 8192, dHn m c r k * X m c r k * rr w1024 (X m c r)

theorem scale_apply (q : Fin 512) : k0_pay8 (F := Ideal) (iblk m c 5 t) (ix2 q (0 : Fin 1)) = rr w1024 (X m c (row t q)) := by
  unfold k0_pay8 rr ms
  pointwise
  simp only [blk5]

/-- Column `o + j` of the five pieces side by side is column `j` of the piece that starts at `o`. -/
theorem piece {α : Type} (xs : List ((s : Shape) × (s.Idx → α))) (h : Shape.Concatenates (xs.map (·.1)) S512x1792 1) (n : ℕ) (k : ℕ)
    (hk : k < xs.length) (x : (Shape.mk 2 ![512, n]).Idx → α) (hx : xs[k] = ⟨⟨2, ![512, n]⟩, x⟩) (o : ℕ)
    (ho : (((xs.take k).map (·.1)).map fun s => if h : s.rank = S512x1792.rank then s.size ((1 : Fin S512x1792.rank).cast h.symm) else 0).sum = o)
    (q : Fin 512) (j : Fin 1792) (i : Fin n) (hi : o + i.val = j.val) : concatenate S512x1792 1 xs h (ix2 q j) = x (ix2 q i) := by
  refine concatenate_apply_piece (t := S512x1792) 1 xs h (ix2 q j) k hk _ x hx rfl o ho (ix2 q i) (fun b hb => ?_) hi
  match b with
  | ⟨0, _⟩ => rfl
  | ⟨1, _⟩ => exact absurd rfl hb

theorem dzB_apply (q : Fin 512) (j : Fin 1792) : dzB m c t (ix2 q j) = dZ m c (row t q) j := by
  unfold dzB k0_pay6
  simp only [shapeCast_self]
  have hj := j.isLt
  by_cases h1 : j.val < 512
  · rw [piece _ _ 512 0 (by simp) _ rfl 0 rfl q j ⟨j.val, h1⟩ (by simp), blk0]
    exact congrArg _ (Fin.ext (by simp))
  by_cases h2 : j.val < 768
  · rw [piece _ _ 256 1 (by simp) _ rfl 512 rfl q j ⟨j.val - 512, by omega⟩ (by dsimp only; omega), blk1]
    exact congrArg _ (Fin.ext (by dsimp only; omega))
  by_cases h3 : j.val < 1280
  · rw [piece _ _ 512 2 (by simp) _ rfl 768 rfl q j ⟨j.val - 768, by omega⟩ (by dsimp only; omega), blk2]
    exact congrArg _ (Fin.ext (by dsimp only; omega))
  by_cases h4 : j.val < 1536
  · rw [piece _ _ 256 3 (by simp) _ rfl 1280 rfl q j ⟨j.val - 1280, by omega⟩ (by dsimp only; omega), blk3]
    exact congrArg _ (Fin.ext (by dsimp only; omega))
  · rw [piece _ _ 256 4 (by simp) _ rfl 1536 rfl q j ⟨j.val - 1536, by omega⟩ (by dsimp only; omega), blk4]
    exact congrArg _ (Fin.ext (by dsimp only; omega))

theorem dhnB_apply (q : Fin 512) (k : Fin 1024) : dhnB m c t (ix2 q k) = dHn m c (row t q) k := by
  refine Eq.trans (b := Ideal.matmul dot_S512x1792_S1792x1024_S512x1024_1_0_0_1_n_n (dzB m c t)
    (shapeCast S1792x1024 (iblk m c 7 t) shapeCasts_S1792x1024_S1792x1024) (constant (F := Ideal) S512x1024 .f32 0x00000000#32) (ix2 q k)) rfl ?_
  unfold dHn
  pointwise
  simp only [dzB_apply, blk7]

theorem hnB_apply (q : Fin 512) (k : Fin 1024) :
    hnB m c t (ix2 q k) = X m c (row t q) k * rr w1024 (X m c (row t q)) * G m c k := by
  unfold hnB k0_pay9 k0_pay7
  pointwise
  rw [scale_apply, blk5, blk6]

theorem dhB_apply (q : Fin 512) (k : Fin 1024) : dhB m c t (ix2 q k) = dH m c (row t q) k := by
  unfold dhB dH rmsD k0_pay2 k0_pay7
  pointwise
  simp only [scale_apply, blk5, blk6, blk8, dhnB_apply]

theorem dwB_apply (a : FVec Ideal S1792x1024 .f32) (j : Fin 1792) (k : Fin 1024) : dwB m c t a (ix2 j k)
    = a (ix2 j k) + ∑ q : Fin 512, dZ m c (row t q) j
        * (X m c (row t q) k * rr w1024 (X m c (row t q)) * G m c k) := by
  unfold dwB k0_pay1 k0_pay11
  pointwise
  simp only [dzB_apply, hnB_apply]

theorem dgB_apply (a : FVec Ideal S1x1024 .f32) (k : Fin 1024) : dgB m c t a (ix2 (0 : Fin 1) k)
    = a (ix2 (0 : Fin 1) k) + ∑ q : Fin 512, dHn m c (row t q) k * X m c (row t q) k * rr w1024 (X m c (row t q)) := by
  unfold dgB k0_pay3
  pointwise
  simp only [scale_apply, blk5, dhnB_apply]

theorem zero4 (x : S1792x1024.Idx) : k0_pay4 (F := Ideal) x = 0 := Ideal.ofBits_zero_f32
theorem zero5 (x : S1x1024.Idx) : k0_pay5 (F := Ideal) x = 0 := Ideal.ofBits_zero_f32

theorem last10 (j : Fin 1792) (k : Fin 1024) (n : ℕ) (h : n < 16) (hn : n = 15) :
    (outsAt0 m c n h).2.1 (ix2 j k) = dW m c j k := by
  refine acc_rows (fun n h => (outsAt0 m c n h).2.1 (ix2 j k))
    (fun r => dZ m c r j * (X m c r k * rr w1024 (X m c r) * G m c k)) ?_ (fun n h => ?_) n h hn
  · refine (congrFun (outs10_A m c ⟨0, by decide⟩ rfl) _).trans ?_
    rw [dwB_apply, zero4, zero_add]
  · exact (congrFun (outs10_B m c ⟨n + 1, h⟩ (by dsimp only; omega)) _).trans (dwB_apply m c ⟨n + 1, h⟩ _ _ _)

theorem last11 (k : Fin 1024) (n : ℕ) (h : n < 16) (hn : n = 15) :
    (outsAt0 m c n h).2.2 (ix2 (0 : Fin 1) k) = dG m c k := by
  refine acc_rows (fun n h => (outsAt0 m c n h).2.2 (ix2 (0 : Fin 1) k))
    (fun r => dHn m c r k * X m c r k * rr w1024 (X m c r)) ?_ (fun n h => ?_) n h hn
  · refine (congrFun (outs11_A m c ⟨0, by decide⟩ rfl) _).trans ?_
    rw [dgB_apply, zero5, zero_add]
  · exact (congrFun (outs11_B m c ⟨n + 1, h⟩ (by dsimp only; omega)) _).trans (dgB_apply m c ⟨n + 1, h⟩ _ _)

theorem o9 : ∀ t : Fin cfg0.N, win0_9.index t = ![t.val, 0] := (by decide +kernel : ∀ t : Fin grid0.N, _)
theorem o10 : ∀ t : Fin cfg0.N, win0_10.index t = ![0, 0] := (by decide +kernel : ∀ t : Fin grid0.N, _)
theorem o11 : ∀ t : Fin cfg0.N, win0_11.index t = ![0, 0] := (by decide +kernel : ∀ t : Fin grid0.N, _)

/-- The three results of the run. -/
theorem final9 : (dats m 0 c).arrAt 9 cfg0.N = fun i : S8192x1024.Idx => dH m c (i 0) (i 1) := by
  refine (dats m 0 c).arrAt_eq_of_covers 9 _ (by decide +kernel) fun t hf y => ?_
  blk_simp
  rw [after0_9, outs9]
  refine ((congrArg (dhB m c t) (eq_ix2 (n0 := 512) (n1 := 1024) y)).trans (dhB_apply m c t _ _)).trans ?_
  exact congrArg₂ (dH m c) (Fin.ext (by blk_simp [o9 t] <;> simp <;> try omega)) (Fin.ext (by blk_simp [o9 t] <;> simp))

theorem flush10 : ∀ t : Fin cfg0.N, (cfg0.win 10).flush t = true → t.val = 15 :=
  (by decide +kernel : ∀ t : Fin grid0.N, win0_10.flush t = true → t.val = 15)
theorem flush11 : ∀ t : Fin cfg0.N, (cfg0.win 11).flush t = true → t.val = 15 :=
  (by decide +kernel : ∀ t : Fin grid0.N, win0_11.flush t = true → t.val = 15)

theorem final10 : (dats m 0 c).arrAt 10 cfg0.N = fun i : S1792x1024.Idx => dW m c (i 0) (i 1) := by
  refine (dats m 0 c).arrAt_eq_of_covers 10 _ (by decide +kernel) fun t hf y => ?_
  have ht := flush10 t hf
  blk_simp
  rw [after0_10]
  refine ((congrArg (outsAt0 m c t.val t.isLt).2.1 (eq_ix2 (n0 := 1792) (n1 := 1024) y)).trans (last10 m c _ _ t.val t.isLt ht)).trans ?_
  exact congrArg₂ (dW m c) (Fin.ext (by blk_simp [o10 t] <;> simp)) (Fin.ext (by blk_simp [o10 t] <;> simp))

theorem final11 : (dats m 0 c).arrAt 11 cfg0.N = fun i : S1x1024.Idx => dG m c (i 1) := by
  refine (dats m 0 c).arrAt_eq_of_covers 11 _ (by decide +kernel) fun t hf y => ?_
  have ht := flush11 t hf
  blk_simp
  rw [after0_11]
  have e : y = ix2 (0 : Fin 1) (y 1) := funext fun a => by
    match a with
    | ⟨0, _⟩ => exact Subsingleton.elim (α := Fin 1) _ _
    | ⟨1, _⟩ => rfl
  refine ((congrArg (outsAt0 m c t.val t.isLt).2.2 e).trans (last11 m c _ t.val t.isLt ht)).trans ?_
  exact congrArg (dG m c) (Fin.ext (by blk_simp [o11 t] <;> simp))

end Cert.InprojBwdIdeal.Block
end
-- ==== Proof.Inproj.Ref.lean ====
/-
  The reference's three gradients as entries of the arguments (extended reals): the projection's and the norm's
  backward steps, folded into the kernel's closed forms.
-/
module

public import proofs.«01_k».proof.Proof.Gen.InprojBwdRefIdeal.Read
public import proofs.«01_k».proof.Proof.Inproj.Kernel

@[expose] public section

set_option maxRecDepth 16384

noncomputable section

namespace Cert.Inproj

open Cert.InprojBwdRefIdeal Cert.InprojBwdRefIdeal.Read Cert.Norm Idealize.ShloMosaic Idealize.ShloMosaic.TcCoe Idealize.SL.Sem
open Cert.InprojBwdIdeal.Block (X G W dZ dH1 dHn dH dW dG)

variable (m : (ℓ : Loc Cert.InprojBwdIdeal.nD Cert.InprojBwdIdeal.τ Cert.InprojBwdIdeal.sig) → Buf (Elt Ideal) ℓ)
  (c : Dev Cert.InprojBwdIdeal.nD)

/-- The kernel's arguments. -/
abbrev a0 : FVec Ideal S8192x1024 .f32 := m ((c : Thread Cert.InprojBwdIdeal.nD Cert.InprojBwdIdeal.τ).loc Cert.InprojBwdIdeal.main_arg0)
abbrev a1 : FVec Ideal S1024 .f32 := m ((c : Thread Cert.InprojBwdIdeal.nD Cert.InprojBwdIdeal.τ).loc Cert.InprojBwdIdeal.main_arg1)
abbrev a2 : FVec Ideal S1024x1792 .f32 := m ((c : Thread Cert.InprojBwdIdeal.nD Cert.InprojBwdIdeal.τ).loc Cert.InprojBwdIdeal.main_arg2)
abbrev a3 : FVec Ideal S8192x1792 .f32 := m ((c : Thread Cert.InprojBwdIdeal.nD Cert.InprojBwdIdeal.τ).loc Cert.InprojBwdIdeal.main_arg3)
abbrev a4 : FVec Ideal S8192x1024 .f32 := m ((c : Thread Cert.InprojBwdIdeal.nD Cert.InprojBwdIdeal.τ).loc Cert.InprojBwdIdeal.main_arg4)

/-- A float sum starts from the zero word. -/
theorem from_zero (x : EReal) : Ideal.ofBits .f32 0x00000000#32 + x = x := by rw [Ideal.ofBits_zero_f32, zero_add]

theorem mean_eps (i : S8192x1.Idx) : val_main_v6 (F := Ideal) (a0 m c) i = ms w1024 (X m c (i 0)) := by
  rw [val_main_v6_apply, val_main_v4_apply, val_main_v2_apply, val_main_v1_apply]
  exact congrArg₂ (· + ·) (congrArg₂ Ideal.div ((from_zero _).trans (Finset.sum_congr rfl fun k _ => congrArg₂ (· * ·) (congrArg (a0 m c) (eq_ix2 _)) (congrArg (a0 m c) (eq_ix2 _)))) rfl) rfl

theorem scale (i : S8192x1.Idx) : val_main_v7 (F := Ideal) (a0 m c) i = rr w1024 (X m c (i 0)) := by
  rw [val_main_v7_apply, mean_eps]
  rfl

theorem scaled (r : Fin 8192) (k : Fin 1024) :
    val_main_v12 (F := Ideal) (a0 m c) (ix2 r k) = X m c r k * rr w1024 (X m c r) := by
  rw [val_main_v12_apply, val_main_v11_apply, scale]
  rfl

theorem normed (r : Fin 8192) (k : Fin 1024) :
    val_main_v15 (F := Ideal) (a0 m c) (a1 m c) (ix2 r k) = X m c r k * rr w1024 (X m c r) * G m c k := by
  rw [val_main_v15_apply, scaled, val_main_v14_apply, val_main_v13_apply]
  exact congrArg (_ * ·) (congrArg (a1 m c) (eq_ix1 _))

theorem dNormed (r : Fin 8192) (k : Fin 1024) : val_main_v19 (F := Ideal) (a2 m c) (a3 m c) (ix2 r k) = dHn m c r k := by
  rw [val_main_v19_apply]
  exact Finset.sum_congr rfl fun j _ => congrArg₂ (· * ·) (congrArg (a3 m c) (eq_ix2 _)) (congrArg (a2 m c) (eq_ix2 _))

theorem dScaled (r : Fin 8192) (k : Fin 1024) :
    val_main_v24 (F := Ideal) (a1 m c) (a2 m c) (a3 m c) (ix2 r k) = dHn m c r k * G m c k := by
  rw [val_main_v24_apply, dNormed, val_main_v23_apply, val_main_v13_apply]
  exact congrArg (_ * ·) (congrArg (a1 m c) (eq_ix1 _))

theorem at_ix2 {n0 n1 : ℕ} (i : (⟨2, ![n0, n1]⟩ : Shape).Idx) (r : Fin n0) (k : Fin n1) (h0 : (i 0).val = r.val)
    (h1 : (i 1).val = k.val) : i = ix2 r k := funext fun a => Fin.ext (by
  match a with
  | ⟨0, _⟩ => exact h0
  | ⟨1, _⟩ => exact h1)

/-- The cotangent of a row's squares. -/
theorem dSquares (r : Fin 8192) : val_main_v34 (F := Ideal) (a0 m c) (a1 m c) (a2 m c) (a3 m c) (ix2 r (0 : Fin 1))
    = sqD w1024 (X m c r) fun k => dHn m c r k * G m c k := by
  rw [val_main_v34_apply, val_main_v32_apply, val_main_v28_apply, val_main_v27_apply, val_main_v10_apply, val_main_v8_apply, scale, mean_eps]
  unfold sqD
  refine congrArg₂ Ideal.div (congrArg₂ (· * ·) ((from_zero _).trans (Finset.sum_congr rfl fun k _ => ?_)) rfl) rfl
  rw [show idx_main_v27 (idx_main_v28 (ix2 r (0 : Fin 1))) k = ix2 r k from at_ix2 _ _ _ (by simp) rfl, val_main_v26_apply, dScaled]
  rfl

theorem dSquares_row (r : Fin 8192) (k : Fin 1024) : val_main_v36 (F := Ideal) (a0 m c) (a1 m c) (a2 m c) (a3 m c) (ix2 r k)
    = sqD w1024 (X m c r) fun k => dHn m c r k * G m c k := by
  rw [val_main_v36_apply, val_main_v35_apply]
  refine (from_zero _).trans ((Fin.sum_univ_one _).trans ?_)
  exact (congrArg _ (at_ix2 _ r (0 : Fin 1) rfl rfl)).trans (dSquares m c r)

theorem ref0 (r : Fin 8192) (k : Fin 1024) :
    val_main_v40 (F := Ideal) (a0 m c) (a1 m c) (a2 m c) (a3 m c) (a4 m c) (ix2 r k) = dH m c r k := by
  have h31 : val_main_v31 (F := Ideal) (a0 m c) (a1 m c) (a2 m c) (a3 m c) (a4 m c) (ix2 r k)
      = dH1 m c r k + dHn m c r k * G m c k * rr w1024 (X m c r) := by
    rw [val_main_v31_apply, val_main_v30_apply, val_main_v29_apply, dScaled, scale]
    rfl
  have h37 : val_main_v37 (F := Ideal) (a0 m c) (a1 m c) (a2 m c) (a3 m c) (ix2 r k)
      = X m c r k * sqD w1024 (X m c r) fun k => dHn m c r k * G m c k := by
    rw [val_main_v37_apply, dSquares_row]
    rfl
  have h39 : val_main_v39 (F := Ideal) (a0 m c) (a1 m c) (a2 m c) (a3 m c) (ix2 r k)
      = (sqD w1024 (X m c r) fun k => dHn m c r k * G m c k) * X m c r k := by
    rw [val_main_v39_apply, dSquares_row]
    rfl
  rw [val_main_v40_apply, val_main_v38_apply, h31, h37, h39]
  exact rms_steps w1024 (X m c r) (fun k => dHn m c r k * G m c k) k w1024_pos (dH1 m c r k)

theorem ref1 (j : Fin 1792) (k : Fin 1024) :
    val_main_v41 (F := Ideal) (a0 m c) (a1 m c) (a3 m c) (ix2 j k) = dW m c j k := by
  rw [val_main_v41_apply, val_main_v18_apply, val_main_v17_apply]
  refine Finset.sum_congr rfl fun r _ => congrArg₂ (· * ·) (congrArg (a3 m c) (eq_ix2 _)) ?_
  exact (congrArg _ (eq_ix2 _)).trans (normed m c r k)

theorem ref2 (k : Fin 1024) : val_main_v42 (F := Ideal) (a0 m c) (a2 m c) (a3 m c) (ix2 (0 : Fin 1) k) = dG m c k := by
  rw [val_main_v42_apply, val_main_v25_apply]
  refine (from_zero _).trans (Fin.sum_univ_one _ |>.trans ?_)
  rw [val_main_v22_apply, val_main_v21_apply]
  refine (from_zero _).trans (Finset.sum_congr rfl fun r _ => ?_)
  rw [show idx_main_v21 _ r = ix2 r k from (eq_ix2 (n0 := 8192) (n1 := 1024) _).trans
    (congrArg (ix2 r) (Fin.ext (by simp))), val_main_v20_apply]
  refine (congrArg₂ (· * ·) (scaled m c r k) (dNormed m c r k)).trans ?_
  rw [mul_comm, mul_assoc]

end Cert.Inproj
end
-- ==== Proof.Inproj.Claims.lean ====
/-
  The two programs of the input projection's gradients compute the same three arrays.
-/
module

public import proofs.«01_k».proof.Defs
public import proofs.«01_k».proof.Proof.Gen.InprojBwd
public import proofs.«01_k».proof.Proof.Gen.InprojBwd.Frame
public import proofs.«01_k».proof.Proof.Gen.InprojBwdIdeal
public import proofs.«01_k».proof.Proof.Gen.InprojBwdIdeal.Frame
public import proofs.«01_k».proof.Proof.Gen.InprojBwdIdeal.Value
public import proofs.«01_k».proof.Proof.Gen.InprojBwdRefIdeal
public import proofs.«01_k».proof.Proof.Gen.InprojBwdRefIdeal.Run
public import proofs.«01_k».proof.Proof.Gen.InprojBwdRefIdeal.Read
public import proofs.«01_k».proof.Proof.Inproj.Ref
public import Idealize.ShloMosaic.Adequacy
public import Idealize.ShloMosaic.Init

@[expose] public section

set_option maxRecDepth 16384

noncomputable section

namespace Cert.Inproj

open Idealize.ShloMosaic Idealize.ShloMosaic.TcCoe Idealize.SL.Sem
open Cert.InprojBwdIdeal.Block Cert.InprojBwdRefIdeal.Read

theorem frame_kernel : Cert.quiescent_InprojBwd (hInprojBwd := Cert.InprojBwd.Gen.facts) := fun m ρ _ => Cert.InprojBwd.Gen.frame m ρ

theorem frame_ideal : Cert.quiescent_InprojBwdIdeal (hInprojBwdIdeal := Cert.InprojBwdIdeal.Gen.facts) := fun m ρ _ =>
  Cert.InprojBwdIdeal.Gen.frame m ρ

theorem frame_ref : Cert.quiescent_InprojBwdRefIdeal (hInprojBwdRefIdeal := Cert.InprojBwdRefIdeal.Gen.facts) := fun m ρ _ =>
  (θ_run _ _ _).mono (fun r h => ⟨fun c => (h c).2.2.2, sem_eq_zero_of_no_sems (by decide) r.2⟩) (Cert.InprojBwdRefIdeal.Value.run m ρ)

/-- The kernel and the reference end with the same three arrays. -/
theorem algebraic : Cert.algebraic_InprojBwdIdeal_InprojBwdRefIdeal (hInprojBwdIdeal := Cert.InprojBwdIdeal.Gen.facts)
    (hInprojBwdRefIdeal := Cert.InprojBwdRefIdeal.Gen.facts) := fun m ρ m' ρ' _ hag =>
  ⟨fun c i => dH m c (i 0) (i 1), fun c i => dW m c (i 0) (i 1), fun c i => dG m c (i 1),
    (θ_run _ _ _).mono (fun _ h c => ⟨(h c).1.trans (final9 m c), (h c).2.1.trans (final10 m c), (h c).2.2.1.trans (final11 m c),
      (h c).2.2.2⟩) (Cert.InprojBwdIdeal.Value.run_blocks m ρ),
    (θ_run _ _ _).mono (fun r h c => by
      obtain ⟨g0, g1, g2, g3, g4⟩ := hag c
      have g0 : _ = a0 m c := g0
      have g1 : _ = a1 m c := g1
      have g2 : _ = a2 m c := g2
      have g3 : _ = a3 m c := g3
      have g4 : _ = a4 m c := g4
      obtain ⟨h0, h1, h2, hk⟩ := h c
      refine ⟨h0.trans ((val_main_v40_eq m' c).trans ?_), h1.trans ((val_main_v41_eq _ _ _).trans ?_),
        h2.trans ((val_main_v42_eq _ _ _).trans ?_), hk⟩
      · rw [g0, g1, g2, g3, g4]
        funext i
        exact (congrArg _ (eq_ix2 (n0 := 8192) (n1 := 1024) i)).trans (ref0 m c (i 0) (i 1))
      · rw [g0, g1, g3]
        funext i
        exact (congrArg _ (eq_ix2 (n0 := 1792) (n1 := 1024) i)).trans (ref1 m c (i 0) (i 1))
      · rw [g0, g2, g3]
        funext i
        exact (congrArg _ (at_ix2 (n0 := 1) (n1 := 1024) i 0 (i 1) (by have : (i 0).val < 1 := (i 0).isLt; show (i 0).val = 0; omega) rfl)).trans (ref2 m c (i 1)))
      (Cert.InprojBwdRefIdeal.Value.run m' ρ')⟩

end Cert.Inproj
end
-- ==== Proof.Attn.Ops.lean ====
/-
  The operations `attn_bwd` applies to one block of 128 queries and its band of 256 keys, over any float values. Each
  name stands for one value of the kernel's block, in the kernel's own operations; the kernel's text repeats them for
  each of a step's eight blocks and for each of the two groups of four heads.
-/
module

public import proofs.«01_k».proof.Proof.Gen.AttnBwdIdeal.Skeleton

@[expose] public section

set_option maxRecDepth 16384
set_option synthInstance.maxSize 4096

noncomputable section

namespace Cert.AttnBwdIdeal.Attn

open Cert.AttnBwdIdeal Cert.AttnBwdIdeal.Gen Idealize.ShloMosaic Idealize.SL.Sem

variable {F : FTy → Type} [FloatOps F]

/-- Whether a lane of a 128-lane row is one of the first 64. -/
def lowQ : IVec S128x128 1 := cmpi .slt (iota .tc S128x128 32 [1] iota_S128x128_d1_w32) (broadcast S128x128 64#32)
def lowK : IVec S256x128 1 := cmpi .slt (iota .tc S256x128 32 [1] iota_S256x128_d1_w32) (broadcast S256x128 64#32)
def highK : IVec S256x128 1 := cmpi .sge (iota .tc S256x128 32 [1] iota_S256x128_d1_w32) (broadcast S256x128 64#32)

/-- The band's rows of the keys' 128 columns and of the values' 128 columns: the previous block's rows above this block's. -/
def bandK (kp kc : Vec F S128x256 .bf16) : FVec F S256x128 .bf16 :=
  concatenate S256x128 0
    [⟨S128x128, extractStridedSlice S128x128 ![0, 0] (shapeCast S128x256 kp shapeCasts_S128x256_S128x256) slices_S128x256_o0_0_S128x128⟩,
     ⟨S128x128, extractStridedSlice S128x128 ![0, 0] (shapeCast S128x256 kc shapeCasts_S128x256_S128x256) slices_S128x256_o0_0_S128x128⟩]
    concatenates_S128x128_S128x128_S256x128_d0
def bandV (kp kc : Vec F S128x256 .bf16) : FVec F S256x128 .bf16 :=
  concatenate S256x128 0
    [⟨S128x128, extractStridedSlice S128x128 ![0, 128] (shapeCast S128x256 kp shapeCasts_S128x256_S128x256) slices_S128x256_o0_128_S128x128⟩,
     ⟨S128x128, extractStridedSlice S128x128 ![0, 128] (shapeCast S128x256 kc shapeCasts_S128x256_S128x256) slices_S128x256_o0_128_S128x128⟩]
    concatenates_S128x128_S128x128_S256x128_d0

/-- One group's 64 columns of a band in both halves of the lanes: the first group's, the second group's. -/
def dupL (x : FVec F S256x128 .bf16) : FVec F S256x128 .bf16 := select lowK x (dynamicRotate 1 64#32 none x rotates_S256x128_d1)
def dupH (x : FVec F S256x128 .bf16) : FVec F S256x128 .bf16 := select highK x (dynamicRotate 1 64#32 none x rotates_S256x128_d1)

/-- The queries times 1/8. -/
def q8 (q : Vec F S128x512 .bf16) : FVec F S128x512 .bf16 :=
  mulf (shapeCast S128x512 q shapeCasts_S128x512_S128x512) (broadcast S128x512 (Scalar.ofBits .bf16 0x3E00#16))

/-- Two slices of two heads each, stacked by rows into one piece per head with zeros in the other head's lanes. -/
def stack (x y : FVec F S128x128 .bf16) : FVec F S512x128 .bf16 :=
  concatenate S512x128 0
    [⟨S128x128, select lowQ x (broadcast S128x128 (Scalar.ofBits .bf16 0x0000#16))⟩,
     ⟨S128x128, select lowQ (broadcast S128x128 (Scalar.ofBits .bf16 0x0000#16)) x⟩,
     ⟨S128x128, select lowQ y (broadcast S128x128 (Scalar.ofBits .bf16 0x0000#16))⟩,
     ⟨S128x128, select lowQ (broadcast S128x128 (Scalar.ofBits .bf16 0x0000#16)) y⟩]
    concatenates_S128x128_S128x128_S128x128_S128x128_S512x128_d0
def stackL (x : FVec F S128x512 .bf16) : FVec F S512x128 .bf16 :=
  stack (extractStridedSlice S128x128 ![0, 0] x slices_S128x512_o0_0_S128x128) (extractStridedSlice S128x128 ![0, 128] x slices_S128x512_o0_128_S128x128)
def stackH (x : FVec F S128x512 .bf16) : FVec F S512x128 .bf16 :=
  stack (extractStridedSlice S128x128 ![0, 256] x slices_S128x512_o0_256_S128x128) (extractStridedSlice S128x128 ![0, 384] x slices_S128x512_o0_384_S128x128)

/-- The attention's output as f32, its rows' reciprocal root mean square, and the gradient the RMS norm passes back. -/
def oF (o : Vec F S128x512 .bf16) : FVec F S128x512 .f32 := extf .f32 (shapeCast S128x512 o shapeCasts_S128x512_S128x512) bitsLt_bf16_f32
def rms (o : Vec F S128x512 .bf16) : FVec F S128x1 .f32 :=
  rsqrt (addf (divf (shapeCast S128x1 (multiReduction .add [1] S128 (mulf (oF o) (oF o)) 0x00000000#32 reduces_S128x512_S128 (.inl rfl) rfl) shapeCasts_S128_S128x1)
    (broadcast S128x1 (Scalar.ofBits .f32 0x44000000#32))) (broadcast S128x1 (Scalar.ofBits .f32 0x358637BD#32)))
def tG (dy : Vec F S128x512 .f32) (g : Vec F S1x512 .f32) : FVec F S128x512 .f32 :=
  mulf dy (broadcastTo S128x512 (shapeCast S1x512 g shapeCasts_S1x512_S1x512) broadcasts_S1x512_S128x512)
def dO (o : Vec F S128x512 .bf16) (dy : Vec F S128x512 .f32) (g : Vec F S1x512 .f32) : FVec F S128x512 .f32 :=
  subf (mulf (broadcastTo S128x512 (rms o) broadcasts_S128x1_S128x512) (tG dy g))
    (mulf (mulf (oF o) (broadcastTo S128x512 (mulf (mulf (rms o) (rms o)) (rms o)) broadcasts_S128x1_S128x512))
      (broadcastTo S128x512 (divf (shapeCast S128x1 (multiReduction .add [1] S128 (mulf (tG dy g) (oF o)) 0x00000000#32 reduces_S128x512_S128 (.inl rfl) rfl) shapeCasts_S128_S128x1)
        (broadcast S128x1 (Scalar.ofBits .f32 0x44000000#32))) broadcasts_S128x1_S128x512))
def dO16 (o : Vec F S128x512 .bf16) (dy : Vec F S128x512 .f32) (g : Vec F S1x512 .f32) : FVec F S128x512 .bf16 := truncf .bf16 (dO o dy g) bitsLt_bf16_f32

/-- The gain's gradient after the block, from its value before. -/
def dgN (o : Vec F S128x512 .bf16) (dy : Vec F S128x512 .f32) (a : Vec F S1x512 .f32) : FVec F S1x512 .f32 :=
  addf (shapeCast S1x512 a shapeCasts_S1x512_S1x512) (shapeCast S1x512 (multiReduction .add [0] S512
    (mulf (mulf dy (oF o)) (broadcastTo S128x512 (rms o) broadcasts_S128x1_S128x512)) 0x00000000#32 reduces_S128x512_S512 (.inl rfl) rfl) shapeCasts_S512_S1x512)

/-- A group's scores, keys by stacked queries. -/
def scores (b : Vec F S1x256x512 .f32) (kx : FVec F S256x128 .bf16) (qs : FVec F S512x128 .bf16) : FVec F S256x512 .f32 :=
  addf (matmul dot_S256x128_S512x128_S256x512_1_1_0_0_n_n none kx qs (constant S256x512 .f32 0x00000000#32)) (shapeCast S256x512 b shapeCasts_S1x256x512_S256x512)

/-- The sinks of a group's stacked queries. -/
def sinkL (s : Vec F S1x1024 .f32) : FVec F S1x512 .f32 :=
  extractStridedSlice S1x512 ![0, 0] (shapeCast S1x1024 s shapeCasts_S1x1024_S1x1024) slices_S1x1024_o0_0_S1x512
def sinkH (s : Vec F S1x1024 .f32) : FVec F S1x512 .f32 :=
  extractStridedSlice S1x512 ![0, 512] (shapeCast S1x1024 s shapeCasts_S1x1024_S1x1024) slices_S1x1024_o0_512_S1x512

/-- The softmax's parts from the scores and the sinks. -/
def mx (sc : FVec F S256x512 .f32) (s : FVec F S1x512 .f32) : FVec F S1x512 .f32 :=
  maximumf (shapeCast S1x512 (multiReduction .maximumf [0] S512 sc 0xFF800000#32 reduces_S256x512_S512 (.inl rfl) rfl) shapeCasts_S512_S1x512) s
def ex (sc : FVec F S256x512 .f32) (s : FVec F S1x512 .f32) : FVec F S256x512 .f32 :=
  exp (subf sc (broadcastTo S256x512 (mx sc s) broadcasts_S1x512_S256x512))
def exS (sc : FVec F S256x512 .f32) (s : FVec F S1x512 .f32) : FVec F S1x512 .f32 := exp (subf s (mx sc s))
def inv (sc : FVec F S256x512 .f32) (s : FVec F S1x512 .f32) : FVec F S1x512 .f32 :=
  divf (broadcast S1x512 (Scalar.ofBits .f32 0x3F800000#32))
    (addf (shapeCast S1x512 (multiReduction .add [0] S512 (ex sc s) 0x00000000#32 reduces_S256x512_S512 (.inl rfl) rfl) shapeCasts_S512_S1x512) (exS sc s))
def pr (sc : FVec F S256x512 .f32) (s : FVec F S1x512 .f32) : FVec F S256x512 .f32 :=
  mulf (ex sc s) (broadcastTo S256x512 (inv sc s) broadcasts_S1x512_S256x512)
def prS (sc : FVec F S256x512 .f32) (s : FVec F S1x512 .f32) : FVec F S1x512 .f32 := mulf (exS sc s) (inv sc s)

/-- The probabilities' gradient, its mean under the probabilities, and the scores' gradient. -/
def dp (vx : FVec F S256x128 .bf16) (ds : FVec F S512x128 .bf16) : FVec F S256x512 .f32 :=
  matmul dot_S256x128_S512x128_S256x512_1_1_0_0_n_n none vx ds (constant S256x512 .f32 0x00000000#32)
def dr (p d : FVec F S256x512 .f32) : FVec F S1x512 .f32 :=
  shapeCast S1x512 (multiReduction .add [0] S512 (mulf p d) 0x00000000#32 reduces_S256x512_S512 (.inl rfl) rfl) shapeCasts_S512_S1x512
def dS (p d : FVec F S256x512 .f32) : FVec F S256x512 .bf16 :=
  truncf .bf16 (mulf p (subf d (broadcastTo S256x512 (dr p d) broadcasts_S1x512_S256x512))) bitsLt_bf16_f32

/-- A group's sinks' gradient after the block, from its value before. -/
def dskN (a : Vec F S1x512 .f32) (ps r : FVec F S1x512 .f32) : FVec F S1x512 .f32 :=
  shapeCast S1x512 (subf a (mulf ps r)) shapeCasts_S1x512_S1x512

/-- The stacked queries' gradient, and a group's band of keys' or values' gradient. -/
def mmQ (s : FVec F S256x512 .bf16) (kx : FVec F S256x128 .bf16) : FVec F S512x128 .f32 :=
  matmul dot_S256x512_S256x128_S512x128_0_0_1_1_n_n none s kx (constant S512x128 .f32 0x00000000#32)
def mmK (s : FVec F S256x512 .bf16) (qs : FVec F S512x128 .bf16) : FVec F S256x128 .f32 :=
  matmul dot_S256x512_S512x128_S256x128_1_0_0_1_n_n none s qs (constant S256x128 .f32 0x00000000#32)

/-- The block's queries' gradient from the two groups' stacked ones. -/
def unstack (x : FVec F S512x128 .f32) (y : FVec F S512x128 .f32) : FVec F S128x512 .bf16 :=
  truncf .bf16 (mulf (concatenate S128x512 1
    [⟨S128x128, select lowQ (extractStridedSlice S128x128 ![0, 0] x slices_S512x128_o0_0_S128x128) (extractStridedSlice S128x128 ![128, 0] x slices_S512x128_o128_0_S128x128)⟩,
     ⟨S128x128, select lowQ (extractStridedSlice S128x128 ![256, 0] x slices_S512x128_o256_0_S128x128) (extractStridedSlice S128x128 ![384, 0] x slices_S512x128_o384_0_S128x128)⟩,
     ⟨S128x128, select lowQ (extractStridedSlice S128x128 ![0, 0] y slices_S512x128_o0_0_S128x128) (extractStridedSlice S128x128 ![128, 0] y slices_S512x128_o128_0_S128x128)⟩,
     ⟨S128x128, select lowQ (extractStridedSlice S128x128 ![256, 0] y slices_S512x128_o256_0_S128x128) (extractStridedSlice S128x128 ![384, 0] y slices_S512x128_o384_0_S128x128)⟩]
    concatenates_S128x128_S128x128_S128x128_S128x128_S128x512_d1) (broadcast S128x512 (Scalar.ofBits .f32 0x3E000000#32))) bitsLt_bf16_f32

/-- A band's two halves of the lanes added. -/
def fold2 (x : FVec F S256x128 .f32) : FVec F S256x128 .f32 := addf x (dynamicRotate 1 64#32 none x rotates_S256x128_d1)
/-- The band of keys' and values' gradients from the two groups'. -/
def band (k0 k1 v0 v1 : FVec F S256x128 .f32) : FVec F S256x256 .f32 :=
  concatenate S256x256 1 [⟨S256x128, select lowK (fold2 k0) (fold2 k1)⟩, ⟨S256x128, select lowK (fold2 v0) (fold2 v1)⟩] concatenates_S256x128_S256x128_S256x256_d1
/-- A band's first and last 128 rows. -/
def topB (x : FVec F S256x256 .f32) : FVec F S128x256 .f32 := extractStridedSlice S128x256 ![0, 0] x slices_S256x256_o0_0_S128x256
def botB (x : FVec F S256x256 .f32) : FVec F S128x256 .f32 := extractStridedSlice S128x256 ![128, 0] x slices_S256x256_o128_0_S128x256

/-! ## One block -/

variable (q o : Vec F S128x512 .bf16) (dy : Vec F S128x512 .f32) (g : Vec F S1x512 .f32) (kp kc : Vec F S128x256 .bf16)
  (b : Vec F S1x256x512 .f32) (s : Vec F S1x1024 .f32)

def scL := scores b (dupL (bandK kp kc)) (stackL (q8 q))
def scH := scores b (dupH (bandK kp kc)) (stackH (q8 q))
def prL := pr (scL q kp kc b) (sinkL s)
def prH := pr (scH q kp kc b) (sinkH s)
def dpL := dp (dupL (bandV kp kc)) (stackL (dO16 o dy g))
def dpH := dp (dupH (bandV kp kc)) (stackH (dO16 o dy g))
def dSL := dS (prL q kp kc b s) (dpL o dy g kp kc)
def dSH := dS (prH q kp kc b s) (dpH o dy g kp kc)

/-- The queries' gradient of the block. -/
def dqN : FVec F S128x512 .bf16 :=
  unstack (mmQ (dSL q o dy g kp kc b s) (dupL (bandK kp kc))) (mmQ (dSH q o dy g kp kc b s) (dupH (bandK kp kc)))

/-- The keys' and values' gradients of the block's band. -/
def bandN : FVec F S256x256 .f32 :=
  band (mmK (dSL q o dy g kp kc b s) (stackL (q8 q))) (mmK (dSH q o dy g kp kc b s) (stackH (q8 q)))
    (mmK (truncf .bf16 (prL q kp kc b s) bitsLt_bf16_f32) (stackL (dO16 o dy g)))
    (mmK (truncf .bf16 (prH q kp kc b s) bitsLt_bf16_f32) (stackH (dO16 o dy g)))

/-- The two groups' sinks' gradients after the block, from their values before. -/
def dskL (a : Vec F S1x512 .f32) : FVec F S1x512 .f32 := dskN a (prS (scL q kp kc b) (sinkL s)) (dr (prL q kp kc b s) (dpL o dy g kp kc))
def dskH (a : Vec F S1x512 .f32) : FVec F S1x512 .f32 := dskN a (prS (scH q kp kc b) (sinkH s)) (dr (prH q kp kc b s) (dpH o dy g kp kc))

end Cert.AttnBwdIdeal.Attn
end
-- ==== Proof.Attn.OpsVal.lean ====
/-
  The values of `attn_bwd`'s operations on one block, over the extended reals: entry by entry, a sum or a product of the
  entries read. Lane `l` of a group's 128 lanes is column `l % 64` of head parity `l / 64`; stacked row `s` of 512 is query
  `s % 128` of the group's head `s / 128`.
-/
module

public import proofs.«01_k».proof.Proof.Attn.Ops
public import Idealize.ShloMosaic.Lib.Tactic
public import Idealize.ShloMosaic.Lib.KernelVsHost
public import Idealize.ShloMosaic.Lib.Pipeline.Value
public import Idealize.ShloMosaic.Lib.Pointwise
public import Idealize.ShloMosaic.Lib.Pointwise.Sums

@[expose] public section

set_option maxRecDepth 16384
set_option synthInstance.maxSize 4096

noncomputable section

namespace Cert.AttnBwdIdeal.Attn

open Cert.AttnBwdIdeal Cert.AttnBwdIdeal.Gen Idealize.ShloMosaic Idealize.SL.Sem

/-- Reading equal indices. -/
theorem at2 {α : Type} {a b : ℕ} (x : (⟨2, ![a, b]⟩ : Shape).Idx → α) {i i' : Fin a} {j j' : Fin b} (hi : i.val = i'.val) (hj : j.val = j'.val) :
    x (ix2 i j) = x (ix2 i' j') := by rw [Fin.ext hi, Fin.ext hj]

theorem lt_word : ∀ l : Fin 128, IntOp.cmpi .slt (BitVec.ofNat 32 l.val) 64#32 = if l.val < 64 then 1#1 else 0#1 := by decide +kernel
theorem ge_word : ∀ l : Fin 128, IntOp.cmpi .sge (BitVec.ofNat 32 l.val) 64#32 = if l.val < 64 then 0#1 else 1#1 := by decide +kernel

theorem sel_lt {α : Type} (l : ℕ) (hl : l < 128) (a b : α) :
    Scalar.select (IntOp.cmpi .slt (BitVec.ofNat 32 l) 64#32) a b = if l < 64 then a else b := by
  rw [lt_word ⟨l, hl⟩]
  by_cases h : l < 64
  · rw [if_pos h, if_pos h]; rfl
  · rw [if_neg h, if_neg h]; rfl

theorem sel_ge {α : Type} (l : ℕ) (hl : l < 128) (a b : α) :
    Scalar.select (IntOp.cmpi .sge (BitVec.ofNat 32 l) 64#32) a b = if l < 64 then b else a := by
  rw [ge_word ⟨l, hl⟩]
  by_cases h : l < 64
  · rw [if_pos h, if_pos h]; rfl
  · rw [if_neg h, if_neg h]; rfl

/-- A stacked row's query, its head in the group, a lane's column in its half, and a head's columns. -/
def qi (s : Fin 512) : Fin 128 := ⟨s.val % 128, Nat.mod_lt _ (by decide)⟩
def lo (l : Fin 128) : Fin 64 := ⟨l.val % 64, Nat.mod_lt _ (by decide)⟩

/-- The band's entry at row `j` and column `c` of keys and values together. -/
def BK (kp kc : Vec Ideal S128x256 .bf16) (j : Fin 256) (c : Fin 256) : EReal :=
  if h : j.val < 128 then kp (ix2 (⟨j.val, h⟩ : Fin 128) c) else kc (ix2 (⟨j.val - 128, by omega⟩ : Fin 128) c)

theorem bandK_apply (kp kc : Vec Ideal S128x256 .bf16) (j : Fin 256) (l : Fin 128) :
    bandK kp kc (ix2 j l) = BK kp kc j ⟨l.val, by omega⟩ := by
  unfold bandK BK
  pointwise

theorem bandV_apply (kp kc : Vec Ideal S128x256 .bf16) (j : Fin 256) (l : Fin 128) :
    bandV kp kc (ix2 j l) = BK kp kc j ⟨128 + l.val, by omega⟩ := by
  unfold bandV BK
  pointwise

theorem dupL_apply (x : FVec Ideal S256x128 .bf16) (j : Fin 256) (l : Fin 128) :
    dupL x (ix2 j l) = x (ix2 j (⟨(lo l).val, by have := (lo l).isLt; omega⟩ : Fin 128)) := by
  unfold dupL lowK
  pointwise
  rw [sel_lt _ l.isLt]
  unfold lo
  split
  · exact at2 x rfl (by dsimp only; omega)
  · exact at2 x rfl (by dsimp only; omega)

theorem dupH_apply (x : FVec Ideal S256x128 .bf16) (j : Fin 256) (l : Fin 128) :
    dupH x (ix2 j l) = x (ix2 j (⟨64 + (lo l).val, by have := (lo l).isLt; omega⟩ : Fin 128)) := by
  unfold dupH highK
  pointwise
  rw [sel_ge _ l.isLt]
  unfold lo
  split
  · exact at2 x rfl (by dsimp only; omega)
  · exact at2 x rfl (by dsimp only; omega)

theorem q8_apply (q : Vec Ideal S128x512 .bf16) (i : Fin 128) (c : Fin 512) : q8 q (ix2 i c) = q (ix2 i c) * Ideal.ofBits .bf16 0x3E00#16 := by
  unfold q8
  pointwise

theorem stack_apply (x y : FVec Ideal S128x128 .bf16) (s : Fin 512) (l : Fin 128) : stack x y (ix2 s l)
    = if l.val / 64 = s.val / 128 % 2 then (if s.val < 256 then x else y) (ix2 (qi s) l) else 0 := by
  unfold stack lowQ
  pointwise
  simp only [sel_lt _ l.isLt]
  have hs := s.isLt
  have hl := l.isLt
  by_cases h1 : s.val < 128
  · rw [dif_pos h1, if_pos (by omega : s.val < 256)]
    by_cases h : l.val < 64
    · rw [if_pos h, if_pos (by omega : l.val / 64 = s.val / 128 % 2)]; exact at2 x (by unfold qi; dsimp only; omega) rfl
    · rw [if_neg h, if_neg (by omega : ¬l.val / 64 = s.val / 128 % 2)]
  rw [dif_neg h1]
  by_cases h2 : s.val - 128 < 128
  · rw [dif_pos h2, if_pos (by omega : s.val < 256)]
    by_cases h : l.val < 64
    · rw [if_pos h, if_neg (by omega : ¬l.val / 64 = s.val / 128 % 2)]
    · rw [if_neg h, if_pos (by omega : l.val / 64 = s.val / 128 % 2)]; exact at2 x (by unfold qi; dsimp only; omega) rfl
  rw [dif_neg h2, if_neg (by omega : ¬s.val < 256)]
  by_cases h3 : s.val - 128 - 128 < 128
  · rw [dif_pos h3]
    by_cases h : l.val < 64
    · rw [if_pos h, if_pos (by omega : l.val / 64 = s.val / 128 % 2)]; exact at2 y (by unfold qi; dsimp only; omega) rfl
    · rw [if_neg h, if_neg (by omega : ¬l.val / 64 = s.val / 128 % 2)]
  · rw [dif_neg h3]
    by_cases h : l.val < 64
    · rw [if_pos h, if_neg (by omega : ¬l.val / 64 = s.val / 128 % 2)]
    · rw [if_neg h, if_pos (by omega : l.val / 64 = s.val / 128 % 2)]; exact at2 y (by unfold qi; dsimp only; omega) rfl

theorem stackL_apply (x : FVec Ideal S128x512 .bf16) (s : Fin 512) (l : Fin 128) : stackL x (ix2 s l)
    = if l.val / 64 = s.val / 128 % 2 then x (ix2 (qi s) (⟨64 * (s.val / 128) + (lo l).val, by have := s.isLt; have := (lo l).isLt; omega⟩ : Fin 512)) else 0 := by
  unfold stackL
  rw [stack_apply]
  have hs := s.isLt
  have hl := l.isLt
  split
  · split
    · pointwise; exact at2 x rfl (by unfold lo; dsimp only; omega)
    · pointwise; exact at2 x rfl (by unfold lo; dsimp only; omega)
  · rfl

theorem stackH_apply (x : FVec Ideal S128x512 .bf16) (s : Fin 512) (l : Fin 128) : stackH x (ix2 s l)
    = if l.val / 64 = s.val / 128 % 2 then x (ix2 (qi s) (⟨256 + 64 * (s.val / 128) + (lo l).val, by have := s.isLt; have := (lo l).isLt; omega⟩ : Fin 512)) else 0 := by
  unfold stackH
  rw [stack_apply]
  have hs := s.isLt
  have hl := l.isLt
  split
  · split
    · pointwise; exact at2 x rfl (by unfold lo; dsimp only; omega)
    · pointwise; exact at2 x rfl (by unfold lo; dsimp only; omega)
  · rfl

/-- A product over 128 lanes with one half of the lanes zero is the product over the other half. -/
theorem lanes (A B : Fin 64 → EReal) (e : ℕ) (he : e < 2) :
    ∑ l : Fin 128, A (lo l) * (if l.val / 64 = e then B (lo l) else 0) = ∑ d : Fin 64, A d * B d := by
  have key : ∀ (j : Fin 2) (d : Fin 64), A (lo ⟨j.val * 64 + d.val, by omega⟩) * (if (j.val * 64 + d.val) / 64 = e then B (lo ⟨j.val * 64 + d.val, by omega⟩) else 0)
      = if j.val = e then A d * B d else 0 := by
    intro j d
    have h1 : lo ⟨j.val * 64 + d.val, by omega⟩ = d := Fin.ext (by unfold lo; dsimp only; omega)
    have h2 : (j.val * 64 + d.val) / 64 = j.val := by omega
    rw [h1, h2]
    split
    · rfl
    · exact mul_zero _
  rw [Fin.sum_univ_tiles 2 64 rfl]
  simp only [key]
  rw [Fin.sum_univ_two]
  rcases (by omega : e = 0 ∨ e = 1) with rfl | rfl <;> simp

/-- The scores from the lanes of the band and of the stacked queries. -/
theorem scores_apply (b : Vec Ideal S1x256x512 .f32) (kx : FVec Ideal S256x128 .bf16) (qs : FVec Ideal S512x128 .bf16)
    (A : Fin 256 → Fin 64 → EReal) (B : Fin 512 → Fin 64 → EReal) (hk : ∀ j l, kx (ix2 j l) = A j (lo l))
    (hq : ∀ s l, qs (ix2 s l) = if l.val / 64 = s.val / 128 % 2 then B s (lo l) else 0) (j : Fin 256) (s : Fin 512) :
    scores b kx qs (ix2 j s) = (∑ d, A j d * B s d) + b (ix3 (0 : Fin 1) j s) := by
  unfold scores
  pointwise
  simp only [hk, hq]
  rw [lanes (A j) (B s) _ (by omega)]

theorem dp_apply (kx : FVec Ideal S256x128 .bf16) (qs : FVec Ideal S512x128 .bf16)
    (A : Fin 256 → Fin 64 → EReal) (B : Fin 512 → Fin 64 → EReal) (hk : ∀ j l, kx (ix2 j l) = A j (lo l))
    (hq : ∀ s l, qs (ix2 s l) = if l.val / 64 = s.val / 128 % 2 then B s (lo l) else 0) (j : Fin 256) (s : Fin 512) :
    dp kx qs (ix2 j s) = ∑ d, A j d * B s d := by
  unfold dp
  pointwise
  simp only [hk, hq]
  rw [lanes (A j) (B s) _ (by omega)]

theorem mmQ_apply (x : FVec Ideal S256x512 .bf16) (kx : FVec Ideal S256x128 .bf16) (A : Fin 256 → Fin 64 → EReal)
    (hk : ∀ j l, kx (ix2 j l) = A j (lo l)) (s : Fin 512) (l : Fin 128) : mmQ x kx (ix2 s l) = ∑ j, x (ix2 j s) * A j (lo l) := by
  unfold mmQ
  pointwise
  simp only [hk]

theorem fold2_apply (x : FVec Ideal S256x512 .bf16) (qs : FVec Ideal S512x128 .bf16) (B : Fin 512 → Fin 64 → EReal)
    (hq : ∀ s l, qs (ix2 s l) = if l.val / 64 = s.val / 128 % 2 then B s (lo l) else 0) (j : Fin 256) (l : Fin 128) :
    fold2 (mmK x qs) (ix2 j l) = ∑ s, x (ix2 j s) * B s (lo l) := by
  unfold fold2 mmK
  pointwise
  simp only [hq]
  rw [← Finset.sum_add_distrib]
  refine Finset.sum_congr rfl fun s _ => ?_
  have hs := s.isLt
  have hl := l.isLt
  have h2 : lo ⟨(l.val + 128 - 64) % 128, by omega⟩ = lo l := Fin.ext (by unfold lo; dsimp only; omega)
  rw [h2]
  by_cases h : l.val / 64 = s.val / 128 % 2
  · rw [if_pos h, if_neg (by omega), mul_zero, add_zero]
  · rw [if_neg h, if_pos (by omega), mul_zero, zero_add]

theorem band_apply (k0 k1 v0 v1 : FVec Ideal S256x128 .f32) (j : Fin 256) (c : Fin 256) : band k0 k1 v0 v1 (ix2 j c)
    = (if c.val < 64 then fold2 k0 else if c.val < 128 then fold2 k1 else if c.val < 192 then fold2 v0 else fold2 v1)
      (ix2 j (⟨c.val % 128, Nat.mod_lt _ (by decide)⟩ : Fin 128)) := by
  unfold band lowK
  pointwise
  have hc := c.isLt
  by_cases h1 : c.val < 128
  · rw [dif_pos h1, sel_lt _ h1]
    by_cases h : c.val < 64
    · rw [if_pos h, if_pos h]; exact at2 _ rfl (by dsimp only; omega)
    · rw [if_neg h, if_neg h, if_pos h1]; exact at2 _ rfl (by dsimp only; omega)
  · rw [dif_neg h1, sel_lt _ (by omega), if_neg (by omega : ¬c.val < 64), if_neg h1]
    by_cases h : c.val - 128 < 64
    · rw [if_pos h, if_pos (by omega : c.val < 192)]; exact at2 _ rfl (by dsimp only; omega)
    · rw [if_neg h, if_neg (by omega : ¬c.val < 192)]; exact at2 _ rfl (by dsimp only; omega)

theorem unstack_apply (x y : FVec Ideal S512x128 .f32) (i : Fin 128) (c : Fin 512) : unstack x y (ix2 i c)
    = (if c.val < 256 then x else y) (ix2 (⟨128 * (c.val / 64 % 4) + i.val, by omega⟩ : Fin 512) (⟨c.val % 128, Nat.mod_lt _ (by decide)⟩ : Fin 128))
      * Ideal.ofBits .f32 0x3E000000#32 := by
  unfold unstack lowQ
  pointwise
  have hc := c.isLt
  refine congrArg (· * Ideal.ofBits .f32 0x3E000000#32) ?_
  by_cases h1 : c.val < 128
  · rw [dif_pos h1, sel_lt _ h1, if_pos (by omega : c.val < 256)]
    split
    · exact at2 _ (by dsimp only; omega) (by dsimp only; omega)
    · exact at2 _ (by dsimp only; omega) (by dsimp only; omega)
  rw [dif_neg h1]
  by_cases h2 : c.val - 128 < 128
  · rw [dif_pos h2, sel_lt _ h2, if_pos (by omega : c.val < 256)]
    split
    · exact at2 _ (by dsimp only; omega) (by dsimp only; omega)
    · exact at2 _ (by dsimp only; omega) (by dsimp only; omega)
  rw [dif_neg h2, if_neg (by omega : ¬c.val < 256)]
  by_cases h3 : c.val - 128 - 128 < 128
  · rw [dif_pos h3, sel_lt _ h3]
    split
    · exact at2 _ (by dsimp only; omega) (by dsimp only; omega)
    · exact at2 _ (by dsimp only; omega) (by dsimp only; omega)
  · rw [dif_neg h3, sel_lt _ (by omega)]
    split
    · exact at2 _ (by dsimp only; omega) (by dsimp only; omega)
    · exact at2 _ (by dsimp only; omega) (by dsimp only; omega)

end Cert.AttnBwdIdeal.Attn
end
-- ==== Proof.Attn.Softmax.lean ====
/-
  One query's softmax over a band of keys and a sink, and its gradient, over the extended reals. The kernel keeps the
  probabilities; differentiated step by step, the gradient goes through the exponentials' sum and the maximum. The two
  agree where the scores are reals or, at masked keys, `⊥`: everything is then a real, and the maximum's cotangent is 0.
-/
module

public import Idealize.ShloMosaic.PureOps.Ideal
public import Idealize.ShloMosaic.Lib.Claim

@[expose] public section

noncomputable section

namespace Cert.Softmax

open Idealize.ShloMosaic

variable {n : ℕ} (f : Fin n → EReal) (σ : EReal) (G : Fin n → EReal)

/-- The scores' maximum, the maximum with the sink, the exponentials and their sum. -/
def top : EReal := Finset.fold max ⊥ f Finset.univ
def mx : EReal := max (top f) σ
def ex (j : Fin n) : EReal := Ideal.exp (f j - mx f σ)
def exS : EReal := Ideal.exp (σ - mx f σ)
def den : EReal := (∑ j, ex f σ j) + exS f σ

/-- The kernel's probabilities, the gradient's mean under them, and the scores' gradient. -/
def pr (j : Fin n) : EReal := ex f σ j * Ideal.div 1 (den f σ)
def prS : EReal := exS f σ * Ideal.div 1 (den f σ)
def dr : EReal := ∑ j, pr f σ j * G j
def dS (j : Fin n) : EReal := pr f σ j * (G j - dr f σ G)

/-- The step-by-step gradient: of the sum, of an exponential's argument, of the maximum. -/
def dden : EReal := -∑ j, G j * Ideal.div 1 (den f σ * den f σ) * ex f σ j
def dex (j : Fin n) : EReal := (Ideal.div (G j) (den f σ) + dden f σ G) * ex f σ j

theorem coe_sum {ι : Type} (s : Finset ι) (x : ι → ℝ) : ∑ j ∈ s, ((x j : ℝ) : EReal) = ((∑ j ∈ s, x j : ℝ) : EReal) := by
  classical
  induction s using Finset.induction_on with
  | empty => simp
  | insert a s ha ih => rw [Finset.sum_insert ha, Finset.sum_insert ha, ih, EReal.coe_add]

/-- The maximum is attained. -/
theorem top_mem (hn : 0 < n) : ∃ j, f j = top f := by
  have key : ∀ s : Finset (Fin n), s.Nonempty → ∃ j ∈ s, f j = Finset.fold max ⊥ f s := by
    classical
    intro s hs
    induction hs using Finset.Nonempty.cons_induction with
    | singleton a => exact ⟨a, Finset.mem_singleton_self a, by simp⟩
    | cons a s ha hs ih =>
      obtain ⟨j, hj, e⟩ := ih
      rw [Finset.fold_cons]
      rcases le_total (f a) (Finset.fold max ⊥ f s) with h | h
      · exact ⟨j, Finset.mem_cons_of_mem hj, by rw [max_eq_right h, e]⟩
      · exact ⟨a, Finset.mem_cons_self a s, by rw [max_eq_left h]⟩
  obtain ⟨j, -, e⟩ := key Finset.univ ⟨⟨0, hn⟩, Finset.mem_univ _⟩
  exact ⟨j, e⟩

section
variable {f σ} (M : Fin n → Prop) [DecidablePred M] (s : Fin n → ℝ) (u : ℝ) (hf : ∀ j, f j = if M j then ((s j : ℝ) : EReal) else ⊥) (hσ : σ = u)
include hf hσ

theorem top_lt : top f < ⊤ := by
  unfold top
  rw [Finset.fold_max_lt]
  refine ⟨bot_lt_top, fun j _ => ?_⟩
  rw [hf j]
  split
  · exact EReal.coe_lt_top _
  · exact bot_lt_top

theorem mx_real : ∃ r : ℝ, mx f σ = r := by
  refine ⟨(mx f σ).toReal, (EReal.coe_toReal ?_ ?_).symm⟩
  · exact (max_lt (top_lt M s u hf hσ) (hσ ▸ EReal.coe_lt_top u)).ne
  · exact (lt_of_lt_of_le (hσ ▸ EReal.bot_lt_coe u) (le_max_right _ _)).ne'

/-- The exponentials are reals: 0 at a masked key. -/
theorem ex_real : ∃ (e : Fin n → ℝ) (E : ℝ), 0 < E ∧ (∀ j, 0 ≤ e j) ∧ (∀ j, ¬M j → e j = 0) ∧ (∀ j, ex f σ j = e j) ∧ exS f σ = E
    ∧ den f σ = ((∑ j, e j) + E : ℝ) := by
  obtain ⟨r, hr⟩ := mx_real M s u hf hσ
  have he : ∀ j, ex f σ j = ((if M j then Real.exp (s j - r) else 0 : ℝ) : EReal) := by
    intro j
    unfold ex
    rw [hr, hf j]
    split
    · rw [← EReal.coe_sub, Ideal.exp_coe]
    · rw [EReal.bot_sub, Ideal.exp_bot, EReal.coe_zero]
  have hE : exS f σ = ((Real.exp (u - r) : ℝ) : EReal) := by
    unfold exS
    rw [hr, hσ, ← EReal.coe_sub, Ideal.exp_coe]
  refine ⟨_, _, Real.exp_pos (u - r), fun j => ?_, fun j hj => if_neg hj, he, hE, ?_⟩
  · show 0 ≤ if M j then Real.exp (s j - r) else 0
    split
    · exact (Real.exp_pos _).le
    · exact le_refl _
  · unfold den
    rw [hE, Finset.sum_congr rfl fun j _ => he j, coe_sum, ← EReal.coe_add]

/-- The step-by-step gradient is the kernel's, the sink's is the kernel's, and the maximum's cotangent is 0. -/
theorem steps (g : Fin n → ℝ) (hg : ∀ j, M j → G j = g j) :
    (∀ j, pr f σ j = Ideal.div (ex f σ j) (den f σ)) ∧ (∀ j, ¬M j → ex f σ j = 0) ∧ (∀ j, ¬M j → pr f σ j = 0)
    ∧ (∀ j, M j → dex f σ G j = dS f σ G j) ∧ (∀ j, ¬M j → dS f σ G j = 0)
    ∧ dden f σ G * exS f σ = -(prS f σ * dr f σ G) ∧ -(dden f σ G * exS f σ) + -∑ j, dex f σ G j = 0
    ∧ (∃ p : Fin n → ℝ, ∀ j, pr f σ j = p j) ∧ (∃ d : Fin n → ℝ, ∀ j, dS f σ G j = d j) ∧ ∃ d : ℝ, prS f σ * dr f σ G = d := by
  obtain ⟨e, E, hE, he0, heM, he, hS, hD⟩ := ex_real M s u hf hσ
  have hd : 0 < (∑ j, e j) + E := add_pos_of_nonneg_of_pos (Finset.sum_nonneg fun j _ => he0 j) hE
  generalize hδ : (∑ j, e j) + E = δ at hD hd
  have hi : Ideal.div 1 (den f σ) = ((1 / δ : ℝ) : EReal) := by rw [hD, Ideal.div_coe hd.ne', one_mul]
  have hi2 : Ideal.div 1 (den f σ * den f σ) = ((1 / (δ * δ) : ℝ) : EReal) := by
    rw [hD, ← EReal.coe_mul, Ideal.div_coe (mul_pos hd hd).ne', one_mul]
  have hp : ∀ j, pr f σ j = ((e j * (1 / δ) : ℝ) : EReal) := fun j => by unfold pr; rw [he, hi, EReal.coe_mul]
  have hz : ∀ j, ¬M j → ex f σ j = 0 := fun j h => by rw [he, heM j h, EReal.coe_zero]
  have hpz : ∀ j, ¬M j → pr f σ j = 0 := fun j h => by unfold pr; rw [hz j h, zero_mul]
  have hr : dr f σ G = ((∑ j, e j * (1 / δ) * g j : ℝ) : EReal) := by
    unfold dr
    rw [← coe_sum]
    refine Finset.sum_congr rfl fun j _ => ?_
    by_cases h : M j
    · rw [hp, hg j h, ← EReal.coe_mul]
    · rw [hpz j h, heM j h, zero_mul, zero_mul, zero_mul, EReal.coe_zero]
  have hdd : dden f σ G = ((-∑ j, g j * (1 / (δ * δ)) * e j : ℝ) : EReal) := by
    unfold dden
    rw [EReal.coe_neg, ← coe_sum]
    refine congrArg _ (Finset.sum_congr rfl fun j _ => ?_)
    by_cases h : M j
    · rw [hi2, hg j h, he, ← EReal.coe_mul, ← EReal.coe_mul]
    · rw [hz j h, heM j h, mul_zero, mul_zero, EReal.coe_zero]
  have hx : ∀ j, dex f σ G j = (((g j * (1 / δ) + -∑ k, g k * (1 / (δ * δ)) * e k) * e j : ℝ) : EReal) := by
    intro j
    by_cases h : M j
    · unfold dex
      rw [hD, hg j h, Ideal.div_coe hd.ne', hdd, he, ← EReal.coe_mul, ← EReal.coe_add, ← EReal.coe_mul]
    · unfold dex
      rw [hz j h, heM j h, mul_zero, mul_zero, EReal.coe_zero]
  have hsum : ∑ k, g k * (1 / (δ * δ)) * e k = (∑ k, e k * (1 / δ) * g k) * (1 / δ) := by
    rw [Finset.sum_mul]
    refine Finset.sum_congr rfl fun k _ => ?_
    rw [← one_div_mul_one_div]
    ring
  have hs : ∀ j, dS f σ G j = ((e j * (1 / δ) * (g j - ∑ k, e k * (1 / δ) * g k) : ℝ) : EReal) := by
    intro j
    by_cases h : M j
    · unfold dS
      rw [hp, hg j h, hr, ← EReal.coe_sub, ← EReal.coe_mul]
    · unfold dS
      rw [hpz j h, heM j h, zero_mul, zero_mul, zero_mul, EReal.coe_zero]
  have hsS : dden f σ G * exS f σ = -(prS f σ * dr f σ G) := by
    unfold prS
    rw [hdd, hS, hi, hr, ← EReal.coe_mul, ← EReal.coe_mul, ← EReal.coe_mul, ← EReal.coe_neg, hsum]
    exact congrArg _ (by ring)
  refine ⟨fun j => ?_, hz, hpz, fun j h => ?_, fun j h => ?_, hsS, ?_, ⟨_, hp⟩, ⟨_, hs⟩, ?_⟩
  · rw [hp, he, hD, Ideal.div_coe hd.ne', ← EReal.coe_mul]
  · rw [hx, hs, hsum]
    exact congrArg _ (by ring)
  · unfold dS
    rw [hpz j h, zero_mul]
  · rw [hdd, hS, Finset.sum_congr rfl fun j _ => hx j, coe_sum, ← EReal.coe_mul, ← EReal.coe_neg, ← EReal.coe_neg, ← EReal.coe_add, ← EReal.coe_zero]
    refine congrArg _ ?_
    rw [hsum]
    simp only [add_mul, Finset.sum_add_distrib]
    rw [← Finset.mul_sum, show ∑ i, g i * (1 / δ) * e i = ∑ k, e k * (1 / δ) * g k from Finset.sum_congr rfl fun k _ => by ring]
    rw [show (∑ j, e j) = δ - E by rw [← hδ]; ring]
    field_simp
    ring
  · refine ⟨E * (1 / δ) * ∑ j, e j * (1 / δ) * g j, ?_⟩
    unfold prS
    rw [hS, hi, hr, ← EReal.coe_mul, ← EReal.coe_mul]

end

end Cert.Softmax
end
-- ==== Proof.Attn.OpsCol.lean ====
/-
  One block of `attn_bwd` over the extended reals, column by column: a column is one query of one head, its scores the
  products with the band's keys, and the block's results are sums of the columns' probabilities and score gradients.
-/
module

public import proofs.«01_k».proof.Proof.Attn.OpsVal
public import proofs.«01_k».proof.Proof.Attn.Softmax
public import proofs.«01_k».proof.Proof.Norm.Rms

@[expose] public section

set_option maxRecDepth 16384
set_option synthInstance.maxSize 4096

noncomputable section

namespace Cert.AttnBwdIdeal.Attn

open Cert.AttnBwdIdeal Cert.AttnBwdIdeal.Gen Idealize.ShloMosaic Idealize.SL.Sem Cert.Norm

/-- A column's query, key and value columns: group `e`, stacked row `s`, coordinate `d` of a head's 64. -/
def qcol (e : Fin 2) (s : Fin 512) (d : Fin 64) : Fin 512 := ⟨256 * e.val + 64 * (s.val / 128) + d.val, by omega⟩
def kcol (e : Fin 2) (d : Fin 64) : Fin 256 := ⟨64 * e.val + d.val, by omega⟩
def vcol (e : Fin 2) (d : Fin 64) : Fin 256 := ⟨128 + 64 * e.val + d.val, by omega⟩

/-- The word of 1/8 in the queries' type and in the gradients'. -/
abbrev w8b : EReal := Ideal.ofBits .bf16 0x3E00#16
abbrev w8f : EReal := Ideal.ofBits .f32 0x3E000000#32

variable (q o : Vec Ideal S128x512 .bf16) (dy : Vec Ideal S128x512 .f32) (g : Vec Ideal S1x512 .f32) (kp kc : Vec Ideal S128x256 .bf16)
  (b : Vec Ideal S1x256x512 .f32) (s : Vec Ideal S1x1024 .f32)

theorem oF_apply (i : Fin 128) (c : Fin 512) : oF o (ix2 i c) = o (ix2 i c) := by unfold oF; pointwise

theorem rms_apply (i : Fin 128) (z : Fin 1) : rms o (ix2 i z) = rr w512 (fun k => o (ix2 i k)) := by
  unfold rms rr ms
  pointwise
  simp only [oF_apply]

theorem tG_apply (i : Fin 128) (c : Fin 512) : tG dy g (ix2 i c) = dy (ix2 i c) * g (ix2 (0 : Fin 1) c) := by unfold tG; pointwise

theorem dO_apply (i : Fin 128) (c : Fin 512) : dO16 o dy g (ix2 i c)
    = rmsD w512 (fun k => o (ix2 i k)) (fun k => dy (ix2 i k) * g (ix2 (0 : Fin 1) k)) c := by
  unfold dO16 dO rmsD
  pointwise
  simp only [oF_apply, rms_apply, tG_apply]

theorem dgN_apply (a : Vec Ideal S1x512 .f32) (c : Fin 512) : dgN o dy a (ix2 (0 : Fin 1) c)
    = a (ix2 (0 : Fin 1) c) + ∑ i, dy (ix2 i c) * o (ix2 i c) * rr w512 (fun k => o (ix2 i k)) := by
  unfold dgN
  pointwise
  simp only [oF_apply, rms_apply]

/-- A column's scores, sink, and probabilities' gradient. -/
def SC (e : Fin 2) (r : Fin 512) (j : Fin 256) : EReal :=
  (∑ d, BK kp kc j (kcol e d) * (q (ix2 (qi r) (qcol e r d)) * w8b)) + b (ix3 (0 : Fin 1) j r)
def sg (e : Fin 2) (r : Fin 512) : EReal := s (ix2 (0 : Fin 1) (⟨512 * e.val + r.val, by omega⟩ : Fin 1024))
def GC (e : Fin 2) (r : Fin 512) (j : Fin 256) : EReal := ∑ d, BK kp kc j (vcol e d) * dO16 o dy g (ix2 (qi r) (qcol e r d))

theorem kL (j : Fin 256) (l : Fin 128) : dupL (bandK kp kc) (ix2 j l) = BK kp kc j (kcol 0 (lo l)) := by
  rw [dupL_apply, bandK_apply]; exact congrArg (BK kp kc j) (Fin.ext (by unfold kcol; simp))
theorem kH (j : Fin 256) (l : Fin 128) : dupH (bandK kp kc) (ix2 j l) = BK kp kc j (kcol 1 (lo l)) := by
  rw [dupH_apply, bandK_apply]; exact congrArg (BK kp kc j) (Fin.ext (by unfold kcol; simp))
theorem vL (j : Fin 256) (l : Fin 128) : dupL (bandV kp kc) (ix2 j l) = BK kp kc j (vcol 0 (lo l)) := by
  rw [dupL_apply, bandV_apply]; exact congrArg (BK kp kc j) (Fin.ext (by unfold vcol; simp))
theorem vH (j : Fin 256) (l : Fin 128) : dupH (bandV kp kc) (ix2 j l) = BK kp kc j (vcol 1 (lo l)) := by
  rw [dupH_apply, bandV_apply]; exact congrArg (BK kp kc j) (Fin.ext (by unfold vcol; simp; omega))

theorem sL (x : FVec Ideal S128x512 .bf16) (r : Fin 512) (l : Fin 128) : stackL x (ix2 r l)
    = if l.val / 64 = r.val / 128 % 2 then x (ix2 (qi r) (qcol 0 r (lo l))) else 0 := by
  rw [stackL_apply]
  refine if_congr Iff.rfl (at2 x rfl ?_) rfl
  unfold qcol; simp
theorem sH (x : FVec Ideal S128x512 .bf16) (r : Fin 512) (l : Fin 128) : stackH x (ix2 r l)
    = if l.val / 64 = r.val / 128 % 2 then x (ix2 (qi r) (qcol 1 r (lo l))) else 0 := by
  rw [stackH_apply]
  refine if_congr Iff.rfl (at2 x rfl ?_) rfl
  unfold qcol; simp

theorem scL_apply (j : Fin 256) (r : Fin 512) : scL q kp kc b (ix2 j r) = SC q kp kc b 0 r j := by
  unfold scL SC
  rw [scores_apply b _ _ (fun j d => BK kp kc j (kcol 0 d)) (fun r d => q8 q (ix2 (qi r) (qcol 0 r d))) (kL kp kc) (sL (q8 q))]
  simp only [q8_apply]
theorem scH_apply (j : Fin 256) (r : Fin 512) : scH q kp kc b (ix2 j r) = SC q kp kc b 1 r j := by
  unfold scH SC
  rw [scores_apply b _ _ (fun j d => BK kp kc j (kcol 1 d)) (fun r d => q8 q (ix2 (qi r) (qcol 1 r d))) (kH kp kc) (sH (q8 q))]
  simp only [q8_apply]
theorem sinkL_apply (r : Fin 512) : sinkL s (ix2 (0 : Fin 1) r) = sg s 0 r := by
  unfold sinkL sg
  pointwise
theorem sinkH_apply (r : Fin 512) : sinkH s (ix2 (0 : Fin 1) r) = sg s 1 r := by
  unfold sinkH sg
  pointwise
theorem dpL_apply (j : Fin 256) (r : Fin 512) : dpL o dy g kp kc (ix2 j r) = GC o dy g kp kc 0 r j := by
  unfold dpL GC
  rw [dp_apply _ _ (fun j d => BK kp kc j (vcol 0 d)) (fun r d => dO16 o dy g (ix2 (qi r) (qcol 0 r d))) (vL kp kc) (sL _)]
theorem dpH_apply (j : Fin 256) (r : Fin 512) : dpH o dy g kp kc (ix2 j r) = GC o dy g kp kc 1 r j := by
  unfold dpH GC
  rw [dp_apply _ _ (fun j d => BK kp kc j (vcol 1 d)) (fun r d => dO16 o dy g (ix2 (qi r) (qcol 1 r d))) (vH kp kc) (sH _)]

/-! ## A group's softmax, column by column -/

section
variable (sc d : FVec Ideal S256x512 .f32) (si : FVec Ideal S1x512 .f32) (r : Fin 512)

theorem ninf : Ideal.ofBits .f32 0xFF800000#32 = ⊥ := by simp [Ideal.ofBits, Ideal.ieee]

theorem mx_apply : mx sc si (ix2 (0 : Fin 1) r) = Softmax.mx (fun j => sc (ix2 j r)) (si (ix2 (0 : Fin 1) r)) := by
  unfold mx Softmax.mx Softmax.top
  pointwise
  rw [ninf]
theorem ex_apply (j : Fin 256) : ex sc si (ix2 j r) = Softmax.ex (fun j => sc (ix2 j r)) (si (ix2 (0 : Fin 1) r)) j := by
  unfold ex Softmax.ex
  pointwise
  rw [mx_apply]
theorem exS_apply : exS sc si (ix2 (0 : Fin 1) r) = Softmax.exS (fun j => sc (ix2 j r)) (si (ix2 (0 : Fin 1) r)) := by
  unfold exS Softmax.exS
  pointwise
  rw [mx_apply]
theorem inv_apply : inv sc si (ix2 (0 : Fin 1) r) = Ideal.div 1 (Softmax.den (fun j => sc (ix2 j r)) (si (ix2 (0 : Fin 1) r))) := by
  unfold inv Softmax.den
  pointwise
  simp only [ex_apply, exS_apply]
theorem pr_apply (j : Fin 256) : pr sc si (ix2 j r) = Softmax.pr (fun j => sc (ix2 j r)) (si (ix2 (0 : Fin 1) r)) j := by
  unfold pr Softmax.pr
  pointwise
  rw [ex_apply, inv_apply]
theorem prS_apply : prS sc si (ix2 (0 : Fin 1) r) = Softmax.prS (fun j => sc (ix2 j r)) (si (ix2 (0 : Fin 1) r)) := by
  unfold prS Softmax.prS
  pointwise
  rw [exS_apply, inv_apply]
theorem dr_apply : dr (pr sc si) d (ix2 (0 : Fin 1) r) = Softmax.dr (fun j => sc (ix2 j r)) (si (ix2 (0 : Fin 1) r)) (fun j => d (ix2 j r)) := by
  unfold dr Softmax.dr
  pointwise
  simp only [pr_apply]
theorem dS_apply (j : Fin 256) : dS (pr sc si) d (ix2 j r)
    = Softmax.dS (fun j => sc (ix2 j r)) (si (ix2 (0 : Fin 1) r)) (fun j => d (ix2 j r)) j := by
  unfold dS Softmax.dS
  pointwise
  rw [pr_apply, dr_apply]
end

/-! ## The block's results -/

/-- A column's probability, score gradient, and the sink's term. -/
def PC (e : Fin 2) (r : Fin 512) (j : Fin 256) : EReal := Softmax.pr (SC q kp kc b e r) (sg s e r) j
def DC (e : Fin 2) (r : Fin 512) (j : Fin 256) : EReal := Softmax.dS (SC q kp kc b e r) (sg s e r) (GC o dy g kp kc e r) j
def KC (e : Fin 2) (r : Fin 512) : EReal :=
  Softmax.prS (SC q kp kc b e r) (sg s e r) * Softmax.dr (SC q kp kc b e r) (sg s e r) (GC o dy g kp kc e r)

theorem prL_apply (j : Fin 256) (r : Fin 512) : prL q kp kc b s (ix2 j r) = PC q kp kc b s 0 r j := by
  unfold prL PC
  rw [pr_apply, sinkL_apply]
  simp only [scL_apply]
theorem prH_apply (j : Fin 256) (r : Fin 512) : prH q kp kc b s (ix2 j r) = PC q kp kc b s 1 r j := by
  unfold prH PC
  rw [pr_apply, sinkH_apply]
  simp only [scH_apply]
theorem dSL_apply (j : Fin 256) (r : Fin 512) : dSL q o dy g kp kc b s (ix2 j r) = DC q o dy g kp kc b s 0 r j := by
  unfold dSL DC prL
  rw [dS_apply, sinkL_apply]
  simp only [scL_apply, dpL_apply]
theorem dSH_apply (j : Fin 256) (r : Fin 512) : dSH q o dy g kp kc b s (ix2 j r) = DC q o dy g kp kc b s 1 r j := by
  unfold dSH DC prH
  rw [dS_apply, sinkH_apply]
  simp only [scH_apply, dpH_apply]
theorem dskL_apply (a : Vec Ideal S1x512 .f32) (r : Fin 512) : dskL q o dy g kp kc b s a (ix2 (0 : Fin 1) r)
    = a (ix2 (0 : Fin 1) r) - KC q o dy g kp kc b s 0 r := by
  unfold dskL dskN KC prL
  pointwise
  rw [prS_apply, dr_apply, sinkL_apply]
  simp only [scL_apply, dpL_apply]
theorem dskH_apply (a : Vec Ideal S1x512 .f32) (r : Fin 512) : dskH q o dy g kp kc b s a (ix2 (0 : Fin 1) r)
    = a (ix2 (0 : Fin 1) r) - KC q o dy g kp kc b s 1 r := by
  unfold dskH dskN KC prH
  pointwise
  rw [prS_apply, dr_apply, sinkH_apply]
  simp only [scH_apply, dpH_apply]

/-- Column `c` of the queries is of group `c / 256`, of the group's head `c / 64 % 4`, coordinate `c % 64`. -/
def grp (c : Fin 512) : Fin 2 := ⟨c.val / 256, by omega⟩
def srow (c : Fin 512) (i : Fin 128) : Fin 512 := ⟨128 * (c.val / 64 % 4) + i.val, by omega⟩
def crd (c : ℕ) : Fin 64 := ⟨c % 64, Nat.mod_lt _ (by decide)⟩

theorem dqN_apply (i : Fin 128) (c : Fin 512) : dqN q o dy g kp kc b s (ix2 i c)
    = (∑ j, DC q o dy g kp kc b s (grp c) (srow c i) j * BK kp kc j (kcol (grp c) (crd c.val))) * w8f := by
  unfold dqN
  rw [unstack_apply]
  refine congrArg (· * w8f) ?_
  have hl : lo (⟨c.val % 128, Nat.mod_lt _ (by decide)⟩ : Fin 128) = crd c.val := Fin.ext (by unfold lo crd; dsimp only; omega)
  have hc := c.isLt
  split
  · rename_i h
    rw [mmQ_apply _ _ (fun j d => BK kp kc j (kcol 0 d)) (kL kp kc), hl, show grp c = 0 from Fin.ext (by show c.val / 256 = 0; omega)]
    exact Finset.sum_congr rfl fun j _ => congrArg (· * _) (dSL_apply q o dy g kp kc b s j _)
  · rename_i h
    rw [mmQ_apply _ _ (fun j d => BK kp kc j (kcol 1 d)) (kH kp kc), hl, show grp c = 1 from Fin.ext (by show c.val / 256 = 1; omega)]
    exact Finset.sum_congr rfl fun j _ => congrArg (· * _) (dSH_apply q o dy g kp kc b s j _)

/-- The band's keys' gradient at column `c < 128` and its values' gradient at column `128 + c`. -/
theorem bandN_key (j c : Fin 256) (e : Fin 2) (d : Fin 64) (hc : c = kcol e d) : bandN q o dy g kp kc b s (ix2 j c)
    = ∑ r, DC q o dy g kp kc b s e r j * (q (ix2 (qi r) (qcol e r d)) * w8b) := by
  subst hc
  unfold bandN
  rw [band_apply]
  have hd := d.isLt
  match e with
  | ⟨0, _⟩ =>
    rw [if_pos (by show 64 * 0 + d.val < 64; omega), fold2_apply _ _ (fun r d => q8 q (ix2 (qi r) (qcol 0 r d))) (sL (q8 q)),
      show lo _ = d from Fin.ext (by unfold lo kcol; dsimp only; omega)]
    exact Finset.sum_congr rfl fun r _ => by rw [dSL_apply, q8_apply]; rfl
  | ⟨1, _⟩ =>
    rw [if_neg (by show ¬64 * 1 + d.val < 64; omega), if_pos (by show 64 * 1 + d.val < 128; omega),
      fold2_apply _ _ (fun r d => q8 q (ix2 (qi r) (qcol 1 r d))) (sH (q8 q)), show lo _ = d from Fin.ext (by unfold lo kcol; dsimp only; omega)]
    exact Finset.sum_congr rfl fun r _ => by rw [dSH_apply, q8_apply]; rfl
theorem bandN_value (j c : Fin 256) (e : Fin 2) (d : Fin 64) (hc : c = vcol e d) : bandN q o dy g kp kc b s (ix2 j c)
    = ∑ r, PC q kp kc b s e r j * dO16 o dy g (ix2 (qi r) (qcol e r d)) := by
  subst hc
  unfold bandN
  rw [band_apply]
  have hd := d.isLt
  match e with
  | ⟨0, _⟩ =>
    rw [if_neg (by show ¬128 + 64 * 0 + d.val < 64; omega), if_neg (by show ¬128 + 64 * 0 + d.val < 128; omega), if_pos (by show 128 + 64 * 0 + d.val < 192; omega),
      fold2_apply _ _ (fun r d => dO16 o dy g (ix2 (qi r) (qcol 0 r d))) (sL _), show lo _ = d from Fin.ext (by unfold lo vcol; dsimp only; omega)]
    exact Finset.sum_congr rfl fun r _ => congrArg (· * _) (prL_apply q kp kc b s j r)
  | ⟨1, _⟩ =>
    rw [if_neg (by show ¬128 + 64 * 1 + d.val < 64; omega), if_neg (by show ¬128 + 64 * 1 + d.val < 128; omega), if_neg (by show ¬128 + 64 * 1 + d.val < 192; omega),
      fold2_apply _ _ (fun r d => dO16 o dy g (ix2 (qi r) (qcol 1 r d))) (sH _), show lo _ = d from Fin.ext (by unfold lo vcol; dsimp only; omega)]
    exact Finset.sum_congr rfl fun r _ => congrArg (· * _) (prH_apply q kp kc b s j r)

end Cert.AttnBwdIdeal.Attn
end
-- ==== Proof.Attn.Block.lean ====
/-
  What one grid step of `attn_bwd` stores, over any float values.
-/
module

public import proofs.«01_k».proof.Proof.Attn.Ops
public import proofs.«01_k».proof.Proof.Gen.AttnBwdIdeal.Value
public import Idealize.ShloMosaic.Lib.Tactic
public import Idealize.ShloMosaic.Lib.Pipeline.Value
public import Idealize.ShloMosaic.Lib.Pointwise.Index
public import Idealize.ShloMosaic.Lib.Pipeline.ValueKit.Tiles
public import Idealize.ShloMosaic.Lib.Pipeline.ReadBack

@[expose] public section

set_option maxRecDepth 65536

noncomputable section

namespace Cert.AttnBwdIdeal.Block

open Cert.AttnBwdIdeal Cert.AttnBwdIdeal.Gen Idealize.ShloMosaic Idealize.ShloMosaic.TcCoe Idealize.SL.Sem

variable {F : FTy → Type} [FloatOps F]
variable (m : (ℓ : Loc nD τ sig) → Buf (Elt F) ℓ) (c : Dev nD) (t : Fin cfg0.N)

theorem hz : (![0, 0] : Fin 2 → Nat) = fun _ => 0 := funext fun a => by fin_cases a <;> rfl

/-- The step's loads for its block `b` of 128 rows. -/
theorem inbR (b : Fin 8) (W : ℕ) (a : Fin 2) : (![128 * b.val, 0] : Fin 2 → ℕ) a + (![128, W] : Fin 2 → ℕ) a ≤ (![1024, W] : Fin 2 → ℕ) a :=
  match a with
  | ⟨0, _⟩ => by show 128 * b.val + 128 ≤ 1024; omega
  | ⟨1, _⟩ => by show 0 + W ≤ W; omega

def qB (b : Fin 8) : Vec F S128x512 .bf16 := View.ld (X0_0 m c t) (Rect.unit (s := S1024x512) ![128 * b.val, 0] ![128, 512] (inbR b 512))
def oB (b : Fin 8) : Vec F S128x512 .bf16 := View.ld (iblk m c 3 t) (Rect.unit (s := S1024x512) ![128 * b.val, 0] ![128, 512] (inbR b 512))
def dyB (b : Fin 8) : Vec F S128x512 .f32 := View.ld (iblk m c 4 t) (Rect.unit (s := S1024x512) ![128 * b.val, 0] ![128, 512] (inbR b 512))
def kcB (b : Fin 8) : Vec F S128x256 .bf16 := View.ld (iblk m c 1 t) (Rect.unit (s := S1024x256) ![128 * b.val, 0] ![128, 256] (inbR b 256))
def kpB (b : Fin 8) : Vec F S128x256 .bf16 :=
  match b with
  | ⟨0, _⟩ => View.ld (iblk m c 2 t) (Rect.unit ![0, 0] ![128, 256] inb_S128x256_S128x256_0_0)
  | ⟨n + 1, h⟩ => kcB m c t ⟨n, Nat.lt_of_succ_lt h⟩

theorem canon_rows {Val : EltTy → Type} [∀ e, Nonempty (Val e)] {e : EltTy} (W : ℕ) (P : Fin 8 → (⟨2, ![128, W]⟩ : Shape).Idx → Val e)
    (L : List (View.Piece Val (⟨2, ![1024, W]⟩ : Shape) e))
    (hL : L = (List.finRange 8).reverse.map fun b => ⟨Rect.unit ![128 * b.val, 0] ![128, W] (inbR b W), P b⟩) :
    View.canon L = fun y => P ⟨(y 0).val / 128, by have : (y 0).val < 1024 := (y 0).isLt; omega⟩
      (ix2 (⟨(y 0).val % 128, Nat.mod_lt _ (by decide)⟩ : Fin 128) (y 1)) := by
  subst hL
  funext y
  have h0 : (y 0).val < 1024 := (y 0).isLt
  refine View.canon_eq_of_allAt _ y _ ?_ fun p hp x hx => ?_
  · refine ⟨_, List.mem_map.mpr ⟨⟨(y 0).val / 128, by omega⟩, List.mem_reverse.mpr (List.mem_finRange _), rfl⟩, ?_⟩
    rw [Rect.mem_set_unit]
    intro a
    match a with
    | ⟨0, _⟩ => exact ⟨by show 128 * ((y 0).val / 128) ≤ (y 0).val; omega, by show (y 0).val < 128 * ((y 0).val / 128) + 128; omega⟩
    | ⟨1, _⟩ => exact ⟨Nat.zero_le _, by show (y 1).val < 0 + W; have : (y 1).val < W := (y 1).isLt; omega⟩
  · obtain ⟨b, -, rfl⟩ := List.mem_map.mp hp
    have x0 : (x 0).val < 128 := (x 0).isLt
    have e0 : (y 0).val = 128 * b.val + (x 0).val := by
      rw [← hx, Rect.emb_apply]; show 128 * b.val + 1 * (x 0).val = _; omega
    have e1 : (y 1).val = (x 1).val := by
      rw [← hx, Rect.emb_apply]; show 0 + 1 * (x 1).val = _; omega
    have hb : (⟨(y 0).val / 128, by omega⟩ : Fin 8) = b := Fin.ext (by show (y 0).val / 128 = b.val; omega)
    rw [hb]
    refine congrArg (P b) (funext fun a => ?_)
    match a with
    | ⟨0, _⟩ => exact Fin.ext (by show (x 0).val = (y 0).val % 128; omega)
    | ⟨1, _⟩ => exact Fin.ext e1.symm

def gB : Vec F S1x512 .f32 := View.ld (iblk m c 7 t) (Rect.unit ![0, 0] ![1, 512] inb_S1x512_S1x512_0_0)
def sB : Vec F S1x1024 .f32 := View.ld (iblk m c 5 t) (Rect.unit ![0, 0] ![1, 1024] inb_S1x1024_S1x1024_0_0)
def bB (b : Fin 8) : Vec F S1x256x512 .f32 :=
  match b with
  | ⟨0, _⟩ => View.ld (iblk m c 6 t) (Rect.unit (s := S2x256x512) (k0_off1 (grid0.coords t)) S1x256x512.size (k0_off1_inb (grid0.coords t)))
  | ⟨n + 1, h⟩ => View.ld (iblk m c 6 t) (Rect.unit (s := S2x256x512) ![1, 0, 0] S1x256x512.size inb_S2x256x512_S1x256x512_1_0_0)

def dqB (b : Fin 8) : FVec F S128x512 .bf16 :=
  Attn.dqN (qB m c t b) (oB m c t b) (dyB m c t b) (gB m c t) (kpB m c t b) (kcB m c t b) (bB m c t b) (sB m c t)

def bandB (b : Fin 8) : FVec F S256x256 .f32 :=
  Attn.bandN (qB m c t b) (oB m c t b) (dyB m c t b) (gB m c t) (kpB m c t b) (kcB m c t b) (bB m c t b) (sB m c t)

/-- The keys' and values' gradients of block `b`: its band's last rows with the next band's first ones, or at the last
    block with what the step before carried over. -/
def nextB (car : Vec F S128x256 .f32) (b : Fin 8) : FVec F S128x256 .f32 :=
  if h : b.val < 7 then Attn.topB (bandB m c t ⟨b.val + 1, by omega⟩) else car
def dkvB (car : Vec F S128x256 .f32) (b : Fin 8) : FVec F S128x256 .bf16 :=
  truncf .bf16 (addf (Attn.botB (bandB m c t b)) (nextB m c t car b)) bitsLt_bf16_f32

/-- The gain's gradient after `k` blocks. -/
def dgK (a : Vec F S1x512 .f32) : ℕ → FVec F S1x512 .f32
  | 0 => a
  | k + 1 => Attn.dgN (oB m c t ⟨k % 8, Nat.mod_lt _ (by decide)⟩) (dyB m c t ⟨k % 8, Nat.mod_lt _ (by decide)⟩) (dgK a k)

/-- A row of 1024 lanes' two halves. -/
abbrev R0 : Rect S1x1024 := Rect.unit ![0, 0] ![1, 512] inb_S1x1024_S1x512_0_0
abbrev R1 : Rect S1x1024 := Rect.unit ![0, 512] ![1, 512] inb_S1x1024_S1x512_0_512

/-- The whole of a row of 512 lanes, and of the carried rows. -/
abbrev RG : Rect S1x512 := Rect.unit ![0, 0] ![1, 512] inb_S1x512_S1x512_0_0
abbrev RC : Rect S128x256 := Rect.unit ![0, 0] ![128, 256] inb_S128x256_S128x256_0_0

/-- The two groups' sinks' gradients after `k` blocks. -/
def slK (a : Vec F S1x1024 .f32) : ℕ → FVec F S1x512 .f32
  | 0 => View.ld a R0
  | k + 1 => let b : Fin 8 := ⟨k % 8, Nat.mod_lt _ (by decide)⟩
    Attn.dskL (qB m c t b) (oB m c t b) (dyB m c t b) (gB m c t) (kpB m c t b) (kcB m c t b) (bB m c t b) (sB m c t) (slK a k)
def shK (a : Vec F S1x1024 .f32) : ℕ → FVec F S1x512 .f32
  | 0 => View.ld a R1
  | k + 1 => let b : Fin 8 := ⟨k % 8, Nat.mod_lt _ (by decide)⟩
    Attn.dskH (qB m c t b) (oB m c t b) (dyB m c t b) (gB m c t) (kpB m c t b) (kcB m c t b) (bB m c t b) (sB m c t) (shK a k)

/-- A row of 1024 lanes from its halves. -/
def two {α : Type} (w0 w1 : S1x512.Idx → α) : S1x1024.Idx → α := fun y =>
  if h : (y 1).val < 512 then w0 (ix2 (0 : Fin 1) (⟨(y 1).val, h⟩ : Fin 512))
  else w1 (ix2 (0 : Fin 1) (⟨(y 1).val - 512, by have : (y 1).val < 1024 := (y 1).isLt; omega⟩ : Fin 512))

theorem canon_two {Val : EltTy → Type} [∀ e, Nonempty (Val e)] {e : EltTy} (w0 w1 : S1x512.Idx → Val e)
    (L : List (View.Piece Val S1x1024 e)) : View.canon (⟨R1, w1⟩ :: ⟨R0, w0⟩ :: L) = two w0 w1 := by
  funext y
  have h0 : (y 0).val < 1 := (y 0).isLt
  have h1 : (y 1).val < 1024 := (y 1).isLt
  unfold two
  split
  · rename_i h
    rw [View.canon_cons_of_not_mem]
    · conv_lhs => rw [show y = R0.emb (ix2 (0 : Fin 1) (⟨(y 1).val, h⟩ : Fin 512)) from funext fun a => by
        match a with
        | ⟨0, _⟩ => exact Fin.ext (by rw [Rect.emb_apply]; show (y 0).val = 0 + 1 * 0; omega)
        | ⟨1, _⟩ => exact Fin.ext (by rw [Rect.emb_apply]; show (y 1).val = 0 + 1 * (y 1).val; omega)]
      exact View.canon_cons_emb _ _ _ _
    · rw [Rect.mem_set_unit]
      intro hh
      have := (hh 1).1
      change 512 ≤ (y 1).val at this
      omega
  · rename_i h
    conv_lhs => rw [show y = R1.emb (ix2 (0 : Fin 1) (⟨(y 1).val - 512, by omega⟩ : Fin 512)) from funext fun a => by
        match a with
        | ⟨0, _⟩ => exact Fin.ext (by rw [Rect.emb_apply]; show (y 0).val = 0 + 1 * 0; omega)
        | ⟨1, _⟩ => exact Fin.ext (by rw [Rect.emb_apply]; show (y 1).val = 512 + 1 * ((y 1).val - 512); omega)]
    exact View.canon_cons_emb _ _ _ _

section
variable {κ : Kind} {sp : Space} {sg : RefSig} {Val : EltTy → Type} [∀ e, Nonempty (Val e)] {e : EltTy} (v : View sg κ sp S1x1024 e)
  (w : S1x512.Idx → Val e) (L : List (View.Piece Val S1x1024 e))
theorem skip0 : v.readCov (⟨R1, w⟩ :: L) R0.toLoadRect = v.readCov L R0.toLoadRect := View.readCov_skip v R1 w L R0.toLoadRect (by decide)
theorem skip1 : v.readCov (⟨R0, w⟩ :: L) R1.toLoadRect = v.readCov L R1.toLoadRect := View.readCov_skip v R0 w L R1.toLoadRect (by decide)
theorem head0 : v.readCov (⟨R0, w⟩ :: L) R0.toLoadRect = w := View.readCov_cons_toLoadRect v R0 w L
theorem head1 : v.readCov (⟨R1, w⟩ :: L) R1.toLoadRect = w := View.readCov_cons_toLoadRect v R1 w L
end

section
variable {κ : Kind} {sp : Space} {sg : RefSig} {Val : EltTy → Type} [∀ e, Nonempty (Val e)] {e : EltTy}
theorem readCov_two (v : View sg κ sp S1x1024 e) (w0 w1 : S1x512.Idx → Val e) (L : List (View.Piece Val S1x1024 e)) (r : Rect S1x1024) :
    v.readCov (⟨R1, w1⟩ :: ⟨R0, w0⟩ :: L) r.toLoadRect = View.ld (two w0 w1) r := by
  rw [View.readCov_eq_canon', canon_two]
theorem headF (v : View sg κ sp S1x1024 e) (w : S1x1024.Idx → Val e) (L : List (View.Piece Val S1x1024 e)) (r : Rect S1x1024) :
    v.readCov (⟨Rect.unit ![0, 0] ![1, 1024] inb_S1x1024_S1x1024_0_0, w⟩ :: L) r.toLoadRect = View.ld w r :=
  View.readCov_fill v inb_S1x1024_S1x1024_0_0 w L r (by decide)
theorem headG (v : View sg κ sp S1x512 e) (w : S1x512.Idx → Val e) (L : List (View.Piece Val S1x512 e)) :
    v.readCov (⟨RG, w⟩ :: L) RG.toLoadRect = w := View.readCov_cons_toLoadRect v RG w L
theorem headC (v : View sg κ sp S128x256 e) (w : S128x256.Idx → Val e) (L : List (View.Piece Val S128x256 e)) :
    v.readCov (⟨RC, w⟩ :: L) RC.toLoadRect = w := View.readCov_cons_toLoadRect v RC w L
end

/-- Reading back what the step before left in the two scratch buffers. -/
theorem read_s0 (h : (scM0_0).IsWhole) (x : Vec F S128x256 .f32) : View.read (Elt F) (View.whole cc0_scratch0) (h.unread x) = x :=
  Memref.IsWhole.read_unread h x
theorem read_s1 (h : (scM0_1).IsWhole) (x : Vec F S1x1024 .f32) : View.read (Elt F) (View.whole cc0_scratch1) (h.unread x) = x :=
  Memref.IsWhole.read_unread h x

/-- The eight rows of the sinks' gradients: row `h` repeats the sum of lanes 128 h … 128 h + 127. -/
theorem canon_heads {Val : EltTy → Type} [∀ e, Nonempty (Val e)] {e : EltTy} (P : Fin 8 → S1x128.Idx → Val e)
    (inb : ∀ (h : Fin 8) (a : Fin 2), (![h.val, 0] : Fin 2 → ℕ) a + (![1, 128] : Fin 2 → ℕ) a ≤ (![8, 128] : Fin 2 → ℕ) a)
    (L : List (View.Piece Val S8x128 e))
    (hL : L = (List.finRange 8).reverse.map fun h => ⟨Rect.unit ![h.val, 0] ![1, 128] (inb h), P h⟩) :
    View.canon L = fun y => P (y 0) (ix2 (0 : Fin 1) (y 1)) := by
  subst hL
  funext y
  have h0 : (y 0).val < 8 := (y 0).isLt
  refine View.canon_eq_of_allAt _ y _ ?_ fun p hp x hx => ?_
  · refine ⟨_, List.mem_map.mpr ⟨y 0, List.mem_reverse.mpr (List.mem_finRange _), rfl⟩, ?_⟩
    rw [Rect.mem_set_unit]
    intro a
    match a with
    | ⟨0, _⟩ => exact ⟨le_refl (y 0).val, by show (y 0).val < (y 0).val + 1; omega⟩
    | ⟨1, _⟩ => exact ⟨Nat.zero_le _, by show (y 1).val < 0 + 128; have : (y 1).val < 128 := (y 1).isLt; omega⟩
  · obtain ⟨b, -, rfl⟩ := List.mem_map.mp hp
    have x0 : (x 0).val < 1 := (x 0).isLt
    have e0 : (y 0).val = b.val := by
      rw [← hx, Rect.emb_apply]; show b.val + 1 * (x 0).val = _; omega
    have e1 : (y 1).val = (x 1).val := by
      rw [← hx, Rect.emb_apply]; show 0 + 1 * (x 1).val = _; omega
    have hb : y 0 = b := Fin.ext e0
    rw [hb]
    refine congrArg (P b) (funext fun a => ?_)
    match a with
    | ⟨0, _⟩ => exact Fin.ext (by show (x 0).val = 0; omega)
    | ⟨1, _⟩ => exact Fin.ext e1.symm
theorem inbH (h : Fin 8) (a : Fin 2) : (![h.val, 0] : Fin 2 → ℕ) a + (![1, 128] : Fin 2 → ℕ) a ≤ (![8, 128] : Fin 2 → ℕ) a :=
  match a with
  | ⟨0, _⟩ => by show h.val + 1 ≤ 8; omega
  | ⟨1, _⟩ => by show 0 + 128 ≤ 128; omega
theorem inbL (h : Fin 8) (a : Fin 2) : (![0, 128 * h.val] : Fin 2 → ℕ) a + (![1, 128] : Fin 2 → ℕ) a ≤ (![1, 1024] : Fin 2 → ℕ) a :=
  match a with
  | ⟨0, _⟩ => by show 0 + 1 ≤ 1; omega
  | ⟨1, _⟩ => by show 128 * h.val + 128 ≤ 1024; omega

def s1After (a : Vec F S1x1024 .f32) : Vec F S1x1024 .f32 := two (slK m c t a 8) (shK m c t a 8)
def dskB (a : Vec F S1x1024 .f32) (h : Fin 8) : FVec F S1x128 .f32 :=
  k0_pay8 (View.ld (s1After m c t a) (Rect.unit (s := S1x1024) ![0, 128 * h.val] ![1, 128] (inbL h)))

end Cert.AttnBwdIdeal.Block
end
-- ==== Proof.Attn.Host.lean ====
/-
  The operands of `attn_bwd` that the host computes (extended reals).
-/
module

public import proofs.«01_k».proof.Proof.Attn.Block
public import proofs.«01_k».proof.Proof.Gen.AttnBwdRefIdeal.Read
public import Idealize.ShloMosaic.Lib.Pipeline.ValueKit.Point
public import Idealize.ShloMosaic.Lib.StableHlo.RunRead

@[expose] public section

set_option maxRecDepth 65536

noncomputable section

namespace Cert.AttnBwdIdeal.Block

open Cert.AttnBwdIdeal Cert.AttnBwdIdeal.Gen Idealize.ShloMosaic Idealize.ShloMosaic.TcCoe Idealize.SL.Sem

variable (m : (ℓ : Loc nD τ sig) → Buf (Elt Ideal) ℓ) (c : Dev nD)

theorem v2 : V m c main_v2 = broadcastInDim S1x1024 ![1] bcast_S1024_S1x1024_1
    (shapeCast _ (broadcastInDim S8x128 ![0] bcast_S8_S8x128_0 (m ((c : Thread nD τ).loc main_arg1))) shapeCasts_S8x128_S1024) := by
  sl_kernel_rfl
theorem v93 : V m c main_v93 = broadcastInDim S1x512 ![1] bcast_S512_S1x512_1 (m ((c : Thread nD τ).loc main_arg2)) := by
  sl_kernel_rfl
theorem v91 : V m c main_v91 = (truncf .bf16 (m ((c : Thread nD τ).loc main_arg0) : FVec Ideal S8192x1792 .f32) bitsLt_bf16_f32 : FVec Ideal S8192x1792 .bf16) := by
  sl_kernel_rfl
set_option maxHeartbeats 4000000 in
/-- The attention's output: the host's operations are the reference's. -/
theorem v92t : V m c main_v92 = (truncf .bf16 (Cert.AttnBwdRefIdeal.Read.val_main_v106 (F := Ideal) (m ((c : Thread nD τ).loc main_arg0))
    (m ((c : Thread nD τ).loc main_arg1))) bitsLt_bf16_f32 : FVec Ideal S8192x512 .bf16) := by
  after_reads_simp
  sl_kernel_rfl

theorem trunc_id {s : Shape} {f g : FTy} (X : FVec Ideal s f) (h : g.bits < f.bits) : (truncf g X h : s.Idx → EReal) = X := rfl

theorem v92 : V m c main_v92 = Cert.AttnBwdRefIdeal.Read.val_main_v106 (F := Ideal) (m ((c : Thread nD τ).loc main_arg0))
    (m ((c : Thread nD τ).loc main_arg1)) :=
  (v92t m c).trans (trunc_id _ _)

end Cert.AttnBwdIdeal.Block
end
-- ==== Proof.Attn.Kernel.lean ====
/-
  `attn_bwd`'s blocks as the rows of the arguments, numbered through the whole array (extended reals).
-/
module

public import proofs.«01_k».proof.Proof.Attn.OpsCol
public import proofs.«01_k».proof.Proof.Attn.Host
public import Idealize.ShloMosaic.Lib.Pipeline.ValueKit.Point

@[expose] public section

set_option maxRecDepth 16384

noncomputable section

namespace Cert.AttnBwdIdeal.Block

open Cert.AttnBwdIdeal Cert.AttnBwdIdeal.Gen Idealize.ShloMosaic Idealize.ShloMosaic.TcCoe Idealize.SL.Sem

variable (m : (ℓ : Loc nD τ sig) → Buf (Elt Ideal) ℓ) (c : Dev nD) (t : Fin cfg0.N)

/-- The projections, the sinks, the gain, the outputs' cotangent; the attention's output, which the host computes as the
    reference does; and the mask as the host leaves it. -/
def Z (r : Fin 8192) (k : Fin 1792) : EReal := m ((c : Thread nD τ).loc main_arg0) (ix2 r k)
def SK (h : Fin 8) : EReal := m ((c : Thread nD τ).loc main_arg1) (ix1 h)
def GA (k : Fin 512) : EReal := m ((c : Thread nD τ).loc main_arg2) (ix1 k)
def DY (r : Fin 8192) (k : Fin 1024) : EReal := m ((c : Thread nD τ).loc main_arg3) (ix2 r k)
def O (r : Fin 8192) (k : Fin 512) : EReal := Cert.AttnBwdRefIdeal.Read.val_main_v106 (F := Ideal)
  (m ((c : Thread nD τ).loc main_arg0)) (m ((c : Thread nD τ).loc main_arg1)) (ix2 r k)
def BI (f : Fin 2) (j : Fin 256) (r : Fin 512) : EReal := V m c main_v27 (ix3 f j r)

theorem lt8 : t.val < 8 := t.isLt

/-- The step's `b`-th block of 128 rows, and row `i` of a block. -/
abbrev nth (b : Fin 8) : Fin 64 := ⟨8 * (7 - t.val) + b.val, by omega⟩
abbrev row (n : Fin 64) (i : Fin 128) : Fin 8192 := ⟨128 * n.val + i.val, by omega⟩

/-- What a block reads. -/
def bQ (n : Fin 64) : Vec Ideal S128x512 .bf16 := fun y => Z m c (row n (y 0)) ⟨(y 1).val, by have : (y 1).val < 512 := (y 1).isLt; omega⟩
def bO (n : Fin 64) : Vec Ideal S128x512 .bf16 := fun y => O m c (row n (y 0)) (y 1)
def bY (n : Fin 64) : Vec Ideal S128x512 .f32 := fun y => DY m c (row n (y 0)) ⟨(y 1).val, by have : (y 1).val < 512 := (y 1).isLt; omega⟩
def bK (n : Fin 64) : Vec Ideal S128x256 .bf16 := fun y => Z m c (row n (y 0)) ⟨512 + (y 1).val, by have : (y 1).val < 256 := (y 1).isLt; omega⟩
def bP (n : Fin 64) : Vec Ideal S128x256 .bf16 := bK m c ⟨n.val - 1, by omega⟩
def bB0 (n : Fin 64) : Vec Ideal S1x256x512 .f32 := fun y => BI m c (if n.val = 0 then 0 else 1) (y 1) (y 2)
def bG : Vec Ideal S1x512 .f32 := fun y => GA m c (y 1)
def bS : Vec Ideal S1x1024 .f32 := fun y => SK m c ⟨(y 1).val / 128, by have : (y 1).val < 1024 := (y 1).isLt; omega⟩

theorem e0 : ∀ t : Fin cfg0.N, win0_0.index t = ![7 - t.val, 0] := (by decide +kernel : ∀ t : Fin grid0.N, _)
theorem e1 : ∀ t : Fin cfg0.N, win0_1.index t = ![7 - t.val, 2] := (by decide +kernel : ∀ t : Fin grid0.N, _)
theorem e2 : ∀ t : Fin cfg0.N, win0_2.index t = ![8 * (7 - t.val) - 1, 2] := (by decide +kernel : ∀ t : Fin grid0.N, _)
theorem e3 : ∀ t : Fin cfg0.N, win0_3.index t = ![7 - t.val, 0] := (by decide +kernel : ∀ t : Fin grid0.N, _)
theorem e4 : ∀ t : Fin cfg0.N, win0_4.index t = ![7 - t.val, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0, 0] := (by decide +kernel : ∀ t : Fin grid0.N, _)
theorem e7 : ∀ t : Fin cfg0.N, win0_7.index t = ![0, 0] := (by decide +kernel : ∀ t : Fin grid0.N, _)
theorem eoff : ∀ t : Fin cfg0.N, k0_off1 (grid0.coords t) = ![min (7 - t.val) 1, 0, 0] := (by decide +kernel : ∀ t : Fin grid0.N, _)

theorem blk0 (i : Fin 1024) (k : Fin 512) : X0_0 m c t (ix2 i k) = Z m c ⟨1024 * (7 - t.val) + i.val, by omega⟩ ⟨k.val, by omega⟩ := by
  unfold X0_0 Pipeline.Window.fill
  rw [dif_pos (moved0_0 t _)]
  unfold Z
  have := lt8 t
  blk_simp [iblk]
  rw [v91]
  pointwise
  blk_ext [e0 t]

theorem blk1 (i : Fin 1024) (k : Fin 256) : iblk m c 1 t (ix2 i k) = Z m c ⟨1024 * (7 - t.val) + i.val, by omega⟩ ⟨512 + k.val, by omega⟩ := by
  unfold Z
  have := lt8 t
  blk_simp [iblk]
  rw [v91]
  pointwise
  blk_ext [e1 t]

theorem blk2 (i : Fin 128) (k : Fin 256) : iblk m c 2 t (ix2 i k) = bK m c ⟨8 * (7 - t.val) - 1, by omega⟩ (ix2 i k) := by
  unfold bK Z
  have := lt8 t
  blk_simp [iblk]
  rw [v91]
  pointwise
  blk_ext [e2 t]

/-- The output's block read off any contents of its array. -/
theorem blk3_read (X : S8192x512.Idx → EReal) (i : Fin 1024) (k : Fin 512) :
    View.read (Elt Ideal) ((cfg0.win 3).blk t).view X (ix2 i k) = X (ix2 (⟨1024 * (7 - t.val) + i.val, by omega⟩ : Fin 8192) k) := by
  have := lt8 t
  blk_simp
  blk_ext [e3 t]

theorem blk3 (i : Fin 1024) (k : Fin 512) : iblk m c 3 t (ix2 i k) = O m c ⟨1024 * (7 - t.val) + i.val, by omega⟩ k := by
  unfold iblk
  refine (blk3_read t _ i k).trans ?_
  exact congrFun (v92 m c) _

theorem blk4 (i : Fin 1024) (k : Fin 512) : iblk m c 4 t (ix2 i k) = DY m c ⟨1024 * (7 - t.val) + i.val, by omega⟩ ⟨k.val, by omega⟩ := by
  unfold DY
  have := lt8 t
  blk_simp [iblk]
  rw [V_main_arg3]
  blk_ext [e4 t]

theorem blk5 (k : Fin 1024) : iblk m c 5 t (ix2 (0 : Fin 1) k) = SK m c ⟨k.val / 128, by omega⟩ := by
  unfold SK
  blk_simp [iblk]
  rw [v2]
  pointwise
  blk_ext [e5 t]

theorem blk6 (f : Fin 2) (j : Fin 256) (k : Fin 512) : iblk m c 6 t (ix3 f j k) = BI m c f j k := by
  unfold BI
  blk_simp [iblk]
  blk_ext [e6 t]

theorem blk7 (k : Fin 512) : iblk m c 7 t (ix2 (0 : Fin 1) k) = GA m c k := by
  unfold GA
  blk_simp [iblk]
  rw [v93]
  pointwise
  blk_ext [e7 t]

theorem fun_ext2 {α : Type} {a b : ℕ} {f g : (⟨2, ![a, b]⟩ : Shape).Idx → α} (h : ∀ i k, f (ix2 i k) = g (ix2 i k)) : f = g :=
  funext fun y => by rw [eq_ix2 y]; exact h _ _

/-- A block of 128 rows of a window. -/
theorem ld_rows {Val : EltTy → Type} {e : EltTy} {W : ℕ} (X : (⟨2, ![1024, W]⟩ : Shape).Idx → Val e) (b : Fin 8) (i : Fin 128) (k : Fin W) :
    View.ld X (Rect.unit (s := ⟨2, ![1024, W]⟩) ![128 * b.val, 0] ![128, W] (inbR b W)) (ix2 i k) = X (ix2 (⟨128 * b.val + i.val, by omega⟩ : Fin 1024) k) :=
  View.ld_unit_apply_of X _ _ _ _ _ fun a => by
    match a with
    | ⟨0, _⟩ => rfl
    | ⟨1, _⟩ => exact (Nat.zero_add _).symm

theorem qB_eq (b : Fin 8) : qB m c t b = bQ m c (nth t b) := by
  refine fun_ext2 fun i k => ?_
  unfold qB bQ
  rw [ld_rows, blk0]
  exact congrArg₂ (Z m c) (Fin.ext (by dsimp; omega)) rfl
theorem oB_eq (b : Fin 8) : oB m c t b = bO m c (nth t b) := by
  refine fun_ext2 fun i k => ?_
  unfold oB bO
  rw [ld_rows, blk3]
  exact congrArg₂ (O m c) (Fin.ext (by dsimp; omega)) rfl
theorem dyB_eq (b : Fin 8) : dyB m c t b = bY m c (nth t b) := by
  refine fun_ext2 fun i k => ?_
  unfold dyB bY
  rw [ld_rows, blk4]
  exact congrArg₂ (DY m c) (Fin.ext (by dsimp; omega)) rfl
theorem kcB_eq (b : Fin 8) : kcB m c t b = bK m c (nth t b) := by
  refine fun_ext2 fun i k => ?_
  unfold kcB bK
  rw [ld_rows, blk1]
  exact congrArg₂ (Z m c) (Fin.ext (by dsimp; omega)) rfl
theorem kpB_eq (b : Fin 8) : kpB m c t b = bP m c (nth t b) := by
  have ht := lt8 t
  match b with
  | ⟨0, _⟩ =>
    refine (View.ld_unit_zero (S := S128x256) hz _ _).trans (fun_ext2 fun i k => (blk2 m c t i k).trans ?_)
    exact congrArg (fun n => bK m c n (ix2 i k)) (Fin.ext (by dsimp))
  | ⟨n + 1, h⟩ =>
    refine (kcB_eq m c t _).trans (congrArg (bK m c) (Fin.ext ?_))
    dsimp
theorem gB_eq : gB m c t = bG m c := by
  refine (View.ld_unit_zero (S := S1x512) hz _ _).trans (fun_ext2 fun i k => ?_)
  rw [Subsingleton.elim i (0 : Fin 1)]
  exact blk7 m c t k
theorem sB_eq : sB m c t = bS m c := by
  refine (View.ld_unit_zero (S := S1x1024) hz _ _).trans (fun_ext2 fun i k => ?_)
  rw [Subsingleton.elim i (0 : Fin 1)]
  exact blk5 m c t k
theorem bB_eq (b : Fin 8) : bB m c t b = bB0 m c (nth t b) := by
  have ht := lt8 t
  refine funext fun y => ?_
  have hy0 : (y 0).val < 1 := (y 0).isLt
  match b with
  | ⟨0, _⟩ =>
    refine (View.ld_unit_apply_of (S := S2x256x512) (iblk m c 6 t) _ _ _ y
      (ix3 (if (nth t ⟨0, by decide⟩).val = 0 then 0 else 1) (y 1) (y 2)) fun a => ?_).trans (blk6 m c t _ _ _)
    refine Eq.trans ?_ (congrArg (· + (y a).val) (congrFun (eoff t) a).symm)
    match a with
    | ⟨0, _⟩ =>
      show ((if (nth t ⟨0, by decide⟩).val = 0 then (0 : Fin 2) else 1) : Fin 2).val = min (7 - t.val) 1 + (y 0).val
      split
      · next h => dsimp at h; show 0 = _; omega
      · next h => dsimp at h; show 1 = _; omega
    | ⟨1, _⟩ => exact (Nat.zero_add _).symm
    | ⟨2, _⟩ => exact (Nat.zero_add _).symm
  | ⟨n + 1, h⟩ =>
    refine (View.ld_unit_apply_of (S := S2x256x512) (iblk m c 6 t) _ _ _ y (ix3 (1 : Fin 2) (y 1) (y 2)) fun a => ?_).trans
      ((blk6 m c t _ _ _).trans ?_)
    · match a with
      | ⟨0, _⟩ => show 1 = 1 + (y 0).val; omega
      | ⟨1, _⟩ => exact (Nat.zero_add _).symm
      | ⟨2, _⟩ => exact (Nat.zero_add _).symm
    · exact congrArg (fun f => BI m c f (y 1) (y 2)) (if_neg (by dsimp; omega)).symm

end Cert.AttnBwdIdeal.Block
end
-- ==== Proof.Attn.Dq.lean ====
/-
  The queries' gradient one grid step of `attn_bwd` stores.
-/
module

public import proofs.«01_k».proof.Proof.Attn.Block

@[expose] public section

set_option maxRecDepth 65536

noncomputable section

namespace Cert.AttnBwdIdeal.Block

open Cert.AttnBwdIdeal Cert.AttnBwdIdeal.Gen Idealize.ShloMosaic Idealize.ShloMosaic.TcCoe Idealize.SL.Sem

variable {F : FTy → Type} [FloatOps F]
variable (m : (ℓ : Loc nD τ sig) → Buf (Elt F) ℓ) (c : Dev nD) (t : Fin cfg0.N)

theorem outs8_A (h0 : t.val % 8 = 0) (h1 : ¬t.val % 8 = 7) : (outsAt0 m c t.val t.isLt).1
    = fun y => dqB m c t ⟨(y 0).val / 128, by have : (y 0).val < 1024 := (y 0).isLt; omega⟩
      (ix2 (⟨(y 0).val % 128, Nat.mod_lt _ (by decide)⟩ : Fin 128) (y 1)) := by
  rw [outsAt0_A m c t h0 h1]
  dsimp only
  unfold out0_A_8
  rw [View.read_writes_eq_canon _ _ _ (by intro y; apply cover0_A_8)]
  unfold kernelRun0_A
  dsimp only
  sl_unfold_words
  simp only [View.readAt_eq_ld, Memref.IsWhole.read_unread]
  refine canon_rows (Val := Elt F) (e := .bf16) 512 (dqB m c t) _ ?_
  sl_kernel_rfl

theorem outs8_B (h0 : ¬t.val % 8 = 0) (h1 : ¬t.val % 8 = 7) : (outsAt0 m c t.val t.isLt).1
    = fun y => dqB m c t ⟨(y 0).val / 128, by have : (y 0).val < 1024 := (y 0).isLt; omega⟩
      (ix2 (⟨(y 0).val % 128, Nat.mod_lt _ (by decide)⟩ : Fin 128) (y 1)) := by
  rw [outsAt0_B m c t h0 h1]
  dsimp only
  unfold out0_B_8
  rw [View.read_writes_eq_canon _ _ _ (by intro y; apply cover0_B_8)]
  unfold kernelRun0_B
  dsimp only
  sl_unfold_words
  simp only [View.readAt_eq_ld, Memref.IsWhole.read_unread]
  refine canon_rows (Val := Elt F) (e := .bf16) 512 (dqB m c t) _ ?_
  sl_kernel_rfl

theorem outs8_C (h0 : ¬t.val % 8 = 0) (h1 : t.val % 8 = 7) : (outsAt0 m c t.val t.isLt).1
    = fun y => dqB m c t ⟨(y 0).val / 128, by have : (y 0).val < 1024 := (y 0).isLt; omega⟩
      (ix2 (⟨(y 0).val % 128, Nat.mod_lt _ (by decide)⟩ : Fin 128) (y 1)) := by
  rw [outsAt0_C m c t h0 h1]
  dsimp only
  unfold out0_C_8
  rw [View.read_writes_eq_canon _ _ _ (by intro y; apply cover0_C_8)]
  unfold kernelRun0_C
  dsimp only
  sl_unfold_words
  simp only [View.readAt_eq_ld, Memref.IsWhole.read_unread]
  refine canon_rows (Val := Elt F) (e := .bf16) 512 (dqB m c t) _ ?_
  sl_kernel_rfl

end Cert.AttnBwdIdeal.Block
end
-- ==== Proof.Attn.Dkv.lean ====
/-
  The keys' and values' gradients one grid step of `attn_bwd` stores.
-/
module

public import proofs.«01_k».proof.Proof.Attn.Block

@[expose] public section

set_option maxRecDepth 65536

noncomputable section

namespace Cert.AttnBwdIdeal.Block

open Cert.AttnBwdIdeal Cert.AttnBwdIdeal.Gen Idealize.ShloMosaic Idealize.ShloMosaic.TcCoe Idealize.SL.Sem

variable {F : FTy → Type} [FloatOps F]
variable (m : (ℓ : Loc nD τ sig) → Buf (Elt F) ℓ) (c : Dev nD) (t : Fin cfg0.N)

theorem outs9_A (h0 : t.val % 8 = 0) (h1 : ¬t.val % 8 = 7) : (outsAt0 m c t.val t.isLt).2.1
    = fun y => dkvB m c t (k0_pay13 (F := F)) ⟨(y 0).val / 128, by have : (y 0).val < 1024 := (y 0).isLt; omega⟩
      (ix2 (⟨(y 0).val % 128, Nat.mod_lt _ (by decide)⟩ : Fin 128) (y 1)) := by
  rw [outsAt0_A m c t h0 h1]
  dsimp only
  unfold out0_A_9
  rw [View.read_writes_eq_canon _ _ _ (by intro y; apply cover0_A_9)]
  unfold kernelRun0_A
  dsimp only
  sl_unfold_words
  simp only [headC, View.readAt_eq_ld, Memref.IsWhole.read_unread, read_s0, read_s1]
  refine canon_rows (Val := Elt F) (e := .bf16) 256 (dkvB m c t (k0_pay13 (F := F))) _ ?_
  sl_kernel_rfl

theorem outs9_B (h0 : ¬t.val % 8 = 0) (h1 : ¬t.val % 8 = 7) : (outsAt0 m c t.val t.isLt).2.1
    = fun y => dkvB m c t (View.ld (outsAt0 m c (t.val - 1) (by omega)).2.2.2.2.1 RC) ⟨(y 0).val / 128, by have : (y 0).val < 1024 := (y 0).isLt; omega⟩
      (ix2 (⟨(y 0).val % 128, Nat.mod_lt _ (by decide)⟩ : Fin 128) (y 1)) := by
  rw [outsAt0_B m c t h0 h1]
  dsimp only
  unfold out0_B_9
  rw [View.read_writes_eq_canon _ _ _ (by intro y; apply cover0_B_9)]
  unfold kernelRun0_B
  dsimp only
  sl_unfold_words
  simp only [View.readAt_eq_ld, Memref.IsWhole.read_unread, read_s0, read_s1]
  refine canon_rows (Val := Elt F) (e := .bf16) 256 (dkvB m c t (View.ld (outsAt0 m c (t.val - 1) (by omega)).2.2.2.2.1 RC)) _ ?_
  sl_kernel_rfl

theorem outs9_C (h0 : ¬t.val % 8 = 0) (h1 : t.val % 8 = 7) : (outsAt0 m c t.val t.isLt).2.1
    = fun y => dkvB m c t (View.ld (outsAt0 m c (t.val - 1) (by omega)).2.2.2.2.1 RC) ⟨(y 0).val / 128, by have : (y 0).val < 1024 := (y 0).isLt; omega⟩
      (ix2 (⟨(y 0).val % 128, Nat.mod_lt _ (by decide)⟩ : Fin 128) (y 1)) := by
  rw [outsAt0_C m c t h0 h1]
  dsimp only
  unfold out0_C_9
  rw [View.read_writes_eq_canon _ _ _ (by intro y; apply cover0_C_9)]
  unfold kernelRun0_C
  dsimp only
  sl_unfold_words
  simp only [View.readAt_eq_ld, Memref.IsWhole.read_unread, read_s0, read_s1]
  refine canon_rows (Val := Elt F) (e := .bf16) 256 (dkvB m c t (View.ld (outsAt0 m c (t.val - 1) (by omega)).2.2.2.2.1 RC)) _ ?_
  sl_kernel_rfl

end Cert.AttnBwdIdeal.Block
end
-- ==== Proof.Attn.Carry.lean ====
/-
  What one grid step of `attn_bwd` carries over to the next.
-/
module

public import proofs.«01_k».proof.Proof.Attn.Block

@[expose] public section

set_option maxRecDepth 65536

noncomputable section

namespace Cert.AttnBwdIdeal.Block

open Cert.AttnBwdIdeal Cert.AttnBwdIdeal.Gen Idealize.ShloMosaic Idealize.ShloMosaic.TcCoe Idealize.SL.Sem

variable {F : FTy → Type} [FloatOps F]
variable (m : (ℓ : Loc nD τ sig) → Buf (Elt F) ℓ) (c : Dev nD) (t : Fin cfg0.N)

theorem outsS0_A (h0 : t.val % 8 = 0) (h1 : ¬t.val % 8 = 7) : (outsAt0 m c t.val t.isLt).2.2.2.2.1
    = k0_pay4 (bandB m c t 0) := by
  rw [outsAt0_A m c t h0 h1]
  dsimp only
  unfold sout0_A_0
  rw [View.read_writes_eq_canon _ _ _ (by intro y; apply scover0_A_0)]
  unfold kernelRun0_A
  dsimp only
  rw [View.canon_cons_unit_zero (S := S128x256) hz]
  sl_unfold_words
  simp only [View.readAt_eq_ld, Memref.IsWhole.read_unread]
  sl_kernel_rfl

theorem outsS0_B (h0 : ¬t.val % 8 = 0) (h1 : ¬t.val % 8 = 7) : (outsAt0 m c t.val t.isLt).2.2.2.2.1
    = k0_pay4 (bandB m c t 0) := by
  rw [outsAt0_B m c t h0 h1]
  dsimp only
  unfold sout0_B_0
  rw [View.read_writes_eq_canon _ _ _ (by intro y; apply scover0_B_0)]
  unfold kernelRun0_B
  dsimp only
  rw [View.canon_unit_zero (S := S128x256) hz]
  sl_unfold_words
  simp only [View.readAt_eq_ld, Memref.IsWhole.read_unread]
  sl_kernel_rfl

theorem outsS0_C (h0 : ¬t.val % 8 = 0) (h1 : t.val % 8 = 7) : (outsAt0 m c t.val t.isLt).2.2.2.2.1
    = k0_pay4 (bandB m c t 0) := by
  rw [outsAt0_C m c t h0 h1]
  dsimp only
  unfold sout0_C_0
  rw [View.read_writes_eq_canon _ _ _ (by intro y; apply scover0_C_0)]
  unfold kernelRun0_C
  dsimp only
  rw [View.canon_unit_zero (S := S128x256) hz]
  sl_unfold_words
  simp only [View.readAt_eq_ld, Memref.IsWhole.read_unread]
  sl_kernel_rfl

end Cert.AttnBwdIdeal.Block
end
-- ==== Proof.Attn.Acc.lean ====
/-
  The sinks' gradients after one grid step of `attn_bwd`.
-/
module

public import proofs.«01_k».proof.Proof.Attn.Block

@[expose] public section

set_option maxRecDepth 65536

noncomputable section

namespace Cert.AttnBwdIdeal.Block

open Cert.AttnBwdIdeal Cert.AttnBwdIdeal.Gen Idealize.ShloMosaic Idealize.ShloMosaic.TcCoe Idealize.SL.Sem

variable {F : FTy → Type} [FloatOps F]
variable (m : (ℓ : Loc nD τ sig) → Buf (Elt F) ℓ) (c : Dev nD) (t : Fin cfg0.N)

theorem outsS1_A (h0 : t.val % 8 = 0) (h1 : ¬t.val % 8 = 7) : (outsAt0 m c t.val t.isLt).2.2.2.2.2
    = s1After m c t (k0_pay14 (F := F)) := by
  rw [outsAt0_A m c t h0 h1]
  dsimp only
  unfold sout0_A_1
  rw [View.read_writes_eq_canon _ _ _ (by intro y; apply scover0_A_1)]
  unfold kernelRun0_A
  dsimp only
  sl_unfold_words
  simp only [head0, head1, skip0, skip1, headF, View.readAt_eq_ld, Memref.IsWhole.read_unread, read_s0, read_s1]
  rw [canon_two]
  sl_kernel_rfl

theorem outsS1_B (h0 : ¬t.val % 8 = 0) (h1 : ¬t.val % 8 = 7) : (outsAt0 m c t.val t.isLt).2.2.2.2.2
    = s1After m c t (outsAt0 m c (t.val - 1) (by omega)).2.2.2.2.2 := by
  rw [outsAt0_B m c t h0 h1]
  dsimp only
  unfold sout0_B_1
  rw [View.read_writes_eq_canon _ _ _ (by intro y; apply scover0_B_1)]
  unfold kernelRun0_B
  dsimp only
  sl_unfold_words
  simp only [head0, head1, skip0, skip1, headF, View.readAt_eq_ld, Memref.IsWhole.read_unread, read_s0, read_s1]
  rw [canon_two]
  sl_kernel_rfl

theorem outsS1_C (h0 : ¬t.val % 8 = 0) (h1 : t.val % 8 = 7) : (outsAt0 m c t.val t.isLt).2.2.2.2.2
    = s1After m c t (outsAt0 m c (t.val - 1) (by omega)).2.2.2.2.2 := by
  rw [outsAt0_C m c t h0 h1]
  dsimp only
  unfold sout0_C_1
  rw [View.read_writes_eq_canon _ _ _ (by intro y; apply scover0_C_1)]
  unfold kernelRun0_C
  dsimp only
  sl_unfold_words
  simp only [head0, head1, skip0, skip1, headF, View.readAt_eq_ld, Memref.IsWhole.read_unread, read_s0, read_s1]
  rw [canon_two]
  sl_kernel_rfl

end Cert.AttnBwdIdeal.Block
end
-- ==== Proof.Attn.Dg.lean ====
/-
  The gain's gradient after one grid step of `attn_bwd`.
-/
module

public import proofs.«01_k».proof.Proof.Attn.Block

@[expose] public section

set_option maxRecDepth 65536

noncomputable section

namespace Cert.AttnBwdIdeal.Block

open Cert.AttnBwdIdeal Cert.AttnBwdIdeal.Gen Idealize.ShloMosaic Idealize.ShloMosaic.TcCoe Idealize.SL.Sem

variable {F : FTy → Type} [FloatOps F]
variable (m : (ℓ : Loc nD τ sig) → Buf (Elt F) ℓ) (c : Dev nD) (t : Fin cfg0.N)

theorem outs11_A (h0 : t.val % 8 = 0) (h1 : ¬t.val % 8 = 7) : (outsAt0 m c t.val t.isLt).2.2.2.1
    = dgK m c t (k0_pay15 (F := F)) 8 := by
  rw [outsAt0_A m c t h0 h1]
  dsimp only
  unfold out0_A_11
  rw [View.read_writes_eq_canon _ _ _ (by intro y; apply cover0_A_11)]
  unfold kernelRun0_A
  dsimp only
  rw [View.canon_cons_unit_zero (S := S1x512) hz]
  sl_unfold_words
  simp only [headG, View.readAt_eq_ld, Memref.IsWhole.read_unread, View.ld_unit_zero (S := S1x512) hz]
  sl_kernel_rfl

theorem outs11_B (h0 : ¬t.val % 8 = 0) (h1 : ¬t.val % 8 = 7) : (outsAt0 m c t.val t.isLt).2.2.2.1
    = dgK m c t (outsAt0 m c (t.val - 1) (by omega)).2.2.2.1 8 := by
  rw [outsAt0_B m c t h0 h1]
  dsimp only
  unfold out0_B_11
  rw [View.read_writes_eq_canon _ _ _ (by intro y; apply cover0_B_11)]
  unfold kernelRun0_B
  dsimp only
  rw [View.canon_cons_unit_zero (S := S1x512) hz]
  sl_unfold_words
  simp only [headG, View.readAt_eq_ld, Memref.IsWhole.read_unread, View.ld_unit_zero (S := S1x512) hz]
  sl_kernel_rfl

theorem outs11_C (h0 : ¬t.val % 8 = 0) (h1 : t.val % 8 = 7) : (outsAt0 m c t.val t.isLt).2.2.2.1
    = dgK m c t (outsAt0 m c (t.val - 1) (by omega)).2.2.2.1 8 := by
  rw [outsAt0_C m c t h0 h1]
  dsimp only
  unfold out0_C_11
  rw [View.read_writes_eq_canon _ _ _ (by intro y; apply cover0_C_11)]
  unfold kernelRun0_C
  dsimp only
  rw [View.canon_cons_unit_zero (S := S1x512) hz]
  sl_unfold_words
  simp only [headG, View.readAt_eq_ld, Memref.IsWhole.read_unread, View.ld_unit_zero (S := S1x512) hz]
  sl_kernel_rfl

end Cert.AttnBwdIdeal.Block
end
-- ==== Proof.Attn.Dsk.lean ====
/-
  The sinks' gradients the last grid step of `attn_bwd` stores.
-/
module

public import proofs.«01_k».proof.Proof.Attn.Block

@[expose] public section

set_option maxRecDepth 65536

noncomputable section

namespace Cert.AttnBwdIdeal.Block

open Cert.AttnBwdIdeal Cert.AttnBwdIdeal.Gen Idealize.ShloMosaic Idealize.ShloMosaic.TcCoe Idealize.SL.Sem

variable {F : FTy → Type} [FloatOps F]
variable (m : (ℓ : Loc nD τ sig) → Buf (Elt F) ℓ) (c : Dev nD) (t : Fin cfg0.N)

theorem outs10_C (h0 : ¬t.val % 8 = 0) (h1 : t.val % 8 = 7) : (outsAt0 m c t.val t.isLt).2.2.1
    = fun y => dskB m c t (outsAt0 m c (t.val - 1) (by omega)).2.2.2.2.2 (y 0) (ix2 (0 : Fin 1) (y 1)) := by
  rw [outsAt0_C m c t h0 h1]
  dsimp only
  unfold out0_C_10
  rw [View.read_writes_eq_canon _ _ _ (by intro y; apply cover0_C_10)]
  unfold kernelRun0_C
  dsimp only
  sl_unfold_words
  simp only [head0, head1, skip0, skip1, View.readAt_eq_ld, Memref.IsWhole.read_unread, read_s0, read_s1]
  simp only [readCov_two]
  refine canon_heads (Val := Elt F) (e := .f32) (dskB m c t _) inbH _ ?_
  sl_kernel_rfl

end Cert.AttnBwdIdeal.Block
end
-- ==== Proof.Attn.Final.lean ====
/-
  `attn_bwd`'s four results as entries of what its blocks read (extended reals).
-/
module

public import proofs.«01_k».proof.Proof.Attn.Kernel
public import proofs.«01_k».proof.Proof.Attn.Dq
public import proofs.«01_k».proof.Proof.Attn.Dkv
public import proofs.«01_k».proof.Proof.Attn.Carry
public import proofs.«01_k».proof.Proof.Attn.Acc
public import proofs.«01_k».proof.Proof.Attn.Dg
public import proofs.«01_k».proof.Proof.Attn.Dsk

@[expose] public section

set_option maxRecDepth 16384

noncomputable section

namespace Cert.AttnBwdIdeal.Block

open Cert.AttnBwdIdeal Cert.AttnBwdIdeal.Gen Cert.Norm Idealize.ShloMosaic Idealize.ShloMosaic.TcCoe Idealize.SL.Sem

variable (m : (ℓ : Loc nD τ sig) → Buf (Elt Ideal) ℓ) (c : Dev nD) (t : Fin cfg0.N)

/-- A block's queries' gradient, its band's gradient, a column's sink term and the gain's term. -/
def dqG (n : Fin 64) : FVec Ideal S128x512 .bf16 :=
  Attn.dqN (bQ m c n) (bO m c n) (bY m c n) (bG m c) (bP m c n) (bK m c n) (bB0 m c n) (bS m c)
def bandG (n : Fin 64) : FVec Ideal S256x256 .f32 :=
  Attn.bandN (bQ m c n) (bO m c n) (bY m c n) (bG m c) (bP m c n) (bK m c n) (bB0 m c n) (bS m c)
def snkG (n : Fin 64) (e : Fin 2) (r : Fin 512) : EReal :=
  Attn.KC (bQ m c n) (bO m c n) (bY m c n) (bG m c) (bP m c n) (bK m c n) (bB0 m c n) (bS m c) e r
def gnG (n : Fin 64) (k : Fin 512) : EReal :=
  ∑ i, bY m c n (ix2 i k) * bO m c n (ix2 i k) * rr w512 (fun k => bO m c n (ix2 i k))

theorem dqB_eq (b : Fin 8) : dqB m c t b = dqG m c (nth t b) := by
  unfold dqB dqG
  rw [qB_eq, oB_eq, dyB_eq, gB_eq, kpB_eq, kcB_eq, bB_eq, sB_eq]
theorem bandB_eq (b : Fin 8) : bandB m c t b = bandG m c (nth t b) := by
  unfold bandB bandG
  rw [qB_eq, oB_eq, dyB_eq, gB_eq, kpB_eq, kcB_eq, bB_eq, sB_eq]

/-- Eight steps of a sum. -/
theorem steps8 (f : ℕ → EReal) (F : Fin 8 → EReal) (h : ∀ k (hk : k < 8), f (k + 1) = f k + F ⟨k, hk⟩) : f 8 = f 0 + ∑ b, F b := by
  rw [Fin.sum_univ_eight, h 7 (by decide), h 6 (by decide), h 5 (by decide), h 4 (by decide), h 3 (by decide), h 2 (by decide),
    h 1 (by decide), h 0 (by decide)]
  simp only [add_assoc]
  rfl

/-- Eight tiles of eight blocks, the last tile first. -/
theorem acc_rev (f : (n : ℕ) → n < 8 → EReal) (F : Fin 64 → EReal)
    (h0 : f 0 (by decide) = ∑ b : Fin 8, F ⟨8 * 7 + b.val, by omega⟩)
    (hs : ∀ n (h : n + 1 < 8), f (n + 1) h = f n (by omega) + ∑ b : Fin 8, F ⟨8 * (7 - (n + 1)) + b.val, by omega⟩) :
    f 7 (by decide) = ∑ x, F x := by
  have hT (k : Fin 8) : (∑ b : Fin 8, F ⟨k.val * 8 + b.val, by omega⟩) = ∑ b : Fin 8, F ⟨8 * k.val + b.val, by omega⟩ :=
    Finset.sum_congr rfl fun b _ => congrArg F (Fin.ext (by dsimp only; omega))
  rw [Fin.sum_univ_tiles 8 8 rfl, Finset.sum_congr rfl fun k _ => hT k]
  generalize hU : (fun k : Fin 8 => ∑ b : Fin 8, F ⟨8 * k.val + b.val, by omega⟩) = U
  have hv (k : Fin 8) : (∑ b : Fin 8, F ⟨8 * k.val + b.val, by omega⟩) = U k := congrFun hU k
  rw [Fin.sum_univ_eight]
  have s0 := h0.trans (hv 7)
  have s1 := (hs 0 (by decide)).trans (congrArg₂ (· + ·) s0 (hv 6))
  have s2 := (hs 1 (by decide)).trans (congrArg₂ (· + ·) s1 (hv 5))
  have s3 := (hs 2 (by decide)).trans (congrArg₂ (· + ·) s2 (hv 4))
  have s4 := (hs 3 (by decide)).trans (congrArg₂ (· + ·) s3 (hv 3))
  have s5 := (hs 4 (by decide)).trans (congrArg₂ (· + ·) s4 (hv 2))
  have s6 := (hs 5 (by decide)).trans (congrArg₂ (· + ·) s5 (hv 1))
  refine ((hs 6 (by decide)).trans (congrArg₂ (· + ·) s6 (hv 0))).trans ?_
  ac_rfl

theorem dgK_apply (a : FVec Ideal S1x512 .f32) (k : Fin 512) :
    dgK m c t a 8 (ix2 (0 : Fin 1) k) = a (ix2 (0 : Fin 1) k) + ∑ b, gnG m c (nth t b) k := by
  refine steps8 (fun n => dgK m c t a n (ix2 (0 : Fin 1) k)) (fun b => gnG m c (nth t b) k) fun n hn => ?_
  have e : (⟨n % 8, Nat.mod_lt _ (by decide)⟩ : Fin 8) = ⟨n, hn⟩ := Fin.ext (Nat.mod_eq_of_lt hn)
  show Attn.dgN (oB m c t ⟨n % 8, _⟩) (dyB m c t ⟨n % 8, _⟩) (dgK m c t a n) (ix2 (0 : Fin 1) k) = _
  rw [e, oB_eq, dyB_eq, Attn.dgN_apply]
  rfl
theorem slK_apply (a : FVec Ideal S1x1024 .f32) (r : Fin 512) :
    slK m c t a 8 (ix2 (0 : Fin 1) r) = View.ld (Val := Elt Ideal) (e' := .f32) a R0 (ix2 (0 : Fin 1) r) + ∑ b, -snkG m c (nth t b) 0 r := by
  refine steps8 (fun n => slK m c t a n (ix2 (0 : Fin 1) r)) (fun b => -snkG m c (nth t b) 0 r) fun n hn => ?_
  have e : (⟨n % 8, Nat.mod_lt _ (by decide)⟩ : Fin 8) = ⟨n, hn⟩ := Fin.ext (Nat.mod_eq_of_lt hn)
  show Attn.dskL (qB m c t ⟨n % 8, _⟩) (oB m c t ⟨n % 8, _⟩) (dyB m c t ⟨n % 8, _⟩) (gB m c t) (kpB m c t ⟨n % 8, _⟩) (kcB m c t ⟨n % 8, _⟩)
    (bB m c t ⟨n % 8, _⟩) (sB m c t) (slK m c t a n) (ix2 (0 : Fin 1) r) = _
  rw [e, qB_eq, oB_eq, dyB_eq, gB_eq, kpB_eq, kcB_eq, bB_eq, sB_eq, Attn.dskL_apply]
  rfl
theorem shK_apply (a : FVec Ideal S1x1024 .f32) (r : Fin 512) :
    shK m c t a 8 (ix2 (0 : Fin 1) r) = View.ld (Val := Elt Ideal) (e' := .f32) a R1 (ix2 (0 : Fin 1) r) + ∑ b, -snkG m c (nth t b) 1 r := by
  refine steps8 (fun n => shK m c t a n (ix2 (0 : Fin 1) r)) (fun b => -snkG m c (nth t b) 1 r) fun n hn => ?_
  have e : (⟨n % 8, Nat.mod_lt _ (by decide)⟩ : Fin 8) = ⟨n, hn⟩ := Fin.ext (Nat.mod_eq_of_lt hn)
  show Attn.dskH (qB m c t ⟨n % 8, _⟩) (oB m c t ⟨n % 8, _⟩) (dyB m c t ⟨n % 8, _⟩) (gB m c t) (kpB m c t ⟨n % 8, _⟩) (kcB m c t ⟨n % 8, _⟩)
    (bB m c t ⟨n % 8, _⟩) (sB m c t) (shK m c t a n) (ix2 (0 : Fin 1) r) = _
  rw [e, qB_eq, oB_eq, dyB_eq, gB_eq, kpB_eq, kcB_eq, bB_eq, sB_eq, Attn.dskH_apply]
  rfl

/-- The two halves' term of the sinks' row. -/
def snkR (n : Fin 64) (x : Fin 1024) : EReal := snkG m c n ⟨x.val / 512, by omega⟩ ⟨x.val % 512, Nat.mod_lt _ (by decide)⟩

theorem s1After_apply (a : FVec Ideal S1x1024 .f32) (x : Fin 1024) :
    s1After m c t a (ix2 (0 : Fin 1) x) = a (ix2 (0 : Fin 1) x) + ∑ b, -snkR m c (nth t b) x := by
  unfold s1After two snkR
  have hx := x.isLt
  by_cases h : x.val < 512
  · refine (dif_pos h).trans ((slK_apply m c t a ⟨x.val, h⟩).trans ?_)
    congr 1
    · exact View.ld_unit_apply_of (S := S1x1024) (Val := Elt Ideal) (e := .f32) a _ _ _ _ (ix2 (0 : Fin 1) x) fun a => by
        match a with
        | ⟨0, _⟩ => rfl
        | ⟨1, _⟩ => exact (Nat.zero_add _).symm
    · refine Finset.sum_congr rfl fun b _ => congrArg (-·) (congrArg₂ (snkG m c _) (Fin.ext ?_) (Fin.ext ?_))
      · show 0 = x.val / 512; omega
      · show x.val = x.val % 512; omega
  · refine (dif_neg h).trans ((shK_apply m c t a ⟨x.val - 512, by omega⟩).trans ?_)
    congr 1
    · exact View.ld_unit_apply_of (S := S1x1024) (Val := Elt Ideal) (e := .f32) a _ _ _ _ (ix2 (0 : Fin 1) x) fun a => by
        match a with
        | ⟨0, _⟩ => rfl
        | ⟨1, _⟩ => show x.val = 512 + (x.val - 512); omega
    · refine Finset.sum_congr rfl fun b _ => congrArg (-·) (congrArg₂ (snkG m c _) (Fin.ext ?_) (Fin.ext ?_))
      · show 1 = x.val / 512; omega
      · show x.val - 512 = x.val % 512; omega

theorem zero13 (x : S128x256.Idx) : k0_pay13 (F := Ideal) x = 0 := Ideal.ofBits_zero_f32
theorem zero14 (x : S1x1024.Idx) : k0_pay14 (F := Ideal) x = 0 := Ideal.ofBits_zero_f32
theorem zero15 (x : S1x512.Idx) : k0_pay15 (F := Ideal) x = 0 := Ideal.ofBits_zero_f32

theorem last11 (k : Fin 512) : (outsAt0 m c 7 (by decide)).2.2.2.1 (ix2 (0 : Fin 1) k) = ∑ n, gnG m c n k := by
  refine acc_rev (fun n h => (outsAt0 m c n h).2.2.2.1 (ix2 (0 : Fin 1) k)) (fun n => gnG m c n k) ?_ fun n h => ?_
  · refine (congrFun (outs11_A m c ⟨0, by decide⟩ rfl (by decide)) _).trans ?_
    rw [dgK_apply, zero15, zero_add]
    rfl
  · by_cases h7 : n + 1 = 7
    · exact (congrFun (outs11_C m c ⟨n + 1, h⟩ (by dsimp only; omega) (by dsimp only; omega)) _).trans (dgK_apply m c ⟨n + 1, h⟩ _ _)
    · exact (congrFun (outs11_B m c ⟨n + 1, h⟩ (by dsimp only; omega) (by dsimp only; omega)) _).trans (dgK_apply m c ⟨n + 1, h⟩ _ _)

theorem lastS1 (x : Fin 1024) : (outsAt0 m c 7 (by decide)).2.2.2.2.2 (ix2 (0 : Fin 1) x) = ∑ n, -snkR m c n x := by
  refine acc_rev (fun n h => (outsAt0 m c n h).2.2.2.2.2 (ix2 (0 : Fin 1) x)) (fun n => -snkR m c n x) ?_ fun n h => ?_
  · refine (congrFun (outsS1_A m c ⟨0, by decide⟩ rfl (by decide)) _).trans ?_
    rw [s1After_apply, zero14, zero_add]
    rfl
  · by_cases h7 : n + 1 = 7
    · exact (congrFun (outsS1_C m c ⟨n + 1, h⟩ (by dsimp only; omega) (by dsimp only; omega)) _).trans (s1After_apply m c ⟨n + 1, h⟩ _ _)
    · exact (congrFun (outsS1_B m c ⟨n + 1, h⟩ (by dsimp only; omega) (by dsimp only; omega)) _).trans (s1After_apply m c ⟨n + 1, h⟩ _ _)

/-- A sink's gradient: the sum over its lanes and over the blocks. -/
def dskG (h : Fin 8) : EReal := ∑ l : Fin 128, ∑ n, -snkR m c n ⟨128 * h.val + l.val, by omega⟩

theorem pay8_apply (v : Vec Ideal S1x128 .f32) (l : Fin 128) : k0_pay8 v (ix2 (0 : Fin 1) l) = ∑ j, v (ix2 (0 : Fin 1) j) := by
  unfold k0_pay8
  pointwise

theorem dsk_apply (h : Fin 8) (l : Fin 128) : (outsAt0 m c 7 (by decide)).2.2.1 (ix2 h l) = dskG m c h := by
  refine (congrFun (outs10_C m c ⟨7, by decide⟩ (by decide) (by decide)) _).trans ?_
  show dskB m c _ _ h (ix2 (0 : Fin 1) l) = _
  unfold dskB dskG
  rw [pay8_apply]
  refine Finset.sum_congr rfl fun j _ => ?_
  have e := congrFun (outsS1_C m c ⟨7, by decide⟩ (by decide) (by decide))
    (ix2 (0 : Fin 1) (⟨128 * h.val + j.val, by omega⟩ : Fin 1024))
  refine (View.ld_unit_apply_of _ _ _ _ _ (ix2 (0 : Fin 1) (⟨128 * h.val + j.val, by omega⟩ : Fin 1024)) fun a => by
    match a with
    | ⟨0, _⟩ => rfl
    | ⟨1, _⟩ => rfl).trans (e.symm.trans (lastS1 m c _))

theorem pay4_apply (v : FVec Ideal S256x256 .f32) (i : Fin 128) (k : Fin 256) :
    k0_pay4 v (ix2 i k) = v (ix2 (⟨i.val, by omega⟩ : Fin 256) k) := by
  unfold k0_pay4
  pointwise
theorem top_apply (v : FVec Ideal S256x256 .f32) (i : Fin 128) (k : Fin 256) :
    Attn.topB v (ix2 i k) = v (ix2 (⟨i.val, by omega⟩ : Fin 256) k) := by
  unfold Attn.topB
  pointwise
theorem bot_apply (v : FVec Ideal S256x256 .f32) (i : Fin 128) (k : Fin 256) :
    Attn.botB v (ix2 i k) = v (ix2 (⟨128 + i.val, by omega⟩ : Fin 256) k) := by
  unfold Attn.botB
  pointwise

/-- The keys' and values' gradient of row `i` of block `n`. -/
def dkvG (n : Fin 64) (i : Fin 128) (k : Fin 256) : EReal :=
  bandG m c n (ix2 (⟨128 + i.val, by omega⟩ : Fin 256) k)
    + (if h : n.val < 63 then bandG m c ⟨n.val + 1, by omega⟩ (ix2 (⟨i.val, by omega⟩ : Fin 256) k) else 0)

theorem dkvB_apply (car : Vec Ideal S128x256 .f32) (b : Fin 8) (i : Fin 128) (k : Fin 256)
    (hcar : car (ix2 i k) = if h : (nth t 7).val < 63 then bandG m c ⟨(nth t 7).val + 1, by omega⟩ (ix2 (⟨i.val, by omega⟩ : Fin 256) k) else 0) :
    dkvB m c t car b (ix2 i k) = dkvG m c (nth t b) i k := by
  have ht := lt8 t
  unfold dkvB nextB dkvG
  refine congrArg₂ (· + ·) ((bot_apply _ i k).trans (congrFun (bandB_eq m c t b) _)) ?_
  by_cases hb : b.val < 7
  · rw [dif_pos hb]
    refine (top_apply _ i k).trans ((congrFun (bandB_eq m c t _) _).trans ?_)
    rw [dif_pos (by dsimp only; omega)]
    exact congrArg (fun n => bandG m c n _) (Fin.ext (by dsimp only; omega))
  · rw [dif_neg hb, hcar]
    have e : b = 7 := Fin.ext (by show b.val = 7; omega)
    rw [e]

theorem carry (n : ℕ) (h : n < 7) (i : Fin 128) (k : Fin 256) :
    View.ld (outsAt0 m c n (show n < 8 by omega)).2.2.2.2.1 RC (ix2 i k)
      = bandG m c ⟨8 * (7 - n), by omega⟩ (ix2 (⟨i.val, by omega⟩ : Fin 256) k) := by
  refine (congrFun (View.ld_unit_zero (S := S128x256) hz _ _) _).trans ?_
  have e : (outsAt0 m c n (show n < 8 by omega)).2.2.2.2.1 = k0_pay4 (bandB m c ⟨n, show n < 8 by omega⟩ 0) := by
    by_cases h0 : n = 0
    · exact outsS0_A m c ⟨n, show n < 8 by omega⟩ (by dsimp only; omega) (by dsimp only; omega)
    · exact outsS0_B m c ⟨n, show n < 8 by omega⟩ (by dsimp only; omega) (by dsimp only; omega)
  refine (congrFun e _).trans ((pay4_apply _ i k).trans ((congrFun (bandB_eq m c _ 0) _).trans ?_))
  exact congrArg (fun n => bandG m c n _) (Fin.ext (by dsimp only; rfl))

theorem step8 (y : S1024x512.Idx) : (outsAt0 m c t.val t.isLt).1 y
    = dqG m c (nth t ⟨(y 0).val / 128, by have : (y 0).val < 1024 := (y 0).isLt; omega⟩)
      (ix2 (⟨(y 0).val % 128, Nat.mod_lt _ (by decide)⟩ : Fin 128) (y 1)) := by
  have ht := lt8 t
  rw [← dqB_eq]
  by_cases h0 : t.val % 8 = 0
  · rw [outs8_A m c t h0 (by omega)]
  · by_cases h7 : t.val % 8 = 7
    · rw [outs8_C m c t h0 h7]
    · rw [outs8_B m c t h0 h7]

theorem step9 (y : S1024x256.Idx) : (outsAt0 m c t.val t.isLt).2.1 y
    = dkvG m c (nth t ⟨(y 0).val / 128, by have : (y 0).val < 1024 := (y 0).isLt; omega⟩)
      ⟨(y 0).val % 128, Nat.mod_lt _ (by decide)⟩ (y 1) := by
  have ht := lt8 t
  by_cases h0 : t.val % 8 = 0
  · rw [outs9_A m c t h0 (by omega)]
    refine dkvB_apply m c t _ _ _ _ ?_
    rw [zero13, dif_neg]
    show ¬(8 * (7 - t.val) + 7 < 63)
    omega
  · have hc (i : Fin 128) (k : Fin 256) : View.ld (outsAt0 m c (t.val - 1) (show t.val - 1 < 8 by omega)).2.2.2.2.1 RC (ix2 i k)
        = if h : (nth t 7).val < 63 then bandG m c ⟨(nth t 7).val + 1, by omega⟩ (ix2 (⟨i.val, by omega⟩ : Fin 256) k) else 0 := by
      rw [carry m c (t.val - 1) (by omega) i k, dif_pos (by show 8 * (7 - t.val) + 7 < 63; omega)]
      exact congrArg (fun n => bandG m c n _) (Fin.ext (by show 8 * (7 - (t.val - 1)) = 8 * (7 - t.val) + 7 + 1; omega))
    by_cases h7 : t.val % 8 = 7
    · rw [outs9_C m c t h0 h7]
      exact dkvB_apply m c t _ _ _ _ (hc _ _)
    · rw [outs9_B m c t h0 h7]
      exact dkvB_apply m c t _ _ _ _ (hc _ _)

theorem o8 : ∀ t : Fin cfg0.N, win0_8.index t = ![7 - t.val, 0] := (by decide +kernel : ∀ t : Fin grid0.N, _)
theorem o9 : ∀ t : Fin cfg0.N, win0_9.index t = ![7 - t.val, 0] := (by decide +kernel : ∀ t : Fin grid0.N, _)
theorem o10 : ∀ t : Fin cfg0.N, win0_10.index t = ![0, 0] := (by decide +kernel : ∀ t : Fin grid0.N, _)
theorem o11 : ∀ t : Fin cfg0.N, win0_11.index t = ![0, 0] := (by decide +kernel : ∀ t : Fin grid0.N, _)
theorem flush10 : ∀ t : Fin cfg0.N, (cfg0.win 10).flush t = true → t.val = 7 :=
  (by decide +kernel : ∀ t : Fin grid0.N, win0_10.flush t = true → t.val = 7)
theorem flush11 : ∀ t : Fin cfg0.N, (cfg0.win 11).flush t = true → t.val = 7 :=
  (by decide +kernel : ∀ t : Fin grid0.N, win0_11.flush t = true → t.val = 7)

/-- A row's block and its place there. -/
def nb (r : Fin 8192) : Fin 64 := ⟨r.val / 128, by omega⟩
def ib (r : Fin 8192) : Fin 128 := ⟨r.val % 128, Nat.mod_lt _ (by decide)⟩

/-- The four results of the run. -/
theorem final8 : (dats m 0 c).arrAt 8 cfg0.N = fun i : S8192x512.Idx => dqG m c (nb (i 0)) (ix2 (ib (i 0)) (i 1)) := by
  refine (dats m 0 c).arrAt_eq_of_covers 8 _ (by decide +kernel) fun t hf y => ?_
  have ht := lt8 t
  have hy : (y 0).val < 1024 := (y 0).isLt
  blk_simp
  rw [after0_8]
  refine (step8 m c t y).trans ?_
  refine congrArg₂ (dqG m c) (Fin.ext ?_) (congrArg₂ ix2 (Fin.ext ?_) (Fin.ext ?_))
  · unfold nb; blk_simp [o8 t] <;> simp <;> try omega
  · unfold ib; blk_simp [o8 t] <;> simp <;> try omega
  · blk_simp [o8 t] <;> simp <;> try omega

theorem final9 : (dats m 0 c).arrAt 9 cfg0.N = fun i : S8192x256.Idx => dkvG m c (nb (i 0)) (ib (i 0)) (i 1) := by
  refine (dats m 0 c).arrAt_eq_of_covers 9 _ (by decide +kernel) fun t hf y => ?_
  have ht := lt8 t
  have hy : (y 0).val < 1024 := (y 0).isLt
  blk_simp
  rw [after0_9]
  refine (step9 m c t y).trans ?_
  refine congr (congrArg₂ (dkvG m c) (Fin.ext ?_) (Fin.ext ?_)) (Fin.ext ?_)
  · unfold nb; blk_simp [o9 t] <;> simp <;> try omega
  · unfold ib; blk_simp [o9 t] <;> simp <;> try omega
  · blk_simp [o9 t] <;> simp <;> try omega

theorem step10 (h : t.val = 7) (y : S8x128.Idx) : (outsAt0 m c t.val t.isLt).2.2.1 y = dskG m c (y 0) := by
  obtain rfl : t = ⟨7, by decide⟩ := Fin.ext h
  rw [eq_ix2 y]
  exact dsk_apply m c (y 0) (y 1)

theorem step11 (h : t.val = 7) (y : S1x512.Idx) : (outsAt0 m c t.val t.isLt).2.2.2.1 y = ∑ n, gnG m c n (y 1) := by
  obtain rfl : t = ⟨7, by decide⟩ := Fin.ext h
  rw [eq_ix2 y, Subsingleton.elim (α := Fin 1) (y 0) 0]
  exact last11 m c (y 1)

theorem final10 : (dats m 0 c).arrAt 10 cfg0.N = fun i : S8x128.Idx => dskG m c (i 0) := by
  refine (dats m 0 c).arrAt_eq_of_covers 10 _ (by decide +kernel) fun t hf y => ?_
  blk_simp
  rw [after0_10]
  refine (step10 m c t (flush10 t hf) y).trans ?_
  exact congrArg (dskG m c) (Fin.ext (by blk_simp [o10 t] <;> simp))

theorem final11 : (dats m 0 c).arrAt 11 cfg0.N = fun i : S1x512.Idx => ∑ n, gnG m c n (i 1) := by
  refine (dats m 0 c).arrAt_eq_of_covers 11 _ (by decide +kernel) fun t hf y => ?_
  blk_simp
  rw [after0_11]
  refine (step11 m c t (flush11 t hf) y).trans ?_
  exact congrArg (fun k => ∑ n, gnG m c n k) (Fin.ext (by blk_simp [o11 t] <;> simp))

end Cert.AttnBwdIdeal.Block
end
-- ==== Proof.Attn.Mask.lean ====
/-
  The two masks: the one the host prepares for `attn_bwd`, and the reference's, built on whole numbers of 32 bits
  (extended reals).
-/
module

public import proofs.«01_k».proof.Proof.Attn.Kernel

@[expose] public section

set_option maxRecDepth 65536

noncomputable section

/-! ## Whole numbers of 32 bits -/

namespace Cert.Word

open Idealize.ShloMosaic

/-- The word of an integer. -/
abbrev W (a : ℤ) : BitVec 32 := BitVec.ofInt 32 a

theorem W_nat (n : ℕ) : BitVec.ofNat 32 n = W n := (BitVec.ofInt_natCast 32 n).symm
theorem W_add (a b : ℤ) : W a + W b = W (a + b) := (BitVec.ofInt_add a b).symm
theorem W_mul (a b : ℤ) : W a * W b = W (a * b) := (BitVec.ofInt_mul a b).symm
theorem W_sub (a b : ℤ) : W a - W b = W (a - b) := by
  rw [sub_eq_add_neg, ← W_add, BitVec.sub_eq_add_neg]
  exact congrArg (W a + ·) (BitVec.ofInt_neg).symm

theorem toInt_W {a : ℤ} (h : -1073741824 ≤ a) (h' : a < 1073741824) : (W a).toInt = a := by
  rw [BitVec.toInt_ofInt]
  exact Int.bmod_eq_of_le (by omega) (by omega)

section
variable {a b : ℤ} (ha : -1073741824 ≤ a) (ha' : a < 1073741824) (hb : -1073741824 ≤ b) (hb' : b < 1073741824)
include ha ha' hb hb'

theorem sge_W : IntOp.cmpi .sge (W a) (W b) = BitVec.ofBool (decide (b ≤ a)) := by
  show BitVec.ofBool ((W b).sle (W a)) = _
  rw [BitVec.sle_eq_decide, toInt_W ha ha', toInt_W hb hb']
theorem sle_W : IntOp.cmpi .sle (W a) (W b) = BitVec.ofBool (decide (a ≤ b)) := by
  show BitVec.ofBool ((W a).sle (W b)) = _
  rw [BitVec.sle_eq_decide, toInt_W ha ha', toInt_W hb hb']
theorem slt_W : IntOp.cmpi .slt (W a) (W b) = BitVec.ofBool (decide (a < b)) := by
  show BitVec.ofBool ((W a).slt (W b)) = _
  rw [BitVec.slt_eq_decide, toInt_W ha ha', toInt_W hb hb']
theorem sgt_W : IntOp.cmpi .sgt (W a) (W b) = BitVec.ofBool (decide (b < a)) := by
  show BitVec.ofBool ((W b).slt (W a)) = _
  rw [BitVec.slt_eq_decide, toInt_W ha ha', toInt_W hb hb']
end

theorem and_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem select_bool {E : Type} (p : Prop) [Decidable p] (x y : E) : Scalar.select (BitVec.ofBool (decide p)) x y = if p then x else y := by
  by_cases hp : p <;> simp [hp, Scalar.select]

end Cert.Word

/-! ## The kernel's mask -/

namespace Cert.AttnBwdIdeal.Block

open Cert.AttnBwdIdeal Cert.AttnBwdIdeal.Gen Cert.Word Idealize.ShloMosaic Idealize.ShloMosaic.TcCoe Idealize.SL.Sem

variable (m : (ℓ : Loc nD τ sig) → Buf (Elt Ideal) ℓ) (c : Dev nD)

def mI : IVec S1x128 32 := broadcastInDim S1x128 ![1] bcast_S128_S1x128_1 (iotaInDim S128 32 0)
def mK : IVec S256x1 32 := broadcastInDim S256x1 ![0] bcast_S256_S256x1_0 (iotaInDim S256 32 0)
def mBand : IVec S256x128 1 :=
  andi (cmpi .sgt (broadcastInDim S256x128 ![0, 1] bcast_S256x1_S256x128_0_1 mK) (broadcastInDim S256x128 ![0, 1] bcast_S1x128_S256x128_0_1 mI))
    (cmpi .sle (broadcastInDim S256x128 ![0, 1] bcast_S256x1_S256x128_0_1 mK)
      (broadcastInDim S256x128 ![0, 1] bcast_S1x128_S256x128_0_1 (addi mI (broadcastInDim S1x128 ![] bcast_S_S1x128 (constantI S_ 32 128#32)))))
def mFirst : IVec S256x128 1 :=
  andi mBand (broadcastInDim S256x128 ![0, 1] bcast_S256x1_S256x128_0_1 (cmpi .sge mK (broadcastInDim S256x1 ![] bcast_S_S256x1 (constantI S_ 32 128#32))))
def mBoth : IVec S2x256x128 1 := concatenate S2x256x128 0 [⟨S1x256x128, broadcastInDim S1x256x128 ![1, 2] bcast_S256x128_S1x256x128_1_2 mFirst⟩,
  ⟨S1x256x128, broadcastInDim S1x256x128 ![1, 2] bcast_S256x128_S1x256x128_1_2 mBand⟩] concatenates_S1x256x128_S1x256x128_S2x256x128_d0
def mB : FVec Ideal S2x256x128 .f32 := select mBoth (broadcastInDim S2x256x128 ![] bcast_S_S2x256x128 (constant S_ .f32 0x00000000#32 : FVec Ideal S_ .f32))
  (broadcastInDim S2x256x128 ![] bcast_S_S2x256x128 (constant S_ .f32 0xFF800000#32 : FVec Ideal S_ .f32))
def mT : FVec Ideal S2x256x512 .f32 := shapeCast _ (broadcastInDim S1x2x1x256x4x128 ![0, 1, 2, 3, 4, 5] bcast_S1x2x1x256x1x128_S1x2x1x256x4x128_0_1_2_3_4_5
    (shapeCast _ mB shapeCasts_S2x256x128_S1x2x1x256x1x128 : FVec Ideal S1x2x1x256x1x128 .f32) : FVec Ideal S1x2x1x256x4x128 .f32) shapeCasts_S1x2x1x256x4x128_S2x256x512

set_option maxHeartbeats 4000000 in
theorem v27 : V m c main_v27 = mT := by
  sl_kernel_rfl

theorem mI_apply (r : Fin 128) : mI (ix2 (0 : Fin 1) r) = W r.val := by unfold mI; pointwise; exact W_nat _
theorem mK_apply (j : Fin 256) : mK (ix2 j (0 : Fin 1)) = W j.val := by unfold mK; pointwise; exact W_nat _

theorem mBand_apply (j : Fin 256) (r : Fin 128) : mBand (ix2 j r) = BitVec.ofBool (decide (r.val < j.val ∧ j.val ≤ r.val + 128)) := by
  have e : mBand (ix2 j r) = IntOp.andi (IntOp.cmpi .sgt (W j.val) (W r.val)) (IntOp.cmpi .sle (W j.val) (W r.val + W 128)) := by
    unfold mBand
    pointwise
    rw [mI_apply, mK_apply]
    rfl
  rw [e, W_add, sgt_W (by omega) (by omega) (by omega) (by omega), sle_W (by omega) (by omega) (by omega) (by omega), and_bool]
  norm_cast

theorem mFirst_apply (j : Fin 256) (r : Fin 128) : mFirst (ix2 j r)
    = BitVec.ofBool (decide ((r.val < j.val ∧ j.val ≤ r.val + 128) ∧ 128 ≤ j.val)) := by
  have e : mFirst (ix2 j r) = IntOp.andi (mBand (ix2 j r)) (IntOp.cmpi .sge (W j.val) (W 128)) := by
    unfold mFirst
    pointwise
    rw [mK_apply]
    rfl
  rw [e, mBand_apply, sge_W (by omega) (by omega) (by omega) (by omega), and_bool]
  norm_cast

theorem mB_apply (f : Fin 2) (j : Fin 256) (r : Fin 128) : mB (ix3 f j r)
    = if (r.val < j.val ∧ j.val ≤ r.val + 128) ∧ (f.val = 0 → 128 ≤ j.val) then 0 else ⊥ := by
  have e : mB (ix3 f j r) = Scalar.select (if f.val < 1 then mFirst (ix2 j r) else mBand (ix2 j r)) (0 : EReal) ⊥ := by
    unfold mB mBoth
    pointwise
    rw [Attn.ninf]
    rfl
  rw [e, mBand_apply, mFirst_apply]
  by_cases hf : f.val = 0
  · rw [if_pos (by omega), select_bool]; simp [hf]
  · rw [if_neg (by omega), select_bool]; simp [hf]

/-- The kernel's mask at flag `f`, key `j`, column `r`. -/
theorem BI_eq (f : Fin 2) (j : Fin 256) (r : Fin 512) : BI m c f j r
    = if (r.val % 128 < j.val ∧ j.val ≤ r.val % 128 + 128) ∧ (f.val = 0 → 128 ≤ j.val) then 0 else ⊥ := by
  unfold BI
  rw [v27]
  have e : mT (ix3 f j r) = mB (ix3 f j (⟨r.val % 128, by omega⟩ : Fin 128)) := by
    unfold mT
    pointwise
  rw [e, mB_apply]

end Cert.AttnBwdIdeal.Block

/-! ## The reference's mask -/

namespace Cert.AttnBwdRefIdeal.Attn

open Cert.AttnBwdRefIdeal Cert.AttnBwdRefIdeal.Read Cert.Word Idealize.ShloMosaic

/-- Whether block `n`'s query `i` sees the band's key `j`. -/
def Al (n : Fin 64) (i : Fin 128) (j : Fin 256) : Prop := (i.val < j.val ∧ j.val ≤ i.val + 128) ∧ (n.val = 0 → 128 ≤ j.val)

instance (n : Fin 64) (i : Fin 128) (j : Fin 256) : Decidable (Al n i j) := by unfold Al; infer_instance

theorem qpos (n : Fin 64) (i : Fin 128) : val_main_v33 (F := Ideal) (ix2 n i) = W (n.val * 128 + i.val) := by
  rw [val_main_v33_apply, val_main_v31_apply, val_main_v28_apply, val_main_v26_apply, val_main_v25_apply, val_main_v27_apply,
    val_main_v32_apply, val_main_v30_apply, val_main_v29_apply]
  show BitVec.ofNat 32 n.val * W 128 + BitVec.ofNat 32 i.val = _
  rw [W_nat, W_nat, W_mul, W_add]

theorem kpos (n : Fin 64) (j : Fin 256) : val_main_v42 (F := Ideal) (ix2 n j) = W ((n.val - 1) * 128 + j.val) := by
  rw [val_main_v42_apply, val_main_v40_apply, val_main_v37_apply, val_main_v35_apply, val_main_v26_apply, val_main_v25_apply, val_main_v34_apply,
    val_main_v36_apply, val_main_v41_apply, val_main_v39_apply, val_main_v38_apply]
  show (BitVec.ofNat 32 n.val - W 1) * W 128 + BitVec.ofNat 32 j.val = _
  rw [W_nat, W_nat, W_sub, W_mul, W_add]

theorem diff (n : Fin 64) (i : Fin 128) (j : Fin 256) : val_main_v47 (F := Ideal) (ix3 n i j) = W (128 + i.val - j.val) := by
  rw [val_main_v47_apply, val_main_v45_apply, val_main_v43_apply, val_main_v46_apply, val_main_v44_apply,
    show idx_main_v43 (idx_main_v45 (ix3 n i j)) = ix2 n i from eq_ix2 _, show idx_main_v44 (idx_main_v46 (ix3 n i j)) = ix2 n j from eq_ix2 _,
    qpos, kpos]
  show W _ - W _ = _
  rw [W_sub]
  exact congrArg W (by ring)

theorem mask_apply (n : Fin 64) (i : Fin 128) (j : Fin 256) : val_main_v57 (F := Ideal) (ix3 n i j) = BitVec.ofBool (decide (Al n i j)) := by
  rw [val_main_v57_apply, val_main_v52_apply, val_main_v49_apply, val_main_v51_apply, val_main_v48_apply, val_main_v50_apply, diff,
    val_main_v56_apply, val_main_v55_apply, val_main_v53_apply, val_main_v54_apply,
    show idx_main_v53 (idx_main_v56 (ix3 n i j)) = ix2 n j from eq_ix2 _, kpos]
  show IntOp.andi (IntOp.andi (IntOp.cmpi .sge (W _) (W 0)) (IntOp.cmpi .slt (W _) (W 128))) (IntOp.cmpi .sge (W _) (W 0)) = _
  rw [sge_W (by omega) (by omega) (by omega) (by omega), slt_W (by omega) (by omega) (by omega) (by omega),
    sge_W (by omega) (by omega) (by omega) (by omega), and_bool, and_bool]
  refine congrArg BitVec.ofBool (decide_eq_decide.mpr ?_)
  unfold Al
  omega

/-- The mask over the heads. -/
theorem mask6 (n : Fin 64) (e : Fin 2) (u : Fin 4) (i : Fin 128) (j : Fin 256) :
    val_main_v59_1 (F := Ideal) (ix6 (0 : Fin 1) n e u i j) = BitVec.ofBool (decide (Al n i j)) := by
  rw [val_main_v59_1_apply, val_main_v58_apply, ← mask_apply]
  exact congrArg _ (eq_ix3 _)

end Cert.AttnBwdRefIdeal.Attn
end
-- ==== Proof.Attn.RefScore.lean ====
/-
  The reference's attention, a column of scores at a time: the block `n`, the group `e` of four heads, the head `u` of
  the group, the query `i` (extended reals).
-/
module

public import proofs.«01_k».proof.Proof.Attn.Mask
public import proofs.«01_k».proof.Proof.Attn.Softmax

@[expose] public section

set_option maxRecDepth 16384

noncomputable section

namespace Cert.AttnBwdRefIdeal.Attn

open Cert.AttnBwdRefIdeal Cert.AttnBwdRefIdeal.Gen Cert.AttnBwdRefIdeal.Read Idealize.ShloMosaic

variable (x0 : FVec Ideal S8192x1792 .f32) (x1 : FVec Ideal S8 .f32) (x2 : FVec Ideal S512 .f32) (x3 : FVec Ideal S8192x1024 .f32)

/-- Row `i` of block `n`; a query's column, a key's, a value's, among the projections. -/
abbrev row (n : Fin 64) (i : Fin 128) : Fin 8192 := ⟨128 * n.val + i.val, by omega⟩
abbrev hcol (e : Fin 2) (u : Fin 4) (d : Fin 64) : Fin 512 := ⟨256 * e.val + 64 * u.val + d.val, by omega⟩
abbrev zq (e : Fin 2) (u : Fin 4) (d : Fin 64) : Fin 1792 := ⟨256 * e.val + 64 * u.val + d.val, by omega⟩
abbrev zk (e : Fin 2) (d : Fin 64) : Fin 1792 := ⟨512 + 64 * e.val + d.val, by omega⟩
abbrev zv (e : Fin 2) (d : Fin 64) : Fin 1792 := ⟨640 + 64 * e.val + d.val, by omega⟩
abbrev hd (e : Fin 2) (u : Fin 4) : Fin 8 := ⟨4 * e.val + u.val, by omega⟩

/-- Column `k` of the band of block `n`: the block before (zeros before the first) and the block. -/
def BN (n : Fin 64) (k : Fin 1792) (j : Fin 256) : EReal :=
  if h : j.val < 128 then (if n.val = 0 then 0 else x0 (ix2 (row ⟨n.val - 1, by omega⟩ ⟨j.val, h⟩) k))
  else x0 (ix2 (row n ⟨j.val - 128, by omega⟩) k)

theorem from_zero (x : EReal) : Ideal.ofBits .f32 0x00000000#32 + x = x := by rw [Ideal.ofBits_zero_f32, zero_add]

theorem q_at (n : Fin 64) (i : Fin 128) (e : Fin 2) (u : Fin 4) (d : Fin 64) :
    val_main_v6 (F := Ideal) x0 (ix6 (0 : Fin 1) n i e u d) = x0 (ix2 (row n i) (zq e u d)) := by
  unfold val_main_v6 val_main_v3 val_main_v0
  pointwise
  exact congrArg x0 (congrArg₂ ix2 (Fin.ext (by show n.val * 128 + i.val = 128 * n.val + i.val; omega))
    (Fin.ext (by show e.val * 256 + u.val * 64 + d.val = 256 * e.val + 64 * u.val + d.val; omega)))

theorem k_at (n : Fin 64) (i : Fin 128) (e : Fin 2) (d : Fin 64) :
    val_main_v7 (F := Ideal) x0 (ix5 (0 : Fin 1) n i e d) = x0 (ix2 (row n i) (zk e d)) := by
  rw [val_main_v7_apply, val_main_v4_apply, val_main_v1_apply]
  refine congrArg x0 ((eq_ix2 _).trans (congrArg₂ ix2 (Fin.ext ?_) (Fin.ext ?_)))
  · show _ = 128 * n.val + i.val
    simp
    omega
  · show _ = 512 + 64 * e.val + d.val
    simp
    omega

theorem v_at (n : Fin 64) (i : Fin 128) (e : Fin 2) (d : Fin 64) :
    val_main_v8 (F := Ideal) x0 (ix5 (0 : Fin 1) n i e d) = x0 (ix2 (row n i) (zv e d)) := by
  rw [val_main_v8_apply, val_main_v5_apply, val_main_v2_apply]
  refine congrArg x0 ((eq_ix2 _).trans (congrArg₂ ix2 (Fin.ext ?_) (Fin.ext ?_)))
  · show _ = 128 * n.val + i.val
    simp
    omega
  · show _ = 640 + 64 * e.val + d.val
    simp
    omega

/-- A band: a block's rows after those of the block before it. -/
theorem band_at (y : FVec Ideal S1x64x128x2x64 .f32) (n : Fin 64) (j : Fin 256) (e : Fin 2) (d : Fin 64) :
    (concatenate S1x64x256x2x64 2 [⟨S1x64x128x2x64, concatenate S1x64x128x2x64 1 [⟨S1x1x128x2x64, broadcastInDim S1x1x128x2x64 ![] bcast_S_S1x1x128x2x64
        (constant S_ .f32 0x00000000#32 : FVec Ideal S_ .f32)⟩, ⟨S1x63x128x2x64, extractStridedSlice S1x63x128x2x64 ![0, 0, 0, 0, 0] y slices_S1x64x128x2x64_S1x63x128x2x64_0_0_0_0_0⟩]
        concatenates_S1x1x128x2x64_S1x63x128x2x64_S1x64x128x2x64_d1⟩, ⟨S1x64x128x2x64, y⟩]
        concatenates_S1x64x128x2x64_S1x64x128x2x64_S1x64x256x2x64_d2 : FVec Ideal S1x64x256x2x64 .f32) (ix5 (0 : Fin 1) n j e d)
      = if h : j.val < 128 then (if n.val = 0 then 0 else y (ix5 (0 : Fin 1) (⟨n.val - 1, by omega⟩ : Fin 64) (⟨j.val, h⟩ : Fin 128) e d))
        else y (ix5 (0 : Fin 1) n (⟨j.val - 128, by omega⟩ : Fin 128) e d) := by
  pointwise
  by_cases hn : n.val = 0 <;> by_cases hj : j.val < 128 <;> simp [hn, hj]

theorem kband (n : Fin 64) (j : Fin 256) (e : Fin 2) (d : Fin 64) :
    val_main_v14 (F := Ideal) x0 (ix5 (0 : Fin 1) n j e d) = BN x0 n (zk e d) j := by
  unfold val_main_v14 val_main_v12 val_main_v11 val_main_v10 val_main_cst BN
  rw [band_at]
  simp only [k_at]

theorem vband (n : Fin 64) (j : Fin 256) (e : Fin 2) (d : Fin 64) :
    val_main_v20 (F := Ideal) x0 (ix5 (0 : Fin 1) n j e d) = BN x0 n (zv e d) j := by
  unfold val_main_v20 val_main_v18 val_main_v17 val_main_v16 val_main_cst_1 BN
  rw [band_at]
  simp only [v_at]

/-- The word of 1/8. -/
abbrev w8 : EReal := Ideal.ofBits .f32 0x3E000000#32

/-- A column's scores, and its head's sink. -/
def f (n : Fin 64) (e : Fin 2) (u : Fin 4) (i : Fin 128) (j : Fin 256) : EReal :=
  if Al n i j then (∑ d, BN x0 n (zk e d) j * x0 (ix2 (row n i) (zq e u d))) * w8 else ⊥
def sk (e : Fin 2) (u : Fin 4) : EReal := x1 (ix1 (hd e u))

theorem score (n : Fin 64) (e : Fin 2) (u : Fin 4) (i : Fin 128) (j : Fin 256) :
    val_main_v59_0 (F := Ideal) x0 (ix6 (0 : Fin 1) n e u i j) = f x0 n e u i j := by
  rw [val_main_v59_0_apply, mask6, val_main_v24_apply, val_main_v22_apply, val_main_v21_apply, Cert.Word.select_bool]
  unfold f
  refine if_congr Iff.rfl (congrArg₂ (· * ·) (Finset.sum_congr rfl fun d _ => congrArg₂ (· * ·) ?_ ?_) rfl) Cert.AttnBwdIdeal.Attn.ninf
  · rw [← kband x0]; exact congrArg _ (eq_ix5 _)
  · rw [← q_at x0]; exact congrArg _ (eq_ix6 _)

theorem sink_at (i : S1x1x2x4x1x1.Idx) : val_main_v61 (F := Ideal) x1 i = sk x1 (i 2) (i 3) := by
  rw [val_main_v61_apply, val_main_v60_apply]
  refine congrArg x1 ((eq_ix1 _).trans (congrArg ix1 (Fin.ext ?_)))
  show _ = 4 * (i 2).val + (i 3).val
  simp
  omega

/-- A column's entries are those that drop to it. -/
theorem last_fiber (n : Fin 64) (e : Fin 2) (u : Fin 4) (i : Fin 128) (z : S1x64x2x4x128x256.Idx) :
    reducesTo_S1x64x2x4x128x256_S1x64x2x4x128_d5.drop z = ix5 (0 : Fin 1) n e u i ↔ ∃ j : Fin 256, ix6 (0 : Fin 1) n e u i j = z := by
  constructor
  · intro h
    refine ⟨z 5, ?_⟩
    funext a
    match a with
    | ⟨0, _⟩ => exact (congrFun h 0).symm
    | ⟨1, _⟩ => exact (congrFun h 1).symm
    | ⟨2, _⟩ => exact (congrFun h 2).symm
    | ⟨3, _⟩ => exact (congrFun h 3).symm
    | ⟨4, _⟩ => exact (congrFun h 4).symm
    | ⟨5, _⟩ => rfl
  · rintro ⟨j, rfl⟩
    funext a
    match a with
    | ⟨0, _⟩ => rfl
    | ⟨1, _⟩ => rfl
    | ⟨2, _⟩ => rfl
    | ⟨3, _⟩ => rfl
    | ⟨4, _⟩ => rfl

theorem top_at (n : Fin 64) (e : Fin 2) (u : Fin 4) (i : Fin 128) :
    val_main_v62 (F := Ideal) x0 (ix5 (0 : Fin 1) n e u i) = Softmax.top (f x0 n e u i) := by
  have e' : val_main_v62 (F := Ideal) x0 (ix5 (0 : Fin 1) n e u i)
      = Finset.fold max ⊥ (fun j => val_main_v59_0 (F := Ideal) x0 (ix6 (0 : Fin 1) n e u i j)) Finset.univ := by
    unfold val_main_v62 val_main_cst_10
    generalize val_main_v59_0 (F := Ideal) x0 = y
    pointwise
    rw [Cert.AttnBwdIdeal.Attn.ninf]
    exact Finset.fold_filter_eq_fold_of_fiber max _ (fun j : Fin 256 => ix6 (0 : Fin 1) n e u i j) (fun _ _ h => congrFun h 5)
      (last_fiber n e u i) ⊥ y
  rw [e']
  simp only [score]
  rfl

end Cert.AttnBwdRefIdeal.Attn
end
-- ==== Proof.Attn.RefCol.lean ====
/-
  The reference's softmax at a column of scores, and the attention's output (extended reals); at numbers, both are
  numbers.
-/
module

public import proofs.«01_k».proof.Proof.Attn.RefScore
public import Idealize.ShloMosaic.Lib.IdealHost

@[expose] public section

set_option maxRecDepth 16384

noncomputable section

/-! ## Values that are numbers -/

namespace Cert.Real

/-- The value is a number: not an infinity. -/
def R (x : EReal) : Prop := ∃ a : ℝ, x = a

theorem zero : R 0 := ⟨0, rfl⟩
theorem coe (a : ℝ) : R (a : EReal) := ⟨a, rfl⟩
theorem add {x y : EReal} : R x → R y → R (x + y)
  | ⟨a, ha⟩, ⟨b, hb⟩ => ⟨a + b, by rw [ha, hb, EReal.coe_add]⟩
theorem mul {x y : EReal} : R x → R y → R (x * y)
  | ⟨a, ha⟩, ⟨b, hb⟩ => ⟨a * b, by rw [ha, hb, EReal.coe_mul]⟩
theorem neg {x : EReal} : R x → R (-x)
  | ⟨a, ha⟩ => ⟨-a, by rw [ha, EReal.coe_neg]⟩
theorem sub {x y : EReal} (hx : R x) (hy : R y) : R (x - y) := add hx (neg hy)
theorem sum {ι : Type} (s : Finset ι) (x : ι → EReal) (h : ∀ k, R (x k)) : R (∑ k ∈ s, x k) := by
  choose a ha using h
  exact ⟨∑ k ∈ s, a k, by rw [← Softmax.coe_sum]; exact Finset.sum_congr rfl fun k _ => ha k⟩

/-- A numerical factor moves into a sum of numbers. -/
theorem sum_mul {ι : Type} (s : Finset ι) (x : ι → EReal) (w : EReal) (h : ∀ k, R (x k)) (hw : R w) :
    (∑ k ∈ s, x k) * w = ∑ k ∈ s, x k * w := by
  choose a ha using h
  obtain ⟨b, rfl⟩ := hw
  simp only [ha, ← EReal.coe_mul, Softmax.coe_sum]
  rw [Finset.sum_mul]

end Cert.Real

namespace Cert.AttnBwdRefIdeal.Attn

open Cert.AttnBwdRefIdeal Cert.AttnBwdRefIdeal.Gen Cert.AttnBwdRefIdeal.Read Cert.Real Idealize.ShloMosaic

variable (x0 : FVec Ideal S8192x1792 .f32) (x1 : FVec Ideal S8 .f32) (x2 : FVec Ideal S512 .f32) (x3 : FVec Ideal S8192x1024 .f32)
variable (n : Fin 64) (e : Fin 2) (u : Fin 4) (i : Fin 128) (j : Fin 256) (d : Fin 64)

/-! ## The softmax -/

theorem max_at : val_main_v70 (F := Ideal) x0 x1 (ix6 (0 : Fin 1) n e u i (0 : Fin 1)) = Softmax.mx (f x0 n e u i) (sk x1 e u) := by
  rw [val_main_v70_apply, val_main_v68_apply, val_main_v69_apply, sink_at,
    show idx_main_v68 (ix6 (0 : Fin 1) n e u i (0 : Fin 1)) = ix5 (0 : Fin 1) n e u i from eq_ix5 _, top_at]
  rfl

theorem exp_at : val_main_v91 (F := Ideal) x0 x1 (ix6 (0 : Fin 1) n e u i j) = Softmax.ex (f x0 n e u i) (sk x1 e u) j := by
  rw [val_main_v91_apply, val_main_v90_apply, score, val_main_v89_apply,
    show idx_main_v89 (ix6 (0 : Fin 1) n e u i j) = ix6 (0 : Fin 1) n e u i (0 : Fin 1) from eq_ix6 _, max_at]
  rfl

theorem expSink_at : val_main_v96 (F := Ideal) x0 x1 (ix6 (0 : Fin 1) n e u i (0 : Fin 1)) = Softmax.exS (f x0 n e u i) (sk x1 e u) := by
  rw [val_main_v96_apply, val_main_v95_apply, max_at, val_main_v94_apply, sink_at]
  rfl

theorem den_at : val_main_v97 (F := Ideal) x0 x1 (ix6 (0 : Fin 1) n e u i (0 : Fin 1)) = Softmax.den (f x0 n e u i) (sk x1 e u) := by
  rw [val_main_v97_apply, expSink_at, val_main_v93_apply, val_main_v92_apply]
  refine congrArg₂ (· + ·) ((from_zero _).trans (Finset.sum_congr rfl fun k _ => ?_)) rfl
  rw [← exp_at]
  exact congrArg _ (eq_ix6 _)

theorem quot_at : val_main_v99 (F := Ideal) x0 x1 (ix6 (0 : Fin 1) n e u i j)
    = Ideal.div (Softmax.ex (f x0 n e u i) (sk x1 e u) j) (Softmax.den (f x0 n e u i) (sk x1 e u)) := by
  rw [val_main_v99_apply, exp_at, val_main_v98_apply,
    show idx_main_v98 (ix6 (0 : Fin 1) n e u i j) = ix6 (0 : Fin 1) n e u i (0 : Fin 1) from eq_ix6 _, den_at]
  rfl

theorem inv2_at : val_main_v102 (F := Ideal) x0 x1 (ix6 (0 : Fin 1) n e u i (0 : Fin 1))
    = Ideal.div 1 (Softmax.den (f x0 n e u i) (sk x1 e u) * Softmax.den (f x0 n e u i) (sk x1 e u)) := by
  rw [val_main_v102_apply, val_main_v100_apply, den_at, val_main_v101_apply]
  show Ideal.div (Ideal.ofBits .f32 0x3F800000#32) _ = _
  rw [Ideal.ofBits_one_f32]
  rfl

/-! ## Numbers in, numbers out -/

theorem w8_eq : w8 = ((1 / 8 : ℝ) : EReal) := by
  simp [w8, Ideal.ofBits, Ideal.ieee, -EReal.coe_mul]
  norm_num

/-- The projections that the attention reads are numbers. -/
def Num0 : Prop := ∀ (r : Fin 8192) (k : Fin 1792), k.val < 768 → R (x0 (ix2 r k))
def Num1 : Prop := ∀ h : Fin 8, R (x1 (ix1 h))

variable {x0 x1} (h0 : Num0 x0) (h1 : Num1 x1)

include h0 in
theorem BN_num (k : Fin 1792) (hk : k.val < 768) : R (BN x0 n k j) := by
  unfold BN
  split
  · split
    · exact zero
    · exact h0 _ _ hk
  · exact h0 _ _ hk

include h0 in
theorem f_num : ∃ s : Fin 256 → ℝ, ∀ j, f x0 n e u i j = if Al n i j then ((s j : ℝ) : EReal) else ⊥ := by
  have h : ∀ j, R ((∑ d, BN x0 n (zk e d) j * x0 (ix2 (row n i) (zq e u d))) * w8) := fun j =>
    mul (sum _ _ fun d => mul (BN_num n j h0 _ (by show 512 + 64 * e.val + d.val < 768; omega)) (h0 _ _ (by show 256 * e.val + 64 * u.val + d.val < 768; omega)))
      (w8_eq ▸ coe _)
  choose s hs using h
  refine ⟨s, fun j => ?_⟩
  unfold f
  rw [hs]

/-- What a column's steps come to, at any numerical cotangents of the visible probabilities. -/
theorem column (h0 : Num0 x0) (h1 : Num1 x1) (G : Fin 256 → EReal) (hG : ∀ j, Al n i j → R (G j)) :
    (∀ j, Softmax.pr (f x0 n e u i) (sk x1 e u) j = Ideal.div (Softmax.ex (f x0 n e u i) (sk x1 e u) j) (Softmax.den (f x0 n e u i) (sk x1 e u)))
    ∧ (∀ j, ¬Al n i j → Softmax.ex (f x0 n e u i) (sk x1 e u) j = 0) ∧ (∀ j, ¬Al n i j → Softmax.pr (f x0 n e u i) (sk x1 e u) j = 0)
    ∧ (∀ j, Al n i j → Softmax.dex (f x0 n e u i) (sk x1 e u) G j = Softmax.dS (f x0 n e u i) (sk x1 e u) G j)
    ∧ (∀ j, ¬Al n i j → Softmax.dS (f x0 n e u i) (sk x1 e u) G j = 0)
    ∧ Softmax.dden (f x0 n e u i) (sk x1 e u) G * Softmax.exS (f x0 n e u i) (sk x1 e u)
      = -(Softmax.prS (f x0 n e u i) (sk x1 e u) * Softmax.dr (f x0 n e u i) (sk x1 e u) G)
    ∧ -(Softmax.dden (f x0 n e u i) (sk x1 e u) G * Softmax.exS (f x0 n e u i) (sk x1 e u)) + -∑ j, Softmax.dex (f x0 n e u i) (sk x1 e u) G j = 0
    ∧ (∀ j, R (Softmax.pr (f x0 n e u i) (sk x1 e u) j)) ∧ (∀ j, R (Softmax.dS (f x0 n e u i) (sk x1 e u) G j))
    ∧ R (Softmax.prS (f x0 n e u i) (sk x1 e u) * Softmax.dr (f x0 n e u i) (sk x1 e u) G) := by
  obtain ⟨s, hs⟩ := f_num n e u i h0
  obtain ⟨σ, hσ⟩ := h1 (hd e u)
  have h : ∀ j, ∃ g : ℝ, Al n i j → G j = g := fun j => by
    by_cases hj : Al n i j
    · obtain ⟨g, hg⟩ := hG j hj
      exact ⟨g, fun _ => hg⟩
    · exact ⟨0, fun h => absurd h hj⟩
  choose g hg using h
  obtain ⟨a1, a2, a3, a4, a5, a6, a7, ⟨p, a8⟩, ⟨q, a9⟩, ⟨w, a10⟩⟩ := Softmax.steps G (Al n i) s σ hs hσ g hg
  exact ⟨a1, a2, a3, a4, a5, a6, a7, fun j => ⟨p j, a8 j⟩, fun j => ⟨q j, a9 j⟩, ⟨w, a10⟩⟩

include h0 h1 in
theorem prob_at : val_main_v99 (F := Ideal) x0 x1 (ix6 (0 : Fin 1) n e u i j) = Softmax.pr (f x0 n e u i) (sk x1 e u) j :=
  (quot_at x0 x1 n e u i j).trans ((column n e u i h0 h1 (fun _ => 0) fun _ _ => zero).1 j).symm

include h0 h1 in
theorem pr_num : R (Softmax.pr (f x0 n e u i) (sk x1 e u) j) := (column n e u i h0 h1 (fun _ => 0) fun _ _ => zero).2.2.2.2.2.2.2.1 j

/-! ## The output -/

theorem same6 {n1 n2 n3 n4 n5 : ℕ} {a a' : Fin n1} {b b' : Fin n2} {c c' : Fin n3} {g g' : Fin n4} {h h' : Fin n5}
    (e1 : a.val = a'.val) (e2 : b.val = b'.val) (e3 : c.val = c'.val) (e4 : g.val = g'.val) (e5 : h.val = h'.val) :
    ix6 (0 : Fin 1) a b c g h = ix6 (0 : Fin 1) a' b' c' g' h' := by
  rw [Fin.ext e1, Fin.ext e2, Fin.ext e3, Fin.ext e4, Fin.ext e5]

variable (x0 x1) in
/-- The attention's output, by its row and its column. -/
def o (r : Fin 8192) (k : Fin 512) : EReal := val_main_v106 (F := Ideal) x0 x1 (ix2 r k)

theorem out_at : o x0 x1 (row n i) (hcol e u d)
    = ∑ j, BN x0 n (zv e d) j * val_main_v99 (F := Ideal) x0 x1 (ix6 (0 : Fin 1) n e u i j) := by
  have e1 : o x0 x1 (row n i) (hcol e u d) = val_main_v104 (F := Ideal) x0 x1 (ix6 (0 : Fin 1) n i e u d) := by
    unfold o val_main_v106 val_main_v105
    generalize val_main_v104 (F := Ideal) x0 x1 = y
    pointwise
    exact congrArg y (same6 (by dsimp only; omega) (by dsimp only; omega) (by dsimp only; omega) (by dsimp only; omega) (by dsimp only; omega))
  rw [e1, val_main_v104_apply, val_main_v103_apply]
  refine Finset.sum_congr rfl fun k _ => congrArg₂ (· * ·) ?_ (congrArg _ (eq_ix6 _))
  rw [← vband x0]
  exact congrArg _ (eq_ix5 _)

/-- Every row is a row of a block, and every column a column of a head. -/
theorem row_split (r : Fin 8192) : r = row ⟨r.val / 128, by omega⟩ ⟨r.val % 128, by omega⟩ :=
  Fin.ext (by show r.val = 128 * (r.val / 128) + r.val % 128; omega)
theorem hcol_split (k : Fin 512) : k = hcol ⟨k.val / 256, by omega⟩ ⟨k.val / 64 % 4, by omega⟩ ⟨k.val % 64, by omega⟩ :=
  Fin.ext (by show k.val = 256 * (k.val / 256) + 64 * (k.val / 64 % 4) + k.val % 64; omega)

include h0 h1 in
theorem o_num (r : Fin 8192) (k : Fin 512) : R (o x0 x1 r k) := by
  rw [row_split r, hcol_split k, out_at]
  refine sum _ _ fun j => mul (BN_num _ j h0 _ (by show 640 + 64 * (k.val / 256) + k.val % 64 < 768; omega)) ?_
  rw [prob_at _ _ _ _ _ h0 h1]
  exact pr_num _ _ _ _ _ h0 h1

end Cert.AttnBwdRefIdeal.Attn
end
-- ==== Proof.Attn.RefNorm.lean ====
/-
  The reference's gradient through the norm after the attention: the gain's, and the attention's output's (extended
  reals).
-/
module

public import proofs.«01_k».proof.Proof.Attn.RefCol
public import proofs.«01_k».proof.Proof.Norm.Rms

@[expose] public section

set_option maxRecDepth 16384

noncomputable section

/-! ## The norm's gradient at numbers -/

namespace Cert.Real

open Cert.Norm Idealize.ShloMosaic

theorem rsqrt {x : EReal} (hx : R x) (h : 0 < x) : R (Ideal.rsqrt x) := by
  obtain ⟨a, rfl⟩ := hx
  have ha : 0 < a := EReal.coe_pos.mp h
  exact ⟨(Real.sqrt a)⁻¹, by show (if a < 0 then ⊥ else if a = 0 then ⊤ else (((Real.sqrt a)⁻¹ : ℝ) : EReal)) = _; rw [if_neg ha.not_gt, if_neg ha.ne']⟩

theorem w512_eq : w512 = ((512 : ℝ) : EReal) := by
  simp [w512, Ideal.ofBits, Ideal.ieee, -EReal.coe_mul]
  norm_num

theorem div512 {x : EReal} (hx : R x) : R (Ideal.div x w512) := by
  rw [w512_eq, Ideal.div_coe (by norm_num)]
  exact mul hx (coe _)

theorem eps_num : R eps := ⟨(8796093 * (2 : ℝ) ^ (-43 : ℤ) : ℝ), by simp [eps, Ideal.ofBits, Ideal.ieee, -EReal.coe_mul]⟩

section
variable {n : ℕ} {x t : Fin n → EReal} (hx : ∀ k, R (x k)) (ht : ∀ k, R (t k)) (j : Fin n)

include hx in
theorem rr_num : R (rr w512 x) :=
  rsqrt (add (div512 (sum _ _ fun k => mul (hx k) (hx k))) eps_num) (ms_pos w512 x w512_pos)

include hx ht in
theorem rmsD_num : R (rmsD w512 x t j) :=
  sub (mul (rr_num hx) (ht j)) (mul (mul (hx j) (mul (mul (rr_num hx) (rr_num hx)) (rr_num hx))) (div512 (sum _ _ fun k => mul (ht k) (hx k))))
end

end Cert.Real

namespace Cert.AttnBwdRefIdeal.Attn

open Cert.AttnBwdRefIdeal Cert.AttnBwdRefIdeal.Gen Cert.AttnBwdRefIdeal.Read Cert.Real Cert.Norm Idealize.ShloMosaic

variable (x0 : FVec Ideal S8192x1792 .f32) (x1 : FVec Ideal S8 .f32) (x2 : FVec Ideal S512 .f32) (x3 : FVec Ideal S8192x1024 .f32)
variable (r : Fin 8192) (k : Fin 512)

/-- The outputs' cotangent, of the attention's half; times the gain. -/
def dy : EReal := x3 (ix2 r (⟨k.val, by omega⟩ : Fin 1024))
def tg : EReal := dy x3 r k * x2 (ix1 k)

theorem at2 {n0 n1 : ℕ} (i : (⟨2, ![n0, n1]⟩ : Shape).Idx) (r : Fin n0) (k : Fin n1) (h0 : (i 0).val = r.val)
    (h1 : (i 1).val = k.val) : i = ix2 r k := funext fun a => Fin.ext (by
  match a with
  | ⟨0, _⟩ => exact h0
  | ⟨1, _⟩ => exact h1)

theorem dy_at : val_main_v123 (F := Ideal) x3 (ix2 r k) = dy x3 r k := by
  rw [val_main_v123_apply]
  exact congrArg x3 (at2 _ _ _ (by simp) (by simp))

theorem tg_at : val_main_v128 (F := Ideal) x2 x3 (ix2 r k) = tg x2 x3 r k := by
  rw [val_main_v128_apply, dy_at, val_main_v127_apply, val_main_v120_apply]
  exact congrArg (_ * ·) (congrArg x2 (eq_ix1 _))

theorem mean_at : val_main_v113 (F := Ideal) x0 x1 (ix2 r (0 : Fin 1)) = ms w512 (o x0 x1 r) := by
  rw [val_main_v113_apply, val_main_v111_apply, val_main_v109_apply, val_main_v108_apply]
  refine congrArg₂ (· + ·) (congrArg₂ Ideal.div ((from_zero _).trans (Finset.sum_congr rfl fun k _ => ?_)) rfl) rfl
  rw [val_main_v107_apply, show idx_main_v108 (idx_main_v109 (ix2 r (0 : Fin 1))) k = ix2 r k from eq_ix2 _]
  rfl

theorem scale_at : val_main_v114 (F := Ideal) x0 x1 (ix2 r (0 : Fin 1)) = rr w512 (o x0 x1 r) := by
  rw [val_main_v114_apply, mean_at]
  rfl

theorem normed_at : val_main_v119 (F := Ideal) x0 x1 (ix2 r k) = o x0 x1 r k * rr w512 (o x0 x1 r) := by
  rw [val_main_v119_apply, val_main_v118_apply, show idx_main_v118 (ix2 r k) = ix2 r (0 : Fin 1) from eq_ix2 _, scale_at]
  rfl

/-- The gain's gradient. -/
theorem dGain_at : val_main_v215 (F := Ideal) x0 x1 x3 (ix2 (0 : Fin 1) k)
    = ∑ r, dy x3 r k * o x0 x1 r k * rr w512 (o x0 x1 r) := by
  rw [val_main_v215_apply, val_main_v129_apply]
  refine (from_zero _).trans ((Fin.sum_univ_one _).trans ?_)
  rw [val_main_v126_apply, val_main_v125_apply]
  refine (from_zero _).trans (Finset.sum_congr rfl fun r _ => ?_)
  rw [show idx_main_v125 (idx_main_v126 (idx_main_v129 (idx_main_v215 (ix2 (0 : Fin 1) k)) 0)) r = ix2 r k from at2 _ _ _ rfl (by simp),
    val_main_v124_apply, normed_at, dy_at]
  show o x0 x1 r k * rr w512 (o x0 x1 r) * dy x3 r k = _
  rw [mul_comm (dy x3 r k), mul_assoc, mul_assoc, mul_comm (dy x3 r k)]

theorem dSquares_at : val_main_v139 (F := Ideal) x0 x1 x2 x3 (ix2 r k) = sqD w512 (o x0 x1 r) (tg x2 x3 r) := by
  rw [val_main_v139_apply, val_main_v138_apply]
  refine (from_zero _).trans ((Fin.sum_univ_one _).trans ?_)
  rw [show idx_main_v138 (idx_main_v139 (ix2 r k)) 0 = ix2 r (0 : Fin 1) from eq_ix2 _, val_main_v137_apply, val_main_v135_apply,
    val_main_v132_apply, val_main_v131_apply, val_main_v117_apply, val_main_v115_apply, mean_at, scale_at]
  unfold sqD
  refine congrArg₂ Ideal.div (congrArg₂ (· * ·) ((from_zero _).trans (Finset.sum_congr rfl fun k _ => ?_)) rfl) rfl
  rw [show idx_main_v131 (idx_main_v132 (ix2 r (0 : Fin 1))) k = ix2 r k from at2 _ _ _ (by simp) rfl, val_main_v130_apply, tg_at]
  rfl

/-- The output's gradient. -/
def D : EReal := rmsD w512 (o x0 x1 r) (tg x2 x3 r) k

theorem dOut_at : val_main_v143 (F := Ideal) x0 x1 x2 x3 (ix2 r k) = D x0 x1 x2 x3 r k := by
  rw [val_main_v143_apply, val_main_v141_apply, val_main_v134_apply, val_main_v140_apply, val_main_v142_apply, dSquares_at, tg_at,
    val_main_v133_apply, show idx_main_v133 (ix2 r k) = ix2 r (0 : Fin 1) from eq_ix2 _, scale_at]
  show tg x2 x3 r k * rr w512 (o x0 x1 r) + o x0 x1 r k * sqD w512 (o x0 x1 r) (tg x2 x3 r) + sqD w512 (o x0 x1 r) (tg x2 x3 r) * o x0 x1 r k = _
  have h := rms_steps w512 (o x0 x1 r) (tg x2 x3 r) k w512_pos 0
  rw [zero_add, zero_add] at h
  exact h

variable {x0 x1 x2 x3}

/-- The gain and the attention's half of the cotangent are numbers. -/
def Num2 (x2 : FVec Ideal S512 .f32) : Prop := ∀ k : Fin 512, R (x2 (ix1 k))
def Num3 (x3 : FVec Ideal S8192x1024 .f32) : Prop := ∀ (r : Fin 8192) (k : Fin 512), R (dy x3 r k)

theorem D_num (h0 : Num0 x0) (h1 : Num1 x1) (h2 : Num2 x2) (h3 : Num3 x3) : R (D x0 x1 x2 x3 r k) :=
  rmsD_num (fun k => o_num h0 h1 r k) (fun k => mul (h3 r k) (h2 k)) k

end Cert.AttnBwdRefIdeal.Attn
end
-- ==== Proof.Attn.RefGrad.lean ====
/-
  The reference's gradient of a column of scores and of its sink, step by step as differentiation leaves it, and the
  kernel's closed form of it (extended reals).
-/
module

public import proofs.«01_k».proof.Proof.Attn.RefNorm

@[expose] public section

set_option maxRecDepth 16384

noncomputable section

namespace Cert.AttnBwdRefIdeal.Attn

open Cert.AttnBwdRefIdeal Cert.AttnBwdRefIdeal.Gen Cert.AttnBwdRefIdeal.Read Cert.Real Cert.Norm Idealize.ShloMosaic

variable (x0 : FVec Ideal S8192x1792 .f32) (x1 : FVec Ideal S8 .f32) (x2 : FVec Ideal S512 .f32) (x3 : FVec Ideal S8192x1024 .f32)
variable (n : Fin 64) (e : Fin 2) (u : Fin 4) (i : Fin 128) (j : Fin 256) (d : Fin 64)

/-- The output's gradient, laid out by heads. -/
theorem dHead_at : val_main_v146 (F := Ideal) x0 x1 x2 x3 (ix6 (0 : Fin 1) n e d u i) = D x0 x1 x2 x3 (row n i) (hcol e u d) := by
  rw [val_main_v146_apply, show idx_main_v146 (ix6 (0 : Fin 1) n e d u i) = ix6 (0 : Fin 1) n i e u d from eq_ix6 _, ← dOut_at]
  unfold val_main_v145 val_main_v144
  generalize val_main_v143 (F := Ideal) x0 x1 x2 x3 = y
  pointwise
  exact congrArg y (congrArg₂ ix2 (Fin.ext (by show n.val * 128 + i.val = 128 * n.val + i.val; omega))
    (Fin.ext (by show e.val * 256 + u.val * 64 + d.val = 256 * e.val + 64 * u.val + d.val; omega)))

/-- The probabilities' cotangent. -/
def G : EReal := ∑ d, BN x0 n (zv e d) j * D x0 x1 x2 x3 (row n i) (hcol e u d)

theorem dProb_at : val_main_v147 (F := Ideal) x0 x1 x2 x3 (ix6 (0 : Fin 1) n e u i j) = G x0 x1 x2 x3 n e u i j := by
  rw [val_main_v147_apply]
  refine Finset.sum_congr rfl fun d _ => ?_
  rw [mul_comm, ← vband x0, ← dHead_at]
  exact congrArg₂ (· * ·) (congrArg _ (eq_ix5 _)) (congrArg _ (eq_ix6 _))

variable {x0 x1 x2 x3} in
theorem G_num (h0 : Num0 x0) (h1 : Num1 x1) (h2 : Num2 x2) (h3 : Num3 x3) : R (G x0 x1 x2 x3 n e u i j) :=
  sum _ _ fun d => mul (BN_num _ _ h0 _ (by show 640 + 64 * e.val + d.val < 768; omega)) (D_num _ _ h0 h1 h2 h3)

/-- The sum's cotangent. -/
theorem dDen_at : val_main_v155 (F := Ideal) x0 x1 x2 x3 (ix6 (0 : Fin 1) n e u i (0 : Fin 1))
    = Softmax.dden (f x0 n e u i) (sk x1 e u) (G x0 x1 x2 x3 n e u i) := by
  have e1 : val_main_v154 (F := Ideal) x0 x1 x2 x3 (ix6 (0 : Fin 1) n e u i (0 : Fin 1)) = val_main_v153 (F := Ideal) x0 x1 x2 x3 (ix5 (0 : Fin 1) n e u i) := by
    unfold val_main_v154
    generalize val_main_v153 (F := Ideal) x0 x1 x2 x3 = y
    pointwise
  rw [val_main_v155_apply, e1, val_main_v153_apply]
  unfold Softmax.dden
  refine congrArg Neg.neg ((from_zero _).trans (Finset.sum_congr rfl fun j _ => ?_))
  rw [show idx_main_v153 (ix5 (0 : Fin 1) n e u i) j = ix6 (0 : Fin 1) n e u i j from eq_ix6 _, val_main_v152_apply, val_main_v151_apply, dProb_at, exp_at,
    val_main_v150_apply, show idx_main_v150 (ix6 (0 : Fin 1) n e u i j) = ix6 (0 : Fin 1) n e u i (0 : Fin 1) from eq_ix6 _, inv2_at]
  rfl

theorem ones_fiber (z : S1x64x2x4x128x1.Idx) :
    reducesTo_S1x64x2x4x128x1_S64x2x4x128_d0_5.drop z = ix4 n e u i ↔ ∃ k : Fin 1, ix6 (0 : Fin 1) n e u i k = z := by
  constructor
  · intro h
    refine ⟨z 5, ?_⟩
    funext a
    match a with
    | ⟨0, _⟩ => exact Subsingleton.elim (α := Fin 1) _ _
    | ⟨1, _⟩ => exact (congrFun h 0).symm
    | ⟨2, _⟩ => exact (congrFun h 1).symm
    | ⟨3, _⟩ => exact (congrFun h 2).symm
    | ⟨4, _⟩ => exact (congrFun h 3).symm
    | ⟨5, _⟩ => rfl
  · rintro ⟨j, rfl⟩
    funext a
    match a with
    | ⟨0, _⟩ => rfl
    | ⟨1, _⟩ => rfl
    | ⟨2, _⟩ => rfl
    | ⟨3, _⟩ => rfl

/-- A sum over two axes of one entry each. -/
theorem ones_sum (y : FVec Ideal S1x64x2x4x128x1 .f32) :
    (Host.reduceAdd y (constant S_ .f32 0x00000000#32 : FVec Ideal S_ .f32) reducesTo_S1x64x2x4x128x1_S64x2x4x128_d0_5 h_S_ : FVec Ideal S64x2x4x128 .f32)
      (ix4 n e u i) = y (ix6 (0 : Fin 1) n e u i (0 : Fin 1)) := by
  pointwise
  refine (zero_add _).trans ?_
  exact (Finset.sum_filter_eq_sum_of_fiber _ (fun z : Fin 1 => ix6 (0 : Fin 1) n e u i z) (fun _ _ h => congrFun h 5) (ones_fiber n e u i) y).trans
    (Fin.sum_univ_one _)

theorem rows_fiber (z : S1x64x2x4x128x1.Idx) : reducesTo_S1x64x2x4x128x1_S1x2x4x1_d1_4.drop z = ix4 (0 : Fin 1) e u (0 : Fin 1)
    ↔ ∃ p : Fin 64 × Fin 128, ix6 (0 : Fin 1) p.1 e u p.2 (0 : Fin 1) = z := by
  constructor
  · intro h
    refine ⟨(z 1, z 4), ?_⟩
    funext a
    match a with
    | ⟨0, _⟩ => exact Subsingleton.elim (α := Fin 1) _ _
    | ⟨1, _⟩ => rfl
    | ⟨2, _⟩ => exact (congrFun h 1).symm
    | ⟨3, _⟩ => exact (congrFun h 2).symm
    | ⟨4, _⟩ => rfl
    | ⟨5, _⟩ => exact Subsingleton.elim (α := Fin 1) _ _
  · rintro ⟨j, rfl⟩
    funext a
    match a with
    | ⟨0, _⟩ => rfl
    | ⟨1, _⟩ => rfl
    | ⟨2, _⟩ => rfl
    | ⟨3, _⟩ => rfl

/-- A sum over blocks and queries. -/
theorem rows_sum (y : FVec Ideal S1x64x2x4x128x1 .f32) :
    (Host.reduceAdd y (constant S_ .f32 0x00000000#32 : FVec Ideal S_ .f32) reducesTo_S1x64x2x4x128x1_S1x2x4x1_d1_4 h_S_ : FVec Ideal S1x2x4x1 .f32)
      (ix4 (0 : Fin 1) e u (0 : Fin 1)) = ∑ p : Fin 64 × Fin 128, y (ix6 (0 : Fin 1) p.1 e u p.2 (0 : Fin 1)) := by
  pointwise
  refine (zero_add _).trans ?_
  exact Finset.sum_filter_eq_sum_of_fiber _ (fun p : Fin 64 × Fin 128 => ix6 (0 : Fin 1) p.1 e u p.2 (0 : Fin 1))
    (fun p q h => Prod.ext (congrFun h 1) (congrFun h 4)) (rows_fiber e u) y

/-- An exponential's cotangent. -/
theorem dExp_at : val_main_v166 (F := Ideal) x0 x1 x2 x3 (ix6 (0 : Fin 1) n e u i j)
    = Softmax.dex (f x0 n e u i) (sk x1 e u) (G x0 x1 x2 x3 n e u i) j := by
  have e1 : val_main_v162 (F := Ideal) x0 x1 x2 x3 (ix4 n e u i) = val_main_v155 (F := Ideal) x0 x1 x2 x3 (ix6 (0 : Fin 1) n e u i (0 : Fin 1)) := by
    unfold val_main_v162 val_main_cst_31
    exact ones_sum n e u i _
  rw [val_main_v166_apply, exp_at, val_main_v165_apply, val_main_v157_apply, dProb_at, val_main_v156_apply,
    show idx_main_v156 (ix6 (0 : Fin 1) n e u i j) = ix6 (0 : Fin 1) n e u i (0 : Fin 1) from eq_ix6 _, den_at, val_main_v164_apply, val_main_v163_apply,
    show idx_main_v163 (idx_main_v164 (ix6 (0 : Fin 1) n e u i j)) = ix4 n e u i from eq_ix4 _, e1, dDen_at]
  rfl

/-- The sink's cotangent through its exponential. -/
theorem dSinkExp_at : val_main_v158 (F := Ideal) x0 x1 x2 x3 (ix6 (0 : Fin 1) n e u i (0 : Fin 1))
    = Softmax.dden (f x0 n e u i) (sk x1 e u) (G x0 x1 x2 x3 n e u i) * Softmax.exS (f x0 n e u i) (sk x1 e u) := by
  rw [val_main_v158_apply, dDen_at, expSink_at]
  rfl

variable {x0 x1 x2 x3} (h0 : Num0 x0) (h1 : Num1 x1) (h2 : Num2 x2) (h3 : Num3 x3)

theorem neg_sum {ι : Type} (s : Finset ι) (x : ι → EReal) (h : ∀ k, R (x k)) : ∑ k ∈ s, -x k = -∑ k ∈ s, x k := by
  choose a ha using h
  simp only [ha, ← EReal.coe_neg, Softmax.coe_sum]
  rw [Finset.sum_neg_distrib]

include h0 h1 h2 h3

theorem dex_num : R (Softmax.dex (f x0 n e u i) (sk x1 e u) (G x0 x1 x2 x3 n e u i) j) := by
  obtain ⟨-, a2, -, a4, -, -, -, -, a9, -⟩ := column n e u i h0 h1 (G x0 x1 x2 x3 n e u i) fun j _ => G_num n e u i j h0 h1 h2 h3
  by_cases h : Al n i j
  · rw [a4 j h]; exact a9 j
  · unfold Softmax.dex
    rw [a2 j h, mul_zero]
    exact zero

/-- The maximum's cotangent is zero. -/
theorem dMax_at : val_main_v170 (F := Ideal) x0 x1 x2 x3 (ix6 (0 : Fin 1) n e u i (0 : Fin 1)) = 0 := by
  have e1 : val_main_v169 (F := Ideal) x0 x1 x2 x3 (ix6 (0 : Fin 1) n e u i (0 : Fin 1)) = val_main_v168 (F := Ideal) x0 x1 x2 x3 (ix5 (0 : Fin 1) n e u i) := by
    unfold val_main_v169
    generalize val_main_v168 (F := Ideal) x0 x1 x2 x3 = y
    pointwise
  rw [val_main_v170_apply, val_main_v161_apply, dSinkExp_at, e1, val_main_v168_apply]
  refine Eq.trans (congrArg (_ + ·) ((from_zero _).trans ((Finset.sum_congr rfl fun j _ => ?_).trans
    (neg_sum Finset.univ _ fun j => dex_num n e u i j h0 h1 h2 h3)))) (column n e u i h0 h1 (G x0 x1 x2 x3 n e u i) fun j _ => G_num n e u i j h0 h1 h2 h3).2.2.2.2.2.2.1
  rw [show idx_main_v168 (ix5 (0 : Fin 1) n e u i) j = ix6 (0 : Fin 1) n e u i j from eq_ix6 _, val_main_v167_apply, dExp_at]
  rfl

omit h0 h1 h2 h3 in
/-- The count of the scores that are the maximum is not zero. -/
theorem count_ne : val_main_v67 (F := Ideal) x0 (ix5 (0 : Fin 1) n e u i) ≠ 0 := by
  obtain ⟨j, hj⟩ := Softmax.top_mem (f x0 n e u i) (by norm_num)
  have e1 : ∀ k, val_main_v66 (F := Ideal) x0 (ix6 (0 : Fin 1) n e u i k) = if f x0 n e u i k = Softmax.top (f x0 n e u i) then 1 else 0 := fun k => by
    have e2 : val_main_v63 (F := Ideal) x0 (ix6 (0 : Fin 1) n e u i (0 : Fin 1)) = val_main_v62 (F := Ideal) x0 (ix5 (0 : Fin 1) n e u i) := by
      unfold val_main_v63
      generalize val_main_v62 (F := Ideal) x0 = y
      pointwise
    rw [val_main_v66_apply, val_main_v65_apply, score, val_main_v64_apply,
      show idx_main_v64 (ix6 (0 : Fin 1) n e u i k) = ix6 (0 : Fin 1) n e u i (0 : Fin 1) from eq_ix6 _, e2, top_at]
    show (((BitVec.ofBool (decide (f x0 n e u i k = Softmax.top (f x0 n e u i)))).toNat : ℝ) : EReal) = _
    by_cases h : f x0 n e u i k = Softmax.top (f x0 n e u i) <;> simp [h]
  rw [val_main_v67_apply]
  refine ne_of_gt (lt_of_lt_of_eq ?_ (from_zero _).symm)
  have e3 : ∀ k, val_main_v66 (F := Ideal) x0 (idx_main_v67 (ix5 (0 : Fin 1) n e u i) k) = if f x0 n e u i k = Softmax.top (f x0 n e u i) then 1 else 0 := fun k =>
    (congrArg _ (eq_ix6 _)).trans (e1 k)
  simp only [e3]
  refine lt_of_lt_of_le (zero_lt_one (α := EReal)) ?_
  refine le_trans (le_of_eq (if_pos hj).symm) (Finset.single_le_sum (f := fun k => if f x0 n e u i k = Softmax.top (f x0 n e u i) then (1 : EReal) else 0) (fun k _ => ?_) (Finset.mem_univ j))
  split
  · exact zero_le_one
  · exact le_refl _

/-- A score's gradient is the kernel's. -/
theorem dScore_at : val_main_v184 (F := Ideal) x0 x1 x2 x3 (ix6 (0 : Fin 1) n e u i j)
    = Softmax.dS (f x0 n e u i) (sk x1 e u) (G x0 x1 x2 x3 n e u i) j := by
  obtain ⟨-, -, -, a4, a5, -, -, -, -, -⟩ := column n e u i h0 h1 (G x0 x1 x2 x3 n e u i) fun j _ => G_num n e u i j h0 h1 h2 h3
  have e1 : val_main_v176 (F := Ideal) x0 x1 x2 x3 (ix4 n e u i) = 0 := by
    have e2 : val_main_v176 (F := Ideal) x0 x1 x2 x3 (ix4 n e u i) = val_main_v175 (F := Ideal) x0 x1 x2 x3 (ix6 (0 : Fin 1) n e u i (0 : Fin 1)) := by
      unfold val_main_v176 val_main_cst_34
      exact ones_sum n e u i _
    rw [e2, val_main_v175_apply, dMax_at n e u i h0 h1 h2 h3]
    exact zero_mul _
  rw [val_main_v184_apply, mask6, Cert.Word.select_bool]
  split
  · rename_i h
    rw [← a4 j h, val_main_v181_apply, dExp_at, val_main_v180_apply, val_main_v179_apply,
      show idx_main_v179 (ix6 (0 : Fin 1) n e u i j) = ix5 (0 : Fin 1) n e u i from eq_ix5 _, val_main_v178_apply, val_main_v177_apply,
      show idx_main_v177 (ix5 (0 : Fin 1) n e u i) = ix4 n e u i from eq_ix4 _, e1]
    show _ + Ideal.div 0 (val_main_v67 (F := Ideal) x0 (ix5 (0 : Fin 1) n e u i)) * _ = _
    rw [Ideal.div, if_neg (count_ne n e u i), zero_mul, zero_mul, add_zero]
  · rename_i h
    rw [a5 j h]
    exact Ideal.ofBits_zero_f32

/-- The sinks' gradient, summed over blocks and queries. -/
theorem dSink_at : val_main_v174 (F := Ideal) x0 x1 x2 x3 (ix6 (0 : Fin 1) (0 : Fin 1) e u (0 : Fin 1) (0 : Fin 1))
    = ∑ p : Fin 64 × Fin 128, -(Softmax.prS (f x0 p.1 e u p.2) (sk x1 e u) * Softmax.dr (f x0 p.1 e u p.2) (sk x1 e u) (G x0 x1 x2 x3 p.1 e u p.2)) := by
  have e1 : val_main_v160 (F := Ideal) x0 x1 x2 x3 (ix6 (0 : Fin 1) (0 : Fin 1) e u (0 : Fin 1) (0 : Fin 1))
      = ∑ p : Fin 64 × Fin 128, val_main_v158 (F := Ideal) x0 x1 x2 x3 (ix6 (0 : Fin 1) p.1 e u p.2 (0 : Fin 1)) := by
    unfold val_main_v160 val_main_v159 val_main_cst_30
    generalize val_main_v158 (F := Ideal) x0 x1 x2 x3 = y
    rw [← rows_sum]
    generalize (Host.reduceAdd y _ _ _ : FVec Ideal S1x2x4x1 .f32) = w
    pointwise
  have e2 : val_main_v173 (F := Ideal) x0 x1 x2 x3 (ix6 (0 : Fin 1) (0 : Fin 1) e u (0 : Fin 1) (0 : Fin 1))
      = ∑ p : Fin 64 × Fin 128, val_main_v171 (F := Ideal) x0 x1 x2 x3 (ix6 (0 : Fin 1) p.1 e u p.2 (0 : Fin 1)) := by
    unfold val_main_v173 val_main_v172 val_main_cst_33
    generalize val_main_v171 (F := Ideal) x0 x1 x2 x3 = y
    rw [← rows_sum]
    generalize (Host.reduceAdd y _ _ _ : FVec Ideal S1x2x4x1 .f32) = w
    pointwise
  rw [val_main_v174_apply, e1, e2]
  have e3 : ∑ p : Fin 64 × Fin 128, val_main_v171 (F := Ideal) x0 x1 x2 x3 (ix6 (0 : Fin 1) p.1 e u p.2 (0 : Fin 1)) = 0 :=
    Finset.sum_eq_zero fun p _ => by
      rw [val_main_v171_apply, dMax_at _ _ _ _ h0 h1 h2 h3]
      exact zero_mul _
  rw [e3]
  refine (add_zero _).trans (Finset.sum_congr rfl fun p _ => ?_)
  rw [dSinkExp_at, (column p.1 e u p.2 h0 h1 (G x0 x1 x2 x3 p.1 e u p.2) fun j _ => G_num p.1 e u p.2 j h0 h1 h2 h3).2.2.2.2.2.1]

end Cert.AttnBwdRefIdeal.Attn
end
-- ==== Proof.Attn.RefOut.lean ====
/-
  The reference's gradients of the queries, of the keys and values, and of the sinks (extended reals).
-/
module

public import proofs.«01_k».proof.Proof.Attn.RefGrad
public import Idealize.ShloMosaic.Lib.MatmulPlain

@[expose] public section

set_option maxRecDepth 16384

noncomputable section

namespace Cert.AttnBwdRefIdeal.Attn

open Cert.AttnBwdRefIdeal Cert.AttnBwdRefIdeal.Gen Cert.AttnBwdRefIdeal.Read Cert.Real Cert.Norm Idealize.ShloMosaic

variable (x0 : FVec Ideal S8192x1792 .f32) (x1 : FVec Ideal S8 .f32) (x2 : FVec Ideal S512 .f32) (x3 : FVec Ideal S8192x1024 .f32)
variable (n : Fin 64) (e : Fin 2) (u : Fin 4) (i : Fin 128) (j : Fin 256) (d : Fin 64)

/-- A column's probabilities, its scores' gradient, and its sink's, negated. -/
def P : EReal := Softmax.pr (f x0 n e u i) (sk x1 e u) j
def S : EReal := Softmax.dS (f x0 n e u i) (sk x1 e u) (G x0 x1 x2 x3 n e u i) j
def K : EReal := Softmax.prS (f x0 n e u i) (sk x1 e u) * Softmax.dr (f x0 n e u i) (sk x1 e u) (G x0 x1 x2 x3 n e u i)

/-! ## Products contracted over the heads of a group and the queries -/

theorem dotV_apply (l : FVec Ideal S1x64x2x64x4x128 .f32) (p : FVec Ideal S1x64x2x4x128x256 .f32) :
    (Host.dotGeneral dot_S1x64x2x64x4x128_S1x64x2x4x128x256_S1x64x2x64x256_45_34_3_5_012_012 none l p : FVec Ideal S1x64x2x64x256 .f32) (ix5 (0 : Fin 1) n e d j)
      = ∑ u : Fin 4, ∑ i : Fin 128, l (ix6 (0 : Fin 1) n e d u i) * p (ix6 (0 : Fin 1) n e u i j) := by
  simp only [Host.dotGeneral]
  rw [Ideal.dotGeneral_apply, ← Equiv.sum_comp (ValueIdx.contrEquiv2 dot_S1x64x2x64x4x128_S1x64x2x4x128x256_S1x64x2x64x256_45_34_3_5_012_012 4 128 rfl rfl rfl).symm,
    Fintype.sum_prod_type]
  refine Finset.sum_congr rfl fun u _ => Finset.sum_congr rfl fun i _ => ?_
  have c0 := ValueIdx.contrEquiv2_symm_val0 dot_S1x64x2x64x4x128_S1x64x2x4x128x256_S1x64x2x64x256_45_34_3_5_012_012 4 128 rfl rfl rfl (u, i)
  have c1 := ValueIdx.contrEquiv2_symm_val1 dot_S1x64x2x64x4x128_S1x64x2x4x128x256_S1x64x2x64x256_45_34_3_5_012_012 4 128 rfl rfl rfl (u, i)
  refine congrArg₂ (· * ·) (congrArg l (funext fun a => Fin.ext ?_)) (congrArg p (funext fun a => Fin.ext ?_))
  · match a with
    | ⟨0, _⟩ => rfl
    | ⟨1, _⟩ => rfl
    | ⟨2, _⟩ => rfl
    | ⟨3, _⟩ => rfl
    | ⟨4, _⟩ => exact c0
    | ⟨5, _⟩ => exact c1
  · match a with
    | ⟨0, _⟩ => rfl
    | ⟨1, _⟩ => rfl
    | ⟨2, _⟩ => rfl
    | ⟨3, _⟩ => exact c0
    | ⟨4, _⟩ => exact c1
    | ⟨5, _⟩ => rfl

theorem dotK_apply (l : FVec Ideal S1x64x2x256x128x4 .f32) (p : FVec Ideal S1x64x128x2x4x64 .f32) :
    (Host.dotGeneral dot_S1x64x2x256x128x4_S1x64x128x2x4x64_S1x64x2x256x64_45_24_3_5_012_013 none l p : FVec Ideal S1x64x2x256x64 .f32) (ix5 (0 : Fin 1) n e j d)
      = ∑ i : Fin 128, ∑ u : Fin 4, l (ix6 (0 : Fin 1) n e j i u) * p (ix6 (0 : Fin 1) n i e u d) := by
  simp only [Host.dotGeneral]
  rw [Ideal.dotGeneral_apply, ← Equiv.sum_comp (ValueIdx.contrEquiv2 dot_S1x64x2x256x128x4_S1x64x128x2x4x64_S1x64x2x256x64_45_24_3_5_012_013 128 4 rfl rfl rfl).symm,
    Fintype.sum_prod_type]
  refine Finset.sum_congr rfl fun i _ => Finset.sum_congr rfl fun u _ => ?_
  have c0 := ValueIdx.contrEquiv2_symm_val0 dot_S1x64x2x256x128x4_S1x64x128x2x4x64_S1x64x2x256x64_45_24_3_5_012_013 128 4 rfl rfl rfl (i, u)
  have c1 := ValueIdx.contrEquiv2_symm_val1 dot_S1x64x2x256x128x4_S1x64x128x2x4x64_S1x64x2x256x64_45_24_3_5_012_013 128 4 rfl rfl rfl (i, u)
  refine congrArg₂ (· * ·) (congrArg l (funext fun a => Fin.ext ?_)) (congrArg p (funext fun a => Fin.ext ?_))
  · match a with
    | ⟨0, _⟩ => rfl
    | ⟨1, _⟩ => rfl
    | ⟨2, _⟩ => rfl
    | ⟨3, _⟩ => rfl
    | ⟨4, _⟩ => exact c0
    | ⟨5, _⟩ => exact c1
  · match a with
    | ⟨0, _⟩ => rfl
    | ⟨1, _⟩ => rfl
    | ⟨2, _⟩ => exact c0
    | ⟨3, _⟩ => rfl
    | ⟨4, _⟩ => exact c1
    | ⟨5, _⟩ => rfl

theorem group_fiber (z : S1x1x2x4x1x1.Idx) :
    reducesTo_S1x1x2x4x1x1_S2x4_d0_1_4_5.drop z = ix2 e u ↔ ∃ k : Fin 1, ix6 (0 : Fin 1) (0 : Fin 1) e u (0 : Fin 1) k = z := by
  constructor
  · intro h
    refine ⟨z 5, ?_⟩
    funext a
    match a with
    | ⟨0, _⟩ => exact Subsingleton.elim (α := Fin 1) _ _
    | ⟨1, _⟩ => exact Subsingleton.elim (α := Fin 1) _ _
    | ⟨2, _⟩ => exact (congrFun h 0).symm
    | ⟨3, _⟩ => exact (congrFun h 1).symm
    | ⟨4, _⟩ => exact Subsingleton.elim (α := Fin 1) _ _
    | ⟨5, _⟩ => rfl
  · rintro ⟨j, rfl⟩
    funext a
    match a with
    | ⟨0, _⟩ => rfl
    | ⟨1, _⟩ => rfl

/-- A band's rows return to their blocks: the later half to the block itself, the earlier to the block before. -/
theorem fold_at (y : FVec Ideal S1x64x256x2x64 .f32) :
    (addf (extractStridedSlice S1x64x128x2x64 ![0, 0, 128, 0, 0] y slices_S1x64x256x2x64_S1x64x128x2x64_0_0_128_0_0)
      (pad S1x64x128x2x64 ![0, 0, 0, 0, 0] ![0, 1, 0, 0, 0] ![0, 0, 0, 0, 0]
        (extractStridedSlice S1x63x128x2x64 ![0, 1, 0, 0, 0] (extractStridedSlice S1x64x128x2x64 ![0, 0, 0, 0, 0] y slices_S1x64x256x2x64_S1x64x128x2x64_0_0_0_0_0)
          slices_S1x64x128x2x64_S1x63x128x2x64_0_1_0_0_0)
        (constant S_ .f32 0x00000000#32 : FVec Ideal S_ .f32) pads_S1x63x128x2x64_S1x64x128x2x64_000_010_000_000_000 h_S_) : FVec Ideal S1x64x128x2x64 .f32)
      (ix5 (0 : Fin 1) n i e d)
    = y (ix5 (0 : Fin 1) n (⟨128 + i.val, by omega⟩ : Fin 256) e d)
      + (if h : n.val < 63 then y (ix5 (0 : Fin 1) (⟨n.val + 1, by omega⟩ : Fin 64) (⟨i.val, by omega⟩ : Fin 256) e d) else 0) := by
  pointwise
  simp only [Nat.add_comm 1 n.val]

variable {x0 x1 x2 x3} (h0 : Num0 x0) (h1 : Num1 x1) (h2 : Num2 x2) (h3 : Num3 x3)
include h0 h1 h2 h3

/-- The scaled gradient of a score, keys first. -/
theorem dScaled_at : val_main_v187 (F := Ideal) x0 x1 x2 x3 (ix6 (0 : Fin 1) n e j i u) = S x0 x1 x2 x3 n e u i j * w8 := by
  rw [val_main_v187_apply, show idx_main_v187 (ix6 (0 : Fin 1) n e j i u) = ix6 (0 : Fin 1) n e u i j from eq_ix6 _, val_main_v186_apply,
    dScore_at n e u i j h0 h1 h2 h3]
  rfl

/-! ## The results -/

/-- The queries' gradient. -/
theorem dq_at : val_main_v210 (F := Ideal) x0 x1 x2 x3 (ix2 (row n i) (hcol e u d))
    = ∑ j, S x0 x1 x2 x3 n e u i j * w8 * BN x0 n (zk e d) j := by
  have e1 : val_main_v206 (F := Ideal) x0 x1 x2 x3 (ix3 (0 : Fin 1) (row n i) (hcol e u d)) = val_main_v189 (F := Ideal) x0 x1 x2 x3 (ix6 (0 : Fin 1) n i e u d) := by
    unfold val_main_v206
    generalize val_main_v189 (F := Ideal) x0 x1 x2 x3 = y
    pointwise
    exact congrArg y (same6 (by dsimp only; omega) (by dsimp only; omega) (by dsimp only; omega) (by dsimp only; omega) (by dsimp only; omega))
  rw [val_main_v210_apply, val_main_v209_apply]
  refine (from_zero _).trans ((Fin.sum_univ_one _).trans ?_)
  rw [show idx_main_v209 (ix2 (row n i) (hcol e u d)) 0 = ix3 (0 : Fin 1) (row n i) (hcol e u d) from eq_ix3 _, e1, val_main_v189_apply,
    show idx_main_v189 (ix6 (0 : Fin 1) n i e u d) = ix6 (0 : Fin 1) n e i u d from eq_ix6 _, val_main_v188_apply]
  refine Finset.sum_congr rfl fun j _ => ?_
  rw [← dScaled_at n e u i j h0 h1 h2 h3, ← kband x0]
  exact congrArg₂ (· * ·) (congrArg _ (eq_ix6 _)) (congrArg _ (eq_ix5 _))

theorem bandKey_at : val_main_v191 (F := Ideal) x0 x1 x2 x3 (ix5 (0 : Fin 1) n j e d)
    = ∑ i : Fin 128, ∑ u : Fin 4, S x0 x1 x2 x3 n e u i j * w8 * x0 (ix2 (row n i) (zq e u d)) := by
  rw [val_main_v191_apply, show idx_main_v191 (ix5 (0 : Fin 1) n j e d) = ix5 (0 : Fin 1) n e j d from eq_ix5 _]
  unfold val_main_v190
  rw [dotK_apply]
  refine Finset.sum_congr rfl fun i _ => Finset.sum_congr rfl fun u _ => ?_
  rw [dScaled_at n e u i j h0 h1 h2 h3, q_at]

omit h2 h3 in
theorem bandValue_at : val_main_v149 (F := Ideal) x0 x1 x2 x3 (ix5 (0 : Fin 1) n j e d)
    = ∑ u : Fin 4, ∑ i : Fin 128, D x0 x1 x2 x3 (row n i) (hcol e u d) * P x0 x1 n e u i j := by
  rw [val_main_v149_apply, show idx_main_v149 (ix5 (0 : Fin 1) n j e d) = ix5 (0 : Fin 1) n e d j from eq_ix5 _]
  unfold val_main_v148
  rw [dotV_apply]
  refine Finset.sum_congr rfl fun u _ => Finset.sum_congr rfl fun i _ => ?_
  rw [dHead_at, prob_at _ _ _ _ _ h0 h1]
  rfl

omit h0 h1 h2 h3 in
theorem dKey_at : val_main_v212 (F := Ideal) x0 x1 x2 x3 (ix2 (row n i) (⟨64 * e.val + d.val, by omega⟩ : Fin 256))
    = val_main_v191 (F := Ideal) x0 x1 x2 x3 (ix5 (0 : Fin 1) n (⟨128 + i.val, by omega⟩ : Fin 256) e d)
      + (if h : n.val < 63 then val_main_v191 (F := Ideal) x0 x1 x2 x3 (ix5 (0 : Fin 1) (⟨n.val + 1, by omega⟩ : Fin 64) (⟨i.val, by omega⟩ : Fin 256) e d) else 0) := by
  rw [← fold_at n e i d (val_main_v191 (F := Ideal) x0 x1 x2 x3)]
  have e1 : val_main_v211 (F := Ideal) x0 x1 x2 x3 (ix2 (row n i) (⟨64 * e.val + d.val, by omega⟩ : Fin 256))
      = val_main_v208 (F := Ideal) x0 x1 x2 x3 (ix2 (row n i) (⟨64 * e.val + d.val, by omega⟩ : Fin 128)) := by
    unfold val_main_v211
    generalize val_main_v208 (F := Ideal) x0 x1 x2 x3 = y
    generalize val_main_v207 (F := Ideal) x0 x1 x2 x3 = y'
    pointwise
    exact dif_pos (by omega)
  have e2 : val_main_v205 (F := Ideal) x0 x1 x2 x3 (ix3 (0 : Fin 1) (row n i) (⟨64 * e.val + d.val, by omega⟩ : Fin 128))
      = val_main_v203 (F := Ideal) x0 x1 x2 x3 (ix5 (0 : Fin 1) n i e d) := by
    unfold val_main_v205
    generalize val_main_v203 (F := Ideal) x0 x1 x2 x3 = y
    pointwise
    exact congrArg y (congrArg₂ (fun a b => ix5 (0 : Fin 1) a b e d) (Fin.ext (by dsimp only; omega)) (Fin.ext (by dsimp only; omega)))
  rw [val_main_v212_apply, e1, val_main_v208_apply]
  refine (from_zero _).trans ((Fin.sum_univ_one _).trans ?_)
  rw [show idx_main_v208 (ix2 (row n i) (⟨64 * e.val + d.val, by omega⟩ : Fin 128)) 0 = ix3 (0 : Fin 1) (row n i) (⟨64 * e.val + d.val, by omega⟩ : Fin 128) from eq_ix3 _, e2]
  rfl

omit h0 h1 h2 h3 in
theorem dValue_at : val_main_v212 (F := Ideal) x0 x1 x2 x3 (ix2 (row n i) (⟨128 + 64 * e.val + d.val, by omega⟩ : Fin 256))
    = val_main_v149 (F := Ideal) x0 x1 x2 x3 (ix5 (0 : Fin 1) n (⟨128 + i.val, by omega⟩ : Fin 256) e d)
      + (if h : n.val < 63 then val_main_v149 (F := Ideal) x0 x1 x2 x3 (ix5 (0 : Fin 1) (⟨n.val + 1, by omega⟩ : Fin 64) (⟨i.val, by omega⟩ : Fin 256) e d) else 0) := by
  rw [← fold_at n e i d (val_main_v149 (F := Ideal) x0 x1 x2 x3)]
  have e1 : val_main_v211 (F := Ideal) x0 x1 x2 x3 (ix2 (row n i) (⟨128 + 64 * e.val + d.val, by omega⟩ : Fin 256))
      = val_main_v207 (F := Ideal) x0 x1 x2 x3 (ix2 (row n i) (⟨64 * e.val + d.val, by omega⟩ : Fin 128)) := by
    unfold val_main_v211
    generalize val_main_v208 (F := Ideal) x0 x1 x2 x3 = y
    generalize val_main_v207 (F := Ideal) x0 x1 x2 x3 = y'
    pointwise
    exact (dif_neg (by omega)).trans (congrArg y' (congrArg₂ ix2 rfl (Fin.ext (by dsimp only; omega))))
  have e2 : val_main_v204 (F := Ideal) x0 x1 x2 x3 (ix3 (0 : Fin 1) (row n i) (⟨64 * e.val + d.val, by omega⟩ : Fin 128))
      = val_main_v197 (F := Ideal) x0 x1 x2 x3 (ix5 (0 : Fin 1) n i e d) := by
    unfold val_main_v204
    generalize val_main_v197 (F := Ideal) x0 x1 x2 x3 = y
    pointwise
    exact congrArg y (congrArg₂ (fun a b => ix5 (0 : Fin 1) a b e d) (Fin.ext (by dsimp only; omega)) (Fin.ext (by dsimp only; omega)))
  rw [val_main_v212_apply, e1, val_main_v207_apply]
  refine (from_zero _).trans ((Fin.sum_univ_one _).trans ?_)
  rw [show idx_main_v207 (ix2 (row n i) (⟨64 * e.val + d.val, by omega⟩ : Fin 128)) 0 = ix3 (0 : Fin 1) (row n i) (⟨64 * e.val + d.val, by omega⟩ : Fin 128) from eq_ix3 _, e2]
  rfl

/-- The sinks' gradient. -/
theorem dsk_at (l : Fin 128) : val_main_v214 (F := Ideal) x0 x1 x2 x3 (ix2 (hd e u) l)
    = ∑ p : Fin 64 × Fin 128, -K x0 x1 x2 x3 p.1 e u p.2 := by
  have e1 : val_main_v182 (F := Ideal) x0 x1 x2 x3 (ix2 e u) = val_main_v174 (F := Ideal) x0 x1 x2 x3 (ix6 (0 : Fin 1) (0 : Fin 1) e u (0 : Fin 1) (0 : Fin 1)) := by
    unfold val_main_v182 val_main_cst_35
    generalize val_main_v174 (F := Ideal) x0 x1 x2 x3 = y
    pointwise
    refine (zero_add _).trans ?_
    exact (Finset.sum_filter_eq_sum_of_fiber _ (fun z : Fin 1 => ix6 (0 : Fin 1) (0 : Fin 1) e u (0 : Fin 1) z) (fun _ _ h => congrFun h 5) (group_fiber e u) y).trans
      (Fin.sum_univ_one _)
  rw [val_main_v214_apply, val_main_v213_apply, val_main_v183_apply,
    show idx_main_v183 (idx_main_v213 (idx_main_v214 (ix2 (hd e u) l))) = ix2 e u from
      at2 _ _ _ (by simp; omega) (by simp), e1, dSink_at e u h0 h1 h2 h3]
  rfl

end Cert.AttnBwdRefIdeal.Attn
end
-- ==== Proof.Attn.Match.lean ====
/-
  `attn_bwd`'s blocks against the reference: the same columns of scores, hence the same four gradients, where the projections,
  the sinks, the gain and the cotangent are numbers.
-/
module

public import proofs.«01_k».proof.Proof.Attn.Final
public import proofs.«01_k».proof.Proof.Attn.RefOut

@[expose] public section

set_option maxRecDepth 16384

noncomputable section

namespace Cert.AttnBwdIdeal.Block

open Cert.AttnBwdIdeal Cert.AttnBwdIdeal.Gen Cert.Norm Cert.Real Idealize.ShloMosaic Idealize.ShloMosaic.TcCoe Idealize.SL.Sem
open Cert.AttnBwdRefIdeal.Attn (BN Num0 Num1 Num2 Num3 zq zk zv hcol hd w8 Al)

variable (m : (ℓ : Loc nD τ sig) → Buf (Elt Ideal) ℓ) (c : Dev nD)

/-- The four arguments. -/
abbrev X0 : FVec Ideal Cert.AttnBwdRefIdeal.S8192x1792 .f32 := m ((c : Thread nD τ).loc main_arg0)
abbrev X1 : FVec Ideal Cert.AttnBwdRefIdeal.S8 .f32 := m ((c : Thread nD τ).loc main_arg1)
abbrev X2 : FVec Ideal Cert.AttnBwdRefIdeal.S512 .f32 := m ((c : Thread nD τ).loc main_arg2)
abbrev X3 : FVec Ideal Cert.AttnBwdRefIdeal.S8192x1024 .f32 := m ((c : Thread nD τ).loc main_arg3)

/-- All four are numbers where they are read. -/
structure Nums : Prop where
  h0 : Num0 (X0 m c)
  h1 : Num1 (X1 m c)
  h2 : Num2 (X2 m c)
  h3 : Num3 (X3 m c)

variable (n : Fin 64) (e : Fin 2) (u : Fin 4) (i : Fin 128) (j : Fin 256) (d : Fin 64) (H : Nums m c)

theorem w8b_eq : Attn.w8b = w8 := by
  rw [Cert.AttnBwdRefIdeal.Attn.w8_eq]
  simp [Attn.w8b, Ideal.ofBits, Ideal.ieee, -EReal.coe_mul]
  norm_num

/-- Stacked row of query `i` of the group's head `u`. -/
abbrev srw : Fin 512 := ⟨128 * u.val + i.val, by omega⟩

theorem qi_srw : Attn.qi (srw u i) = i := Fin.ext (by show (128 * u.val + i.val) % 128 = i.val; omega)
theorem qcol_srw : Attn.qcol e (srw u i) d = hcol e u d := Fin.ext (by
  show 256 * e.val + 64 * ((128 * u.val + i.val) / 128) + d.val = 256 * e.val + 64 * u.val + d.val; omega)

theorem band_eq (k : Fin 256) (kz : Fin 1792) (hz : kz.val = 512 + k.val) (h : n.val = 0 → 128 ≤ j.val) :
    Attn.BK (bP m c n) (bK m c n) j k = BN (X0 m c) n kz j := by
  unfold Attn.BK BN
  have hk : (⟨512 + k.val, by omega⟩ : Fin 1792) = kz := Fin.ext hz.symm
  split
  · rw [if_neg (by omega)]
    exact congrArg (fun k => X0 m c (ix2 _ k)) hk
  · exact congrArg (fun k => X0 m c (ix2 _ k)) hk

include H in
theorem band_num (k : Fin 256) : R (Attn.BK (bP m c n) (bK m c n) j k) := by
  unfold Attn.BK
  split
  · exact H.h0 _ _ (by show 512 + k.val < 768; omega)
  · exact H.h0 _ _ (by show 512 + k.val < 768; omega)

theorem key_eq (h : Al n i j) : Attn.BK (bP m c n) (bK m c n) j (Attn.kcol e d) = BN (X0 m c) n (zk e d) j :=
  band_eq m c n j _ _ (by show 512 + 64 * e.val + d.val = 512 + (64 * e.val + d.val); omega) h.2
theorem value_eq (h : Al n i j) : Attn.BK (bP m c n) (bK m c n) j (Attn.vcol e d) = BN (X0 m c) n (zv e d) j :=
  band_eq m c n j _ _ (by show 640 + 64 * e.val + d.val = 512 + (128 + 64 * e.val + d.val); omega) h.2

theorem query_eq : bQ m c n (ix2 (Attn.qi (srw u i)) (Attn.qcol e (srw u i) d)) = X0 m c (ix2 (Cert.AttnBwdRefIdeal.Attn.row n i) (zq e u d)) := by
  rw [qi_srw, qcol_srw]
  rfl

include H in
theorem score_eq : Attn.SC (bQ m c n) (bP m c n) (bK m c n) (bB0 m c n) e (srw u i) = Cert.AttnBwdRefIdeal.Attn.f (X0 m c) n e u i := by
  funext j
  unfold Attn.SC Cert.AttnBwdRefIdeal.Attn.f
  have hb : bB0 m c n (ix3 (0 : Fin 1) j (srw u i)) = if Al n i j then 0 else ⊥ := by
    show BI m c _ j (srw u i) = _
    rw [BI_eq]
    refine if_congr ?_ rfl rfl
    have hi : (srw u i).val % 128 = i.val := by show (128 * u.val + i.val) % 128 = i.val; omega
    have hn : (if n.val = 0 then (0 : Fin 2) else 1).val = 0 ↔ n.val = 0 := by split <;> simp [*]
    unfold Al
    rw [hi, hn]
  rw [hb]
  by_cases h : Al n i j
  · rw [if_pos h, if_pos h, add_zero, sum_mul _ _ _ (fun d => mul
      (Cert.AttnBwdRefIdeal.Attn.BN_num n j H.h0 (zk e d) (by show 512 + 64 * e.val + d.val < 768; omega))
      (H.h0 _ (zq e u d) (by show 256 * e.val + 64 * u.val + d.val < 768; omega))) (Cert.AttnBwdRefIdeal.Attn.w8_eq ▸ coe _)]
    refine Finset.sum_congr rfl fun d _ => ?_
    rw [key_eq m c n e i j d h, query_eq, w8b_eq, mul_assoc]
  · rw [if_neg h, if_neg h, EReal.add_bot]

theorem sink_eq : Attn.sg (bS m c) e (srw u i) = Cert.AttnBwdRefIdeal.Attn.sk (X1 m c) e u := by
  show X1 m c (ix1 _) = X1 m c (ix1 _)
  refine congrArg (X1 m c) (congrArg ix1 (Fin.ext ?_))
  show (512 * e.val + (128 * u.val + i.val)) / 128 = 4 * e.val + u.val
  omega

theorem dOut_eq : Attn.dO16 (bO m c n) (bY m c n) (bG m c) (ix2 (Attn.qi (srw u i)) (Attn.qcol e (srw u i) d))
    = Cert.AttnBwdRefIdeal.Attn.D (X0 m c) (X1 m c) (X2 m c) (X3 m c) (Cert.AttnBwdRefIdeal.Attn.row n i) (hcol e u d) := by
  rw [qi_srw, qcol_srw, Attn.dO_apply]
  rfl

theorem dProb_eq (h : Al n i j) : Attn.GC (bO m c n) (bY m c n) (bG m c) (bP m c n) (bK m c n) e (srw u i) j
    = Cert.AttnBwdRefIdeal.Attn.G (X0 m c) (X1 m c) (X2 m c) (X3 m c) n e u i j := by
  unfold Attn.GC Cert.AttnBwdRefIdeal.Attn.G
  refine Finset.sum_congr rfl fun d _ => ?_
  rw [value_eq m c n e i j d h, dOut_eq]

include H in
theorem masked (h : ¬Al n i j) : Softmax.pr (Cert.AttnBwdRefIdeal.Attn.f (X0 m c) n e u i) (Cert.AttnBwdRefIdeal.Attn.sk (X1 m c) e u) j = 0 :=
  (Cert.AttnBwdRefIdeal.Attn.column n e u i H.h0 H.h1 (fun _ => 0) fun _ _ => zero).2.2.1 j h

include H in
theorem prob_eq : Attn.PC (bQ m c n) (bP m c n) (bK m c n) (bB0 m c n) (bS m c) e (srw u i) j
    = Cert.AttnBwdRefIdeal.Attn.P (X0 m c) (X1 m c) n e u i j := by
  unfold Attn.PC Cert.AttnBwdRefIdeal.Attn.P
  rw [score_eq m c n e u i H, sink_eq]

include H in
theorem mean_eq : Softmax.dr (Cert.AttnBwdRefIdeal.Attn.f (X0 m c) n e u i) (Cert.AttnBwdRefIdeal.Attn.sk (X1 m c) e u)
      (Attn.GC (bO m c n) (bY m c n) (bG m c) (bP m c n) (bK m c n) e (srw u i))
    = Softmax.dr (Cert.AttnBwdRefIdeal.Attn.f (X0 m c) n e u i) (Cert.AttnBwdRefIdeal.Attn.sk (X1 m c) e u)
      (Cert.AttnBwdRefIdeal.Attn.G (X0 m c) (X1 m c) (X2 m c) (X3 m c) n e u i) := by
  unfold Softmax.dr
  refine Finset.sum_congr rfl fun j _ => ?_
  by_cases h : Al n i j
  · rw [dProb_eq m c n e u i j h]
  · rw [masked m c n e u i j H h, zero_mul, zero_mul]

include H in
theorem dScore_eq : Attn.DC (bQ m c n) (bO m c n) (bY m c n) (bG m c) (bP m c n) (bK m c n) (bB0 m c n) (bS m c) e (srw u i) j
    = Cert.AttnBwdRefIdeal.Attn.S (X0 m c) (X1 m c) (X2 m c) (X3 m c) n e u i j := by
  unfold Attn.DC Cert.AttnBwdRefIdeal.Attn.S
  rw [score_eq m c n e u i H, sink_eq]
  unfold Softmax.dS
  rw [mean_eq m c n e u i H]
  by_cases h : Al n i j
  · rw [dProb_eq m c n e u i j h]
  · rw [masked m c n e u i j H h, zero_mul, zero_mul]

include H in
theorem sinkTerm_eq : Attn.KC (bQ m c n) (bO m c n) (bY m c n) (bG m c) (bP m c n) (bK m c n) (bB0 m c n) (bS m c) e (srw u i)
    = Cert.AttnBwdRefIdeal.Attn.K (X0 m c) (X1 m c) (X2 m c) (X3 m c) n e u i := by
  unfold Attn.KC Cert.AttnBwdRefIdeal.Attn.K
  rw [score_eq m c n e u i H, sink_eq, mean_eq m c n e u i H]

include H in
theorem dScore_masked (h : ¬Al n i j) : Cert.AttnBwdRefIdeal.Attn.S (X0 m c) (X1 m c) (X2 m c) (X3 m c) n e u i j = 0 := by
  unfold Cert.AttnBwdRefIdeal.Attn.S Softmax.dS
  rw [masked m c n e u i j H h, zero_mul]

include H in
theorem dScore_num : R (Cert.AttnBwdRefIdeal.Attn.S (X0 m c) (X1 m c) (X2 m c) (X3 m c) n e u i j) :=
  (Cert.AttnBwdRefIdeal.Attn.column n e u i H.h0 H.h1 _
    fun j _ => Cert.AttnBwdRefIdeal.Attn.G_num n e u i j H.h0 H.h1 H.h2 H.h3).2.2.2.2.2.2.2.2.1 j

/-! ## The four gradients -/

include H in
theorem dq_eq : dqG m c n (ix2 i (hcol e u d)) = ∑ j, Cert.AttnBwdRefIdeal.Attn.S (X0 m c) (X1 m c) (X2 m c) (X3 m c) n e u i j * w8
    * BN (X0 m c) n (zk e d) j := by
  unfold dqG
  have hg : Attn.grp (hcol e u d) = e := Fin.ext (by show (256 * e.val + 64 * u.val + d.val) / 256 = e.val; omega)
  have hs : Attn.srow (hcol e u d) i = srw u i := Fin.ext (by
    show 128 * ((256 * e.val + 64 * u.val + d.val) / 64 % 4) + i.val = 128 * u.val + i.val; omega)
  have hd : Attn.crd (hcol e u d).val = d := Fin.ext (by show (256 * e.val + 64 * u.val + d.val) % 64 = d.val; omega)
  rw [Attn.dqN_apply, hg, hs, hd, show Attn.w8f = w8 from rfl]
  simp only [dScore_eq m c n e u i _ H]
  rw [sum_mul _ _ _ (fun j => mul (dScore_num m c n e u i j H) (band_num m c n j H _)) (Cert.AttnBwdRefIdeal.Attn.w8_eq ▸ coe _)]
  refine Finset.sum_congr rfl fun j _ => ?_
  by_cases h : Al n i j
  · rw [key_eq m c n e i j d h, mul_right_comm]
  · rw [dScore_masked m c n e u i j H h, zero_mul, zero_mul, zero_mul]

/-- A sum over rows, block by block. -/
theorem sum_blocks (A B N : ℕ) (hN : A * B = N) (F : Fin N → EReal) :
    ∑ r, F r = ∑ a : Fin A, ∑ b : Fin B, F ⟨B * a.val + b.val, by
      have := Nat.mul_le_mul_left B (Nat.succ_le_of_lt a.isLt); rw [Nat.mul_succ, Nat.mul_comm B A] at this; omega⟩ := by
  subst hN
  rw [← finProdFinEquiv.sum_comp, Fintype.sum_prod_type]
  refine Finset.sum_congr rfl fun a _ => Finset.sum_congr rfl fun b _ => congrArg F (Fin.ext ?_)
  show b.val + B * a.val = B * a.val + b.val
  omega

include H in
theorem bandKey_eq : bandG m c n (ix2 j (Attn.kcol e d)) = ∑ i : Fin 128, ∑ u : Fin 4,
    Cert.AttnBwdRefIdeal.Attn.S (X0 m c) (X1 m c) (X2 m c) (X3 m c) n e u i j * w8 * X0 m c (ix2 (Cert.AttnBwdRefIdeal.Attn.row n i) (zq e u d)) := by
  unfold bandG
  rw [Attn.bandN_key _ _ _ _ _ _ _ _ j _ e d rfl, sum_blocks 4 128 512 rfl, Finset.sum_comm]
  refine Finset.sum_congr rfl fun i _ => Finset.sum_congr rfl fun u _ => ?_
  rw [dScore_eq m c n e u i j H, query_eq, w8b_eq, mul_comm (X0 m c _) w8, mul_assoc]

include H in
theorem bandValue_eq : bandG m c n (ix2 j (Attn.vcol e d)) = ∑ u : Fin 4, ∑ i : Fin 128,
    Cert.AttnBwdRefIdeal.Attn.D (X0 m c) (X1 m c) (X2 m c) (X3 m c) (Cert.AttnBwdRefIdeal.Attn.row n i) (hcol e u d)
      * Cert.AttnBwdRefIdeal.Attn.P (X0 m c) (X1 m c) n e u i j := by
  unfold bandG
  rw [Attn.bandN_value _ _ _ _ _ _ _ _ j _ e d rfl, sum_blocks 4 128 512 rfl]
  refine Finset.sum_congr rfl fun u _ => Finset.sum_congr rfl fun i _ => ?_
  rw [prob_eq m c n e u i j H, dOut_eq, mul_comm]

include H in
theorem dsk_eq : dskG m c (hd e u) = ∑ p : Fin 64 × Fin 128, -Cert.AttnBwdRefIdeal.Attn.K (X0 m c) (X1 m c) (X2 m c) (X3 m c) p.1 e u p.2 := by
  unfold dskG
  rw [Fintype.sum_prod_type, Finset.sum_comm]
  refine Finset.sum_congr rfl fun n _ => Finset.sum_congr rfl fun i _ => congrArg (-·) ?_
  unfold snkR snkG
  rw [← sinkTerm_eq m c n e u i H]
  refine congrArg₂ (Attn.KC _ _ _ _ _ _ _ _) (Fin.ext ?_) (Fin.ext ?_)
  · show (128 * (4 * e.val + u.val) + i.val) / 512 = e.val
    omega
  · show (128 * (4 * e.val + u.val) + i.val) % 512 = 128 * u.val + i.val
    omega

open Cert.AttnBwdRefIdeal.Read in
theorem gain_eq (k : Fin 512) : ∑ n, gnG m c n k = val_main_v215 (F := Ideal) (X0 m c) (X1 m c) (X3 m c) (ix2 (0 : Fin 1) k) := by
  rw [Cert.AttnBwdRefIdeal.Attn.dGain_at, sum_blocks 64 128 8192 rfl]
  rfl

open Cert.AttnBwdRefIdeal.Read in
include H in
theorem ref8 (r : Fin 8192) (k : Fin 512) : val_main_v210 (F := Ideal) (X0 m c) (X1 m c) (X2 m c) (X3 m c) (ix2 r k)
    = dqG m c (nb r) (ix2 (ib r) k) := by
  have hr : r = Cert.AttnBwdRefIdeal.Attn.row (nb r) (ib r) := Cert.AttnBwdRefIdeal.Attn.row_split r
  conv_lhs => rw [hr, Cert.AttnBwdRefIdeal.Attn.hcol_split k]
  conv_rhs => rw [Cert.AttnBwdRefIdeal.Attn.hcol_split k]
  rw [Cert.AttnBwdRefIdeal.Attn.dq_at _ _ _ _ _ H.h0 H.h1 H.h2 H.h3, dq_eq _ _ _ _ _ _ _ H]

open Cert.AttnBwdRefIdeal.Read in
include H in
theorem ref9 (r : Fin 8192) (k : Fin 256) : val_main_v212 (F := Ideal) (X0 m c) (X1 m c) (X2 m c) (X3 m c) (ix2 r k)
    = dkvG m c (nb r) (ib r) k := by
  have hr : r = Cert.AttnBwdRefIdeal.Attn.row (nb r) (ib r) := Cert.AttnBwdRefIdeal.Attn.row_split r
  conv_lhs => rw [hr]
  unfold dkvG
  by_cases h : k.val < 128
  · have hk : k = Attn.kcol ⟨k.val / 64, by omega⟩ ⟨k.val % 64, by omega⟩ := Fin.ext (by show k.val = 64 * (k.val / 64) + k.val % 64; omega)
    rw [hk]
    refine (Cert.AttnBwdRefIdeal.Attn.dKey_at _ _ _ _).trans ?_
    simp only [Cert.AttnBwdRefIdeal.Attn.bandKey_at _ _ _ _ H.h0 H.h1 H.h2 H.h3, ← bandKey_eq _ _ _ _ _ _ H]
  · have hk : k = Attn.vcol ⟨(k.val - 128) / 64, by omega⟩ ⟨k.val % 64, by omega⟩ := Fin.ext (by
      show k.val = 128 + 64 * ((k.val - 128) / 64) + k.val % 64; omega)
    rw [hk]
    refine (Cert.AttnBwdRefIdeal.Attn.dValue_at _ _ _ _).trans ?_
    simp only [Cert.AttnBwdRefIdeal.Attn.bandValue_at _ _ _ _ H.h0 H.h1, ← bandValue_eq _ _ _ _ _ _ H]

open Cert.AttnBwdRefIdeal.Read in
include H in
theorem ref10 (h : Fin 8) (l : Fin 128) : val_main_v214 (F := Ideal) (X0 m c) (X1 m c) (X2 m c) (X3 m c) (ix2 h l) = dskG m c h := by
  have hh : h = hd ⟨h.val / 4, by omega⟩ ⟨h.val % 4, by omega⟩ := Fin.ext (by show h.val = 4 * (h.val / 4) + h.val % 4; omega)
  rw [hh, Cert.AttnBwdRefIdeal.Attn.dsk_at _ _ H.h0 H.h1 H.h2 H.h3, dsk_eq _ _ _ _ H]

end Cert.AttnBwdIdeal.Block
end
-- ==== Proof.Attn.Pre.lean ====
/-
  What the precondition says: the arguments are numbers where they are read.
-/
module

public import proofs.«01_k».proof.Defs
public import proofs.«01_k».proof.Proof.Attn.Match
public import proofs.«01_k».proof.Proof.Gen.Pre_attn_finite
public import Idealize.ShloMosaic.Lib.Pointwise.Select

@[expose] public section

set_option maxRecDepth 16384

noncomputable section

namespace Cert.Pre_attn_finite

open Idealize.ShloMosaic Cert.Real

theorem and_one (a b : BitVec 1) : IntOp.andi a b = 1#1 ↔ a = 1#1 ∧ b = 1#1 := by revert a b; decide

theorem fold_one {ι : Type} (g : ι → BitVec 1) : ∀ (l : List ι) (r : BitVec 1), l.foldl (fun r n => IntOp.andi r (g n)) r = 1#1 →
    r = 1#1 ∧ ∀ n ∈ l, g n = 1#1
  | [], r, h => ⟨h, fun n hn => absurd hn (List.not_mem_nil)⟩
  | a :: l, r, h => by
    obtain ⟨h1, h2⟩ := fold_one g l (IntOp.andi r (g a)) h
    obtain ⟨h3, h4⟩ := (and_one _ _).mp h1
    refine ⟨h3, fun n hn => ?_⟩
    rcases List.mem_cons.mp hn with rfl | hn
    · exact h4
    · exact h2 n hn

/-- All of an array's bits, from their conjunction. -/
theorem all_one {s u t : Shape} {axes : List (Fin s.rank)} (x : IVec s 1) (v : IVec u 1) (h : s.ReducesTo axes t) (hu : 0 < u.numel)
    (j : t.Idx) (hj : ∀ i, h.drop i = j) (hr : Host.reduce IntOp.andi x v h hu j = 1#1) (i : s.Idx) : x i = 1#1 := by
  have := (fold_one (fun n => x (s.rowMajor.symm n)) _ _ hr).2 (s.rowMajor i)
    (List.mem_filter.mpr ⟨List.mem_finRange _, decide_eq_true (hj _)⟩)
  rwa [Equiv.symm_apply_apply] at this

/-- An entry below infinity in magnitude is a number. -/
theorem num_of_lt (x : EReal) (h : Ideal.cmp .olt (max x (-x)) (Ideal.ofBits .f32 0x7F800000#32) = 1#1) : R x := by
  rw [show Ideal.ofBits .f32 0x7F800000#32 = ⊤ by simp [Ideal.ofBits, Ideal.ieee]] at h
  have hl : max x (-x) < ⊤ := by
    by_contra hn
    change BitVec.ofBool (decide (max x (-x) < ⊤)) = 1#1 at h
    rw [decide_eq_false hn] at h
    exact absurd h (by decide)
  rw [max_lt_iff] at hl
  refine ⟨x.toReal, (EReal.coe_toReal (lt_top_iff_ne_top.mp hl.1) fun hb => ?_).symm⟩
  rw [hb] at hl
  exact absurd hl.2 (by simp)

instance : Subsingleton S_.Idx := ⟨fun a b => funext fun k => k.elim0⟩

theorem nums (x0 : FVec Ideal S8192x1792 .f32) (x1 : FVec Ideal S8 .f32) (x2 : FVec Ideal S512 .f32) (x3 : FVec Ideal S8192x1024 .f32)
    (h : fn (F := Ideal) x0 x1 x2 x3 = fun _ => 1#1) :
    (∀ (r : Fin 8192) (k : Fin 1792), k.val < 768 → R (x0 (ix2 r k))) ∧ (∀ k : Fin 8, R (x1 (ix1 k))) ∧ (∀ k : Fin 512, R (x2 (ix1 k)))
      ∧ ∀ (r : Fin 8192) (k : Fin 512), R (x3 (ix2 r ⟨k.val, by omega⟩)) := by
  have hp := congrFun h (fun a => a.elim0)
  unfold fn fn_part1 at hp
  dsimp only [andi] at hp
  simp only [and_one] at hp
  obtain ⟨⟨⟨p0, p1⟩, p2⟩, p3⟩ := hp
  have q0 := all_one (t := S_) _ _ _ _ _ (fun i => Subsingleton.elim (α := S_.Idx) _ _) p0
  have q1 := all_one (t := S_) _ _ _ _ _ (fun i => Subsingleton.elim (α := S_.Idx) _ _) p1
  have q2 := all_one (t := S_) _ _ _ _ _ (fun i => Subsingleton.elim (α := S_.Idx) _ _) p2
  have q3 := all_one (t := S_) _ _ _ _ _ (fun i => Subsingleton.elim (α := S_.Idx) _ _) p3
  refine ⟨fun r k hk => num_of_lt _ ?_, fun k => num_of_lt _ (q1 (ix1 k)), fun k => num_of_lt _ (q2 (ix1 k)), fun r k => num_of_lt _ ?_⟩
  · refine Eq.trans ?_ (q0 (ix2 r ⟨k.val, hk⟩))
    have e : extractStridedSlice S8192x768 ![0, 0] x0 Facts.slices_S8192x1792_S8192x768_0_0 (ix2 r ⟨k.val, hk⟩) = x0 (ix2 r k) := by
      pointwise
    show Ideal.cmp .olt _ _ = Ideal.cmp .olt (max (extractStridedSlice S8192x768 ![0, 0] x0 Facts.slices_S8192x1792_S8192x768_0_0 (ix2 r ⟨k.val, hk⟩)) _) _
    rw [e]
    rfl
  · refine Eq.trans ?_ (q3 (ix2 r k))
    have e : extractStridedSlice S8192x512 ![0, 0] x3 Facts.slices_S8192x1024_S8192x512_0_0 (ix2 r k) = x3 (ix2 r ⟨k.val, by omega⟩) := by
      pointwise
    show Ideal.cmp .olt _ _ = Ideal.cmp .olt (max (extractStridedSlice S8192x512 ![0, 0] x3 Facts.slices_S8192x1024_S8192x512_0_0 (ix2 r k)) _) _
    rw [e]
    rfl

end Cert.Pre_attn_finite

namespace Cert.AttnBwdIdeal.Block

open Idealize.ShloMosaic

theorem nums_of_pre (m : (ℓ : Loc nD τ sig) → Buf (Elt Ideal) ℓ) (h : Cert.Pre_AttnBwdIdeal_attn_finite m) (c : Dev nD) : Nums m c :=
  have ⟨h0, h1, h2, h3⟩ := Cert.Pre_attn_finite.nums _ _ _ _ (h c)
  ⟨h0, h1, h2, h3⟩

end Cert.AttnBwdIdeal.Block
end
-- ==== Proof.Attn.Claims.lean ====
/-
  The two programs of the attention's gradients compute the same four arrays.
-/
module

public import proofs.«01_k».proof.Defs
public import proofs.«01_k».proof.Proof.Gen.AttnBwd
public import proofs.«01_k».proof.Proof.Gen.AttnBwd.Frame
public import proofs.«01_k».proof.Proof.Gen.AttnBwdIdeal
public import proofs.«01_k».proof.Proof.Gen.AttnBwdIdeal.Frame
public import proofs.«01_k».proof.Proof.Gen.AttnBwdIdeal.Value
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.Gen.Pre_attn_finite
public import proofs.«01_k».proof.Proof.Attn.Pre
public import Idealize.ShloMosaic.Adequacy
public import Idealize.ShloMosaic.Init

@[expose] public section

set_option maxRecDepth 16384

noncomputable section

namespace Cert.Attn

open Idealize.ShloMosaic Idealize.ShloMosaic.TcCoe Idealize.SL.Sem
open Cert.AttnBwdIdeal.Block Cert.AttnBwdRefIdeal.Read

theorem frame_kernel : Cert.quiescent_AttnBwd (hAttnBwd := Cert.AttnBwd.Gen.facts) := fun m ρ _ => Cert.AttnBwd.Gen.frame m ρ

theorem frame_ideal : Cert.quiescent_AttnBwdIdeal (hAttnBwdIdeal := Cert.AttnBwdIdeal.Gen.facts) := fun m ρ _ =>
  Cert.AttnBwdIdeal.Gen.frame m ρ

theorem frame_ideal_finite : Cert.quiescent_AttnBwdIdeal_pre_attn_finite (hAttnBwdIdeal := Cert.AttnBwdIdeal.Gen.facts)
    (hPre_attn_finite := Cert.Pre_attn_finite.Gen.facts) := fun m ρ _ => Cert.AttnBwdIdeal.Gen.frame m ρ

theorem frame_ref : Cert.quiescent_AttnBwdRefIdeal (hAttnBwdRefIdeal := Cert.AttnBwdRefIdeal.Gen.facts) := fun m ρ _ =>
  (θ_run _ _ _).mono (fun r h => ⟨fun c => (h c).2.2.2.2, sem_eq_zero_of_no_sems (by decide) r.2⟩) (Cert.AttnBwdRefIdeal.Value.run m ρ)

theorem frame_ref_finite : Cert.quiescent_AttnBwdRefIdeal_pre_attn_finite (hAttnBwdRefIdeal := Cert.AttnBwdRefIdeal.Gen.facts)
    (hPre_attn_finite := Cert.Pre_attn_finite.Gen.facts) := fun m ρ _ => frame_ref m ρ trivial

/-- The kernel and the reference end with the same four arrays. -/
theorem algebraic : Cert.algebraic_AttnBwdIdeal_AttnBwdRefIdeal_pre_attn_finite (hAttnBwdIdeal := Cert.AttnBwdIdeal.Gen.facts)
    (hAttnBwdRefIdeal := Cert.AttnBwdRefIdeal.Gen.facts) (hPre_attn_finite := Cert.Pre_attn_finite.Gen.facts) := fun m ρ m' ρ' hp hag =>
  ⟨fun c i => dqG m c (nb (i 0)) (ix2 (ib (i 0)) (i 1)), fun c i => dkvG m c (nb (i 0)) (ib (i 0)) (i 1), fun c i => dskG m c (i 0),
    fun c i => (∑ n, gnG m c n (i 1) : EReal),
    (θ_run _ _ _).mono (fun _ h c => ⟨(h c).1.trans (final8 m c), (h c).2.1.trans (final9 m c), (h c).2.2.1.trans (final10 m c),
      (h c).2.2.2.1.trans (final11 m c), (h c).2.2.2.2⟩) (Cert.AttnBwdIdeal.Value.run_blocks m ρ),
    (θ_run _ _ _).mono (fun r h c => by
      obtain ⟨g0, g1, g2, g3⟩ := hag c
      have g0 : StableHlo.launchContents m' c (Proc.tc.devRef Cert.AttnBwdRefIdeal.main_arg0) = X0 m c := g0
      have g1 : StableHlo.launchContents m' c (Proc.tc.devRef Cert.AttnBwdRefIdeal.main_arg1) = X1 m c := g1
      have g2 : StableHlo.launchContents m' c (Proc.tc.devRef Cert.AttnBwdRefIdeal.main_arg2) = X2 m c := g2
      have g3 : StableHlo.launchContents m' c (Proc.tc.devRef Cert.AttnBwdRefIdeal.main_arg3) = X3 m c := g3
      have H := nums_of_pre m hp c
      obtain ⟨h0, h1, h2, h3, hk⟩ := h c
      refine ⟨h0.trans ((val_main_v210_eq _).trans ?_), h1.trans ((val_main_v212_eq _).trans ?_),
        h2.trans ((val_main_v214_eq _).trans ?_), h3.trans ((val_main_v215_eq _).trans ?_), hk⟩
      · rw [g0, g1, g2, g3]
        funext i
        exact (congrArg _ (eq_ix2 (n0 := 8192) (n1 := 512) i)).trans (ref8 m c H (i 0) (i 1))
      · rw [g0, g1, g2, g3]
        funext i
        exact (congrArg _ (eq_ix2 (n0 := 8192) (n1 := 256) i)).trans (ref9 m c H (i 0) (i 1))
      · rw [g0, g1, g2, g3]
        funext i
        exact (congrArg _ (eq_ix2 (n0 := 8) (n1 := 128) i)).trans (ref10 m c H (i 0) (i 1))
      · rw [g0, g1, g3]
        funext i
        exact (congrArg _ (Cert.AttnBwdRefIdeal.Attn.at2 (n0 := 1) (n1 := 512) i 0 (i 1) (by have : (i 0).val < 1 := (i 0).isLt; show (i 0).val = 0; omega) rfl)).trans
          (gain_eq m c (i 1)).symm)
      (Cert.AttnBwdRefIdeal.Value.run m' ρ')⟩

end Cert.Attn
end
-- ==== Proof.Mlp.Block.lean ====
/-
  What one grid step of `mlp_bwd_act` stores, over any float values: the row block's two gradients, and the gain's
  accumulator's next value (from zero at the first step).
-/
module

public import proofs.«01_k».proof.Proof.Gen.MlpBwdIdeal.Value
public import Idealize.ShloMosaic.Lib.Tactic
public import Idealize.ShloMosaic.Lib.Pipeline.Value
public import Idealize.ShloMosaic.Lib.Pointwise.Index
public import Idealize.ShloMosaic.Lib.Pipeline.ValueKit.Tiles
public import Idealize.ShloMosaic.Lib.Pipeline.ReadBack

@[expose] public section

set_option maxRecDepth 65536

noncomputable section

namespace Cert.MlpBwdIdeal.Block

open Cert.MlpBwdIdeal Cert.MlpBwdIdeal.Gen Idealize.ShloMosaic Idealize.ShloMosaic.TcCoe Idealize.SL.Sem

variable {F : FTy → Type} [FloatOps F]
variable (m : (ℓ : Loc nD τ sig) → Buf (Elt F) ℓ) (c : Dev nD) (t : Fin cfg0.N)

theorem hz : (![0, 0] : Fin 2 → Nat) = fun _ => 0 := funext fun a => by fin_cases a <;> rfl

theorem inbC (j : Fin 4) (a : Fin 2) : (![0, 1024 * j.val] : Fin 2 → ℕ) a + (![512, 1024] : Fin 2 → ℕ) a ≤ (![512, 4096] : Fin 2 → ℕ) a :=
  match a with
  | ⟨0, _⟩ => by show 0 + 512 ≤ 512; omega
  | ⟨1, _⟩ => by show 1024 * j.val + 1024 ≤ 4096; omega
theorem inbW (j : Fin 4) (a : Fin 3) :
    (![j.val, 0, 0] : Fin 3 → ℕ) a + (![1, 1024, 1024] : Fin 3 → ℕ) a ≤ (![4, 1024, 1024] : Fin 3 → ℕ) a :=
  match a with
  | ⟨0, _⟩ => by show j.val + 1 ≤ 4; omega
  | ⟨1, _⟩ => by show 0 + 1024 ≤ 1024; omega
  | ⟨2, _⟩ => by show 0 + 1024 ≤ 1024; omega

/-- The step's block of the output's cotangent, its four column chunks of the product, and the weights' four chunks. -/
def dhB : FVec F S512x1024 .f32 := iblk m c 0 t
def upB (j : Fin 4) : Vec F S512x1024 .bf16 :=
  View.ld (iblk m c 1 t) (Rect.unit (s := S512x4096) ![0, 1024 * j.val] ![512, 1024] (inbC j))
def wuB (j : Fin 4) : Vec F S1x1024x1024 .bf16 :=
  View.ld (iblk m c 4 t) (Rect.unit (s := S4x1024x1024) ![j.val, 0, 0] ![1, 1024, 1024] (inbW j))
def wdB (j : Fin 4) : Vec F S1x1024x1024 .bf16 :=
  View.ld (iblk m c 5 t) (Rect.unit (s := S4x1024x1024) ![j.val, 0, 0] ![1, 1024, 1024] (inbW j))

/-- Column chunk `j` of the product's cotangent. -/
def duB (j : Fin 4) : FVec F S512x1024 .bf16 := k0_pay10 (k0_pay4 (dhB m c t)) (wdB m c t j) (upB m c t j)

/-- The normalised input's cotangent, from the chunks. -/
def accB : FVec F S512x1024 .f32 :=
  k0_pay11 (k0_pay4 (dhB m c t)) (k0_pay6 (dhB m c t) (wdB m c t 0) (upB m c t 0) (wuB m c t 0))
    (k0_pay7 (dhB m c t) (wdB m c t 1)) (k0_pay8 (upB m c t 1)) (wuB m c t 1) (wdB m c t 2) (upB m c t 2) (wuB m c t 2)
def dactB : FVec F S512x1024 .f32 := k0_pay12 (k0_pay4 (dhB m c t)) (wdB m c t 3)
def up3B : FVec F S512x1024 .bf16 := k0_pay13 (upB m c t 3)

/-- The input's gradient, and the gain's gradient after the step from its value before it. -/
def dxB : FVec F S512x1024 .f32 :=
  k0_pay1 (dhB m c t) (k0_pay17 (accB m c t) (dactB m c t) (up3B m c t) (wuB m c t 3) (iblk m c 2 t) (iblk m c 3 t))
def dgB (a : FVec F S1x1024 .f32) : FVec F S1x1024 .f32 :=
  k0_pay2 (k0_pay18 (accB m c t) (dactB m c t) (up3B m c t) (wuB m c t 3) (iblk m c 2 t)) a

/-- Four column chunks stored one after another. -/
theorem canon_cols {Val : EltTy → Type} [∀ e, Nonempty (Val e)] {e : EltTy} (P : Fin 4 → S512x1024.Idx → Val e)
    (L : List (View.Piece Val S512x4096 e))
    (hL : L = (List.finRange 4).reverse.map fun j => ⟨Rect.unit ![0, 1024 * j.val] ![512, 1024] (inbC j), P j⟩) :
    View.canon L = fun y => P ⟨(y 1).val / 1024, by have : (y 1).val < 4096 := (y 1).isLt; omega⟩
      (ix2 (y 0) (⟨(y 1).val % 1024, Nat.mod_lt _ (by decide)⟩ : Fin 1024)) := by
  subst hL
  funext y
  have h0 : (y 0).val < 512 := (y 0).isLt
  have h1 : (y 1).val < 4096 := (y 1).isLt
  refine View.canon_eq_of_allAt _ y _ ?_ fun p hp x hx => ?_
  · refine ⟨_, List.mem_map.mpr ⟨⟨(y 1).val / 1024, by omega⟩, List.mem_reverse.mpr (List.mem_finRange _), rfl⟩, ?_⟩
    rw [Rect.mem_set_unit]
    intro a
    match a with
    | ⟨0, _⟩ => exact ⟨Nat.zero_le _, by show (y 0).val < 0 + 512; omega⟩
    | ⟨1, _⟩ => exact ⟨by show 1024 * ((y 1).val / 1024) ≤ (y 1).val; omega, by show (y 1).val < 1024 * ((y 1).val / 1024) + 1024; omega⟩
  · obtain ⟨b, -, rfl⟩ := List.mem_map.mp hp
    have x1 : (x 1).val < 1024 := (x 1).isLt
    have e0 : (y 0).val = (x 0).val := by
      rw [← hx, Rect.emb_apply]; show 0 + 1 * (x 0).val = _; omega
    have e1 : (y 1).val = 1024 * b.val + (x 1).val := by
      rw [← hx, Rect.emb_apply]; show 1024 * b.val + 1 * (x 1).val = _; omega
    have hb : (⟨(y 1).val / 1024, by omega⟩ : Fin 4) = b := Fin.ext (by show (y 1).val / 1024 = b.val; omega)
    rw [hb]
    refine congrArg (P b) (funext fun a => ?_)
    match a with
    | ⟨0, _⟩ => exact Fin.ext e0.symm
    | ⟨1, _⟩ => exact Fin.ext (by show (x 1).val = (y 1).val % 1024; omega)

theorem outs6 : (outsAt0 m c t.val t.isLt).1
    = fun y => duB m c t ⟨(y 1).val / 1024, by have : (y 1).val < 4096 := (y 1).isLt; omega⟩
      (ix2 (y 0) (⟨(y 1).val % 1024, Nat.mod_lt _ (by decide)⟩ : Fin 1024)) := by
  by_cases h0 : t.val % 16 = 0
  · rw [outsAt0_A m c t h0]
    dsimp only
    unfold out0_A_6
    rw [View.read_writes_eq_canon _ _ _ (by intro y; apply cover0_A_6)]
    unfold kernelRun0_A
    dsimp only
    sl_unfold_words
    simp only [View.readAt_eq_ld, Memref.IsWhole.read_unread, View.ld_unit_zero (S := S512x1024) hz, View.ld_unit_zero (S := S1x1024) hz]
    refine canon_cols (Val := Elt F) (e := .bf16) (duB m c t) _ ?_
    sl_kernel_rfl
  · rw [outsAt0_B m c t h0]
    dsimp only
    unfold out0_B_6
    rw [View.read_writes_eq_canon _ _ _ (by intro y; apply cover0_B_6)]
    unfold kernelRun0_B
    dsimp only
    sl_unfold_words
    simp only [View.readAt_eq_ld, Memref.IsWhole.read_unread, View.ld_unit_zero (S := S512x1024) hz, View.ld_unit_zero (S := S1x1024) hz]
    refine canon_cols (Val := Elt F) (e := .bf16) (duB m c t) _ ?_
    sl_kernel_rfl

theorem outs7 : (outsAt0 m c t.val t.isLt).2.1 = dxB m c t := by
  by_cases h0 : t.val % 16 = 0
  · rw [outsAt0_A m c t h0]
    dsimp only
    unfold out0_A_7
    rw [View.read_writes_eq_canon _ _ _ (by intro y; apply cover0_A_7)]
    unfold kernelRun0_A
    dsimp only
    rw [View.canon_unit_zero hz]
    sl_unfold_words
    simp only [View.readAt_eq_ld, Memref.IsWhole.read_unread, View.ld_unit_zero (S := S512x1024) hz, View.ld_unit_zero (S := S1x1024) hz]
    sl_kernel_rfl
  · rw [outsAt0_B m c t h0]
    dsimp only
    unfold out0_B_7
    rw [View.read_writes_eq_canon _ _ _ (by intro y; apply cover0_B_7)]
    unfold kernelRun0_B
    dsimp only
    rw [View.canon_unit_zero hz]
    sl_unfold_words
    simp only [View.readAt_eq_ld, Memref.IsWhole.read_unread, View.ld_unit_zero (S := S512x1024) hz, View.ld_unit_zero (S := S1x1024) hz]
    sl_kernel_rfl

theorem outs8_A (h0 : t.val % 16 = 0) : (outsAt0 m c t.val t.isLt).2.2 = dgB m c t (k0_pay3 (F := F)) := by
  rw [outsAt0_A m c t h0]
  dsimp only
  unfold out0_A_8
  rw [View.read_writes_eq_canon _ _ _ (by intro y; apply cover0_A_8)]
  unfold kernelRun0_A
  dsimp only
  sl_unfold_words
  rw [View.canon_cons_unit_zero (S := S1x1024) hz, View.readCov_unit_zero (S := S1x1024) _ hz]
  simp only [View.readAt_eq_ld, Memref.IsWhole.read_unread, View.ld_unit_zero (S := S512x1024) hz, View.ld_unit_zero (S := S1x1024) hz]
  sl_kernel_rfl

theorem outs8_B (h0 : ¬t.val % 16 = 0) :
    (outsAt0 m c t.val t.isLt).2.2 = dgB m c t (outsAt0 m c (t.val - 1) (by omega)).2.2 := by
  rw [outsAt0_B m c t h0]
  dsimp only
  unfold out0_B_8
  rw [View.read_writes_eq_canon _ _ _ (by intro y; apply cover0_B_8)]
  unfold kernelRun0_B
  dsimp only
  rw [View.canon_unit_zero hz]
  sl_unfold_words
  simp only [View.readAt_eq_ld, Memref.IsWhole.read_unread, View.ld_unit_zero (S := S512x1024) hz, View.ld_unit_zero (S := S1x1024) hz]
  sl_kernel_rfl

end Cert.MlpBwdIdeal.Block
end
-- ==== Proof.Mlp.Kernel.lean ====
/-
  `mlp_bwd_act`'s blocks and results as entries of the arguments (extended reals).
-/
module

public import proofs.«01_k».proof.Proof.Mlp.Block
public import proofs.«01_k».proof.Proof.Gen.MlpBwdRefIdeal.Read
public import proofs.«01_k».proof.Proof.Norm.Rms
public import proofs.«01_k».proof.Proof.Norm.Rows
public import Idealize.ShloMosaic.Lib.Pipeline.ValueKit.Point
public import Idealize.ShloMosaic.Lib.StableHlo.RunRead
public import Idealize.ShloMosaic.Lib.MatmulPlain

@[expose] public section

set_option maxRecDepth 16384

noncomputable section

namespace Cert.MlpBwdIdeal.Block

open Cert.MlpBwdIdeal Cert.MlpBwdIdeal.Gen Cert.Norm Idealize.ShloMosaic Idealize.ShloMosaic.TcCoe Idealize.SL.Sem

variable (m : (ℓ : Loc nD τ sig) → Buf (Elt Ideal) ℓ) (c : Dev nD) (t : Fin cfg0.N)

/-- The input, the gain, the two weights, the output's cotangent, and the first product. -/
def X (r : Fin 8192) (k : Fin 1024) : EReal := m ((c : Thread nD τ).loc main_arg0) (ix2 r k)
def G (k : Fin 1024) : EReal := m ((c : Thread nD τ).loc main_arg1) (ix1 k)
def Wu (k : Fin 1024) (j : Fin 4096) : EReal := m ((c : Thread nD τ).loc main_arg2) (ix2 k j)
def Wd (j : Fin 4096) (k : Fin 1024) : EReal := m ((c : Thread nD τ).loc main_arg3) (ix2 j k)
def dY (r : Fin 8192) (k : Fin 1024) : EReal := m ((c : Thread nD τ).loc main_arg4) (ix2 r k)
def U (r : Fin 8192) (j : Fin 4096) : EReal := Cert.MlpBwdRefIdeal.Read.val_main_v16 (F := Ideal)
  (m ((c : Thread nD τ).loc main_arg0)) (m ((c : Thread nD τ).loc main_arg1)) (m ((c : Thread nD τ).loc main_arg2)) (ix2 r j)

theorem lt16 : t.val < 16 := t.isLt

/-- Row `q` of the step's block, and column `i` of chunk `j`. -/
abbrev row (q : Fin 512) : Fin 8192 := ⟨512 * t.val + q.val, by have := lt16 t; omega⟩
abbrev col (j : Fin 4) (i : Fin 1024) : Fin 4096 := ⟨1024 * j.val + i.val, by omega⟩

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0, 0] := (by decide +kernel : ∀ t : Fin grid0.N, _)
theorem e5 : ∀ t : Fin cfg0.N, win0_5.index t = ![0, 0, 0] := (by decide +kernel : ∀ t : Fin grid0.N, _)

theorem blk0 (q : Fin 512) (k : Fin 1024) : iblk m c 0 t (ix2 q k) = dY m c (row t q) k := by
  unfold dY
  have := lt16 t
  blk_simp [iblk]
  rw [V_main_arg4]
  blk_ext [e0 t]

set_option maxHeartbeats 4000000 in
/-- The first product: the host's operations are the reference's. -/
theorem v19 : V m c main_v19 = (truncf .bf16 (Cert.MlpBwdRefIdeal.Read.val_main_v16 (F := Ideal) (m ((c : Thread nD τ).loc main_arg0))
    (m ((c : Thread nD τ).loc main_arg1)) (m ((c : Thread nD τ).loc main_arg2))) bitsLt_bf16_f32 : FVec Ideal S8192x4096 .bf16) := by
  after_reads_simp
  sl_kernel_rfl

theorem trunc_id {s : Shape} {f g : FTy} (X : FVec Ideal s f) (h : g.bits < f.bits) : (truncf g X h : s.Idx → EReal) = X := rfl

/-- The product's block read off any contents of its array. -/
theorem blk1_read (X : S8192x4096.Idx → EReal) (q : Fin 512) (j : Fin 4096) :
    View.read (Elt Ideal) ((cfg0.win 1).blk t).view X (ix2 q j) = X (ix2 (row t q) j) := by
  have := lt16 t
  blk_simp
  blk_ext [e1 t]

theorem blk1 (q : Fin 512) (j : Fin 4096) : iblk m c 1 t (ix2 q j) = U m c (row t q) j := by
  unfold iblk
  refine (blk1_read t _ q j).trans ?_
  exact congrFun ((v19 m c).trans (trunc_id _ _)) _

theorem blk2 (q : Fin 512) (k : Fin 1024) : iblk m c 2 t (ix2 q k) = X m c (row t q) k := by
  unfold X
  have := lt16 t
  blk_simp [iblk]
  rw [V_main_arg0]
  blk_ext [e2 t]

theorem blk3 (k : Fin 1024) : iblk m c 3 t (ix2 (0 : Fin 1) k) = G m c k := by
  unfold G
  blk_simp [iblk]
  entry_read
  pointwise
  blk_ext [e3 t]

theorem v2 : V m c main_v2 = transpose S4x1024x1024 [1, 0, 2] (shapeCast S1024x4x1024
    (m ((c : Thread nD τ).loc main_arg2) : S1024x4096.Idx → EReal) shapeCasts_S1024x4096_S1024x4x1024) transposes_S1024x4x1024_S4x1024x1024_1_0_2 := by
  sl_kernel_rfl
theorem v4 : V m c main_v4 = shapeCast S4x1024x1024
    (m ((c : Thread nD τ).loc main_arg3) : S4096x1024.Idx → EReal) shapeCasts_S4096x1024_S4x1024x1024 := by
  sl_kernel_rfl

theorem blk4 (j : Fin 4) (k i : Fin 1024) : iblk m c 4 t (ix3 j k i) = Wu m c k (col j i) := by
  unfold Wu
  blk_simp [iblk]
  rw [v2]
  pointwise
  blk_ext [e4 t]

/-- The second weights' chunks read off any contents of their array. -/
theorem blk5_read (Y : S4x1024x1024.Idx → EReal) (j : Fin 4) (i k : Fin 1024) :
    View.read (Elt Ideal) ((cfg0.win 5).blk t).view Y (ix3 j i k) = Y (ix3 j i k) := by
  blk_simp
  blk_ext [e5 t]

theorem blk5 (j : Fin 4) (i k : Fin 1024) : iblk m c 5 t (ix3 j i k) = Wd m c (col j i) k := by
  unfold iblk
  refine (blk5_read t _ j i k).trans ?_
  refine (congrFun (v4 m c) _).trans ?_
  refine shapeCast_apply _ shapeCasts_S4096x1024_S4x1024x1024 (ix3 j i k) (ix2 (col j i) k) ?_
  rw [Shape.rowMajor_val_three, Shape.rowMajor_val_two]
  show (1024 * j.val + i.val) * 1024 + k.val = (j.val * 1024 + i.val) * 1024 + k.val
  omega

theorem dhB_apply (q : Fin 512) (k : Fin 1024) : dhB m c t (ix2 q k) = dY m c (row t q) k := blk0 m c t q k
theorem upB_apply (j : Fin 4) (q : Fin 512) (i : Fin 1024) : upB m c t j (ix2 q i) = U m c (row t q) (col j i) := by
  refine (View.ld_unit_apply_of (S := S512x4096) (iblk m c 1 t) _ _ _ (ix2 q i) (ix2 q (col j i)) fun a => ?_).trans (blk1 m c t _ _)
  match a with
  | ⟨0, _⟩ => show q.val = 0 + q.val; omega
  | ⟨1, _⟩ => rfl
theorem wuB_apply (j : Fin 4) (k i : Fin 1024) : wuB m c t j (ix3 (0 : Fin 1) k i) = Wu m c k (col j i) := by
  refine (View.ld_unit_apply_of (S := S4x1024x1024) (iblk m c 4 t) _ _ _ (ix3 (0 : Fin 1) k i) (ix3 j k i) fun a => ?_).trans
    (blk4 m c t _ _ _)
  match a with
  | ⟨0, _⟩ => rfl
  | ⟨1, _⟩ => show k.val = 0 + k.val; omega
  | ⟨2, _⟩ => show i.val = 0 + i.val; omega
theorem wdB_apply (j : Fin 4) (i k : Fin 1024) : wdB m c t j (ix3 (0 : Fin 1) i k) = Wd m c (col j i) k := by
  refine (View.ld_unit_apply_of (S := S4x1024x1024) (iblk m c 5 t) _ _ _ (ix3 (0 : Fin 1) i k) (ix3 j i k) fun a => ?_).trans
    (blk5 m c t _ _ _)
  match a with
  | ⟨0, _⟩ => rfl
  | ⟨1, _⟩ => show i.val = 0 + i.val; omega
  | ⟨2, _⟩ => show k.val = 0 + k.val; omega

/-- The word of 2. -/
abbrev w2 : EReal := Ideal.ofBits .f32 0x40000000#32

/-- The cotangents of the first product and of the normalised input. -/
def dU (r : Fin 8192) (j : Fin 4096) : EReal := (∑ k : Fin 1024, dY m c r k * Wd m c j k) * (w2 * max (U m c r j) 0)
def dHn (r : Fin 8192) (k : Fin 1024) : EReal := ∑ j : Fin 4096, dU m c r j * Wu m c k j

/-- The input's and the gain's gradients. -/
def dX (r : Fin 8192) (k : Fin 1024) : EReal := dY m c r k + rmsD w1024 (X m c r) (fun k => dHn m c r k * G m c k) k
def dG (k : Fin 1024) : EReal := ∑ r : Fin 8192, dHn m c r k * X m c r k * rr w1024 (X m c r)

theorem duB_apply (j : Fin 4) (q : Fin 512) (i : Fin 1024) : duB m c t j (ix2 q i) = dU m c (row t q) (col j i) := by
  unfold duB dU k0_pay10 k0_pay4
  pointwise
  simp only [dhB_apply, upB_apply, wdB_apply]

/-- One chunk's part of the normalised input's cotangent. -/
def part (r : Fin 8192) (k : Fin 1024) (j : Fin 4) : EReal := ∑ i : Fin 1024, dU m c r (col j i) * Wu m c k (col j i)

theorem parts (r : Fin 8192) (k : Fin 1024) :
    0 + part m c r k 0 + part m c r k 1 + part m c r k 2 + part m c r k 3 = dHn m c r k := by
  unfold dHn part
  rw [Fin.sum_univ_tiles 4 1024 rfl, Fin.sum_univ_four, zero_add]
  have e (j : Fin 4) : (∑ i : Fin 1024, dU m c r (col j i) * Wu m c k (col j i))
      = ∑ i : Fin 1024, dU m c r ⟨j.val * 1024 + i.val, by omega⟩ * Wu m c k ⟨j.val * 1024 + i.val, by omega⟩ :=
    Finset.sum_congr rfl fun i _ => by
      have : col j i = ⟨j.val * 1024 + i.val, by omega⟩ := Fin.ext (by show 1024 * j.val + i.val = j.val * 1024 + i.val; omega)
      rw [this]
  rw [e 0, e 1, e 2, e 3]

theorem prod_apply (j : Fin 4) (q : Fin 512) (k : Fin 1024) :
    Ideal.matmul dot_S512x1024_S1024x1024_S512x1024_1_1_0_0_n_n (duB m c t j)
      (shapeCast S1024x1024 (wuB m c t j) shapeCasts_S1x1024x1024_S1024x1024) (constant (F := Ideal) S512x1024 .f32 0x00000000#32) (ix2 q k)
      = part m c (row t q) k j := by
  unfold part
  pointwise
  simp only [duB_apply, wuB_apply]

theorem dhnB_apply (q : Fin 512) (k : Fin 1024) :
    k0_pay15 (accB m c t) (dactB m c t) (up3B m c t) (wuB m c t 3) (ix2 q k) = dHn m c (row t q) k := by
  rw [← parts, ← prod_apply, ← prod_apply, ← prod_apply, ← prod_apply, ← Ideal.ofBits_zero_f32]
  rfl

theorem scale_apply (q : Fin 512) : k0_pay16 (F := Ideal) (iblk m c 2 t) (ix2 q (0 : Fin 1)) = rr w1024 (X m c (row t q)) := by
  unfold k0_pay16 rr ms
  pointwise
  simp only [blk2]

theorem dxB_apply (q : Fin 512) (k : Fin 1024) : dxB m c t (ix2 q k) = dX m c (row t q) k := by
  unfold dxB dX rmsD k0_pay1 k0_pay17
  pointwise
  simp only [scale_apply, blk2, blk3, dhB_apply, dhnB_apply]

theorem dgB_apply (a : FVec Ideal S1x1024 .f32) (k : Fin 1024) : dgB m c t a (ix2 (0 : Fin 1) k)
    = a (ix2 (0 : Fin 1) k) + ∑ q : Fin 512, dHn m c (row t q) k * X m c (row t q) k * rr w1024 (X m c (row t q)) := by
  unfold dgB k0_pay2 k0_pay18
  pointwise
  simp only [scale_apply, blk2, dhnB_apply]

theorem zero3 (x : S1x1024.Idx) : k0_pay3 (F := Ideal) x = 0 := Ideal.ofBits_zero_f32

theorem last8 (k : Fin 1024) (n : ℕ) (h : n < 16) (hn : n = 15) :
    (outsAt0 m c n h).2.2 (ix2 (0 : Fin 1) k) = dG m c k := by
  refine acc_rows (fun n h => (outsAt0 m c n h).2.2 (ix2 (0 : Fin 1) k))
    (fun r => dHn m c r k * X m c r k * rr w1024 (X m c r)) ?_ (fun n h => ?_) n h hn
  · refine (congrFun (outs8_A m c ⟨0, by decide⟩ rfl) _).trans ?_
    rw [dgB_apply, zero3, zero_add]
  · exact (congrFun (outs8_B m c ⟨n + 1, h⟩ (by dsimp only; omega)) _).trans (dgB_apply m c ⟨n + 1, h⟩ _ _)

theorem o6 : ∀ t : Fin cfg0.N, win0_6.index t = ![t.val, 0] := (by decide +kernel : ∀ t : Fin grid0.N, _)
theorem o7 : ∀ t : Fin cfg0.N, win0_7.index t = ![t.val, 0] := (by decide +kernel : ∀ t : Fin grid0.N, _)
theorem o8 : ∀ t : Fin cfg0.N, win0_8.index t = ![0, 0] := (by decide +kernel : ∀ t : Fin grid0.N, _)

/-- The three results of the run. -/
theorem final6 : (dats m 0 c).arrAt 6 cfg0.N = fun i : S8192x4096.Idx => dU m c (i 0) (i 1) := by
  refine (dats m 0 c).arrAt_eq_of_covers 6 _ (by decide +kernel) fun t hf y => ?_
  blk_simp
  rw [after0_6, outs6]
  dsimp only
  have h1 : (y 1).val < 4096 := (y 1).isLt
  refine (duB_apply m c t _ _ _).trans ?_
  exact congrArg₂ (dU m c) (Fin.ext (by blk_simp [o6 t] <;> simp <;> try omega)) (Fin.ext (by blk_simp [o6 t] <;> simp <;> omega))

theorem final7 : (dats m 0 c).arrAt 7 cfg0.N = fun i : S8192x1024.Idx => dX m c (i 0) (i 1) := by
  refine (dats m 0 c).arrAt_eq_of_covers 7 _ (by decide +kernel) fun t hf y => ?_
  blk_simp
  rw [after0_7, outs7]
  refine ((congrArg (dxB m c t) (eq_ix2 (n0 := 512) (n1 := 1024) y)).trans (dxB_apply m c t _ _)).trans ?_
  exact congrArg₂ (dX m c) (Fin.ext (by blk_simp [o7 t] <;> simp <;> try omega)) (Fin.ext (by blk_simp [o7 t] <;> simp))

theorem flush8 : ∀ t : Fin cfg0.N, (cfg0.win 8).flush t = true → t.val = 15 :=
  (by decide +kernel : ∀ t : Fin grid0.N, win0_8.flush t = true → t.val = 15)

theorem final8 : (dats m 0 c).arrAt 8 cfg0.N = fun i : S1x1024.Idx => dG m c (i 1) := by
  refine (dats m 0 c).arrAt_eq_of_covers 8 _ (by decide +kernel) fun t hf y => ?_
  have ht := flush8 t hf
  blk_simp
  rw [after0_8]
  have e : y = ix2 (0 : Fin 1) (y 1) := funext fun a => by
    match a with
    | ⟨0, _⟩ => exact Subsingleton.elim (α := Fin 1) _ _
    | ⟨1, _⟩ => rfl
  refine ((congrArg (outsAt0 m c t.val t.isLt).2.2 e).trans (last8 m c _ t.val t.isLt ht)).trans ?_
  exact congrArg (dG m c) (Fin.ext (by blk_simp [o8 t] <;> simp))

end Cert.MlpBwdIdeal.Block
end
-- ==== Proof.Mlp.Ref.lean ====
/-
  The reference's three gradients as entries of the arguments (extended reals): the squared ReLU's, the
  projection's and the norm's backward steps, folded into the kernel's closed forms.
-/
module

public import proofs.«01_k».proof.Proof.Gen.MlpBwdRefIdeal.Read
public import proofs.«01_k».proof.Proof.Mlp.Kernel

@[expose] public section

set_option maxRecDepth 16384

noncomputable section

namespace Cert.Mlp

open Cert.MlpBwdRefIdeal Cert.MlpBwdRefIdeal.Read Cert.Norm Idealize.ShloMosaic Idealize.ShloMosaic.TcCoe Idealize.SL.Sem
open Cert.MlpBwdIdeal.Block (X G U Wu Wd dY dU dHn dX dG w2)

variable (m : (ℓ : Loc Cert.MlpBwdIdeal.nD Cert.MlpBwdIdeal.τ Cert.MlpBwdIdeal.sig) → Buf (Elt Ideal) ℓ)
  (c : Dev Cert.MlpBwdIdeal.nD)

/-- The kernel's arguments. -/
abbrev a0 : FVec Ideal S8192x1024 .f32 := m ((c : Thread Cert.MlpBwdIdeal.nD Cert.MlpBwdIdeal.τ).loc Cert.MlpBwdIdeal.main_arg0)
abbrev a1 : FVec Ideal S1024 .f32 := m ((c : Thread Cert.MlpBwdIdeal.nD Cert.MlpBwdIdeal.τ).loc Cert.MlpBwdIdeal.main_arg1)
abbrev a2 : FVec Ideal S1024x4096 .f32 := m ((c : Thread Cert.MlpBwdIdeal.nD Cert.MlpBwdIdeal.τ).loc Cert.MlpBwdIdeal.main_arg2)
abbrev a3 : FVec Ideal S4096x1024 .f32 := m ((c : Thread Cert.MlpBwdIdeal.nD Cert.MlpBwdIdeal.τ).loc Cert.MlpBwdIdeal.main_arg3)
abbrev a4 : FVec Ideal S8192x1024 .f32 := m ((c : Thread Cert.MlpBwdIdeal.nD Cert.MlpBwdIdeal.τ).loc Cert.MlpBwdIdeal.main_arg4)

/-- A float sum starts from the zero word. -/
theorem from_zero (x : EReal) : Ideal.ofBits .f32 0x00000000#32 + x = x := by rw [Ideal.ofBits_zero_f32, zero_add]

theorem mean_eps (i : S8192x1.Idx) : val_main_v6 (F := Ideal) (a0 m c) i = ms w1024 (X m c (i 0)) := by
  rw [val_main_v6_apply, val_main_v4_apply, val_main_v2_apply, val_main_v1_apply]
  exact congrArg₂ (· + ·) (congrArg₂ Ideal.div ((from_zero _).trans (Finset.sum_congr rfl fun k _ => congrArg₂ (· * ·) (congrArg (a0 m c) (eq_ix2 _)) (congrArg (a0 m c) (eq_ix2 _)))) rfl) rfl

theorem scale (i : S8192x1.Idx) : val_main_v7 (F := Ideal) (a0 m c) i = rr w1024 (X m c (i 0)) := by
  rw [val_main_v7_apply, mean_eps]
  rfl

theorem scaled (r : Fin 8192) (k : Fin 1024) :
    val_main_v12 (F := Ideal) (a0 m c) (ix2 r k) = X m c r k * rr w1024 (X m c r) := by
  rw [val_main_v12_apply, val_main_v11_apply, scale]
  rfl

/-- Where the product is not positive, twice its positive part is zero, so the product with it is zero: the reference's
    choice of zero there changes nothing. -/
theorem choose_zero (u d : EReal) :
    Scalar.select (BitVec.ofBool (decide (0 < u))) (d * (w2 * max u 0)) 0 = d * (w2 * max u 0) := by
  by_cases h : 0 < u
  · rw [decide_eq_true h]
    rfl
  · rw [decide_eq_false h, max_eq_right (not_lt.mp h), mul_zero, mul_zero]
    rfl

theorem dAct (r : Fin 8192) (j : Fin 4096) : val_main_v25 (F := Ideal) (a3 m c) (a4 m c) (ix2 r j)
    = ∑ k : Fin 1024, dY m c r k * Wd m c j k := by
  rw [val_main_v25_apply]
  exact Finset.sum_congr rfl fun k _ => congrArg₂ (· * ·) (congrArg (a4 m c) (eq_ix2 _)) (congrArg (a3 m c) (eq_ix2 _))

theorem positive (r : Fin 8192) (j : Fin 4096) :
    val_main_v17 (F := Ideal) (a0 m c) (a1 m c) (a2 m c) (ix2 r j) = max (U m c r j) 0 := by
  rw [val_main_v17_apply]
  exact congrArg (max (U m c r j)) Ideal.ofBits_zero_f32

theorem is_positive (r : Fin 8192) (j : Fin 4096) :
    val_main_v19 (F := Ideal) (a0 m c) (a1 m c) (a2 m c) (ix2 r j) = BitVec.ofBool (decide (0 < U m c r j)) := by
  rw [val_main_v19_apply, val_main_v18_apply]
  refine Eq.trans (b := BitVec.ofBool (decide (Ideal.ofBits .f32 0x00000000#32 < U m c r j))) rfl ?_
  rw [Ideal.ofBits_zero_f32]

theorem dProduct (r : Fin 8192) (j : Fin 4096) :
    val_main_v28 (F := Ideal) (a0 m c) (a1 m c) (a2 m c) (a3 m c) (a4 m c) (ix2 r j) = dU m c r j := by
  rw [val_main_v28_apply, val_main_v26_apply, val_main_v23_apply, is_positive, positive, dAct]
  refine Eq.trans ?_ (choose_zero (U m c r j) _)
  exact congrArg (Scalar.select _ _) Ideal.ofBits_zero_f32

theorem ref0 (r : Fin 8192) (j : Fin 4096) :
    val_main_v50 (F := Ideal) (a0 m c) (a1 m c) (a2 m c) (a3 m c) (a4 m c) (ix2 r j) = dU m c r j := by
  rw [val_main_v50_apply]
  exact dProduct m c r j

theorem dNormed (r : Fin 8192) (k : Fin 1024) :
    val_main_v29 (F := Ideal) (a0 m c) (a1 m c) (a2 m c) (a3 m c) (a4 m c) (ix2 r k) = dHn m c r k := by
  rw [val_main_v29_apply]
  exact Finset.sum_congr rfl fun j _ => congrArg₂ (· * ·) ((congrArg _ (eq_ix2 _)).trans (dProduct m c r j)) (congrArg (a2 m c) (eq_ix2 _))

theorem dScaled (r : Fin 8192) (k : Fin 1024) :
    val_main_v34 (F := Ideal) (a0 m c) (a1 m c) (a2 m c) (a3 m c) (a4 m c) (ix2 r k) = dHn m c r k * G m c k := by
  rw [val_main_v34_apply, dNormed, val_main_v33_apply, val_main_v13_apply]
  exact congrArg (_ * ·) (congrArg (a1 m c) (eq_ix1 _))

theorem at_ix2 {n0 n1 : ℕ} (i : (⟨2, ![n0, n1]⟩ : Shape).Idx) (r : Fin n0) (k : Fin n1) (h0 : (i 0).val = r.val)
    (h1 : (i 1).val = k.val) : i = ix2 r k := funext fun a => Fin.ext (by
  match a with
  | ⟨0, _⟩ => exact h0
  | ⟨1, _⟩ => exact h1)

/-- The cotangent of a row's squares. -/
theorem dSquares (r : Fin 8192) : val_main_v43 (F := Ideal) (a0 m c) (a1 m c) (a2 m c) (a3 m c) (a4 m c) (ix2 r (0 : Fin 1))
    = sqD w1024 (X m c r) fun k => dHn m c r k * G m c k := by
  rw [val_main_v43_apply, val_main_v41_apply, val_main_v38_apply, val_main_v37_apply, val_main_v10_apply, val_main_v8_apply, scale, mean_eps]
  unfold sqD
  refine congrArg₂ Ideal.div (congrArg₂ (· * ·) ((from_zero _).trans (Finset.sum_congr rfl fun k _ => ?_)) rfl) rfl
  rw [show idx_main_v37 (idx_main_v38 (ix2 r (0 : Fin 1))) k = ix2 r k from at_ix2 _ _ _ (by simp) rfl, val_main_v36_apply, dScaled]
  rfl

theorem dSquares_row (r : Fin 8192) (k : Fin 1024) : val_main_v45 (F := Ideal) (a0 m c) (a1 m c) (a2 m c) (a3 m c) (a4 m c) (ix2 r k)
    = sqD w1024 (X m c r) fun k => dHn m c r k * G m c k := by
  rw [val_main_v45_apply, val_main_v44_apply]
  refine (from_zero _).trans ((Fin.sum_univ_one _).trans ?_)
  exact (congrArg _ (at_ix2 _ r (0 : Fin 1) rfl rfl)).trans (dSquares m c r)

theorem ref1 (r : Fin 8192) (k : Fin 1024) :
    val_main_v51 (F := Ideal) (a0 m c) (a1 m c) (a2 m c) (a3 m c) (a4 m c) (ix2 r k) = dX m c r k := by
  have h40 : val_main_v40 (F := Ideal) (a0 m c) (a1 m c) (a2 m c) (a3 m c) (a4 m c) (ix2 r k)
      = dHn m c r k * G m c k * rr w1024 (X m c r) := by
    rw [val_main_v40_apply, val_main_v39_apply, dScaled, scale]
    rfl
  have h46 : val_main_v46 (F := Ideal) (a0 m c) (a1 m c) (a2 m c) (a3 m c) (a4 m c) (ix2 r k)
      = X m c r k * sqD w1024 (X m c r) fun k => dHn m c r k * G m c k := by
    rw [val_main_v46_apply, dSquares_row]
    rfl
  have h48 : val_main_v48 (F := Ideal) (a0 m c) (a1 m c) (a2 m c) (a3 m c) (a4 m c) (ix2 r k)
      = (sqD w1024 (X m c r) fun k => dHn m c r k * G m c k) * X m c r k := by
    rw [val_main_v48_apply, dSquares_row]
    rfl
  rw [val_main_v51_apply, val_main_v49_apply, val_main_v47_apply, h40, h46, h48]
  refine Eq.trans ?_ (rms_steps w1024 (X m c r) (fun k => dHn m c r k * G m c k) k w1024_pos (dY m c r k))
  exact (add_assoc (G := EReal) _ _ _).symm.trans (congrArg (fun y : EReal => y + _) (add_assoc (G := EReal) _ _ _).symm)

theorem ref2 (k : Fin 1024) :
    val_main_v52 (F := Ideal) (a0 m c) (a1 m c) (a2 m c) (a3 m c) (a4 m c) (ix2 (0 : Fin 1) k) = dG m c k := by
  rw [val_main_v52_apply, val_main_v35_apply]
  refine (from_zero _).trans (Fin.sum_univ_one _ |>.trans ?_)
  rw [val_main_v32_apply, val_main_v31_apply]
  refine (from_zero _).trans (Finset.sum_congr rfl fun r _ => ?_)
  rw [show idx_main_v31 _ r = ix2 r k from (eq_ix2 (n0 := 8192) (n1 := 1024) _).trans
    (congrArg (ix2 r) (Fin.ext (by simp))), val_main_v30_apply]
  refine (congrArg₂ (· * ·) (scaled m c r k) (dNormed m c r k)).trans ?_
  rw [mul_comm, mul_assoc]

end Cert.Mlp
end
-- ==== Proof.Mlp.Claims.lean ====
/-
  The two programs of the MLP's activation's and norm's gradients compute the same three arrays.
-/
module

public import proofs.«01_k».proof.Defs
public import proofs.«01_k».proof.Proof.Gen.MlpBwd
public import proofs.«01_k».proof.Proof.Gen.MlpBwd.Frame
public import proofs.«01_k».proof.Proof.Gen.MlpBwdIdeal
public import proofs.«01_k».proof.Proof.Gen.MlpBwdIdeal.Frame
public import proofs.«01_k».proof.Proof.Gen.MlpBwdIdeal.Value
public import proofs.«01_k».proof.Proof.Gen.MlpBwdRefIdeal
public import proofs.«01_k».proof.Proof.Gen.MlpBwdRefIdeal.Run
public import proofs.«01_k».proof.Proof.Gen.MlpBwdRefIdeal.Read
public import proofs.«01_k».proof.Proof.Mlp.Ref
public import Idealize.ShloMosaic.Adequacy
public import Idealize.ShloMosaic.Init

@[expose] public section

set_option maxRecDepth 16384

noncomputable section

namespace Cert.Mlp

open Idealize.ShloMosaic Idealize.ShloMosaic.TcCoe Idealize.SL.Sem
open Cert.MlpBwdIdeal.Block Cert.MlpBwdRefIdeal.Read

theorem frame_kernel : Cert.quiescent_MlpBwd (hMlpBwd := Cert.MlpBwd.Gen.facts) := fun m ρ _ => Cert.MlpBwd.Gen.frame m ρ

theorem frame_ideal : Cert.quiescent_MlpBwdIdeal (hMlpBwdIdeal := Cert.MlpBwdIdeal.Gen.facts) := fun m ρ _ =>
  Cert.MlpBwdIdeal.Gen.frame m ρ

theorem frame_ref : Cert.quiescent_MlpBwdRefIdeal (hMlpBwdRefIdeal := Cert.MlpBwdRefIdeal.Gen.facts) := fun m ρ _ =>
  (θ_run _ _ _).mono (fun r h => ⟨fun c => (h c).2.2.2, sem_eq_zero_of_no_sems (by decide) r.2⟩) (Cert.MlpBwdRefIdeal.Value.run m ρ)

/-- The kernel and the reference end with the same three arrays. -/
theorem algebraic : Cert.algebraic_MlpBwdIdeal_MlpBwdRefIdeal (hMlpBwdIdeal := Cert.MlpBwdIdeal.Gen.facts)
    (hMlpBwdRefIdeal := Cert.MlpBwdRefIdeal.Gen.facts) := fun m ρ m' ρ' _ hag =>
  ⟨fun c i => dU m c (i 0) (i 1), fun c i => dX m c (i 0) (i 1), fun c i => dG m c (i 1),
    (θ_run _ _ _).mono (fun _ h c => ⟨(h c).1.trans (final6 m c), (h c).2.1.trans (final7 m c), (h c).2.2.1.trans (final8 m c),
      (h c).2.2.2⟩) (Cert.MlpBwdIdeal.Value.run_blocks m ρ),
    (θ_run _ _ _).mono (fun r h c => by
      obtain ⟨g0, g1, g2, g3, g4⟩ := hag c
      have g0 : _ = a0 m c := g0
      have g1 : _ = a1 m c := g1
      have g2 : _ = a2 m c := g2
      have g3 : _ = a3 m c := g3
      have g4 : _ = a4 m c := g4
      obtain ⟨h0, h1, h2, hk⟩ := h c
      refine ⟨h0.trans ((val_main_v50_eq _ _ _ _ _).trans ?_), h1.trans ((val_main_v51_eq m' c).trans ?_),
        h2.trans ((val_main_v52_eq _ _ _ _ _).trans ?_), hk⟩
      · rw [g0, g1, g2, g3, g4]
        funext i
        exact (congrArg _ (eq_ix2 (n0 := 8192) (n1 := 4096) i)).trans (ref0 m c (i 0) (i 1))
      · rw [g0, g1, g2, g3, g4]
        funext i
        exact (congrArg _ (eq_ix2 (n0 := 8192) (n1 := 1024) i)).trans (ref1 m c (i 0) (i 1))
      · rw [g0, g1, g2, g3, g4]
        funext i
        exact (congrArg _ (at_ix2 (n0 := 1) (n1 := 1024) i 0 (i 1) (by have : (i 0).val < 1 := (i 0).isLt; show (i 0).val = 0; omega) rfl)).trans (ref2 m c (i 1)))
      (Cert.MlpBwdRefIdeal.Value.run m' ρ')⟩

end Cert.Mlp
end
-- ==== Proof.Last.Block.lean ====
/-
  What one grid step of `last_layer_fwd` stores, over any float values: the row block's residual, normalised input,
  first product and gradient, and the next values of the loss's and the gain's accumulators (from zero at the first step).
-/
module

public import proofs.«01_k».proof.Proof.Gen.LastLayerIdeal.Value
public import Idealize.ShloMosaic.Lib.Tactic
public import Idealize.ShloMosaic.Lib.Pipeline.Value
public import Idealize.ShloMosaic.Lib.Pointwise.Index
public import Idealize.ShloMosaic.Lib.Pipeline.ValueKit.Tiles
public import Idealize.ShloMosaic.Lib.Pipeline.ReadBack

@[expose] public section

set_option maxRecDepth 65536

noncomputable section

namespace Cert.LastLayerIdeal.Block

open Cert.LastLayerIdeal Cert.LastLayerIdeal.Gen Idealize.ShloMosaic Idealize.ShloMosaic.TcCoe Idealize.SL.Sem

variable {F : FTy → Type} [FloatOps F]
variable (m : (ℓ : Loc nD τ sig) → Buf (Elt F) ℓ) (c : Dev nD) (t : Fin cfg0.N)

theorem hz : (![0, 0] : Fin 2 → Nat) = fun _ => 0 := funext fun a => by fin_cases a <;> rfl

theorem inbC (j : Fin 4) (a : Fin 2) : (![0, 1024 * j.val] : Fin 2 → ℕ) a + (![256, 1024] : Fin 2 → ℕ) a ≤ (![256, 4096] : Fin 2 → ℕ) a :=
  match a with
  | ⟨0, _⟩ => by show 0 + 256 ≤ 256; omega
  | ⟨1, _⟩ => by show 1024 * j.val + 1024 ≤ 4096; omega
theorem inbW (j : Fin 4) (a : Fin 3) :
    (![j.val, 0, 0] : Fin 3 → ℕ) a + (![1, 1024, 1024] : Fin 3 → ℕ) a ≤ (![4, 1024, 1024] : Fin 3 → ℕ) a :=
  match a with
  | ⟨0, _⟩ => by show j.val + 1 ≤ 4; omega
  | ⟨1, _⟩ => by show 0 + 1024 ≤ 1024; omega
  | ⟨2, _⟩ => by show 0 + 1024 ≤ 1024; omega

/-- The weights' four chunks. -/
def wuB (j : Fin 4) : Vec F S1x1024x1024 .bf16 :=
  View.ld (iblk m c 6 t) (Rect.unit (s := S4x1024x1024) ![j.val, 0, 0] ![1, 1024, 1024] (inbW j))
def wdB (j : Fin 4) : Vec F S1x1024x1024 .bf16 :=
  View.ld (iblk m c 7 t) (Rect.unit (s := S4x1024x1024) ![j.val, 0, 0] ![1, 1024, 1024] (inbW j))

/-- The residual after the output projection, its normalisation, and column chunk `j` of the first product. -/
def h1B : FVec F S256x1024 .f32 := k0_pay4 (iblk m c 0 t) (iblk m c 1 t) (iblk m c 2 t) (iblk m c 3 t) (iblk m c 4 t)
def hnB : FVec F S256x1024 .bf16 :=
  k0_pay5 (iblk m c 0 t) (iblk m c 1 t) (iblk m c 2 t) (iblk m c 3 t) (iblk m c 4 t) (iblk m c 5 t)
def upB (j : Fin 4) : FVec F S256x1024 .bf16 := k0_pay7 (hnB m c t) (wuB m c t j)

/-- The residual after two chunks and after all four, its rows' factors, and its normalisation. -/
def midB : FVec F S256x1024 .f32 :=
  k0_pay10 (h1B m c t) (hnB m c t) (wuB m c t 0) (wdB m c t 0) (wuB m c t 1) (wdB m c t 1)
def up2B : FVec F S256x1024 .f32 := k0_pay11 (hnB m c t) (wuB m c t 2)
def h2B : FVec F S256x1024 .f32 :=
  k0_pay15 (hnB m c t) (midB m c t) (up2B m c t) (wdB m c t 2) (wuB m c t 3) (wdB m c t 3)
def rB : FVec F S256x1 .f32 :=
  k0_pay17 (hnB m c t) (midB m c t) (up2B m c t) (wdB m c t 2) (wuB m c t 3) (wdB m c t 3)
def yB : FVec F S256x1024 .f32 :=
  k0_pay18 (hnB m c t) (midB m c t) (up2B m c t) (wdB m c t 2) (wuB m c t 3) (wdB m c t 3) (iblk m c 9 t)

/-- The residual's gradient, and the loss and the gain's gradient after the step from their values before it. -/
def dhB : FVec F S256x1024 .f32 := k0_pay22 (h2B m c t) (iblk m c 8 t) (k0_pay16 (iblk m c 9 t)) (rB m c t) (yB m c t)
def lossB (a : FVec F S8x128 .f32) : FVec F S8x128 .f32 := k0_pay20 (iblk m c 8 t) (yB m c t) a
def dgB (a : FVec F S1x1024 .f32) : FVec F S1x1024 .f32 :=
  k0_pay1 (k0_pay23 (h2B m c t) (iblk m c 8 t) (rB m c t) (yB m c t)) (k0_pay24 a)

/-- Four column chunks stored one after another. -/
theorem canon_cols {Val : EltTy → Type} [∀ e, Nonempty (Val e)] {e : EltTy} (P : Fin 4 → S256x1024.Idx → Val e)
    (L : List (View.Piece Val S256x4096 e))
    (hL : L = (List.finRange 4).reverse.map fun j => ⟨Rect.unit ![0, 1024 * j.val] ![256, 1024] (inbC j), P j⟩) :
    View.canon L = fun y => P ⟨(y 1).val / 1024, by have : (y 1).val < 4096 := (y 1).isLt; omega⟩
      (ix2 (y 0) (⟨(y 1).val % 1024, Nat.mod_lt _ (by decide)⟩ : Fin 1024)) := by
  subst hL
  funext y
  have h0 : (y 0).val < 256 := (y 0).isLt
  have h1 : (y 1).val < 4096 := (y 1).isLt
  refine View.canon_eq_of_allAt _ y _ ?_ fun p hp x hx => ?_
  · refine ⟨_, List.mem_map.mpr ⟨⟨(y 1).val / 1024, by omega⟩, List.mem_reverse.mpr (List.mem_finRange _), rfl⟩, ?_⟩
    rw [Rect.mem_set_unit]
    intro a
    match a with
    | ⟨0, _⟩ => exact ⟨Nat.zero_le _, by show (y 0).val < 0 + 256; omega⟩
    | ⟨1, _⟩ => exact ⟨by show 1024 * ((y 1).val / 1024) ≤ (y 1).val; omega, by show (y 1).val < 1024 * ((y 1).val / 1024) + 1024; omega⟩
  · obtain ⟨b, -, rfl⟩ := List.mem_map.mp hp
    have x1 : (x 1).val < 1024 := (x 1).isLt
    have e0 : (y 0).val = (x 0).val := by
      rw [← hx, Rect.emb_apply]; show 0 + 1 * (x 0).val = _; omega
    have e1 : (y 1).val = 1024 * b.val + (x 1).val := by
      rw [← hx, Rect.emb_apply]; show 1024 * b.val + 1 * (x 1).val = _; omega
    have hb : (⟨(y 1).val / 1024, by omega⟩ : Fin 4) = b := Fin.ext (by show (y 1).val / 1024 = b.val; omega)
    rw [hb]
    refine congrArg (P b) (funext fun a => ?_)
    match a with
    | ⟨0, _⟩ => exact Fin.ext e0.symm
    | ⟨1, _⟩ => exact Fin.ext (by show (x 1).val = (y 1).val % 1024; omega)

theorem outs10 : (outsAt0 m c t.val t.isLt).1 = h1B m c t := by
  by_cases h0 : t.val % 32 = 0
  · rw [outsAt0_A m c t h0]
    dsimp only
    unfold out0_A_10
    rw [View.read_writes_eq_canon _ _ _ (by intro y; apply cover0_A_10)]
    unfold kernelRun0_A
    dsimp only
    rw [View.canon_unit_zero hz]
    sl_unfold_words
    simp only [View.readAt_eq_ld, Memref.IsWhole.read_unread, View.ld_unit_zero (S := S256x512) hz, View.ld_unit_zero (S := S256x256) hz, View.ld_unit_zero (S := S256x1024) hz, View.ld_unit_zero (S := S1024x1024) hz, View.ld_unit_zero (S := S1x1024) hz, View.ld_unit_zero (S := S8x128) hz]
    sl_kernel_rfl
  · rw [outsAt0_B m c t h0]
    dsimp only
    unfold out0_B_10
    rw [View.read_writes_eq_canon _ _ _ (by intro y; apply cover0_B_10)]
    unfold kernelRun0_B
    dsimp only
    rw [View.canon_unit_zero hz]
    sl_unfold_words
    simp only [View.readAt_eq_ld, Memref.IsWhole.read_unread, View.ld_unit_zero (S := S256x512) hz, View.ld_unit_zero (S := S256x256) hz, View.ld_unit_zero (S := S256x1024) hz, View.ld_unit_zero (S := S1024x1024) hz, View.ld_unit_zero (S := S1x1024) hz, View.ld_unit_zero (S := S8x128) hz]
    sl_kernel_rfl

theorem outs11 : (outsAt0 m c t.val t.isLt).2.1 = hnB m c t := by
  by_cases h0 : t.val % 32 = 0
  · rw [outsAt0_A m c t h0]
    dsimp only
    unfold out0_A_11
    rw [View.read_writes_eq_canon _ _ _ (by intro y; apply cover0_A_11)]
    unfold kernelRun0_A
    dsimp only
    rw [View.canon_unit_zero hz]
    sl_unfold_words
    simp only [View.readAt_eq_ld, Memref.IsWhole.read_unread, View.ld_unit_zero (S := S256x512) hz, View.ld_unit_zero (S := S256x256) hz, View.ld_unit_zero (S := S256x1024) hz, View.ld_unit_zero (S := S1024x1024) hz, View.ld_unit_zero (S := S1x1024) hz, View.ld_unit_zero (S := S8x128) hz]
    sl_kernel_rfl
  · rw [outsAt0_B m c t h0]
    dsimp only
    unfold out0_B_11
    rw [View.read_writes_eq_canon _ _ _ (by intro y; apply cover0_B_11)]
    unfold kernelRun0_B
    dsimp only
    rw [View.canon_unit_zero hz]
    sl_unfold_words
    simp only [View.readAt_eq_ld, Memref.IsWhole.read_unread, View.ld_unit_zero (S := S256x512) hz, View.ld_unit_zero (S := S256x256) hz, View.ld_unit_zero (S := S256x1024) hz, View.ld_unit_zero (S := S1024x1024) hz, View.ld_unit_zero (S := S1x1024) hz, View.ld_unit_zero (S := S8x128) hz]
    sl_kernel_rfl

theorem outs12 : (outsAt0 m c t.val t.isLt).2.2.1
    = fun y => upB m c t ⟨(y 1).val / 1024, by have : (y 1).val < 4096 := (y 1).isLt; omega⟩
      (ix2 (y 0) (⟨(y 1).val % 1024, Nat.mod_lt _ (by decide)⟩ : Fin 1024)) := by
  by_cases h0 : t.val % 32 = 0
  · rw [outsAt0_A m c t h0]
    dsimp only
    unfold out0_A_12
    rw [View.read_writes_eq_canon _ _ _ (by intro y; apply cover0_A_12)]
    unfold kernelRun0_A
    dsimp only
    sl_unfold_words
    simp only [View.readAt_eq_ld, Memref.IsWhole.read_unread, View.ld_unit_zero (S := S256x512) hz, View.ld_unit_zero (S := S256x256) hz, View.ld_unit_zero (S := S256x1024) hz, View.ld_unit_zero (S := S1024x1024) hz, View.ld_unit_zero (S := S1x1024) hz, View.ld_unit_zero (S := S8x128) hz]
    refine canon_cols (Val := Elt F) (e := .bf16) (upB m c t) _ ?_
    sl_kernel_rfl
  · rw [outsAt0_B m c t h0]
    dsimp only
    unfold out0_B_12
    rw [View.read_writes_eq_canon _ _ _ (by intro y; apply cover0_B_12)]
    unfold kernelRun0_B
    dsimp only
    sl_unfold_words
    simp only [View.readAt_eq_ld, Memref.IsWhole.read_unread, View.ld_unit_zero (S := S256x512) hz, View.ld_unit_zero (S := S256x256) hz, View.ld_unit_zero (S := S256x1024) hz, View.ld_unit_zero (S := S1024x1024) hz, View.ld_unit_zero (S := S1x1024) hz, View.ld_unit_zero (S := S8x128) hz]
    refine canon_cols (Val := Elt F) (e := .bf16) (upB m c t) _ ?_
    sl_kernel_rfl

theorem outs13 : (outsAt0 m c t.val t.isLt).2.2.2.1 = dhB m c t := by
  by_cases h0 : t.val % 32 = 0
  · rw [outsAt0_A m c t h0]
    dsimp only
    unfold out0_A_13
    rw [View.read_writes_eq_canon _ _ _ (by intro y; apply cover0_A_13)]
    unfold kernelRun0_A
    dsimp only
    rw [View.canon_unit_zero hz]
    sl_unfold_words
    simp only [View.readAt_eq_ld, Memref.IsWhole.read_unread, View.ld_unit_zero (S := S256x512) hz, View.ld_unit_zero (S := S256x256) hz, View.ld_unit_zero (S := S256x1024) hz, View.ld_unit_zero (S := S1024x1024) hz, View.ld_unit_zero (S := S1x1024) hz, View.ld_unit_zero (S := S8x128) hz]
    sl_kernel_rfl
  · rw [outsAt0_B m c t h0]
    dsimp only
    unfold out0_B_13
    rw [View.read_writes_eq_canon _ _ _ (by intro y; apply cover0_B_13)]
    unfold kernelRun0_B
    dsimp only
    rw [View.canon_unit_zero hz]
    sl_unfold_words
    simp only [View.readAt_eq_ld, Memref.IsWhole.read_unread, View.ld_unit_zero (S := S256x512) hz, View.ld_unit_zero (S := S256x256) hz, View.ld_unit_zero (S := S256x1024) hz, View.ld_unit_zero (S := S1024x1024) hz, View.ld_unit_zero (S := S1x1024) hz, View.ld_unit_zero (S := S8x128) hz]
    sl_kernel_rfl

theorem outs14_A (h0 : t.val % 32 = 0) : (outsAt0 m c t.val t.isLt).2.2.2.2.1 = lossB m c t (k0_pay2 (F := F)) := by
  rw [outsAt0_A m c t h0]
  dsimp only
  unfold out0_A_14
  rw [View.read_writes_eq_canon _ _ _ (by intro y; apply cover0_A_14)]
  unfold kernelRun0_A
  dsimp only
  sl_unfold_words
  rw [View.canon_cons_unit_zero (S := S8x128) hz, View.readCov_unit_zero (S := S8x128) _ hz]
  simp only [View.readAt_eq_ld, Memref.IsWhole.read_unread, View.ld_unit_zero (S := S256x512) hz, View.ld_unit_zero (S := S256x256) hz, View.ld_unit_zero (S := S256x1024) hz, View.ld_unit_zero (S := S1024x1024) hz, View.ld_unit_zero (S := S1x1024) hz, View.ld_unit_zero (S := S8x128) hz]
  sl_kernel_rfl

theorem outs14_B (h0 : ¬t.val % 32 = 0) :
    (outsAt0 m c t.val t.isLt).2.2.2.2.1 = lossB m c t (outsAt0 m c (t.val - 1) (by omega)).2.2.2.2.1 := by
  rw [outsAt0_B m c t h0]
  dsimp only
  unfold out0_B_14
  rw [View.read_writes_eq_canon _ _ _ (by intro y; apply cover0_B_14)]
  unfold kernelRun0_B
  dsimp only
  rw [View.canon_unit_zero hz]
  sl_unfold_words
  simp only [View.readAt_eq_ld, Memref.IsWhole.read_unread, View.ld_unit_zero (S := S256x512) hz, View.ld_unit_zero (S := S256x256) hz, View.ld_unit_zero (S := S256x1024) hz, View.ld_unit_zero (S := S1024x1024) hz, View.ld_unit_zero (S := S1x1024) hz, View.ld_unit_zero (S := S8x128) hz]
  sl_kernel_rfl

theorem outs15_A (h0 : t.val % 32 = 0) : (outsAt0 m c t.val t.isLt).2.2.2.2.2 = dgB m c t (k0_pay3 (F := F)) := by
  rw [outsAt0_A m c t h0]
  dsimp only
  unfold out0_A_15
  rw [View.read_writes_eq_canon _ _ _ (by intro y; apply cover0_A_15)]
  unfold kernelRun0_A
  dsimp only
  sl_unfold_words
  rw [View.canon_cons_unit_zero (S := S1x1024) hz, View.readCov_unit_zero (S := S1x1024) _ hz]
  simp only [View.readAt_eq_ld, Memref.IsWhole.read_unread, View.ld_unit_zero (S := S256x512) hz, View.ld_unit_zero (S := S256x256) hz, View.ld_unit_zero (S := S256x1024) hz, View.ld_unit_zero (S := S1024x1024) hz, View.ld_unit_zero (S := S1x1024) hz, View.ld_unit_zero (S := S8x128) hz]
  sl_kernel_rfl

theorem outs15_B (h0 : ¬t.val % 32 = 0) :
    (outsAt0 m c t.val t.isLt).2.2.2.2.2 = dgB m c t (outsAt0 m c (t.val - 1) (by omega)).2.2.2.2.2 := by
  rw [outsAt0_B m c t h0]
  dsimp only
  unfold out0_B_15
  rw [View.read_writes_eq_canon _ _ _ (by intro y; apply cover0_B_15)]
  unfold kernelRun0_B
  dsimp only
  rw [View.canon_unit_zero hz]
  sl_unfold_words
  simp only [View.readAt_eq_ld, Memref.IsWhole.read_unread, View.ld_unit_zero (S := S256x512) hz, View.ld_unit_zero (S := S256x256) hz, View.ld_unit_zero (S := S256x1024) hz, View.ld_unit_zero (S := S1024x1024) hz, View.ld_unit_zero (S := S1x1024) hz, View.ld_unit_zero (S := S8x128) hz]
  sl_kernel_rfl

end Cert.LastLayerIdeal.Block
end
-- ==== Proof.Norm.Rows256.lean ====
/-
  An accumulator that takes one block of 256 rows at each of 32 steps holds the sum over 8192 rows at the last.
-/
module

public import Idealize.ShloMosaic.PureOps.Ideal
public import Idealize.ShloMosaic.Lib.Pointwise.Sums

@[expose] public section

noncomputable section

namespace Cert.Norm.Tile256

/-- 32 blocks of 256 rows are 8192 rows. -/
theorem sum_tiles (f : Fin 8192 → EReal) :
    ∑ t : Fin 32, ∑ q : Fin 256, f ⟨256 * t.val + q.val, by omega⟩ = ∑ s : Fin 8192, f s := by
  rw [Idealize.ShloMosaic.Fin.sum_univ_tiles 32 256 rfl f]
  exact Finset.sum_congr rfl fun t _ => Finset.sum_congr rfl fun q _ => congrArg f (Fin.ext (by
    show 256 * t.val + q.val = t.val * 256 + q.val
    omega))

/-- The accumulator at step `n`, from its start and its steps. -/
theorem acc_range (a b : (n : ℕ) → n < 32 → EReal) (h0 : a 0 (by omega) = b 0 (by omega))
    (hs : ∀ n (h : n + 1 < 32), a (n + 1) h = a n (by omega) + b (n + 1) h) (n : ℕ) (hn : n < 32) :
    a n hn = ∑ t ∈ Finset.range (n + 1), if h : t < 32 then b t h else 0 := by
  induction n with
  | zero => rw [h0, Finset.sum_range_one, dif_pos hn]
  | succ n ih => rw [hs, Finset.sum_range_succ, dif_pos hn, ih]

/-- The accumulator at the last step. -/
theorem acc_rows (a : (n : ℕ) → n < 32 → EReal) (f : Fin 8192 → EReal)
    (h0 : a 0 (by omega) = ∑ q : Fin 256, f ⟨256 * 0 + q.val, by omega⟩)
    (hs : ∀ n (h : n + 1 < 32), a (n + 1) h = a n (by omega) + ∑ q : Fin 256, f ⟨256 * (n + 1) + q.val, by omega⟩)
    (n : ℕ) (h : n < 32) (hn : n = 31) : a n h = ∑ s : Fin 8192, f s := by
  subst hn
  rw [acc_range a (fun t h => ∑ q : Fin 256, f ⟨256 * t + q.val, by omega⟩) h0 hs, Finset.sum_range, ← sum_tiles]
  exact Finset.sum_congr rfl fun t _ => dif_pos t.isLt

end Cert.Norm.Tile256
end
-- ==== Proof.Last.Kernel.lean ====
/-
  `last_layer_fwd`'s blocks and results as entries of the arguments (extended reals).
-/
module

public import proofs.«01_k».proof.Proof.Last.Block
public import proofs.«01_k».proof.Proof.Norm.Rms
public import proofs.«01_k».proof.Proof.Norm.Rows256
public import Idealize.ShloMosaic.Lib.Pipeline.ValueKit.Point
public import Idealize.ShloMosaic.Lib.StableHlo.RunRead
public import Idealize.ShloMosaic.Lib.MatmulPlain

@[expose] public section

set_option maxRecDepth 16384

noncomputable section

namespace Cert.LastLayerIdeal.Block

open Cert.LastLayerIdeal Cert.LastLayerIdeal.Gen Cert.Norm Idealize.ShloMosaic Idealize.ShloMosaic.TcCoe Idealize.SL.Sem

variable (m : (ℓ : Loc nD τ sig) → Buf (Elt Ideal) ℓ) (c : Dev nD) (t : Fin cfg0.N)

/-- The mixers' output, the residual, the output projection, the second norm's gain, the two weights, the targets and
    the final norm's gain. -/
def Y (r : Fin 8192) (k : Fin 1024) : EReal := m ((c : Thread nD τ).loc main_arg0) (ix2 r k)
def H (r : Fin 8192) (k : Fin 1024) : EReal := m ((c : Thread nD τ).loc main_arg1) (ix2 r k)
def Wo (j k : Fin 1024) : EReal := m ((c : Thread nD τ).loc main_arg2) (ix2 j k)
def G2 (k : Fin 1024) : EReal := m ((c : Thread nD τ).loc main_arg3) (ix1 k)
def Wu (k : Fin 1024) (j : Fin 4096) : EReal := m ((c : Thread nD τ).loc main_arg4) (ix2 k j)
def Wd (j : Fin 4096) (k : Fin 1024) : EReal := m ((c : Thread nD τ).loc main_arg5) (ix2 j k)
def Tg (r : Fin 8192) (k : Fin 1024) : EReal := m ((c : Thread nD τ).loc main_arg6) (ix2 r k)
def Gf (k : Fin 1024) : EReal := m ((c : Thread nD τ).loc main_arg7) (ix1 k)

theorem lt32 : t.val < 32 := t.isLt

/-- Row `q` of the step's block, and column `i` of chunk `j`. -/
abbrev row (q : Fin 256) : Fin 8192 := ⟨256 * t.val + q.val, by have := lt32 t; omega⟩
abbrev col (j : Fin 4) (i : Fin 1024) : Fin 4096 := ⟨1024 * j.val + i.val, by omega⟩

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0, 0] := (by decide +kernel : ∀ t : Fin grid0.N, _)
theorem e7 : ∀ t : Fin cfg0.N, win0_7.index t = ![0, 0, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![0, 0] := (by decide +kernel : ∀ t : Fin grid0.N, _)

theorem blk0 (q : Fin 256) (j : Fin 512) : iblk m c 0 t (ix2 q j) = Y m c (row t q) ⟨0 + j.val, by omega⟩ := by
  unfold Y
  have := lt32 t
  blk_simp [iblk]
  entry_read
  pointwise
  blk_ext [e0 t]

theorem blk1 (q : Fin 256) (j : Fin 256) : iblk m c 1 t (ix2 q j) = Y m c (row t q) ⟨512 + j.val, by omega⟩ := by
  unfold Y
  have := lt32 t
  blk_simp [iblk]
  entry_read
  pointwise
  blk_ext [e1 t]

theorem blk2 (q : Fin 256) (j : Fin 256) : iblk m c 2 t (ix2 q j) = Y m c (row t q) ⟨768 + j.val, by omega⟩ := by
  unfold Y
  have := lt32 t
  blk_simp [iblk]
  entry_read
  pointwise
  blk_ext [e2 t]

theorem blk3 (q : Fin 256) (k : Fin 1024) : iblk m c 3 t (ix2 q k) = H m c (row t q) k := by
  unfold H
  have := lt32 t
  blk_simp [iblk]
  rw [V_main_arg1]
  blk_ext [e3 t]

theorem blk4 (j k : Fin 1024) : iblk m c 4 t (ix2 j k) = Wo m c j k := by
  unfold Wo
  blk_simp [iblk]
  entry_read
  pointwise
  blk_ext [e4 t]

theorem blk5 (k : Fin 1024) : iblk m c 5 t (ix2 (0 : Fin 1) k) = G2 m c k := by
  unfold G2
  blk_simp [iblk]
  entry_read
  pointwise
  blk_ext [e5 t]

theorem v2 : V m c main_v2 = transpose S4x1024x1024 [1, 0, 2] (shapeCast S1024x4x1024
    (m ((c : Thread nD τ).loc main_arg4) : S1024x4096.Idx → EReal) shapeCasts_S1024x4096_S1024x4x1024) transposes_S1024x4x1024_S4x1024x1024_1_0_2 := by
  sl_kernel_rfl
theorem v4 : V m c main_v4 = shapeCast S4x1024x1024
    (m ((c : Thread nD τ).loc main_arg5) : S4096x1024.Idx → EReal) shapeCasts_S4096x1024_S4x1024x1024 := by
  sl_kernel_rfl

theorem blk6 (j : Fin 4) (k i : Fin 1024) : iblk m c 6 t (ix3 j k i) = Wu m c k (col j i) := by
  unfold Wu
  blk_simp [iblk]
  rw [v2]
  pointwise
  blk_ext [e6 t]

/-- The second weights' chunks read off any contents of their array. -/
theorem blk7_read (Z : S4x1024x1024.Idx → EReal) (j : Fin 4) (i k : Fin 1024) :
    View.read (Elt Ideal) ((cfg0.win 7).blk t).view Z (ix3 j i k) = Z (ix3 j i k) := by
  blk_simp
  blk_ext [e7 t]

theorem blk7 (j : Fin 4) (i k : Fin 1024) : iblk m c 7 t (ix3 j i k) = Wd m c (col j i) k := by
  unfold iblk
  refine (blk7_read t _ j i k).trans ?_
  refine (congrFun (v4 m c) _).trans ?_
  refine shapeCast_apply _ shapeCasts_S4096x1024_S4x1024x1024 (ix3 j i k) (ix2 (col j i) k) ?_
  rw [Shape.rowMajor_val_three, Shape.rowMajor_val_two]
  show (1024 * j.val + i.val) * 1024 + k.val = (j.val * 1024 + i.val) * 1024 + k.val
  omega

theorem blk8 (q : Fin 256) (k : Fin 1024) : iblk m c 8 t (ix2 q k) = Tg m c (row t q) k := by
  unfold Tg
  have := lt32 t
  blk_simp [iblk]
  rw [V_main_arg6]
  blk_ext [e8 t]

theorem blk9 (k : Fin 1024) : iblk m c 9 t (ix2 (0 : Fin 1) k) = Gf m c k := by
  unfold Gf
  blk_simp [iblk]
  entry_read
  pointwise
  blk_ext [e9 t]

theorem wuB_apply (j : Fin 4) (k i : Fin 1024) : wuB m c t j (ix3 (0 : Fin 1) k i) = Wu m c k (col j i) := by
  refine (View.ld_unit_apply_of (S := S4x1024x1024) (iblk m c 6 t) _ _ _ (ix3 (0 : Fin 1) k i) (ix3 j k i) fun a => ?_).trans
    (blk6 m c t _ _ _)
  match a with
  | ⟨0, _⟩ => rfl
  | ⟨1, _⟩ => show k.val = 0 + k.val; omega
  | ⟨2, _⟩ => show i.val = 0 + i.val; omega
theorem wdB_apply (j : Fin 4) (i k : Fin 1024) : wdB m c t j (ix3 (0 : Fin 1) i k) = Wd m c (col j i) k := by
  refine (View.ld_unit_apply_of (S := S4x1024x1024) (iblk m c 7 t) _ _ _ (ix3 (0 : Fin 1) i k) (ix3 j i k) fun a => ?_).trans
    (blk7 m c t _ _ _)
  match a with
  | ⟨0, _⟩ => rfl
  | ⟨1, _⟩ => show i.val = 0 + i.val; omega
  | ⟨2, _⟩ => show k.val = 0 + k.val; omega

/-- The residual after the output projection, its normalisation, the first product, and the residual after the layer. -/
def H1 (r : Fin 8192) (k : Fin 1024) : EReal := H m c r k + ∑ j : Fin 1024, Y m c r j * Wo m c j k
def Hn (r : Fin 8192) (k : Fin 1024) : EReal := H1 m c r k * rr w1024 (H1 m c r) * G2 m c k
def U (r : Fin 8192) (j : Fin 4096) : EReal := ∑ k : Fin 1024, Hn m c r k * Wu m c k j
def A (r : Fin 8192) (j : Fin 4096) : EReal := max (U m c r j) 0 * max (U m c r j) 0
def H2 (r : Fin 8192) (k : Fin 1024) : EReal := H1 m c r k + ∑ j : Fin 4096, A m c r j * Wd m c j k

/-- The words of 1/2 and of 1/1024. -/
abbrev wHalf : EReal := Ideal.ofBits .f32 0x3F000000#32
abbrev wInv : EReal := Ideal.ofBits .f32 0x3A800000#32

/-- The error, a row's mean square of it, the loss, and the two gradients. -/
def E (r : Fin 8192) (k : Fin 1024) : EReal := H2 m c r k * rr w1024 (H2 m c r) * Gf m c k - Tg m c r k
def mse (r : Fin 8192) : EReal := Ideal.div (∑ k : Fin 1024, E m c r k * E m c r k) w1024
def Loss : EReal := wHalf * ∑ r : Fin 8192, mse m c r
def dH (r : Fin 8192) (k : Fin 1024) : EReal := rmsD w1024 (H2 m c r) (fun k => E m c r k * wInv * Gf m c k) k
def dG (k : Fin 1024) : EReal := ∑ r : Fin 8192, E m c r k * wInv * H2 m c r k * rr w1024 (H2 m c r)

theorem h1B_apply (q : Fin 256) (k : Fin 1024) : h1B m c t (ix2 q k) = H1 m c (row t q) k := by
  unfold h1B H1 k0_pay4
  simp only [shapeCast_self]
  pointwise
  refine congrArg₂ (· + ·) (blk3 m c t q k) (Finset.sum_congr rfl fun j _ => congrArg₂ (· * ·) ?_ (blk4 m c t j k))
  have hj := j.isLt
  by_cases h1 : j.val < 512
  · exact (dif_pos h1).trans ((blk0 m c t q ⟨j.val, h1⟩).trans (congrArg _ (Fin.ext (Nat.zero_add _))))
  refine (dif_neg h1).trans ?_
  by_cases h2 : j.val - 512 < 256
  · exact (dif_pos h2).trans ((blk1 m c t q ⟨j.val - 512, h2⟩).trans (congrArg _ (Fin.ext (by dsimp only; omega))))
  · exact (dif_neg h2).trans ((blk2 m c t q ⟨j.val - 512 - 256, by omega⟩).trans (congrArg _ (Fin.ext (by dsimp only; omega))))

theorem hnB_apply (q : Fin 256) (k : Fin 1024) : hnB m c t (ix2 q k) = Hn m c (row t q) k := by
  unfold hnB Hn rr ms k0_pay5
  rw [show k0_pay4 (F := Ideal) (iblk m c 0 t) (iblk m c 1 t) (iblk m c 2 t) (iblk m c 3 t) (iblk m c 4 t) = h1B m c t from rfl]
  pointwise
  simp only [h1B_apply, blk5]

theorem up_apply (j : Fin 4) (q : Fin 256) (i : Fin 1024) :
    k0_pay6 (hnB m c t) (wuB m c t j) (ix2 q i) = U m c (row t q) (col j i) := by
  unfold U k0_pay6
  pointwise
  simp only [hnB_apply, wuB_apply]

theorem upB_apply (j : Fin 4) (q : Fin 256) (i : Fin 1024) : upB m c t j (ix2 q i) = U m c (row t q) (col j i) :=
  up_apply m c t j q i

/-- One chunk's part of the second product. -/
def part (r : Fin 8192) (k : Fin 1024) (j : Fin 4) : EReal := ∑ i : Fin 1024, A m c r (col j i) * Wd m c (col j i) k

theorem parts (r : Fin 8192) (k : Fin 1024) :
    H1 m c r k + part m c r k 0 + part m c r k 1 + part m c r k 2 + part m c r k 3 = H2 m c r k := by
  unfold H2 part
  rw [Fin.sum_univ_tiles 4 1024 rfl, Fin.sum_univ_four]
  have e (j : Fin 4) : (∑ i : Fin 1024, A m c r (col j i) * Wd m c (col j i) k)
      = ∑ i : Fin 1024, A m c r ⟨j.val * 1024 + i.val, by omega⟩ * Wd m c ⟨j.val * 1024 + i.val, by omega⟩ k :=
    Finset.sum_congr rfl fun i _ => by
      have : col j i = ⟨j.val * 1024 + i.val, by omega⟩ := Fin.ext (by show 1024 * j.val + i.val = j.val * 1024 + i.val; omega)
      rw [this]
  rw [e 0, e 1, e 2, e 3]
  simp only [add_assoc]

/-- The activation's chunk `j`. -/
def actB (j : Fin 4) : FVec Ideal S256x1024 .bf16 := fun i =>
  max (k0_pay6 (hnB m c t) (wuB m c t j) i) (Ideal.ofBits .f32 0x00000000#32) * max (k0_pay6 (hnB m c t) (wuB m c t j) i) (Ideal.ofBits .f32 0x00000000#32)

theorem actB_apply (j : Fin 4) (q : Fin 256) (i : Fin 1024) : actB m c t j (ix2 q i) = A m c (row t q) (col j i) := by
  unfold actB A
  rw [up_apply, Ideal.ofBits_zero_f32]

theorem prod_apply (j : Fin 4) (q : Fin 256) (k : Fin 1024) :
    Ideal.matmul dot_S256x1024_S1024x1024_S256x1024_1_0_0_1_n_n (actB m c t j)
      (shapeCast S1024x1024 (wdB m c t j) shapeCasts_S1x1024x1024_S1024x1024) (constant (F := Ideal) S256x1024 .f32 0x00000000#32) (ix2 q k)
      = part m c (row t q) k j := by
  unfold part
  pointwise
  simp only [actB_apply, wdB_apply]

theorem h2B_apply (q : Fin 256) (k : Fin 1024) : h2B m c t (ix2 q k) = H2 m c (row t q) k := by
  rw [← parts, ← prod_apply, ← prod_apply, ← prod_apply, ← prod_apply, ← h1B_apply]
  rfl

theorem rB_apply (q : Fin 256) : rB m c t (ix2 q (0 : Fin 1)) = rr w1024 (H2 m c (row t q)) := by
  unfold rB rr ms k0_pay17
  rw [show k0_pay15 (hnB m c t) (midB m c t) (up2B m c t) (wdB m c t 2) (wuB m c t 3) (wdB m c t 3) = h2B m c t from rfl]
  pointwise
  simp only [h2B_apply]

theorem yB_apply (q : Fin 256) (k : Fin 1024) :
    yB m c t (ix2 q k) = H2 m c (row t q) k * rr w1024 (H2 m c (row t q)) * Gf m c k := by
  unfold yB k0_pay18 k0_pay16
  rw [show k0_pay15 (hnB m c t) (midB m c t) (up2B m c t) (wdB m c t 2) (wuB m c t 3) (wdB m c t 3) = h2B m c t from rfl,
    show k0_pay17 (hnB m c t) (midB m c t) (up2B m c t) (wdB m c t 2) (wuB m c t 3) (wdB m c t 3) = rB m c t from rfl]
  pointwise
  simp only [h2B_apply, rB_apply, blk9]

theorem err_apply (q : Fin 256) (k : Fin 1024) : k0_pay19 (F := Ideal) (iblk m c 8 t) (yB m c t) (ix2 q k) = E m c (row t q) k := by
  unfold k0_pay19 E
  pointwise
  simp only [yB_apply, blk8]

theorem dyB_apply (q : Fin 256) (k : Fin 1024) :
    k0_pay21 (F := Ideal) (iblk m c 8 t) (yB m c t) (ix2 q k) = E m c (row t q) k * wInv := by
  unfold k0_pay21
  pointwise
  simp only [err_apply]

theorem dhB_apply (q : Fin 256) (k : Fin 1024) : dhB m c t (ix2 q k) = dH m c (row t q) k := by
  unfold dhB dH rmsD k0_pay22 k0_pay16
  pointwise
  simp only [dyB_apply, rB_apply, h2B_apply, blk9]

theorem dgB_apply (a : FVec Ideal S1x1024 .f32) (k : Fin 1024) : dgB m c t a (ix2 (0 : Fin 1) k)
    = a (ix2 (0 : Fin 1) k) + ∑ q : Fin 256, E m c (row t q) k * wInv * H2 m c (row t q) k * rr w1024 (H2 m c (row t q)) := by
  unfold dgB k0_pay1 k0_pay23 k0_pay24
  pointwise
  simp only [dyB_apply, rB_apply, h2B_apply]

theorem mse_nonneg (r : Fin 8192) : 0 ≤ mse m c r := by
  unfold mse
  rw [div_pos w1024_pos]
  exact mul_nonneg (Finset.sum_nonneg fun k _ => mul_self_nonneg _) (EReal.inv_nonneg_of_nonneg w1024_pos.le)

/-- A factor goes into a sum of nonnegative terms. -/
theorem mul_sum_nonneg {ι : Type} (s : Finset ι) (x : EReal) (f : ι → EReal) (hf : ∀ i, 0 ≤ f i) :
    x * ∑ i ∈ s, f i = ∑ i ∈ s, x * f i := by
  classical
  induction s using Finset.induction_on with
  | empty => rw [Finset.sum_empty, Finset.sum_empty, mul_zero]
  | insert i s hi ih =>
    rw [Finset.sum_insert hi, Finset.sum_insert hi, ← ih]
    exact EReal.left_distrib_of_nonneg (hf i) (Finset.sum_nonneg fun j _ => hf j)

theorem lossB_apply (a : FVec Ideal S8x128 .f32) (p : Fin 8) (l : Fin 128) : lossB m c t a (ix2 p l)
    = a (ix2 p l) + ∑ q : Fin 256, wHalf * mse m c (row t q) := by
  rw [← mul_sum_nonneg _ _ _ fun q => mse_nonneg m c (row t q)]
  unfold lossB mse k0_pay20
  pointwise
  simp only [err_apply]

theorem zero2 (x : S8x128.Idx) : k0_pay2 (F := Ideal) x = 0 := Ideal.ofBits_zero_f32
theorem zero3 (x : S1x1024.Idx) : k0_pay3 (F := Ideal) x = 0 := Ideal.ofBits_zero_f32

theorem last14 (p : Fin 8) (l : Fin 128) (n : ℕ) (h : n < 32) (hn : n = 31) :
    (outsAt0 m c n h).2.2.2.2.1 (ix2 p l) = Loss m c := by
  unfold Loss
  rw [mul_sum_nonneg _ _ _ (mse_nonneg m c)]
  refine Tile256.acc_rows (fun n h => (outsAt0 m c n h).2.2.2.2.1 (ix2 p l)) (fun r => wHalf * mse m c r) ?_ (fun n h => ?_) n h hn
  · refine (congrFun (outs14_A m c ⟨0, by decide⟩ rfl) _).trans ?_
    rw [lossB_apply, zero2, zero_add]
  · exact (congrFun (outs14_B m c ⟨n + 1, h⟩ (by dsimp only; omega)) _).trans (lossB_apply m c ⟨n + 1, h⟩ _ _ _)

theorem last15 (k : Fin 1024) (n : ℕ) (h : n < 32) (hn : n = 31) :
    (outsAt0 m c n h).2.2.2.2.2 (ix2 (0 : Fin 1) k) = dG m c k := by
  refine Tile256.acc_rows (fun n h => (outsAt0 m c n h).2.2.2.2.2 (ix2 (0 : Fin 1) k))
    (fun r => E m c r k * wInv * H2 m c r k * rr w1024 (H2 m c r)) ?_ (fun n h => ?_) n h hn
  · refine (congrFun (outs15_A m c ⟨0, by decide⟩ rfl) _).trans ?_
    rw [dgB_apply, zero3, zero_add]
  · exact (congrFun (outs15_B m c ⟨n + 1, h⟩ (by dsimp only; omega)) _).trans (dgB_apply m c ⟨n + 1, h⟩ _ _)

theorem o10 : ∀ t : Fin cfg0.N, win0_10.index t = ![t.val, 0] := (by decide +kernel : ∀ t : Fin grid0.N, _)
theorem o11 : ∀ t : Fin cfg0.N, win0_11.index t = ![t.val, 0] := (by decide +kernel : ∀ t : Fin grid0.N, _)
theorem o12 : ∀ t : Fin cfg0.N, win0_12.index t = ![t.val, 0] := (by decide +kernel : ∀ t : Fin grid0.N, _)
theorem o13 : ∀ t : Fin cfg0.N, win0_13.index t = ![t.val, 0] := (by decide +kernel : ∀ t : Fin grid0.N, _)
theorem o14 : ∀ t : Fin cfg0.N, win0_14.index t = ![0, 0] := (by decide +kernel : ∀ t : Fin grid0.N, _)
theorem o15 : ∀ t : Fin cfg0.N, win0_15.index t = ![0, 0] := (by decide +kernel : ∀ t : Fin grid0.N, _)

/-- The six results of the run. -/
theorem final10 : (dats m 0 c).arrAt 10 cfg0.N = fun i : S8192x1024.Idx => H1 m c (i 0) (i 1) := by
  refine (dats m 0 c).arrAt_eq_of_covers 10 _ (by decide +kernel) fun t hf y => ?_
  blk_simp
  rw [after0_10, outs10]
  refine ((congrArg (h1B m c t) (eq_ix2 (n0 := 256) (n1 := 1024) y)).trans (h1B_apply m c t _ _)).trans ?_
  exact congrArg₂ (H1 m c) (Fin.ext (by blk_simp [o10 t] <;> simp <;> try omega)) (Fin.ext (by blk_simp [o10 t] <;> simp))

theorem final11 : (dats m 0 c).arrAt 11 cfg0.N = fun i : S8192x1024.Idx => Hn m c (i 0) (i 1) := by
  refine (dats m 0 c).arrAt_eq_of_covers 11 _ (by decide +kernel) fun t hf y => ?_
  blk_simp
  rw [after0_11, outs11]
  refine ((congrArg (hnB m c t) (eq_ix2 (n0 := 256) (n1 := 1024) y)).trans (hnB_apply m c t _ _)).trans ?_
  exact congrArg₂ (Hn m c) (Fin.ext (by blk_simp [o11 t] <;> simp <;> try omega)) (Fin.ext (by blk_simp [o11 t] <;> simp))

theorem final12 : (dats m 0 c).arrAt 12 cfg0.N = fun i : S8192x4096.Idx => U m c (i 0) (i 1) := by
  refine (dats m 0 c).arrAt_eq_of_covers 12 _ (by decide +kernel) fun t hf y => ?_
  blk_simp
  rw [after0_12, outs12]
  dsimp only
  have h1 : (y 1).val < 4096 := (y 1).isLt
  refine (upB_apply m c t _ _ _).trans ?_
  exact congrArg₂ (U m c) (Fin.ext (by blk_simp [o12 t] <;> simp <;> try omega)) (Fin.ext (by blk_simp [o12 t] <;> simp <;> omega))

theorem final13 : (dats m 0 c).arrAt 13 cfg0.N = fun i : S8192x1024.Idx => dH m c (i 0) (i 1) := by
  refine (dats m 0 c).arrAt_eq_of_covers 13 _ (by decide +kernel) fun t hf y => ?_
  blk_simp
  rw [after0_13, outs13]
  refine ((congrArg (dhB m c t) (eq_ix2 (n0 := 256) (n1 := 1024) y)).trans (dhB_apply m c t _ _)).trans ?_
  exact congrArg₂ (dH m c) (Fin.ext (by blk_simp [o13 t] <;> simp <;> try omega)) (Fin.ext (by blk_simp [o13 t] <;> simp))

theorem flush14 : ∀ t : Fin cfg0.N, (cfg0.win 14).flush t = true → t.val = 31 :=
  (by decide +kernel : ∀ t : Fin grid0.N, win0_14.flush t = true → t.val = 31)
theorem flush15 : ∀ t : Fin cfg0.N, (cfg0.win 15).flush t = true → t.val = 31 :=
  (by decide +kernel : ∀ t : Fin grid0.N, win0_15.flush t = true → t.val = 31)

theorem final14 : (dats m 0 c).arrAt 14 cfg0.N = fun i : S8x128.Idx => Loss m c := by
  refine (dats m 0 c).arrAt_eq_of_covers 14 _ (by decide +kernel) fun t hf y => ?_
  have ht := flush14 t hf
  blk_simp
  rw [after0_14]
  exact (congrArg (outsAt0 m c t.val t.isLt).2.2.2.2.1 (eq_ix2 (n0 := 8) (n1 := 128) y)).trans (last14 m c _ _ t.val t.isLt ht)

theorem final15 : (dats m 0 c).arrAt 15 cfg0.N = fun i : S1x1024.Idx => dG m c (i 1) := by
  refine (dats m 0 c).arrAt_eq_of_covers 15 _ (by decide +kernel) fun t hf y => ?_
  have ht := flush15 t hf
  blk_simp
  rw [after0_15]
  have e : y = ix2 (0 : Fin 1) (y 1) := funext fun a => by
    match a with
    | ⟨0, _⟩ => exact Subsingleton.elim (α := Fin 1) _ _
    | ⟨1, _⟩ => rfl
  refine ((congrArg (outsAt0 m c t.val t.isLt).2.2.2.2.2 e).trans (last15 m c _ t.val t.isLt ht)).trans ?_
  exact congrArg (dG m c) (Fin.ext (by blk_simp [o15 t] <;> simp))

end Cert.LastLayerIdeal.Block
end
-- ==== Proof.Last.Ref.lean ====
/-
  The reference's six results as entries of the arguments (extended reals): the layer's forward steps, the loss, and the
  final norm's backward steps, folded into the kernel's closed forms.
-/
module

public import proofs.«01_k».proof.Proof.Gen.LastLayerRefIdeal.Read
public import proofs.«01_k».proof.Proof.Last.Kernel

@[expose] public section

set_option maxRecDepth 16384

noncomputable section

namespace Cert.Last

open Cert.LastLayerRefIdeal Cert.LastLayerRefIdeal.Read Cert.Norm Idealize.ShloMosaic Idealize.ShloMosaic.TcCoe Idealize.SL.Sem
open Cert.LastLayerIdeal.Block (Y H Wo G2 Wu Wd Tg Gf H1 Hn U A H2 E mse Loss dH dG wHalf wInv)

variable (m : (ℓ : Loc Cert.LastLayerIdeal.nD Cert.LastLayerIdeal.τ Cert.LastLayerIdeal.sig) → Buf (Elt Ideal) ℓ)
  (c : Dev Cert.LastLayerIdeal.nD)

/-- The kernel's arguments. -/
abbrev a0 : FVec Ideal S8192x1024 .f32 := m ((c : Thread Cert.LastLayerIdeal.nD Cert.LastLayerIdeal.τ).loc Cert.LastLayerIdeal.main_arg0)
abbrev a1 : FVec Ideal S8192x1024 .f32 := m ((c : Thread Cert.LastLayerIdeal.nD Cert.LastLayerIdeal.τ).loc Cert.LastLayerIdeal.main_arg1)
abbrev a2 : FVec Ideal S1024x1024 .f32 := m ((c : Thread Cert.LastLayerIdeal.nD Cert.LastLayerIdeal.τ).loc Cert.LastLayerIdeal.main_arg2)
abbrev a3 : FVec Ideal S1024 .f32 := m ((c : Thread Cert.LastLayerIdeal.nD Cert.LastLayerIdeal.τ).loc Cert.LastLayerIdeal.main_arg3)
abbrev a4 : FVec Ideal S1024x4096 .f32 := m ((c : Thread Cert.LastLayerIdeal.nD Cert.LastLayerIdeal.τ).loc Cert.LastLayerIdeal.main_arg4)
abbrev a5 : FVec Ideal S4096x1024 .f32 := m ((c : Thread Cert.LastLayerIdeal.nD Cert.LastLayerIdeal.τ).loc Cert.LastLayerIdeal.main_arg5)
abbrev a6 : FVec Ideal S8192x1024 .f32 := m ((c : Thread Cert.LastLayerIdeal.nD Cert.LastLayerIdeal.τ).loc Cert.LastLayerIdeal.main_arg6)
abbrev a7 : FVec Ideal S1024 .f32 := m ((c : Thread Cert.LastLayerIdeal.nD Cert.LastLayerIdeal.τ).loc Cert.LastLayerIdeal.main_arg7)

/-- A float sum starts from the zero word. -/
theorem from_zero (x : EReal) : Ideal.ofBits .f32 0x00000000#32 + x = x := by rw [Ideal.ofBits_zero_f32, zero_add]

theorem at_ix2 {n0 n1 : ℕ} (i : (⟨2, ![n0, n1]⟩ : Shape).Idx) (r : Fin n0) (k : Fin n1) (h0 : (i 0).val = r.val)
    (h1 : (i 1).val = k.val) : i = ix2 r k := funext fun a => Fin.ext (by
  match a with
  | ⟨0, _⟩ => exact h0
  | ⟨1, _⟩ => exact h1)

/-- The words of 1 and of 2. -/
abbrev w1 : EReal := Ideal.ofBits .f32 0x3F800000#32
abbrev w2 : EReal := Ideal.ofBits .f32 0x40000000#32

theorem w1_eq : w1 = ((1 : ℝ) : EReal) := by
  simp [w1, Ideal.ofBits, Ideal.ieee, -EReal.coe_mul]
  norm_num
theorem w2_eq : w2 = ((2 : ℝ) : EReal) := by
  simp [w2, Ideal.ofBits, Ideal.ieee, -EReal.coe_mul]
  norm_num
theorem wHalf_eq : wHalf = ((1 / 2 : ℝ) : EReal) := by
  simp [wHalf, Ideal.ofBits, Ideal.ieee, -EReal.coe_mul]
  norm_num
theorem wInv_eq : wInv = ((1 / 1024 : ℝ) : EReal) := by
  simp [wInv, Ideal.ofBits, Ideal.ieee, -EReal.coe_mul]
  norm_num
theorem w1024_eq : w1024 = ((1024 : ℝ) : EReal) := by
  simp [w1024, Ideal.ofBits, Ideal.ieee, -EReal.coe_mul]
  norm_num

/-- The loss's factors: a half of twice the error, over the row's 1024 entries. -/
theorem factors (e : EReal) : Ideal.div (wHalf * w1) w1024 * (w2 * e) = e * wInv := by
  rw [div_pos w1024_pos, ← mul_assoc, mul_comm e, wHalf_eq, w1_eq, w1024_eq, w2_eq, wInv_eq, ← EReal.coe_inv, ← EReal.coe_mul,
    ← EReal.coe_mul, ← EReal.coe_mul]
  refine congrArg (fun x : ℝ => (x : EReal) * e) ?_
  norm_num

theorem twice (z : EReal) : w2 * z = z + z := by
  rw [w2_eq]
  induction z with
  | bot => rw [EReal.coe_mul_bot_of_pos (by norm_num)]; rfl
  | top => rw [EReal.coe_mul_top_of_pos (by norm_num)]; rfl
  | coe r =>
    rw [← EReal.coe_mul, ← EReal.coe_add]
    exact congrArg _ (by ring)

/-- The step-by-step gradient, with the square's derivative as twice its argument. -/
theorem rms_steps_twice {n : ℕ} (N : EReal) (x t : Fin n → EReal) (j : Fin n) (hN : 0 < N) :
    t j * rr N x + sqD N x t * (w2 * x j) = rmsD N x t j := by
  have h := rms_steps N x t j hN 0
  rw [zero_add, zero_add, add_assoc, mul_comm (x j), ← twice] at h
  rw [← h, ← mul_assoc, mul_comm _ w2, mul_assoc]

theorem res1 (r : Fin 8192) (k : Fin 1024) : val_main_v1 (F := Ideal) (a0 m c) (a1 m c) (a2 m c) (ix2 r k) = H1 m c r k := by
  rw [val_main_v1_apply, val_main_v0_apply]
  exact congrArg (fun s : EReal => H m c r k + s) (Finset.sum_congr rfl fun j _ => congrArg₂ (· * ·) (congrArg (a0 m c) (eq_ix2 _)) (congrArg (a2 m c) (eq_ix2 _)))

theorem mean_eps1 (i : S8192x1.Idx) : val_main_v8 (F := Ideal) (a0 m c) (a1 m c) (a2 m c) i = ms w1024 (H1 m c (i 0)) := by
  rw [val_main_v8_apply, val_main_v6_apply, val_main_v4_apply, val_main_v3_apply]
  refine congrArg₂ (· + ·) (congrArg₂ Ideal.div ((from_zero _).trans (Finset.sum_congr rfl fun k _ => ?_)) rfl) rfl
  rw [show idx_main_v3 (idx_main_v4 i) k = ix2 (n0 := 8192) (i 0) k from at_ix2 _ _ _ rfl rfl, val_main_v2_apply]
  exact congrArg (fun x : EReal => x * x) (res1 m c (i 0) k)

theorem scale1 (i : S8192x1.Idx) : val_main_v9 (F := Ideal) (a0 m c) (a1 m c) (a2 m c) i = rr w1024 (H1 m c (i 0)) := by
  rw [val_main_v9_apply, mean_eps1]
  rfl

theorem normed (r : Fin 8192) (k : Fin 1024) : val_main_v14 (F := Ideal) (a0 m c) (a1 m c) (a2 m c) (a3 m c) (ix2 r k) = Hn m c r k := by
  rw [val_main_v14_apply, val_main_v11_apply, val_main_v10_apply, scale1, val_main_v13_apply, val_main_v12_apply, res1]
  exact congrArg (fun g : EReal => H1 m c r k * rr w1024 (H1 m c r) * g) (congrArg (a3 m c) (eq_ix1 _))

theorem product (r : Fin 8192) (j : Fin 4096) : val_main_v15 (F := Ideal) (a0 m c) (a1 m c) (a2 m c) (a3 m c) (a4 m c) (ix2 r j) = U m c r j := by
  rw [val_main_v15_apply]
  exact Finset.sum_congr rfl fun k _ => congrArg₂ (· * ·) ((congrArg _ (eq_ix2 _)).trans (normed m c r k)) (congrArg (a4 m c) (eq_ix2 _))

theorem positive (r : Fin 8192) (j : Fin 4096) : val_main_v16 (F := Ideal) (a0 m c) (a1 m c) (a2 m c) (a3 m c) (a4 m c) (ix2 r j) = max (U m c r j) 0 := by
  rw [val_main_v16_apply, product]
  exact congrArg (max (U m c r j)) Ideal.ofBits_zero_f32

theorem act (r : Fin 8192) (j : Fin 4096) : val_main_v17 (F := Ideal) (a0 m c) (a1 m c) (a2 m c) (a3 m c) (a4 m c) (ix2 r j) = A m c r j := by
  rw [val_main_v17_apply, positive]
  rfl

theorem res2 (r : Fin 8192) (k : Fin 1024) : val_main_v19 (F := Ideal) (a0 m c) (a1 m c) (a2 m c) (a3 m c) (a4 m c) (a5 m c) (ix2 r k) = H2 m c r k := by
  rw [val_main_v19_apply, val_main_v18_apply, res1]
  exact congrArg (fun s : EReal => H1 m c r k + s) (Finset.sum_congr rfl fun j _ =>
    congrArg₂ (· * ·) ((congrArg _ (eq_ix2 _)).trans (act m c r j)) (congrArg (a5 m c) (eq_ix2 _)))

theorem mean_eps2 (i : S8192x1.Idx) : val_main_v28 (F := Ideal) (a0 m c) (a1 m c) (a2 m c) (a3 m c) (a4 m c) (a5 m c) i = ms w1024 (H2 m c (i 0)) := by
  rw [val_main_v28_apply, val_main_v26_apply, val_main_v24_apply, val_main_v23_apply]
  refine congrArg₂ (· + ·) (congrArg₂ Ideal.div ((from_zero _).trans (Finset.sum_congr rfl fun k _ => ?_)) rfl) rfl
  rw [show idx_main_v23 (idx_main_v24 i) k = ix2 (n0 := 8192) (i 0) k from at_ix2 _ _ _ rfl rfl, val_main_v20_apply]
  exact congrArg (fun x : EReal => x * x) (res2 m c (i 0) k)

theorem scale2 (i : S8192x1.Idx) : val_main_v29 (F := Ideal) (a0 m c) (a1 m c) (a2 m c) (a3 m c) (a4 m c) (a5 m c) i = rr w1024 (H2 m c (i 0)) := by
  rw [val_main_v29_apply, mean_eps2]
  rfl

theorem scaled (r : Fin 8192) (k : Fin 1024) : val_main_v34 (F := Ideal) (a0 m c) (a1 m c) (a2 m c) (a3 m c) (a4 m c) (a5 m c) (ix2 r k) = H2 m c r k * rr w1024 (H2 m c r) := by
  rw [val_main_v34_apply, val_main_v33_apply, scale2, res2]
  rfl

theorem error (r : Fin 8192) (k : Fin 1024) : val_main_v38 (F := Ideal) (a0 m c) (a1 m c) (a2 m c) (a3 m c) (a4 m c) (a5 m c) (a6 m c) (a7 m c) (ix2 r k) = E m c r k := by
  rw [val_main_v38_apply, val_main_v37_apply, scaled, val_main_v36_apply, val_main_v35_apply]
  exact congrArg (fun g : EReal => H2 m c r k * rr w1024 (H2 m c r) * g - Tg m c r k) (congrArg (a7 m c) (eq_ix1 _))

theorem dOut (r : Fin 8192) (k : Fin 1024) : val_main_v52 (F := Ideal) (a0 m c) (a1 m c) (a2 m c) (a3 m c) (a4 m c) (a5 m c) (a6 m c) (a7 m c) (ix2 r k) = E m c r k * wInv := by
  rw [val_main_v52_apply, val_main_v41_apply, error, val_main_v51_apply, val_main_v50_apply]
  refine Eq.trans ?_ (factors (E m c r k))
  rfl

theorem row_loss (i : S8192.Idx) : val_main_v44 (F := Ideal) (a0 m c) (a1 m c) (a2 m c) (a3 m c) (a4 m c) (a5 m c) (a6 m c) (a7 m c) i = mse m c (i 0) := by
  rw [val_main_v44_apply, val_main_v42_apply]
  unfold mse
  refine congrArg₂ Ideal.div ((from_zero _).trans (Finset.sum_congr rfl fun k _ => ?_)) rfl
  rw [show idx_main_v42 i k = ix2 (n0 := 8192) (i 0) k from at_ix2 _ _ _ rfl rfl, val_main_v39_apply]
  exact congrArg (fun x : EReal => x * x) (error m c (i 0) k)

/-- A position is its one coordinate. -/
def positions : S8192.Idx ≃ Fin 8192 where
  toFun i := i 0
  invFun r := ix1 r
  left_inv i := (eq_ix1 i).symm
  right_inv _ := rfl

theorem loss_eq (i : S8x128.Idx) : val_main_v73 (F := Ideal) (a0 m c) (a1 m c) (a2 m c) (a3 m c) (a4 m c) (a5 m c) (a6 m c) (a7 m c) i = Loss m c := by
  rw [val_main_v73_apply, val_main_v46_apply, val_main_v45_apply]
  exact congrArg (fun s : EReal => wHalf * s) ((from_zero _).trans
    (Fintype.sum_equiv positions _ (fun r => mse m c r) fun i => row_loss m c i))

theorem dScaled (r : Fin 8192) (k : Fin 1024) : val_main_v57 (F := Ideal) (a0 m c) (a1 m c) (a2 m c) (a3 m c) (a4 m c) (a5 m c) (a6 m c) (a7 m c) (ix2 r k) = E m c r k * wInv * Gf m c k := by
  rw [val_main_v57_apply, dOut, val_main_v56_apply, val_main_v35_apply]
  exact congrArg (fun g : EReal => E m c r k * wInv * g) (congrArg (a7 m c) (eq_ix1 _))

/-- The cotangent of a row's squares. -/
theorem dSquares (r : Fin 8192) : val_main_v66 (F := Ideal) (a0 m c) (a1 m c) (a2 m c) (a3 m c) (a4 m c) (a5 m c) (a6 m c) (a7 m c) (ix2 r (0 : Fin 1)) = sqD w1024 (H2 m c r) fun k => E m c r k * wInv * Gf m c k := by
  rw [val_main_v66_apply, val_main_v64_apply, val_main_v61_apply, val_main_v60_apply, val_main_v32_apply, val_main_v30_apply, scale2, mean_eps2]
  unfold sqD
  refine congrArg₂ Ideal.div (congrArg₂ (· * ·) ((from_zero _).trans (Finset.sum_congr rfl fun k _ => ?_)) rfl) rfl
  rw [show idx_main_v60 (idx_main_v61 (ix2 r (0 : Fin 1))) k = ix2 r k from at_ix2 _ _ _ (by simp) rfl, val_main_v59_apply, dScaled, res2]
  rfl

theorem dSquares_row (r : Fin 8192) (k : Fin 1024) :
    val_main_v68 (F := Ideal) (a0 m c) (a1 m c) (a2 m c) (a3 m c) (a4 m c) (a5 m c) (a6 m c) (a7 m c) (ix2 r k) = sqD w1024 (H2 m c r) fun k => E m c r k * wInv * Gf m c k := by
  rw [val_main_v68_apply, val_main_v67_apply]
  refine (from_zero _).trans ((Fin.sum_univ_one _).trans ?_)
  exact (congrArg _ (at_ix2 _ r (0 : Fin 1) rfl rfl)).trans (dSquares m c r)

theorem dResidual (r : Fin 8192) (k : Fin 1024) : val_main_v70 (F := Ideal) (a0 m c) (a1 m c) (a2 m c) (a3 m c) (a4 m c) (a5 m c) (a6 m c) (a7 m c) (ix2 r k) = dH m c r k := by
  have h63 : val_main_v63 (F := Ideal) (a0 m c) (a1 m c) (a2 m c) (a3 m c) (a4 m c) (a5 m c) (a6 m c) (a7 m c) (ix2 r k) = E m c r k * wInv * Gf m c k * rr w1024 (H2 m c r) := by
    rw [val_main_v63_apply, val_main_v62_apply, dScaled, scale2]
    rfl
  have h69 : val_main_v69 (F := Ideal) (a0 m c) (a1 m c) (a2 m c) (a3 m c) (a4 m c) (a5 m c) (a6 m c) (a7 m c) (ix2 r k) = (sqD w1024 (H2 m c r) fun k => E m c r k * wInv * Gf m c k) * (w2 * H2 m c r k) := by
    rw [val_main_v69_apply, val_main_v22_apply, dSquares_row, res2]
    rfl
  rw [val_main_v70_apply, h63, h69]
  exact rms_steps_twice w1024 (H2 m c r) (fun k => E m c r k * wInv * Gf m c k) k w1024_pos

theorem dGain (k : Fin 1024) : val_main_v74 (F := Ideal) (a0 m c) (a1 m c) (a2 m c) (a3 m c) (a4 m c) (a5 m c) (a6 m c) (a7 m c) (ix2 (0 : Fin 1) k) = dG m c k := by
  rw [val_main_v74_apply, val_main_v58_apply]
  refine (from_zero _).trans (Fin.sum_univ_one _ |>.trans ?_)
  rw [val_main_v55_apply, val_main_v54_apply]
  refine (from_zero _).trans (Finset.sum_congr rfl fun r _ => ?_)
  rw [show idx_main_v54 _ r = ix2 r k from (eq_ix2 (n0 := 8192) (n1 := 1024) _).trans
    (congrArg (ix2 r) (Fin.ext (by simp))), val_main_v53_apply]
  refine (congrArg₂ (· * ·) (scaled m c r k) (dOut m c r k)).trans ?_
  rw [mul_comm, mul_assoc (E m c r k * wInv)]

theorem stored_normed (r : Fin 8192) (k : Fin 1024) : val_main_v71 (F := Ideal) (a0 m c) (a1 m c) (a2 m c) (a3 m c) (ix2 r k) = Hn m c r k := by
  rw [val_main_v71_apply]
  exact normed m c r k

theorem stored_product (r : Fin 8192) (j : Fin 4096) : val_main_v72 (F := Ideal) (a0 m c) (a1 m c) (a2 m c) (a3 m c) (a4 m c) (ix2 r j) = U m c r j := by
  rw [val_main_v72_apply]
  exact product m c r j

end Cert.Last
end
-- ==== Proof.Last.Claims.lean ====
/-
  The two programs of the last layer, its loss and the final norm's gradients compute the same six arrays.
-/
module

public import proofs.«01_k».proof.Defs
public import proofs.«01_k».proof.Proof.Gen.LastLayer
public import proofs.«01_k».proof.Proof.Gen.LastLayer.Frame
public import proofs.«01_k».proof.Proof.Gen.LastLayerIdeal
public import proofs.«01_k».proof.Proof.Gen.LastLayerIdeal.Frame
public import proofs.«01_k».proof.Proof.Gen.LastLayerIdeal.Value
public import proofs.«01_k».proof.Proof.Gen.LastLayerRefIdeal
public import proofs.«01_k».proof.Proof.Gen.LastLayerRefIdeal.Run
public import proofs.«01_k».proof.Proof.Gen.LastLayerRefIdeal.Read
public import proofs.«01_k».proof.Proof.Last.Ref
public import Idealize.ShloMosaic.Adequacy
public import Idealize.ShloMosaic.Init

@[expose] public section

set_option maxRecDepth 16384

noncomputable section

namespace Cert.Last

open Idealize.ShloMosaic Idealize.ShloMosaic.TcCoe Idealize.SL.Sem
open Cert.LastLayerIdeal.Block Cert.LastLayerRefIdeal.Read

theorem frame_kernel : Cert.quiescent_LastLayer (hLastLayer := Cert.LastLayer.Gen.facts) := fun m ρ _ => Cert.LastLayer.Gen.frame m ρ

theorem frame_ideal : Cert.quiescent_LastLayerIdeal (hLastLayerIdeal := Cert.LastLayerIdeal.Gen.facts) := fun m ρ _ =>
  Cert.LastLayerIdeal.Gen.frame m ρ

theorem frame_ref : Cert.quiescent_LastLayerRefIdeal (hLastLayerRefIdeal := Cert.LastLayerRefIdeal.Gen.facts) := fun m ρ _ =>
  (θ_run _ _ _).mono (fun r h => ⟨fun c => (h c).2.2.2.2.2.2, sem_eq_zero_of_no_sems (by decide) r.2⟩) (Cert.LastLayerRefIdeal.Value.run m ρ)

/-- The kernel and the reference end with the same six arrays. -/
theorem algebraic : Cert.algebraic_LastLayerIdeal_LastLayerRefIdeal (hLastLayerIdeal := Cert.LastLayerIdeal.Gen.facts)
    (hLastLayerRefIdeal := Cert.LastLayerRefIdeal.Gen.facts) := fun m ρ m' ρ' _ hag =>
  ⟨fun c i => H1 m c (i 0) (i 1), fun c i => Hn m c (i 0) (i 1), fun c i => U m c (i 0) (i 1), fun c i => dH m c (i 0) (i 1),
    fun c i => Loss m c, fun c i => dG m c (i 1),
    (θ_run _ _ _).mono (fun _ h c => ⟨(h c).1.trans (final10 m c), (h c).2.1.trans (final11 m c), (h c).2.2.1.trans (final12 m c),
      (h c).2.2.2.1.trans (final13 m c), (h c).2.2.2.2.1.trans (final14 m c), (h c).2.2.2.2.2.1.trans (final15 m c),
      (h c).2.2.2.2.2.2⟩) (Cert.LastLayerIdeal.Value.run_blocks m ρ),
    (θ_run _ _ _).mono (fun r h c => by
      obtain ⟨g0, g1, g2, g3, g4, g5, g6, g7⟩ := hag c
      have g0 : _ = a0 m c := g0
      have g1 : _ = a1 m c := g1
      have g2 : _ = a2 m c := g2
      have g3 : _ = a3 m c := g3
      have g4 : _ = a4 m c := g4
      have g5 : _ = a5 m c := g5
      have g6 : _ = a6 m c := g6
      have g7 : _ = a7 m c := g7
      obtain ⟨h0, h1, h2, h3, h4, h5, hk⟩ := h c
      refine ⟨h0.trans ((val_main_v1_eq _ _ _).trans ?_), h1.trans ((val_main_v71_eq _ _ _ _).trans ?_),
        h2.trans ((val_main_v72_eq _ _ _ _ _).trans ?_), h3.trans ((val_main_v70_eq m' c).trans ?_),
        h4.trans ((val_main_v73_eq m' c).trans ?_), h5.trans ((val_main_v74_eq m' c).trans ?_), hk⟩
      · rw [g0, g1, g2]
        funext i
        exact (congrArg _ (eq_ix2 (n0 := 8192) (n1 := 1024) i)).trans (res1 m c (i 0) (i 1))
      · rw [g0, g1, g2, g3]
        funext i
        exact (congrArg _ (eq_ix2 (n0 := 8192) (n1 := 1024) i)).trans (stored_normed m c (i 0) (i 1))
      · rw [g0, g1, g2, g3, g4]
        funext i
        exact (congrArg _ (eq_ix2 (n0 := 8192) (n1 := 4096) i)).trans (stored_product m c (i 0) (i 1))
      · rw [g0, g1, g2, g3, g4, g5, g6, g7]
        funext i
        exact (congrArg _ (eq_ix2 (n0 := 8192) (n1 := 1024) i)).trans (dResidual m c (i 0) (i 1))
      · rw [g0, g1, g2, g3, g4, g5, g6, g7]
        funext i
        exact loss_eq m c i
      · rw [g0, g1, g2, g3, g4, g5, g6, g7]
        funext i
        exact (congrArg _ (at_ix2 (n0 := 1) (n1 := 1024) i 0 (i 1) (by have : (i 0).val < 1 := (i 0).isLt; show (i 0).val = 0; omega) rfl)).trans (dGain m c (i 1)))
      (Cert.LastLayerRefIdeal.Value.run m' ρ')⟩

end Cert.Last
end
-- ==== Proof.AttnF.Host.lean ====
/-
  What the host hands to `attn_fwd`: the projections cast to bfloat16, the sinks repeated, the mask and the gain.
-/
module

public import proofs.«01_k».proof.Proof.Attn.Mask
public import proofs.«01_k».proof.Proof.Gen.AttnFwdIdeal.Value
public import Idealize.ShloMosaic.Lib.Tactic
public import Idealize.ShloMosaic.Lib.Pipeline.ValueKit.Point
public import Idealize.ShloMosaic.Lib.StableHlo.RunRead

@[expose] public section

set_option maxRecDepth 65536

noncomputable section

namespace Cert.AttnFwdIdeal.Block

open Cert.AttnFwdIdeal Cert.AttnFwdIdeal.Gen Idealize.ShloMosaic Idealize.ShloMosaic.TcCoe Idealize.SL.Sem

variable (m : (ℓ : Loc nD τ sig) → Buf (Elt Ideal) ℓ) (c : Dev nD)

theorem v2 : V m c main_v2 = broadcastInDim S1x1024 ![1] bcast_S1024_S1x1024_1
    (shapeCast _ (broadcastInDim S8x128 ![0] bcast_S8_S8x128_0 (m ((c : Thread nD τ).loc main_arg1))) shapeCasts_S8x128_S1024) := by
  sl_kernel_rfl
theorem v29 : V m c main_v29 = broadcastInDim S1x512 ![1] bcast_S512_S1x512_1 (m ((c : Thread nD τ).loc main_arg2)) := by
  sl_kernel_rfl
theorem v28 : V m c main_v28 = (truncf .bf16 (m ((c : Thread nD τ).loc main_arg0) : FVec Ideal S8192x1792 .f32) bitsLt_bf16_f32 : FVec Ideal S8192x1792 .bf16) := by
  sl_kernel_rfl
set_option maxHeartbeats 4000000 in
/-- The mask is the gradient's. -/
theorem v27 : V m c main_v27 = Cert.AttnBwdIdeal.Block.mT := by
  sl_kernel_rfl

end Cert.AttnFwdIdeal.Block
end
-- ==== Proof.AttnF.Ops.lean ====
/-
  What one block of `attn_fwd` computes: the attention's output and its group norm, over any float values; and its
  entries over the extended reals.
-/
module

public import proofs.«01_k».proof.Proof.Attn.OpsCol

@[expose] public section

set_option maxRecDepth 16384

noncomputable section

namespace Cert.AttnBwdIdeal.Attn

open Cert.AttnBwdIdeal Cert.AttnBwdIdeal.Gen Cert.Norm Idealize.ShloMosaic Idealize.SL.Sem

section
variable {F : FTy → Type} [FloatOps F]
variable (q : Vec F S128x512 .bf16) (kp kc : Vec F S128x256 .bf16) (b : Vec F S1x256x512 .f32) (s : Vec F S1x1024 .f32) (g : Vec F S1x512 .f32)

/-- The two groups' stacked heads side by side, each in its own columns. -/
def heads (x y : FVec F S512x128 .f32) : FVec F S128x512 .f32 :=
  concatenate S128x512 1
    [⟨S128x128, select lowQ (extractStridedSlice S128x128 ![0, 0] x slices_S512x128_o0_0_S128x128) (extractStridedSlice S128x128 ![128, 0] x slices_S512x128_o128_0_S128x128)⟩,
     ⟨S128x128, select lowQ (extractStridedSlice S128x128 ![256, 0] x slices_S512x128_o256_0_S128x128) (extractStridedSlice S128x128 ![384, 0] x slices_S512x128_o384_0_S128x128)⟩,
     ⟨S128x128, select lowQ (extractStridedSlice S128x128 ![0, 0] y slices_S512x128_o0_0_S128x128) (extractStridedSlice S128x128 ![128, 0] y slices_S512x128_o128_0_S128x128)⟩,
     ⟨S128x128, select lowQ (extractStridedSlice S128x128 ![256, 0] y slices_S512x128_o256_0_S128x128) (extractStridedSlice S128x128 ![384, 0] y slices_S512x128_o384_0_S128x128)⟩]
    concatenates_S128x128_S128x128_S128x128_S128x128_S128x512_d1

/-- The block's output, its reciprocal root mean square, and the two results. -/
def oN : FVec F S128x512 .f32 :=
  heads (mmQ (truncf .bf16 (prL q kp kc b s) bitsLt_bf16_f32) (dupL (bandV kp kc)))
    (mmQ (truncf .bf16 (prH q kp kc b s) bitsLt_bf16_f32) (dupH (bandV kp kc)))
def rmsF (o : FVec F S128x512 .f32) : FVec F S128x1 .f32 :=
  rsqrt (addf (divf (shapeCast S128x1 (multiReduction .add [1] S128 (mulf o o) 0x00000000#32 reduces_S128x512_S128 (.inl rfl) rfl) shapeCasts_S128_S128x1)
    (broadcast S128x1 (Scalar.ofBits .f32 0x44000000#32))) (broadcast S128x1 (Scalar.ofBits .f32 0x358637BD#32)))
def o16 : FVec F S128x512 .bf16 := truncf .bf16 (oN q kp kc b s) bitsLt_bf16_f32
def y16 : FVec F S128x512 .bf16 :=
  truncf .bf16 (mulf (mulf (oN q kp kc b s) (broadcastTo S128x512 (rmsF (oN q kp kc b s)) broadcasts_S128x1_S128x512))
    (broadcastTo S128x512 (shapeCast S1x512 g shapeCasts_S1x512_S1x512) broadcasts_S1x512_S128x512)) bitsLt_bf16_f32
end

variable (q : Vec Ideal S128x512 .bf16) (kp kc : Vec Ideal S128x256 .bf16) (b : Vec Ideal S1x256x512 .f32) (s : Vec Ideal S1x1024 .f32)
  (g : Vec Ideal S1x512 .f32)

theorem heads_apply (x y : FVec Ideal S512x128 .f32) (i : Fin 128) (c : Fin 512) : heads x y (ix2 i c)
    = (if c.val < 256 then x else y) (ix2 (⟨128 * (c.val / 64 % 4) + i.val, by omega⟩ : Fin 512) (⟨c.val % 128, Nat.mod_lt _ (by decide)⟩ : Fin 128)) := by
  unfold heads lowQ
  pointwise
  have hc := c.isLt
  by_cases h1 : c.val < 128
  · rw [dif_pos h1, sel_lt _ h1, if_pos (by omega : c.val < 256)]
    split
    · exact at2 _ (by dsimp only; omega) (by dsimp only; omega)
    · exact at2 _ (by dsimp only; omega) (by dsimp only; omega)
  rw [dif_neg h1]
  by_cases h2 : c.val - 128 < 128
  · rw [dif_pos h2, sel_lt _ h2, if_pos (by omega : c.val < 256)]
    split
    · exact at2 _ (by dsimp only; omega) (by dsimp only; omega)
    · exact at2 _ (by dsimp only; omega) (by dsimp only; omega)
  rw [dif_neg h2, if_neg (by omega : ¬c.val < 256)]
  by_cases h3 : c.val - 128 - 128 < 128
  · rw [dif_pos h3, sel_lt _ h3]
    split
    · exact at2 _ (by dsimp only; omega) (by dsimp only; omega)
    · exact at2 _ (by dsimp only; omega) (by dsimp only; omega)
  · rw [dif_neg h3, sel_lt _ (by omega)]
    split
    · exact at2 _ (by dsimp only; omega) (by dsimp only; omega)
    · exact at2 _ (by dsimp only; omega) (by dsimp only; omega)

theorem oN_apply (i : Fin 128) (c : Fin 512) : oN q kp kc b s (ix2 i c)
    = ∑ j, PC q kp kc b s (grp c) (srow c i) j * BK kp kc j (vcol (grp c) (crd c.val)) := by
  unfold oN
  rw [heads_apply]
  have hl : lo (⟨c.val % 128, Nat.mod_lt _ (by decide)⟩ : Fin 128) = crd c.val := Fin.ext (by unfold lo crd; dsimp only; omega)
  have hc := c.isLt
  split
  · rename_i h
    rw [mmQ_apply _ _ (fun j d => BK kp kc j (vcol 0 d)) (vL kp kc), hl, show grp c = 0 from Fin.ext (by show c.val / 256 = 0; omega)]
    exact Finset.sum_congr rfl fun j _ => congrArg (· * _) (prL_apply q kp kc b s j _)
  · rename_i h
    rw [mmQ_apply _ _ (fun j d => BK kp kc j (vcol 1 d)) (vH kp kc), hl, show grp c = 1 from Fin.ext (by show c.val / 256 = 1; omega)]
    exact Finset.sum_congr rfl fun j _ => congrArg (· * _) (prH_apply q kp kc b s j _)

theorem rmsF_apply (o : FVec Ideal S128x512 .f32) (i : Fin 128) (z : Fin 1) : rmsF o (ix2 i z) = rr w512 (fun k => o (ix2 i k)) := by
  unfold rmsF rr ms
  pointwise

theorem y16_apply (i : Fin 128) (c : Fin 512) : y16 q kp kc b s g (ix2 i c)
    = oN q kp kc b s (ix2 i c) * rr w512 (fun k => oN q kp kc b s (ix2 i k)) * g (ix2 (0 : Fin 1) c) := by
  unfold y16
  generalize oN q kp kc b s = o
  pointwise
  rw [rmsF_apply]

end Cert.AttnBwdIdeal.Attn
end
-- ==== Proof.AttnF.Block.lean ====
/-
  What one grid step of `attn_fwd` stores, over any float values.
-/
module

public import proofs.«01_k».proof.Proof.Attn.Block
public import proofs.«01_k».proof.Proof.AttnF.Ops
public import proofs.«01_k».proof.Proof.Gen.AttnFwdIdeal.Value

@[expose] public section

set_option maxRecDepth 65536

noncomputable section

namespace Cert.AttnFwdIdeal.Block

open Cert.AttnFwdIdeal Cert.AttnFwdIdeal.Gen Idealize.ShloMosaic Idealize.ShloMosaic.TcCoe Idealize.SL.Sem
open Cert.AttnBwdIdeal.Block (inbR canon_rows)

variable {F : FTy → Type} [FloatOps F]
variable (m : (ℓ : Loc nD τ sig) → Buf (Elt F) ℓ) (c : Dev nD) (t : Fin cfg0.N)

/-- The step's loads for its block `b` of 128 rows. -/
def qB (b : Fin 8) : Vec F S128x512 .bf16 := View.ld (X0_0 m c t) (Rect.unit (s := S1024x512) ![128 * b.val, 0] ![128, 512] (inbR b 512))
def kcB (b : Fin 8) : Vec F S128x256 .bf16 := View.ld (iblk m c 1 t) (Rect.unit (s := S1024x256) ![128 * b.val, 0] ![128, 256] (inbR b 256))
def kpB (b : Fin 8) : Vec F S128x256 .bf16 :=
  match b with
  | ⟨0, _⟩ => View.ld (iblk m c 2 t) (Rect.unit ![0, 0] ![128, 256] inb_S128x256_S128x256_0_0)
  | ⟨n + 1, h⟩ => kcB m c t ⟨n, Nat.lt_of_succ_lt h⟩
def sB : Vec F S1x1024 .f32 := View.ld (iblk m c 3 t) (Rect.unit ![0, 0] ![1, 1024] inb_S1x1024_S1x1024_0_0)
def bB (b : Fin 8) : Vec F S1x256x512 .f32 :=
  match b with
  | ⟨0, _⟩ => View.ld (iblk m c 4 t) (Rect.unit (s := S2x256x512) (k0_off1 (grid0.coords t)) S1x256x512.size (k0_off1_inb (grid0.coords t)))
  | ⟨n + 1, h⟩ => View.ld (iblk m c 4 t) (Rect.unit (s := S2x256x512) ![1, 0, 0] S1x256x512.size inb_S2x256x512_S1x256x512_1_0_0)
def gB : Vec F S1x512 .f32 := View.ld (iblk m c 5 t) (Rect.unit ![0, 0] ![1, 512] inb_S1x512_S1x512_0_0)

def oB (b : Fin 8) : FVec F S128x512 .bf16 := Cert.AttnBwdIdeal.Attn.o16 (qB m c t b) (kpB m c t b) (kcB m c t b) (bB m c t b) (sB m c t)
def yB (b : Fin 8) : FVec F S128x512 .bf16 :=
  Cert.AttnBwdIdeal.Attn.y16 (qB m c t b) (kpB m c t b) (kcB m c t b) (bB m c t b) (sB m c t) (gB m c t)

theorem outs6 : (outsAt0 m c t).1 = fun y => oB m c t ⟨(y 0).val / 128, by have : (y 0).val < 1024 := (y 0).isLt; omega⟩
      (ix2 (⟨(y 0).val % 128, Nat.mod_lt _ (by decide)⟩ : Fin 128) (y 1)) := by
  unfold outsAt0
  dsimp only
  unfold out0_A_6
  rw [View.read_writes_eq_canon _ _ _ (by intro y; apply cover0_A_6)]
  unfold kernelRun0_A
  dsimp only
  sl_unfold_words
  simp only [View.readAt_eq_ld, Memref.IsWhole.read_unread]
  refine canon_rows (Val := Elt F) (e := .bf16) 512 (oB m c t) _ ?_
  sl_kernel_rfl

theorem outs7 : (outsAt0 m c t).2 = fun y => yB m c t ⟨(y 0).val / 128, by have : (y 0).val < 1024 := (y 0).isLt; omega⟩
      (ix2 (⟨(y 0).val % 128, Nat.mod_lt _ (by decide)⟩ : Fin 128) (y 1)) := by
  unfold outsAt0
  dsimp only
  unfold out0_A_7
  rw [View.read_writes_eq_canon _ _ _ (by intro y; apply cover0_A_7)]
  unfold kernelRun0_A
  dsimp only
  sl_unfold_words
  simp only [View.readAt_eq_ld, Memref.IsWhole.read_unread]
  refine canon_rows (Val := Elt F) (e := .bf16) 512 (yB m c t) _ ?_
  sl_kernel_rfl

end Cert.AttnFwdIdeal.Block
end
-- ==== Proof.AttnF.Kernel.lean ====
/-
  `attn_fwd`'s two results as entries of what its blocks read (extended reals).
-/
module

public import proofs.«01_k».proof.Proof.Attn.Final
public import proofs.«01_k».proof.Proof.AttnF.Host
public import proofs.«01_k».proof.Proof.AttnF.Block

@[expose] public section

set_option maxRecDepth 16384

noncomputable section

namespace Cert.AttnFwdIdeal.Block

open Cert.AttnFwdIdeal Cert.AttnFwdIdeal.Gen Cert.Norm Idealize.ShloMosaic Idealize.ShloMosaic.TcCoe Idealize.SL.Sem
open Cert.AttnBwdIdeal.Block (hz row fun_ext2 ld_rows nb ib mT)

variable (m : (ℓ : Loc nD τ sig) → Buf (Elt Ideal) ℓ) (c : Dev nD) (t : Fin cfg0.N)

/-- The projections, the sinks and the gain. -/
def Z (r : Fin 8192) (k : Fin 1792) : EReal := m ((c : Thread nD τ).loc main_arg0) (ix2 r k)
def SK (h : Fin 8) : EReal := m ((c : Thread nD τ).loc main_arg1) (ix1 h)
def GA (k : Fin 512) : EReal := m ((c : Thread nD τ).loc main_arg2) (ix1 k)

theorem lt8 : t.val < 8 := t.isLt

/-- The step's `b`-th block of 128 rows. -/
abbrev nth (b : Fin 8) : Fin 64 := ⟨8 * t.val + b.val, by have := lt8 t; omega⟩

/-- What a block reads. -/
def bQ (n : Fin 64) : Vec Ideal S128x512 .bf16 := fun y => Z m c (row n (y 0)) ⟨(y 1).val, by have : (y 1).val < 512 := (y 1).isLt; omega⟩
def bK (n : Fin 64) : Vec Ideal S128x256 .bf16 := fun y => Z m c (row n (y 0)) ⟨512 + (y 1).val, by have : (y 1).val < 256 := (y 1).isLt; omega⟩
def bP (n : Fin 64) : Vec Ideal S128x256 .bf16 := bK m c ⟨n.val - 1, by omega⟩
def bB0 (n : Fin 64) : Vec Ideal S1x256x512 .f32 := fun y => mT (ix3 (if n.val = 0 then 0 else 1) (y 1) (y 2))
def bG : Vec Ideal S1x512 .f32 := fun y => GA m c (y 1)
def bS : Vec Ideal S1x1024 .f32 := fun y => SK m c ⟨(y 1).val / 128, by have : (y 1).val < 1024 := (y 1).isLt; omega⟩

theorem e0 : ∀ t : Fin cfg0.N, win0_0.index t = ![t.val, 0] := (by decide +kernel : ∀ t : Fin grid0.N, _)
theorem e1 : ∀ t : Fin cfg0.N, win0_1.index t = ![t.val, 2] := (by decide +kernel : ∀ t : Fin grid0.N, _)
theorem e2 : ∀ t : Fin cfg0.N, win0_2.index t = ![8 * t.val - 1, 2] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem eoff : ∀ t : Fin cfg0.N, k0_off1 (grid0.coords t) = ![min t.val 1, 0, 0] := (by decide +kernel : ∀ t : Fin grid0.N, _)

theorem blk0 (i : Fin 1024) (k : Fin 512) : X0_0 m c t (ix2 i k)
    = Z m c ⟨1024 * t.val + i.val, by have := lt8 t; omega⟩ ⟨k.val, by omega⟩ := by
  unfold X0_0 Pipeline.Window.fill
  rw [dif_pos (moved0_0 t _)]
  unfold Z
  have := lt8 t
  blk_simp [iblk]
  rw [v28]
  pointwise
  blk_ext [e0 t]

theorem blk1 (i : Fin 1024) (k : Fin 256) : iblk m c 1 t (ix2 i k)
    = Z m c ⟨1024 * t.val + i.val, by have := lt8 t; omega⟩ ⟨512 + k.val, by omega⟩ := by
  unfold Z
  have := lt8 t
  blk_simp [iblk]
  rw [v28]
  pointwise
  blk_ext [e1 t]

theorem blk2 (i : Fin 128) (k : Fin 256) : iblk m c 2 t (ix2 i k) = bK m c ⟨8 * t.val - 1, by have := lt8 t; omega⟩ (ix2 i k) := by
  unfold bK Z
  have := lt8 t
  blk_simp [iblk]
  rw [v28]
  pointwise
  blk_ext [e2 t]

theorem blk3 (k : Fin 1024) : iblk m c 3 t (ix2 (0 : Fin 1) k) = SK m c ⟨k.val / 128, by omega⟩ := by
  unfold SK
  blk_simp [iblk]
  rw [v2]
  pointwise
  blk_ext [e3 t]

theorem blk4 (f : Fin 2) (j : Fin 256) (k : Fin 512) : iblk m c 4 t (ix3 f j k) = mT (ix3 f j k) := by
  blk_simp [iblk]
  rw [v27]
  blk_ext [e4 t]

theorem blk5 (k : Fin 512) : iblk m c 5 t (ix2 (0 : Fin 1) k) = GA m c k := by
  unfold GA
  blk_simp [iblk]
  rw [v29]
  pointwise
  blk_ext [e5 t]

theorem qB_eq (b : Fin 8) : qB m c t b = bQ m c (nth t b) := by
  refine fun_ext2 fun i k => ?_
  unfold qB bQ
  rw [ld_rows, blk0]
  exact congrArg₂ (Z m c) (Fin.ext (by dsimp; omega)) rfl
theorem kcB_eq (b : Fin 8) : kcB m c t b = bK m c (nth t b) := by
  refine fun_ext2 fun i k => ?_
  unfold kcB bK
  rw [ld_rows, blk1]
  exact congrArg₂ (Z m c) (Fin.ext (by dsimp; omega)) rfl
theorem kpB_eq (b : Fin 8) : kpB m c t b = bP m c (nth t b) := by
  have ht := lt8 t
  match b with
  | ⟨0, _⟩ =>
    refine (View.ld_unit_zero (S := S128x256) hz _ _).trans (fun_ext2 fun i k => (blk2 m c t i k).trans ?_)
    exact congrArg (fun n => bK m c n (ix2 i k)) (Fin.ext (by dsimp))
  | ⟨n + 1, h⟩ =>
    refine (kcB_eq m c t _).trans (congrArg (bK m c) (Fin.ext ?_))
    dsimp
theorem gB_eq : gB m c t = bG m c := by
  refine (View.ld_unit_zero (S := S1x512) hz _ _).trans (fun_ext2 fun i k => ?_)
  rw [Subsingleton.elim i (0 : Fin 1)]
  exact blk5 m c t k
theorem sB_eq : sB m c t = bS m c := by
  refine (View.ld_unit_zero (S := S1x1024) hz _ _).trans (fun_ext2 fun i k => ?_)
  rw [Subsingleton.elim i (0 : Fin 1)]
  exact blk3 m c t k
theorem bB_eq (b : Fin 8) : bB m c t b = bB0 (nth t b) := by
  have ht := lt8 t
  refine funext fun y => ?_
  have hy0 : (y 0).val < 1 := (y 0).isLt
  match b with
  | ⟨0, _⟩ =>
    refine (View.ld_unit_apply_of (S := S2x256x512) (iblk m c 4 t) _ _ _ y
      (ix3 (if (nth t ⟨0, by decide⟩).val = 0 then 0 else 1) (y 1) (y 2)) fun a => ?_).trans (blk4 m c t _ _ _)
    refine Eq.trans ?_ (congrArg (· + (y a).val) (congrFun (eoff t) a).symm)
    match a with
    | ⟨0, _⟩ =>
      show ((if (nth t ⟨0, by decide⟩).val = 0 then (0 : Fin 2) else 1) : Fin 2).val = min t.val 1 + (y 0).val
      split
      · next h => dsimp at h; show 0 = _; omega
      · next h => dsimp at h; show 1 = _; omega
    | ⟨1, _⟩ => exact (Nat.zero_add _).symm
    | ⟨2, _⟩ => exact (Nat.zero_add _).symm
  | ⟨n + 1, h⟩ =>
    refine (View.ld_unit_apply_of (S := S2x256x512) (iblk m c 4 t) _ _ _ y (ix3 (1 : Fin 2) (y 1) (y 2)) fun a => ?_).trans
      ((blk4 m c t _ _ _).trans ?_)
    · match a with
      | ⟨0, _⟩ => show 1 = 1 + (y 0).val; omega
      | ⟨1, _⟩ => exact (Nat.zero_add _).symm
      | ⟨2, _⟩ => exact (Nat.zero_add _).symm
    · exact congrArg (fun f => mT (ix3 f (y 1) (y 2))) (if_neg (by dsimp; omega)).symm

/-- A block's output and its norm. -/
def oG (n : Fin 64) : FVec Ideal S128x512 .f32 := Cert.AttnBwdIdeal.Attn.oN (bQ m c n) (bP m c n) (bK m c n) (bB0 n) (bS m c)
def yG (n : Fin 64) : FVec Ideal S128x512 .bf16 := Cert.AttnBwdIdeal.Attn.y16 (bQ m c n) (bP m c n) (bK m c n) (bB0 n) (bS m c) (bG m c)

theorem oB_eq (b : Fin 8) : (oB m c t b : S128x512.Idx → EReal) = oG m c (nth t b) := by
  unfold oB oG
  rw [qB_eq, kpB_eq, kcB_eq, bB_eq, sB_eq]
  rfl
theorem yB_eq (b : Fin 8) : yB m c t b = yG m c (nth t b) := by
  unfold yB yG
  rw [qB_eq, kpB_eq, kcB_eq, bB_eq, sB_eq, gB_eq]

/-- The two results of the run. -/
theorem final6 : (dats m 0 c).arrAt 6 cfg0.N = fun i : S8192x512.Idx => oG m c (nb (i 0)) (ix2 (ib (i 0)) (i 1)) := by
  refine (dats m 0 c).arrAt_eq_of_covers 6 _ (by decide +kernel) fun t hf y => ?_
  have ht := lt8 t
  have hy : (y 0).val < 1024 := (y 0).isLt
  blk_simp
  rw [after0_6]
  refine ((congrFun (outs6 m c t) _).trans (congrFun (oB_eq m c t _) _)).trans ?_
  refine congrArg₂ (oG m c) (Fin.ext ?_) (congrArg₂ ix2 (Fin.ext ?_) (Fin.ext ?_))
  · unfold nb; blk_simp [e6 t] <;> simp <;> try omega
  · unfold ib; blk_simp [e6 t] <;> simp <;> try omega
  · blk_simp [e6 t] <;> simp <;> try omega

theorem final7 : (dats m 0 c).arrAt 7 cfg0.N = fun i : S8192x512.Idx => yG m c (nb (i 0)) (ix2 (ib (i 0)) (i 1)) := by
  refine (dats m 0 c).arrAt_eq_of_covers 7 _ (by decide +kernel) fun t hf y => ?_
  have ht := lt8 t
  have hy : (y 0).val < 1024 := (y 0).isLt
  blk_simp
  rw [after0_7]
  refine ((congrFun (outs7 m c t) _).trans (congrFun (yB_eq m c t _) _)).trans ?_
  refine congrArg₂ (yG m c) (Fin.ext ?_) (congrArg₂ ix2 (Fin.ext ?_) (Fin.ext ?_))
  · unfold nb; blk_simp [e7 t] <;> simp <;> try omega
  · unfold ib; blk_simp [e7 t] <;> simp <;> try omega
  · blk_simp [e7 t] <;> simp <;> try omega

end Cert.AttnFwdIdeal.Block
end
-- ==== Proof.AttnF.Ref.lean ====
/-
  The reference's attention output is the gradient's reference's, and its group norm's entries (extended reals).
-/
module

public import proofs.«01_k».proof.Proof.Attn.RefNorm
public import proofs.«01_k».proof.Proof.Gen.AttnFwdRefIdeal.Read

@[expose] public section

set_option maxRecDepth 65536

noncomputable section

namespace Cert.AttnFwdRefIdeal.Attn

open Cert.AttnFwdRefIdeal Cert.AttnFwdRefIdeal.Gen Cert.AttnFwdRefIdeal.Read Cert.Norm Idealize.ShloMosaic
open Cert.AttnBwdRefIdeal.Attn (o at2)

variable (x0 : FVec Ideal S8192x1792 .f32) (x1 : FVec Ideal S8 .f32) (x2 : FVec Ideal S512 .f32) (r : Fin 8192) (k : Fin 512)

set_option maxHeartbeats 4000000 in
theorem out_same : val_main_v78 (F := Ideal) x0 x1 = Cert.AttnBwdRefIdeal.Read.val_main_v106 (F := Ideal) x0 x1 := by
  sl_kernel_rfl

theorem out_at : val_main_v79 (F := Ideal) x0 x1 (ix2 r k) = o x0 x1 r k := by
  rw [val_main_v79_apply, out_same]
  rfl

theorem mean_at : val_main_v86 (F := Ideal) x0 x1 (ix2 r (0 : Fin 1)) = ms w512 (o x0 x1 r) := by
  rw [val_main_v86_apply, val_main_v84_apply, val_main_v82_apply, val_main_v81_apply]
  refine congrArg₂ (· + ·) (congrArg₂ Ideal.div ((Cert.AttnBwdRefIdeal.Attn.from_zero _).trans (Finset.sum_congr rfl fun k _ => ?_)) rfl) rfl
  rw [val_main_v80_apply, show idx_main_v81 (idx_main_v82 (ix2 r (0 : Fin 1))) k = ix2 r k from eq_ix2 _, out_same]
  rfl

theorem normed_at : val_main_v93 (F := Ideal) x0 x1 x2 (ix2 r k) = o x0 x1 r k * rr w512 (o x0 x1 r) * x2 (ix1 k) := by
  rw [val_main_v93_apply, val_main_v92_apply, val_main_v89_apply, val_main_v88_apply,
    show idx_main_v88 (ix2 r k) = ix2 r (0 : Fin 1) from eq_ix2 _, val_main_v87_apply, mean_at, val_main_v91_apply, val_main_v90_apply, out_same]
  exact congrArg (_ * ·) (congrArg x2 (eq_ix1 _))

end Cert.AttnFwdRefIdeal.Attn
end
-- ==== Proof.AttnF.Match.lean ====
/-
  The kernel's two forward results are the reference's, when the scores' inputs are numbers: a masked probability is
  then zero on both sides, whatever value it weighs.
-/
module

public import proofs.«01_k».proof.Proof.AttnF.Kernel
public import proofs.«01_k».proof.Proof.AttnF.Ref
public import proofs.«01_k».proof.Proof.Attn.Match
public import proofs.«01_k».proof.Proof.Attn.Pre
public import proofs.«01_k».proof.Proof.Gen.Pre_attn_scores_finite

@[expose] public section

set_option maxRecDepth 16384

noncomputable section

namespace Cert.Pre_attn_scores_finite

open Idealize.ShloMosaic Cert.Real Cert.Pre_attn_finite

theorem nums (x0 : FVec Ideal S8192x1792 .f32) (x1 : FVec Ideal S8 .f32) (x2 : FVec Ideal S512 .f32)
    (h : fn (F := Ideal) x0 x1 x2 = fun _ => 1#1) :
    (∀ (r : Fin 8192) (k : Fin 1792), k.val < 640 → R (x0 (ix2 r k))) ∧ ∀ k : Fin 8, R (x1 (ix1 k)) := by
  have hp := congrFun h (fun a => a.elim0)
  unfold fn at hp
  dsimp only [andi] at hp
  simp only [and_one] at hp
  obtain ⟨p0, p1⟩ := hp
  have q0 := all_one (t := S_) _ _ _ _ _ (fun i => Subsingleton.elim (α := Cert.Pre_attn_finite.S_.Idx) _ _) p0
  have q1 := all_one (t := S_) _ _ _ _ _ (fun i => Subsingleton.elim (α := Cert.Pre_attn_finite.S_.Idx) _ _) p1
  refine ⟨fun r k hk => num_of_lt _ ?_, fun k => num_of_lt _ (q1 (ix1 k))⟩
  refine Eq.trans ?_ (q0 (ix2 r ⟨k.val, hk⟩))
  have e : extractStridedSlice S8192x640 ![0, 0] x0 Facts.slices_S8192x1792_S8192x640_0_0 (ix2 r ⟨k.val, hk⟩) = x0 (ix2 r k) := by
    pointwise
  show Ideal.cmp .olt _ _ = Ideal.cmp .olt (max (extractStridedSlice S8192x640 ![0, 0] x0 Facts.slices_S8192x1792_S8192x640_0_0 (ix2 r ⟨k.val, hk⟩)) _) _
  rw [e]
  rfl

end Cert.Pre_attn_scores_finite

/-! ## The columns' probabilities -/

namespace Cert.AttnBwdRefIdeal.Attn

open Cert.AttnBwdRefIdeal Cert.Real Idealize.ShloMosaic

variable {x0 : FVec Ideal S8192x1792 .f32} {x1 : FVec Ideal S8 .f32} (n : Fin 64) (e : Fin 2) (u : Fin 4) (i : Fin 128) (j : Fin 256)

/-- The projections with the values' and the later columns set to zero. -/
def scoreCols (x0 : FVec Ideal S8192x1792 .f32) : FVec Ideal S8192x1792 .f32 := fun y => if (y 1).val < 640 then x0 y else 0

theorem scoreCols_at (r : Fin 8192) (k : Fin 1792) (hk : k.val < 640) : scoreCols x0 (ix2 r k) = x0 (ix2 r k) := if_pos hk

theorem scoreCols_num (h0 : ∀ (r : Fin 8192) (k : Fin 1792), k.val < 640 → R (x0 (ix2 r k))) : Num0 (scoreCols x0) := fun r k _ => by
  by_cases hk : k.val < 640
  · rw [scoreCols_at r k hk]; exact h0 r k hk
  · rw [show scoreCols x0 (ix2 r k) = 0 from if_neg hk]; exact zero

theorem scoreCols_f : f (scoreCols x0) n e u i = f x0 n e u i := by
  funext j
  unfold f
  refine if_congr Iff.rfl (congrArg (· * w8) (Finset.sum_congr rfl fun d _ => congrArg₂ (· * ·) ?_ (scoreCols_at _ _ ?_))) rfl
  · have hk : (zk e d).val < 640 := by show 512 + 64 * e.val + d.val < 640; omega
    unfold BN
    split
    · split
      · rfl
      · exact scoreCols_at _ _ hk
    · exact scoreCols_at _ _ hk
  · show 256 * e.val + 64 * u.val + d.val < 640
    omega

/-- The kernel's probability is the reference's quotient, and a masked key has none. -/
theorem prob_of_scores (h0 : ∀ (r : Fin 8192) (k : Fin 1792), k.val < 640 → R (x0 (ix2 r k))) (h1 : Num1 x1) :
    Softmax.pr (f x0 n e u i) (sk x1 e u) j = Ideal.div (Softmax.ex (f x0 n e u i) (sk x1 e u) j) (Softmax.den (f x0 n e u i) (sk x1 e u))
    ∧ (¬Al n i j → Softmax.pr (f x0 n e u i) (sk x1 e u) j = 0) := by
  have h := column n e u i (scoreCols_num h0) h1 (fun _ => 0) fun _ _ => zero
  rw [scoreCols_f] at h
  exact ⟨h.1 j, h.2.2.1 j⟩

end Cert.AttnBwdRefIdeal.Attn

/-! ## The two results -/

namespace Cert.AttnFwdIdeal.Block

open Cert.AttnFwdIdeal Cert.AttnFwdIdeal.Gen Cert.Norm Cert.Real Idealize.ShloMosaic Idealize.ShloMosaic.TcCoe Idealize.SL.Sem
open Cert.AttnBwdRefIdeal.Attn (BN Num1 zq zk zv hcol w8 Al o f sk)
open Cert.AttnBwdIdeal.Block (srw qi_srw qcol_srw w8b_eq mT mB mB_apply row)

variable (m : (ℓ : Loc nD τ sig) → Buf (Elt Ideal) ℓ) (c : Dev nD)

/-- The three arguments. -/
abbrev X0 : FVec Ideal Cert.AttnBwdRefIdeal.S8192x1792 .f32 := m ((c : Thread nD τ).loc main_arg0)
abbrev X1 : FVec Ideal Cert.AttnBwdRefIdeal.S8 .f32 := m ((c : Thread nD τ).loc main_arg1)
abbrev X2 : FVec Ideal Cert.AttnBwdRefIdeal.S512 .f32 := m ((c : Thread nD τ).loc main_arg2)

/-- The queries, the keys and the sinks are numbers. -/
structure Nums : Prop where
  h0 : ∀ (r : Fin 8192) (k : Fin 1792), k.val < 640 → R (X0 m c (ix2 r k))
  h1 : Num1 (X1 m c)

theorem nums_of_pre (h : Cert.Pre_AttnFwdIdeal_attn_scores_finite m)
    (c : Dev nD) : Nums m c :=
  have ⟨h0, h1⟩ := Cert.Pre_attn_scores_finite.nums _ _ _ (h c)
  ⟨h0, h1⟩

variable (n : Fin 64) (e : Fin 2) (u : Fin 4) (i : Fin 128) (j : Fin 256) (d : Fin 64) (H : Nums m c)

theorem band_eq (k : Fin 256) (kz : Fin 1792) (hz : kz.val = 512 + k.val) (h : n.val = 0 → 128 ≤ j.val) :
    Cert.AttnBwdIdeal.Attn.BK (bP m c n) (bK m c n) j k = BN (X0 m c) n kz j := by
  unfold Cert.AttnBwdIdeal.Attn.BK BN
  have hk : (⟨512 + k.val, by omega⟩ : Fin 1792) = kz := Fin.ext hz.symm
  split
  · rw [if_neg (by omega)]
    exact congrArg (fun k => X0 m c (ix2 _ k)) hk
  · exact congrArg (fun k => X0 m c (ix2 _ k)) hk

theorem mask_eq : bB0 n (ix3 (0 : Fin 1) j (srw u i)) = if Al n i j then 0 else ⊥ := by
  have em (f : Fin 2) (r : Fin 512) : mT (ix3 f j r) = mB (ix3 f j (⟨r.val % 128, by omega⟩ : Fin 128)) := by
    unfold mT
    pointwise
  show mT (ix3 _ j (srw u i)) = _
  rw [em, mB_apply]
  refine if_congr ?_ rfl rfl
  have hi : (srw u i).val % 128 = i.val := by show (128 * u.val + i.val) % 128 = i.val; omega
  have hn : (if n.val = 0 then (0 : Fin 2) else 1).val = 0 ↔ n.val = 0 := by split <;> simp [*]
  unfold Al
  dsimp only
  rw [hi, hn]

include H in
theorem score_eq : Cert.AttnBwdIdeal.Attn.SC (bQ m c n) (bP m c n) (bK m c n) (bB0 n) e (srw u i) = f (X0 m c) n e u i := by
  funext j
  unfold Cert.AttnBwdIdeal.Attn.SC f
  rw [mask_eq]
  by_cases h : Al n i j
  · have hb (d : Fin 64) : R (BN (X0 m c) n (zk e d) j) := by
      have hk : (zk e d).val < 640 := by show 512 + 64 * e.val + d.val < 640; omega
      unfold BN
      split
      · split
        · exact zero
        · exact H.h0 _ _ hk
      · exact H.h0 _ _ hk
    rw [if_pos h, if_pos h, add_zero, sum_mul _ _ _ (fun d => mul (hb d)
      (H.h0 _ (zq e u d) (by show 256 * e.val + 64 * u.val + d.val < 640; omega))) (Cert.AttnBwdRefIdeal.Attn.w8_eq ▸ coe _)]
    refine Finset.sum_congr rfl fun d _ => ?_
    rw [band_eq m c n j _ (zk e d) (by show 512 + 64 * e.val + d.val = 512 + (64 * e.val + d.val); omega) h.2, qi_srw, qcol_srw, w8b_eq, mul_assoc]
    rfl
  · rw [if_neg h, if_neg h, EReal.add_bot]

theorem sink_eq : Cert.AttnBwdIdeal.Attn.sg (bS m c) e (srw u i) = sk (X1 m c) e u := by
  show X1 m c (ix1 _) = X1 m c (ix1 _)
  refine congrArg (X1 m c) (congrArg ix1 (Fin.ext ?_))
  show (512 * e.val + (128 * u.val + i.val)) / 128 = 4 * e.val + u.val
  omega

include H in
theorem head_eq : oG m c n (ix2 i (hcol e u d)) = o (X0 m c) (X1 m c) (Cert.AttnBwdRefIdeal.Attn.row n i) (hcol e u d) := by
  unfold oG
  have hg : Cert.AttnBwdIdeal.Attn.grp (hcol e u d) = e := Fin.ext (by show (256 * e.val + 64 * u.val + d.val) / 256 = e.val; omega)
  have hs : Cert.AttnBwdIdeal.Attn.srow (hcol e u d) i = srw u i := Fin.ext (by
    show 128 * ((256 * e.val + 64 * u.val + d.val) / 64 % 4) + i.val = 128 * u.val + i.val; omega)
  have hd : Cert.AttnBwdIdeal.Attn.crd (hcol e u d).val = d := Fin.ext (by show (256 * e.val + 64 * u.val + d.val) % 64 = d.val; omega)
  rw [Cert.AttnBwdIdeal.Attn.oN_apply, hg, hs, hd, Cert.AttnBwdRefIdeal.Attn.out_at]
  refine Finset.sum_congr rfl fun j _ => ?_
  have hp := Cert.AttnBwdRefIdeal.Attn.prob_of_scores n e u i j H.h0 H.h1
  rw [Cert.AttnBwdRefIdeal.Attn.quot_at, ← hp.1]
  unfold Cert.AttnBwdIdeal.Attn.PC
  rw [score_eq m c n e u i H, sink_eq]
  by_cases h : Al n i j
  · rw [band_eq m c n j _ (zv e d) (by show 640 + 64 * e.val + d.val = 512 + (128 + 64 * e.val + d.val); omega) h.2, mul_comm]
  · rw [hp.2 h, zero_mul, mul_zero]

include H in
theorem out_eq (k : Fin 512) : oG m c n (ix2 i k) = o (X0 m c) (X1 m c) (Cert.AttnBwdRefIdeal.Attn.row n i) k := by
  rw [Cert.AttnBwdRefIdeal.Attn.hcol_split k]
  exact head_eq m c n _ _ i _ H

include H in
theorem norm_eq (k : Fin 512) : yG m c n (ix2 i k) = o (X0 m c) (X1 m c) (Cert.AttnBwdRefIdeal.Attn.row n i) k
    * rr w512 (o (X0 m c) (X1 m c) (Cert.AttnBwdRefIdeal.Attn.row n i)) * X2 m c (ix1 k) := by
  unfold yG
  rw [Cert.AttnBwdIdeal.Attn.y16_apply]
  exact congrArg₂ (· * ·) (congrArg₂ (· * ·) (out_eq m c n i H k) (congrArg (rr w512) (funext fun k => out_eq m c n i H k))) rfl

end Cert.AttnFwdIdeal.Block
end
-- ==== Proof.AttnF.Claims.lean ====
/-
  The two programs of the attention's forward pass compute the same two arrays.
-/
module

public import proofs.«01_k».proof.Defs
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.Pre_attn_scores_finite
public import proofs.«01_k».proof.Proof.AttnF.Match
public import Idealize.ShloMosaic.Adequacy
public import Idealize.ShloMosaic.Init

@[expose] public section

set_option maxRecDepth 16384

noncomputable section

namespace Cert.AttnF

open Idealize.ShloMosaic Idealize.ShloMosaic.TcCoe Idealize.SL.Sem
open Cert.AttnFwdIdeal.Block Cert.AttnFwdRefIdeal.Read
open Cert.AttnBwdIdeal.Block (nb ib)

theorem frame_kernel : Cert.quiescent_AttnFwd (hAttnFwd := Cert.AttnFwd.Gen.facts) := fun m ρ _ => Cert.AttnFwd.Gen.frame m ρ

theorem frame_ideal : Cert.quiescent_AttnFwdIdeal (hAttnFwdIdeal := Cert.AttnFwdIdeal.Gen.facts) := fun m ρ _ =>
  Cert.AttnFwdIdeal.Gen.frame m ρ

theorem frame_ideal_finite : Cert.quiescent_AttnFwdIdeal_pre_attn_scores_finite (hAttnFwdIdeal := Cert.AttnFwdIdeal.Gen.facts)
    (hPre_attn_scores_finite := Cert.Pre_attn_scores_finite.Gen.facts) := fun m ρ _ => Cert.AttnFwdIdeal.Gen.frame m ρ

theorem frame_ref : Cert.quiescent_AttnFwdRefIdeal (hAttnFwdRefIdeal := Cert.AttnFwdRefIdeal.Gen.facts) := fun m ρ _ =>
  (θ_run _ _ _).mono (fun r h => ⟨fun c => (h c).2.2, sem_eq_zero_of_no_sems (by decide) r.2⟩) (Cert.AttnFwdRefIdeal.Value.run m ρ)

theorem frame_ref_finite : Cert.quiescent_AttnFwdRefIdeal_pre_attn_scores_finite (hAttnFwdRefIdeal := Cert.AttnFwdRefIdeal.Gen.facts)
    (hPre_attn_scores_finite := Cert.Pre_attn_scores_finite.Gen.facts) := fun m ρ _ => frame_ref m ρ trivial

theorem row_nb (r : Fin 8192) : Cert.AttnBwdRefIdeal.Attn.row (nb r) (ib r) = r :=
  Fin.ext (by show 128 * (r.val / 128) + r.val % 128 = r.val; omega)

/-- The kernel and the reference end with the same two arrays. -/
theorem algebraic : Cert.algebraic_AttnFwdIdeal_AttnFwdRefIdeal_pre_attn_scores_finite (hAttnFwdIdeal := Cert.AttnFwdIdeal.Gen.facts)
    (hAttnFwdRefIdeal := Cert.AttnFwdRefIdeal.Gen.facts) (hPre_attn_scores_finite := Cert.Pre_attn_scores_finite.Gen.facts) := fun m ρ m' ρ' hp hag =>
  ⟨fun c i => oG m c (nb (i 0)) (ix2 (ib (i 0)) (i 1)), fun c i => yG m c (nb (i 0)) (ix2 (ib (i 0)) (i 1)),
    (θ_run _ _ _).mono (fun _ h c => ⟨(h c).1.trans (final6 m c), (h c).2.1.trans (final7 m c), (h c).2.2⟩) (Cert.AttnFwdIdeal.Value.run_blocks m ρ),
    (θ_run _ _ _).mono (fun r h c => by
      obtain ⟨g0, g1, g2⟩ := hag c
      have g0 : m' ((c.tc : Thread Cert.AttnFwdRefIdeal.nD Cert.AttnFwdRefIdeal.τ).loc Cert.AttnFwdRefIdeal.main_arg0) = X0 m c := g0
      have g1 : m' ((c.tc : Thread Cert.AttnFwdRefIdeal.nD Cert.AttnFwdRefIdeal.τ).loc Cert.AttnFwdRefIdeal.main_arg1) = X1 m c := g1
      have g2 : m' ((c.tc : Thread Cert.AttnFwdRefIdeal.nD Cert.AttnFwdRefIdeal.τ).loc Cert.AttnFwdRefIdeal.main_arg2) = X2 m c := g2
      have H := nums_of_pre m hp c
      obtain ⟨h0, h1, hk⟩ := h c
      refine ⟨h0.trans ((val_main_v79_eq m' c).trans ?_), h1.trans ((val_main_v93_eq m' c).trans ?_), hk⟩
      · rw [g0, g1]
        funext i
        refine (congrArg _ (eq_ix2 (n0 := 8192) (n1 := 512) i)).trans ((Cert.AttnFwdRefIdeal.Attn.out_at (X0 m c) (X1 m c) (i 0) (i 1)).trans
          (Eq.trans ?_ (out_eq m c (nb (i 0)) (ib (i 0)) H (i 1)).symm))
        exact congrArg (fun r => Cert.AttnBwdRefIdeal.Attn.o (X0 m c) (X1 m c) r (i 1)) (row_nb (i 0)).symm
      · rw [g0, g1, g2]
        funext i
        refine (congrArg _ (eq_ix2 (n0 := 8192) (n1 := 512) i)).trans ((Cert.AttnFwdRefIdeal.Attn.normed_at (X0 m c) (X1 m c) (X2 m c) (i 0) (i 1)).trans
          (Eq.trans ?_ (norm_eq m c (nb (i 0)) (ib (i 0)) H (i 1)).symm))
        exact congrArg (fun r => Cert.AttnBwdRefIdeal.Attn.o (X0 m c) (X1 m c) r (i 1)
          * Cert.Norm.rr Cert.Norm.w512 (Cert.AttnBwdRefIdeal.Attn.o (X0 m c) (X1 m c) r) * X2 m c (ix1 (i 1))) (row_nb (i 0)).symm)
      (Cert.AttnFwdRefIdeal.Value.run m' ρ')⟩

end Cert.AttnF
end
-- ==== Proof.Fwd.Inproj.lean ====
/-
  `inproj_fwd`'s result and its reference's as entries of the arguments (extended reals): the normalised input times the
  projection's weights.
-/
module

public import proofs.«01_k».proof.Proof.Gen.InprojFwdIdeal.Value
public import proofs.«01_k».proof.Proof.Gen.InprojFwdRefIdeal.Read
public import proofs.«01_k».proof.Proof.Last.Ref
public import Idealize.ShloMosaic.Lib.Tactic
public import Idealize.ShloMosaic.Lib.Pipeline.Value
public import Idealize.ShloMosaic.Lib.Pointwise.Index
public import Idealize.ShloMosaic.Lib.Pipeline.ValueKit.Tiles
public import Idealize.ShloMosaic.Lib.Pipeline.ValueKit.Point
public import Idealize.ShloMosaic.Lib.StableHlo.RunRead
public import Idealize.ShloMosaic.Lib.MatmulPlain

@[expose] public section

set_option maxRecDepth 65536

noncomputable section

namespace Cert.InprojFwdIdeal.Block

open Cert.InprojFwdIdeal Cert.InprojFwdIdeal.Gen Cert.Norm Idealize.ShloMosaic Idealize.ShloMosaic.TcCoe Idealize.SL.Sem
open Cert.LastLayerIdeal.Block (hz)

variable (m : (ℓ : Loc nD τ sig) → Buf (Elt Ideal) ℓ) (c : Dev nD) (t : Fin cfg0.N)

theorem lt16 : t.val < 16 := t.isLt

/-- Row `q` of the step's block. -/
abbrev row (q : Fin 512) : Fin 8192 := ⟨512 * t.val + q.val, by have := lt16 t; omega⟩

/-- The input, the norm's gain and the weights. -/
def X (r : Fin 8192) (k : Fin 1024) : EReal := m ((c : Thread nD τ).loc main_arg0) (ix2 r k)
def G (k : Fin 1024) : EReal := m ((c : Thread nD τ).loc main_arg1) (ix1 k)
def W (k : Fin 1024) (j : Fin 1792) : EReal := m ((c : Thread nD τ).loc main_arg2) (ix2 k j)

/-- The projection of the normalised input. -/
def Zo (r : Fin 8192) (j : Fin 1792) : EReal := ∑ k : Fin 1024, X m c r k * rr w1024 (X m c r) * G m c k * W m c k j

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)

theorem blk0 (q : Fin 512) (k : Fin 1024) : iblk m c 0 t (ix2 q k) = X m c (row t q) k := by
  unfold X
  have := lt16 t
  blk_simp [iblk]
  rw [V_main_arg0]
  blk_ext [e0 t]

theorem blk1 (k : Fin 1024) : iblk m c 1 t (ix2 (0 : Fin 1) k) = G m c k := by
  unfold G
  blk_simp [iblk]
  entry_read
  pointwise
  blk_ext [e1 t]

theorem blk2 (j : Fin 1792) (k : Fin 1024) : iblk m c 2 t (ix2 j k) = W m c k j := by
  unfold W
  blk_simp [iblk]
  entry_read
  pointwise
  blk_ext [e2 t]

/-- What a step stores. -/
def zB : FVec Ideal S512x1792 .bf16 := k0_pay1 (iblk m c 0 t) (iblk m c 1 t) (iblk m c 2 t)

theorem out3 : out0_3 (iblk m c 0 t) (iblk m c 1 t) (iblk m c 2 t) = zB m c t := by
  unfold out0_3
  rw [View.canon_unit_zero hz]
  simp only [View.ld_unit_zero (S := S512x1024) hz, View.ld_unit_zero (S := S1x1024) hz, View.ld_unit_zero (S := S1792x1024) hz]
  rfl

theorem zB_apply (q : Fin 512) (j : Fin 1792) : zB m c t (ix2 q j) = Zo m c (row t q) j := by
  unfold zB Zo rr ms k0_pay1
  pointwise
  simp only [blk0, blk1, blk2]

theorem final3 : (dats m 0 c).arrAt 3 cfg0.N = fun i : S8192x1792.Idx => Zo m c (i 0) (i 1) := by
  refine (dats m 0 c).arrAt_eq_of_covers 3 _ (by decide +kernel) fun t hf y => ?_
  blk_simp
  rw [after0_3, out3]
  refine ((congrArg (zB m c t) (eq_ix2 (n0 := 512) (n1 := 1792) y)).trans (zB_apply m c t _ _)).trans ?_
  exact congrArg₂ (Zo m c) (Fin.ext (by blk_simp [e3 t] <;> simp <;> try omega)) (Fin.ext (by blk_simp [e3 t] <;> simp))

end Cert.InprojFwdIdeal.Block

namespace Cert.Fwd.Inproj

open Cert.InprojFwdRefIdeal Cert.InprojFwdRefIdeal.Read Cert.Norm Cert.Last Idealize.ShloMosaic Idealize.ShloMosaic.TcCoe Idealize.SL.Sem
open Cert.InprojFwdIdeal.Block (X G W Zo)

variable (m : (ℓ : Loc Cert.InprojFwdIdeal.nD Cert.InprojFwdIdeal.τ Cert.InprojFwdIdeal.sig) → Buf (Elt Ideal) ℓ)
  (c : Dev Cert.InprojFwdIdeal.nD)

/-- The kernel's arguments. -/
abbrev b0 : FVec Ideal S8192x1024 .f32 := m ((c : Thread Cert.InprojFwdIdeal.nD Cert.InprojFwdIdeal.τ).loc Cert.InprojFwdIdeal.main_arg0)
abbrev b1 : FVec Ideal S1024 .f32 := m ((c : Thread Cert.InprojFwdIdeal.nD Cert.InprojFwdIdeal.τ).loc Cert.InprojFwdIdeal.main_arg1)
abbrev b2 : FVec Ideal S1024x1792 .f32 := m ((c : Thread Cert.InprojFwdIdeal.nD Cert.InprojFwdIdeal.τ).loc Cert.InprojFwdIdeal.main_arg2)

theorem x0 (r : Fin 8192) (k : Fin 1024) : b0 m c (ix2 r k) = X m c r k := rfl

theorem mean_eps (i : S8192x1.Idx) : val_main_v6 (F := Ideal) (b0 m c) i = ms w1024 (X m c (i 0)) := by
  rw [val_main_v6_apply, val_main_v4_apply, val_main_v2_apply, val_main_v1_apply]
  refine congrArg₂ (· + ·) (congrArg₂ Ideal.div ((from_zero _).trans (Finset.sum_congr rfl fun k _ => ?_)) rfl) rfl
  rw [show idx_main_v1 (idx_main_v2 i) k = ix2 (n0 := 8192) (i 0) k from at_ix2 _ _ _ rfl rfl, val_main_v0_apply]
  exact congrArg (fun x : EReal => x * x) (x0 m c (i 0) k)

theorem scale (i : S8192x1.Idx) : val_main_v7 (F := Ideal) (b0 m c) i = rr w1024 (X m c (i 0)) := by
  rw [val_main_v7_apply, mean_eps]
  rfl

theorem normed (r : Fin 8192) (k : Fin 1024) :
    val_main_v12 (F := Ideal) (b0 m c) (b1 m c) (ix2 r k) = X m c r k * rr w1024 (X m c r) * G m c k := by
  rw [val_main_v12_apply, val_main_v9_apply, val_main_v8_apply, scale, val_main_v11_apply, val_main_v10_apply]
  exact congrArg (fun g : EReal => X m c r k * rr w1024 (X m c r) * g) (congrArg (b1 m c) (eq_ix1 _))

theorem projected (r : Fin 8192) (j : Fin 1792) : val_main_v14 (F := Ideal) (b0 m c) (b1 m c) (b2 m c) (ix2 r j) = Zo m c r j := by
  rw [val_main_v14_apply]
  refine (val_main_v13_apply _ _ _ _).trans ?_
  exact Finset.sum_congr rfl fun k _ => congrArg₂ (· * ·) ((congrArg _ (eq_ix2 _)).trans (normed m c r k)) (congrArg (b2 m c) (eq_ix2 _))

end Cert.Fwd.Inproj
end
-- ==== Proof.Fwd.Outproj.lean ====
/-
  `outproj_fwd`'s two results and its reference's as entries of the arguments (extended reals): the residual after the output
  projection, and its normalisation.
-/
module

public import proofs.«01_k».proof.Proof.Gen.OutprojFwdIdeal.Value
public import proofs.«01_k».proof.Proof.Gen.OutprojFwdRefIdeal.Read
public import proofs.«01_k».proof.Proof.Last.Ref
public import Idealize.ShloMosaic.Lib.Tactic
public import Idealize.ShloMosaic.Lib.Pipeline.Value
public import Idealize.ShloMosaic.Lib.Pointwise.Index
public import Idealize.ShloMosaic.Lib.Pipeline.ValueKit.Tiles
public import Idealize.ShloMosaic.Lib.Pipeline.ValueKit.Point
public import Idealize.ShloMosaic.Lib.StableHlo.RunRead
public import Idealize.ShloMosaic.Lib.MatmulPlain

@[expose] public section

set_option maxRecDepth 65536

noncomputable section

namespace Cert.OutprojFwdIdeal.Block

open Cert.OutprojFwdIdeal Cert.OutprojFwdIdeal.Gen Cert.Norm Idealize.ShloMosaic Idealize.ShloMosaic.TcCoe Idealize.SL.Sem
open Cert.LastLayerIdeal.Block (hz)

variable (m : (ℓ : Loc nD τ sig) → Buf (Elt Ideal) ℓ) (c : Dev nD) (t : Fin cfg0.N)

theorem lt16 : t.val < 16 := t.isLt

/-- Row `q` of the step's block. -/
abbrev row (q : Fin 512) : Fin 8192 := ⟨512 * t.val + q.val, by have := lt16 t; omega⟩

/-- The mixers' output, the residual, the weights and the norm's gain. -/
def Y (r : Fin 8192) (k : Fin 1024) : EReal := m ((c : Thread nD τ).loc main_arg0) (ix2 r k)
def H (r : Fin 8192) (k : Fin 1024) : EReal := m ((c : Thread nD τ).loc main_arg1) (ix2 r k)
def Wo (j k : Fin 1024) : EReal := m ((c : Thread nD τ).loc main_arg2) (ix2 j k)
def G2 (k : Fin 1024) : EReal := m ((c : Thread nD τ).loc main_arg3) (ix1 k)

/-- The residual after the projection, and its normalisation. -/
def H1 (r : Fin 8192) (k : Fin 1024) : EReal := H m c r k + ∑ j : Fin 1024, Y m c r j * Wo m c j k
def Hn (r : Fin 8192) (k : Fin 1024) : EReal := H1 m c r k * rr w1024 (H1 m c r) * G2 m c k

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)

theorem blk0 (q : Fin 512) (j : Fin 512) : iblk m c 0 t (ix2 q j) = Y m c (row t q) ⟨0 + j.val, by omega⟩ := by
  unfold Y
  have := lt16 t
  blk_simp [iblk]
  entry_read
  pointwise
  blk_ext [e0 t]

theorem blk1 (q : Fin 512) (j : Fin 256) : iblk m c 1 t (ix2 q j) = Y m c (row t q) ⟨512 + j.val, by omega⟩ := by
  unfold Y
  have := lt16 t
  blk_simp [iblk]
  entry_read
  pointwise
  blk_ext [e1 t]

theorem blk2 (q : Fin 512) (j : Fin 256) : iblk m c 2 t (ix2 q j) = Y m c (row t q) ⟨768 + j.val, by omega⟩ := by
  unfold Y
  have := lt16 t
  blk_simp [iblk]
  entry_read
  pointwise
  blk_ext [e2 t]

theorem blk3 (q : Fin 512) (k : Fin 1024) : iblk m c 3 t (ix2 q k) = H m c (row t q) k := by
  unfold H
  have := lt16 t
  blk_simp [iblk]
  rw [V_main_arg1]
  blk_ext [e3 t]

theorem blk4 (j k : Fin 1024) : iblk m c 4 t (ix2 j k) = Wo m c j k := by
  unfold Wo
  blk_simp [iblk]
  entry_read
  pointwise
  blk_ext [e4 t]

theorem blk5 (k : Fin 1024) : iblk m c 5 t (ix2 (0 : Fin 1) k) = G2 m c k := by
  unfold G2
  blk_simp [iblk]
  entry_read
  pointwise
  blk_ext [e5 t]

/-- What a step stores. -/
def h1B : FVec Ideal S512x1024 .f32 := k0_pay1 (iblk m c 0 t) (iblk m c 1 t) (iblk m c 2 t) (iblk m c 3 t) (iblk m c 4 t)
def hnB : FVec Ideal S512x1024 .bf16 :=
  k0_pay2 (iblk m c 0 t) (iblk m c 1 t) (iblk m c 2 t) (iblk m c 3 t) (iblk m c 4 t) (iblk m c 5 t)

theorem out6 : out0_6 (iblk m c 0 t) (iblk m c 1 t) (iblk m c 2 t) (iblk m c 3 t) (iblk m c 4 t) (iblk m c 5 t) = h1B m c t := by
  unfold out0_6
  rw [View.canon_unit_zero hz]
  simp only [View.ld_unit_zero (S := S512x512) hz, View.ld_unit_zero (S := S512x256) hz, View.ld_unit_zero (S := S512x1024) hz, View.ld_unit_zero (S := S1024x1024) hz, View.ld_unit_zero (S := S1x1024) hz]
  rfl

theorem out7 : out0_7 (iblk m c 0 t) (iblk m c 1 t) (iblk m c 2 t) (iblk m c 3 t) (iblk m c 4 t) (iblk m c 5 t) = hnB m c t := by
  unfold out0_7
  rw [View.canon_unit_zero hz]
  simp only [View.ld_unit_zero (S := S512x512) hz, View.ld_unit_zero (S := S512x256) hz, View.ld_unit_zero (S := S512x1024) hz, View.ld_unit_zero (S := S1024x1024) hz, View.ld_unit_zero (S := S1x1024) hz]
  rfl

theorem h1B_apply (q : Fin 512) (k : Fin 1024) : h1B m c t (ix2 q k) = H1 m c (row t q) k := by
  unfold h1B H1 k0_pay1
  simp only [shapeCast_self]
  pointwise
  refine congrArg₂ (· + ·) (blk3 m c t q k) (Finset.sum_congr rfl fun j _ => congrArg₂ (· * ·) ?_ (blk4 m c t j k))
  have hj := j.isLt
  by_cases h1 : j.val < 512
  · exact (dif_pos h1).trans ((blk0 m c t q ⟨j.val, h1⟩).trans (congrArg _ (Fin.ext (Nat.zero_add _))))
  refine (dif_neg h1).trans ?_
  by_cases h2 : j.val - 512 < 256
  · exact (dif_pos h2).trans ((blk1 m c t q ⟨j.val - 512, h2⟩).trans (congrArg _ (Fin.ext (by dsimp only; omega))))
  · exact (dif_neg h2).trans ((blk2 m c t q ⟨j.val - 512 - 256, by omega⟩).trans (congrArg _ (Fin.ext (by dsimp only; omega))))

theorem hnB_apply (q : Fin 512) (k : Fin 1024) : hnB m c t (ix2 q k) = Hn m c (row t q) k := by
  unfold hnB Hn rr ms k0_pay2
  rw [show k0_pay1 (F := Ideal) (iblk m c 0 t) (iblk m c 1 t) (iblk m c 2 t) (iblk m c 3 t) (iblk m c 4 t) = h1B m c t from rfl]
  pointwise
  simp only [h1B_apply, blk5]

theorem final6 : (dats m 0 c).arrAt 6 cfg0.N = fun i : S8192x1024.Idx => H1 m c (i 0) (i 1) := by
  refine (dats m 0 c).arrAt_eq_of_covers 6 _ (by decide +kernel) fun t hf y => ?_
  blk_simp
  rw [after0_6, out6]
  refine ((congrArg (h1B m c t) (eq_ix2 (n0 := 512) (n1 := 1024) y)).trans (h1B_apply m c t _ _)).trans ?_
  exact congrArg₂ (H1 m c) (Fin.ext (by blk_simp [e6 t] <;> simp <;> try omega)) (Fin.ext (by blk_simp [e6 t] <;> simp))

theorem final7 : (dats m 0 c).arrAt 7 cfg0.N = fun i : S8192x1024.Idx => Hn m c (i 0) (i 1) := by
  refine (dats m 0 c).arrAt_eq_of_covers 7 _ (by decide +kernel) fun t hf y => ?_
  blk_simp
  rw [after0_7, out7]
  refine ((congrArg (hnB m c t) (eq_ix2 (n0 := 512) (n1 := 1024) y)).trans (hnB_apply m c t _ _)).trans ?_
  exact congrArg₂ (Hn m c) (Fin.ext (by blk_simp [e7 t] <;> simp <;> try omega)) (Fin.ext (by blk_simp [e7 t] <;> simp))

end Cert.OutprojFwdIdeal.Block

namespace Cert.Fwd.Outproj

open Cert.OutprojFwdRefIdeal Cert.OutprojFwdRefIdeal.Read Cert.Norm Cert.Last Idealize.ShloMosaic Idealize.ShloMosaic.TcCoe Idealize.SL.Sem
open Cert.OutprojFwdIdeal.Block (Y H Wo G2 H1 Hn)

variable (m : (ℓ : Loc Cert.OutprojFwdIdeal.nD Cert.OutprojFwdIdeal.τ Cert.OutprojFwdIdeal.sig) → Buf (Elt Ideal) ℓ)
  (c : Dev Cert.OutprojFwdIdeal.nD)

/-- The kernel's arguments. -/
abbrev b0 : FVec Ideal S8192x1024 .f32 := m ((c : Thread Cert.OutprojFwdIdeal.nD Cert.OutprojFwdIdeal.τ).loc Cert.OutprojFwdIdeal.main_arg0)
abbrev b1 : FVec Ideal S8192x1024 .f32 := m ((c : Thread Cert.OutprojFwdIdeal.nD Cert.OutprojFwdIdeal.τ).loc Cert.OutprojFwdIdeal.main_arg1)
abbrev b2 : FVec Ideal S1024x1024 .f32 := m ((c : Thread Cert.OutprojFwdIdeal.nD Cert.OutprojFwdIdeal.τ).loc Cert.OutprojFwdIdeal.main_arg2)
abbrev b3 : FVec Ideal S1024 .f32 := m ((c : Thread Cert.OutprojFwdIdeal.nD Cert.OutprojFwdIdeal.τ).loc Cert.OutprojFwdIdeal.main_arg3)

theorem residual (r : Fin 8192) (k : Fin 1024) : val_main_v1 (F := Ideal) (b0 m c) (b1 m c) (b2 m c) (ix2 r k) = H1 m c r k := by
  rw [val_main_v1_apply, val_main_v0_apply]
  exact congrArg (fun s : EReal => H m c r k + s) (Finset.sum_congr rfl fun j _ => congrArg₂ (· * ·) (congrArg (b0 m c) (eq_ix2 _)) (congrArg (b2 m c) (eq_ix2 _)))

theorem mean_eps (i : S8192x1.Idx) : val_main_v8 (F := Ideal) (b0 m c) (b1 m c) (b2 m c) i = ms w1024 (H1 m c (i 0)) := by
  rw [val_main_v8_apply, val_main_v6_apply, val_main_v4_apply, val_main_v3_apply]
  refine congrArg₂ (· + ·) (congrArg₂ Ideal.div ((from_zero _).trans (Finset.sum_congr rfl fun k _ => ?_)) rfl) rfl
  rw [show idx_main_v3 (idx_main_v4 i) k = ix2 (n0 := 8192) (i 0) k from at_ix2 _ _ _ rfl rfl, val_main_v2_apply]
  exact congrArg (fun x : EReal => x * x) (residual m c (i 0) k)

theorem scale (i : S8192x1.Idx) : val_main_v9 (F := Ideal) (b0 m c) (b1 m c) (b2 m c) i = rr w1024 (H1 m c (i 0)) := by
  rw [val_main_v9_apply, mean_eps]
  rfl

theorem normed (r : Fin 8192) (k : Fin 1024) :
    val_main_v15 (F := Ideal) (b0 m c) (b1 m c) (b2 m c) (b3 m c) (ix2 r k) = Hn m c r k := by
  rw [val_main_v15_apply]
  refine (val_main_v14_apply _ _ _ _ _).trans ?_
  rw [val_main_v11_apply, val_main_v10_apply, scale, val_main_v13_apply, val_main_v12_apply, residual]
  exact congrArg (fun g : EReal => H1 m c r k * rr w1024 (H1 m c r) * g) (congrArg (b3 m c) (eq_ix1 _))

end Cert.Fwd.Outproj
end
-- ==== Proof.Fwd.Mlp.lean ====
/-
  `mlp_fwd`'s two results and its reference's as entries of the arguments (extended reals): the MLP's first product, and the
  residual after its second, whose four chunks the kernel adds one after another.
-/
module

public import proofs.«01_k».proof.Proof.Gen.MlpFwdIdeal.Value
public import proofs.«01_k».proof.Proof.Gen.MlpFwdRefIdeal.Read
public import proofs.«01_k».proof.Proof.Last.Ref
public import proofs.«01_k».proof.Proof.Mlp.Block
public import Idealize.ShloMosaic.Lib.Tactic
public import Idealize.ShloMosaic.Lib.Pipeline.Value
public import Idealize.ShloMosaic.Lib.Pointwise.Index
public import Idealize.ShloMosaic.Lib.Pipeline.ValueKit.Tiles
public import Idealize.ShloMosaic.Lib.Pipeline.ValueKit.Point
public import Idealize.ShloMosaic.Lib.StableHlo.RunRead
public import Idealize.ShloMosaic.Lib.MatmulPlain

@[expose] public section

set_option maxRecDepth 65536

noncomputable section

namespace Cert.MlpFwdIdeal.Block

open Cert.MlpFwdIdeal Cert.MlpFwdIdeal.Gen Cert.Norm Idealize.ShloMosaic Idealize.ShloMosaic.TcCoe Idealize.SL.Sem
open Cert.MlpBwdIdeal.Block (hz inbC inbW canon_cols)

variable (m : (ℓ : Loc nD τ sig) → Buf (Elt Ideal) ℓ) (c : Dev nD) (t : Fin cfg0.N)

theorem lt16 : t.val < 16 := t.isLt

/-- Row `q` of the step's block. -/
abbrev row (q : Fin 512) : Fin 8192 := ⟨512 * t.val + q.val, by have := lt16 t; omega⟩

/-- Column `i` of chunk `j`. -/
abbrev col (j : Fin 4) (i : Fin 1024) : Fin 4096 := ⟨1024 * j.val + i.val, by omega⟩

/-- The normalised input, the residual and the two weights. -/
def Hn (r : Fin 8192) (k : Fin 1024) : EReal := m ((c : Thread nD τ).loc main_arg0) (ix2 r k)
def H1 (r : Fin 8192) (k : Fin 1024) : EReal := m ((c : Thread nD τ).loc main_arg1) (ix2 r k)
def Wu (k : Fin 1024) (j : Fin 4096) : EReal := m ((c : Thread nD τ).loc main_arg2) (ix2 k j)
def Wd (j : Fin 4096) (k : Fin 1024) : EReal := m ((c : Thread nD τ).loc main_arg3) (ix2 j k)

/-- The first product, its squared positive part, and the residual after the layer. -/
def U (r : Fin 8192) (j : Fin 4096) : EReal := ∑ k : Fin 1024, Hn m c r k * Wu m c k j
def A (r : Fin 8192) (j : Fin 4096) : EReal := max (U m c r j) 0 * max (U m c r j) 0
def H2 (r : Fin 8192) (k : Fin 1024) : EReal := H1 m c r k + ∑ j : Fin 4096, A m c r j * Wd m c j k

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)

theorem blk0 (q : Fin 512) (k : Fin 1024) : iblk m c 0 t (ix2 q k) = Hn m c (row t q) k := by
  unfold Hn
  have := lt16 t
  blk_simp [iblk]
  entry_read
  pointwise
  blk_ext [e0 t]

theorem blk1 (q : Fin 512) (k : Fin 1024) : iblk m c 1 t (ix2 q k) = H1 m c (row t q) k := by
  unfold H1
  have := lt16 t
  blk_simp [iblk]
  rw [V_main_arg1]
  blk_ext [e1 t]

theorem v2 : V m c main_v2 = transpose S4x1024x1024 [1, 0, 2] (shapeCast S1024x4x1024
    (m ((c : Thread nD τ).loc main_arg2) : S1024x4096.Idx → EReal) shapeCasts_S1024x4096_S1024x4x1024) transposes_S1024x4x1024_S4x1024x1024_1_0_2 := by
  sl_kernel_rfl
theorem v4 : V m c main_v4 = shapeCast S4x1024x1024
    (m ((c : Thread nD τ).loc main_arg3) : S4096x1024.Idx → EReal) shapeCasts_S4096x1024_S4x1024x1024 := by
  sl_kernel_rfl

theorem blk2 (j : Fin 4) (k i : Fin 1024) : iblk m c 2 t (ix3 j k i) = Wu m c k (col j i) := by
  unfold Wu
  blk_simp [iblk]
  rw [v2]
  pointwise
  blk_ext [e2 t]

/-- The second weights' chunks read off any contents of their array. -/
theorem blk3_read (Z : S4x1024x1024.Idx → EReal) (j : Fin 4) (i k : Fin 1024) :
    View.read (Elt Ideal) ((cfg0.win 3).blk t).view Z (ix3 j i k) = Z (ix3 j i k) := by
  blk_simp
  blk_ext [e3 t]

theorem blk3 (j : Fin 4) (i k : Fin 1024) : iblk m c 3 t (ix3 j i k) = Wd m c (col j i) k := by
  unfold iblk
  refine (blk3_read t _ j i k).trans ?_
  refine (congrFun (v4 m c) _).trans ?_
  refine shapeCast_apply _ shapeCasts_S4096x1024_S4x1024x1024 (ix3 j i k) (ix2 (col j i) k) ?_
  rw [Shape.rowMajor_val_three, Shape.rowMajor_val_two]
  show (1024 * j.val + i.val) * 1024 + k.val = (j.val * 1024 + i.val) * 1024 + k.val
  omega

/-- The weights' four chunks. -/
def wuB (j : Fin 4) : Vec Ideal S1x1024x1024 .bf16 :=
  View.ld (iblk m c 2 t) (Rect.unit (s := S4x1024x1024) ![j.val, 0, 0] ![1, 1024, 1024] (inbW j))
def wdB (j : Fin 4) : Vec Ideal S1x1024x1024 .bf16 :=
  View.ld (iblk m c 3 t) (Rect.unit (s := S4x1024x1024) ![j.val, 0, 0] ![1, 1024, 1024] (inbW j))

theorem wuB_apply (j : Fin 4) (k i : Fin 1024) : wuB m c t j (ix3 (0 : Fin 1) k i) = Wu m c k (col j i) := by
  refine (View.ld_unit_apply_of (S := S4x1024x1024) (iblk m c 2 t) _ _ _ (ix3 (0 : Fin 1) k i) (ix3 j k i) fun a => ?_).trans
    (blk2 m c t _ _ _)
  match a with
  | ⟨0, _⟩ => rfl
  | ⟨1, _⟩ => show k.val = 0 + k.val; omega
  | ⟨2, _⟩ => show i.val = 0 + i.val; omega
theorem wdB_apply (j : Fin 4) (i k : Fin 1024) : wdB m c t j (ix3 (0 : Fin 1) i k) = Wd m c (col j i) k := by
  refine (View.ld_unit_apply_of (S := S4x1024x1024) (iblk m c 3 t) _ _ _ (ix3 (0 : Fin 1) i k) (ix3 j i k) fun a => ?_).trans
    (blk3 m c t _ _ _)
  match a with
  | ⟨0, _⟩ => rfl
  | ⟨1, _⟩ => show i.val = 0 + i.val; omega
  | ⟨2, _⟩ => show k.val = 0 + k.val; omega

/-- What a step stores: the first product's column chunks, and the residual after four chunks of the second. -/
def upB (j : Fin 4) : FVec Ideal S512x1024 .bf16 := k0_pay8 (iblk m c 0 t) (wuB m c t j)
def h2B : FVec Ideal S512x1024 .f32 :=
  k0_pay5 (k0_pay6 (iblk m c 0 t)) (k0_pay11 (iblk m c 0 t) (iblk m c 1 t) (wuB m c t 0) (wdB m c t 0) (wuB m c t 1) (wdB m c t 1))
    (wuB m c t 2) (wdB m c t 2) (wuB m c t 3) (wdB m c t 3)

theorem out4 : out0_4 (iblk m c 0 t) (iblk m c 1 t) (iblk m c 2 t) (iblk m c 3 t)
    = fun y => upB m c t ⟨(y 1).val / 1024, by have : (y 1).val < 4096 := (y 1).isLt; omega⟩
      (ix2 (y 0) (⟨(y 1).val % 1024, Nat.mod_lt _ (by decide)⟩ : Fin 1024)) := by
  unfold_out out0_4
  simp only [View.ld_unit_zero (S := S512x1024) hz]
  refine canon_cols (Val := Elt Ideal) (e := .bf16) (upB m c t) _ ?_
  sl_kernel_rfl

theorem out5 : out0_5 (iblk m c 0 t) (iblk m c 1 t) (iblk m c 2 t) (iblk m c 3 t) = h2B m c t := by
  unfold_out out0_5
  rw [View.canon_unit_zero hz]
  simp only [View.ld_unit_zero (S := S512x1024) hz]
  sl_kernel_rfl

theorem up_apply (j : Fin 4) (q : Fin 512) (i : Fin 1024) :
    k0_pay7 (iblk m c 0 t) (wuB m c t j) (ix2 q i) = U m c (row t q) (col j i) := by
  unfold U k0_pay7 k0_pay6
  pointwise
  simp only [blk0, wuB_apply]

/-- One chunk's part of the second product. -/
def part (r : Fin 8192) (k : Fin 1024) (j : Fin 4) : EReal := ∑ i : Fin 1024, A m c r (col j i) * Wd m c (col j i) k

theorem parts (r : Fin 8192) (k : Fin 1024) :
    H1 m c r k + part m c r k 0 + part m c r k 1 + part m c r k 2 + part m c r k 3 = H2 m c r k := by
  have e (j : Fin 4) : part m c r k j
      = ∑ i : Fin 1024, A m c r ⟨j.val * 1024 + i.val, by omega⟩ * Wd m c ⟨j.val * 1024 + i.val, by omega⟩ k :=
    Finset.sum_congr rfl fun i _ => by
      rw [show col j i = ⟨j.val * 1024 + i.val, by omega⟩ from Fin.ext (by show 1024 * j.val + i.val = j.val * 1024 + i.val; omega)]
  unfold H2
  rw [Fin.sum_univ_tiles 4 1024 rfl, Fin.sum_univ_four, e 0, e 1, e 2, e 3]
  simp only [add_assoc]

/-- The activation's chunk `j`. -/
def actB (j : Fin 4) : FVec Ideal S512x1024 .bf16 := fun i =>
  max (k0_pay7 (iblk m c 0 t) (wuB m c t j) i) (Ideal.ofBits .f32 0x00000000#32) * max (k0_pay7 (iblk m c 0 t) (wuB m c t j) i) (Ideal.ofBits .f32 0x00000000#32)

theorem prod_apply (j : Fin 4) (q : Fin 512) (k : Fin 1024) :
    Ideal.matmul dot_S512x1024_S1024x1024_S512x1024_1_0_0_1_n_n (actB m c t j)
      (shapeCast S1024x1024 (wdB m c t j) shapeCasts_S1x1024x1024_S1024x1024) (constant (F := Ideal) S512x1024 .f32 0x00000000#32) (ix2 q k)
      = part m c (row t q) k j := by
  unfold part actB A
  pointwise
  simp only [up_apply, wdB_apply, Ideal.ofBits_zero_f32]

theorem h2B_apply (q : Fin 512) (k : Fin 1024) : h2B m c t (ix2 q k) = H2 m c (row t q) k := by
  rw [← parts, ← prod_apply, ← prod_apply, ← prod_apply, ← prod_apply, ← blk1]
  rfl

theorem final4 : (dats m 0 c).arrAt 4 cfg0.N = fun i : S8192x4096.Idx => U m c (i 0) (i 1) := by
  refine (dats m 0 c).arrAt_eq_of_covers 4 _ (by decide +kernel) fun t hf y => ?_
  blk_simp
  rw [after0_4, out4]
  dsimp only
  have h1 : (y 1).val < 4096 := (y 1).isLt
  refine (up_apply m c t _ _ _).trans ?_
  exact congrArg₂ (U m c) (Fin.ext (by blk_simp [e4 t] <;> simp <;> try omega)) (Fin.ext (by blk_simp [e4 t] <;> simp <;> omega))

theorem final5 : (dats m 0 c).arrAt 5 cfg0.N = fun i : S8192x1024.Idx => H2 m c (i 0) (i 1) := by
  refine (dats m 0 c).arrAt_eq_of_covers 5 _ (by decide +kernel) fun t hf y => ?_
  blk_simp
  rw [after0_5, out5]
  refine ((congrArg (h2B m c t) (eq_ix2 (n0 := 512) (n1 := 1024) y)).trans (h2B_apply m c t _ _)).trans ?_
  exact congrArg₂ (H2 m c) (Fin.ext (by blk_simp [e5 t] <;> simp <;> try omega)) (Fin.ext (by blk_simp [e5 t] <;> simp))

end Cert.MlpFwdIdeal.Block

namespace Cert.Fwd.Mlp

open Cert.MlpFwdRefIdeal Cert.MlpFwdRefIdeal.Read Cert.Norm Cert.Last Idealize.ShloMosaic Idealize.ShloMosaic.TcCoe Idealize.SL.Sem
open Cert.MlpFwdIdeal.Block (Hn H1 Wu Wd U A H2)

variable (m : (ℓ : Loc Cert.MlpFwdIdeal.nD Cert.MlpFwdIdeal.τ Cert.MlpFwdIdeal.sig) → Buf (Elt Ideal) ℓ)
  (c : Dev Cert.MlpFwdIdeal.nD)

/-- The kernel's arguments. -/
abbrev b0 : FVec Ideal S8192x1024 .f32 := m ((c : Thread Cert.MlpFwdIdeal.nD Cert.MlpFwdIdeal.τ).loc Cert.MlpFwdIdeal.main_arg0)
abbrev b1 : FVec Ideal S8192x1024 .f32 := m ((c : Thread Cert.MlpFwdIdeal.nD Cert.MlpFwdIdeal.τ).loc Cert.MlpFwdIdeal.main_arg1)
abbrev b2 : FVec Ideal S1024x4096 .f32 := m ((c : Thread Cert.MlpFwdIdeal.nD Cert.MlpFwdIdeal.τ).loc Cert.MlpFwdIdeal.main_arg2)
abbrev b3 : FVec Ideal S4096x1024 .f32 := m ((c : Thread Cert.MlpFwdIdeal.nD Cert.MlpFwdIdeal.τ).loc Cert.MlpFwdIdeal.main_arg3)

theorem product (r : Fin 8192) (j : Fin 4096) : val_main_v0 (F := Ideal) (b0 m c) (b2 m c) (ix2 r j) = U m c r j := by
  rw [val_main_v0_apply]
  exact Finset.sum_congr rfl fun k _ => congrArg₂ (· * ·) (congrArg (b0 m c) (eq_ix2 _)) (congrArg (b2 m c) (eq_ix2 _))

theorem stored_product (r : Fin 8192) (j : Fin 4096) : val_main_v1 (F := Ideal) (b0 m c) (b2 m c) (ix2 r j) = U m c r j := by
  rw [val_main_v1_apply]
  exact product m c r j

theorem act (r : Fin 8192) (j : Fin 4096) : val_main_v3 (F := Ideal) (b0 m c) (b2 m c) (ix2 r j) = A m c r j := by
  rw [val_main_v3_apply, val_main_v2_apply, product]
  exact congrArg (fun z : EReal => max (U m c r j) z * max (U m c r j) z) Ideal.ofBits_zero_f32

theorem residual (r : Fin 8192) (k : Fin 1024) :
    val_main_v5 (F := Ideal) (b0 m c) (b1 m c) (b2 m c) (b3 m c) (ix2 r k) = H2 m c r k := by
  rw [val_main_v5_apply, val_main_v4_apply]
  exact congrArg (fun s : EReal => H1 m c r k + s) (Finset.sum_congr rfl fun j _ =>
    congrArg₂ (· * ·) ((congrArg _ (eq_ix2 _)).trans (act m c r j)) (congrArg (b3 m c) (eq_ix2 _)))

end Cert.Fwd.Mlp
end
-- ==== Proof.Fwd.Claims.lean ====
/-
  The two programs of each of the forward calls around the mixers (`inproj_fwd`, `outproj_fwd`, `mlp_fwd`) compute the same arrays.
-/
module

public import proofs.«01_k».proof.Defs
public import proofs.«01_k».proof.Proof.Gen.InprojFwd
public import proofs.«01_k».proof.Proof.Gen.InprojFwd.Frame
public import proofs.«01_k».proof.Proof.Gen.InprojFwdIdeal
public import proofs.«01_k».proof.Proof.Gen.InprojFwdIdeal.Frame
public import proofs.«01_k».proof.Proof.Gen.InprojFwdIdeal.Value
public import proofs.«01_k».proof.Proof.Gen.InprojFwdRefIdeal
public import proofs.«01_k».proof.Proof.Gen.InprojFwdRefIdeal.Run
public import proofs.«01_k».proof.Proof.Gen.InprojFwdRefIdeal.Read
public import proofs.«01_k».proof.Proof.Gen.OutprojFwd
public import proofs.«01_k».proof.Proof.Gen.OutprojFwd.Frame
public import proofs.«01_k».proof.Proof.Gen.OutprojFwdIdeal
public import proofs.«01_k».proof.Proof.Gen.OutprojFwdIdeal.Frame
public import proofs.«01_k».proof.Proof.Gen.OutprojFwdIdeal.Value
public import proofs.«01_k».proof.Proof.Gen.OutprojFwdRefIdeal
public import proofs.«01_k».proof.Proof.Gen.OutprojFwdRefIdeal.Run
public import proofs.«01_k».proof.Proof.Gen.OutprojFwdRefIdeal.Read
public import proofs.«01_k».proof.Proof.Gen.MlpFwd
public import proofs.«01_k».proof.Proof.Gen.MlpFwd.Frame
public import proofs.«01_k».proof.Proof.Gen.MlpFwdIdeal
public import proofs.«01_k».proof.Proof.Gen.MlpFwdIdeal.Frame
public import proofs.«01_k».proof.Proof.Gen.MlpFwdIdeal.Value
public import proofs.«01_k».proof.Proof.Gen.MlpFwdRefIdeal
public import proofs.«01_k».proof.Proof.Gen.MlpFwdRefIdeal.Run
public import proofs.«01_k».proof.Proof.Gen.MlpFwdRefIdeal.Read
public import proofs.«01_k».proof.Proof.Fwd.Inproj
public import proofs.«01_k».proof.Proof.Fwd.Outproj
public import proofs.«01_k».proof.Proof.Fwd.Mlp
public import Idealize.ShloMosaic.Adequacy
public import Idealize.ShloMosaic.Init

@[expose] public section

set_option maxRecDepth 16384

noncomputable section

namespace Cert.Fwd.Inproj

open Idealize.ShloMosaic Idealize.ShloMosaic.TcCoe Idealize.SL.Sem
open Cert.InprojFwdIdeal.Block Cert.InprojFwdRefIdeal.Read

theorem frame_kernel : Cert.quiescent_InprojFwd (hInprojFwd := Cert.InprojFwd.Gen.facts) := fun m ρ _ => Cert.InprojFwd.Gen.frame m ρ

theorem frame_ideal : Cert.quiescent_InprojFwdIdeal (hInprojFwdIdeal := Cert.InprojFwdIdeal.Gen.facts) := fun m ρ _ =>
  Cert.InprojFwdIdeal.Gen.frame m ρ

theorem frame_ref : Cert.quiescent_InprojFwdRefIdeal (hInprojFwdRefIdeal := Cert.InprojFwdRefIdeal.Gen.facts) := fun m ρ _ =>
  (θ_run _ _ _).mono (fun r h => ⟨fun c => (h c).2, sem_eq_zero_of_no_sems (by decide) r.2⟩) (Cert.InprojFwdRefIdeal.Value.run m ρ)

theorem algebraic : Cert.algebraic_InprojFwdIdeal_InprojFwdRefIdeal (hInprojFwdIdeal := Cert.InprojFwdIdeal.Gen.facts)
    (hInprojFwdRefIdeal := Cert.InprojFwdRefIdeal.Gen.facts) := fun m ρ m' ρ' _ hag =>
  ⟨fun c i => Zo m c (i 0) (i 1),
    (θ_run _ _ _).mono (fun _ h c => ⟨(h c).1.trans (final3 m c), (h c).2⟩) (Cert.InprojFwdIdeal.Value.run_blocks m ρ),
    (θ_run _ _ _).mono (fun r h c => by
      obtain ⟨g0, g1, g2⟩ := hag c
      have g0 : _ = b0 m c := g0
      have g1 : _ = b1 m c := g1
      have g2 : _ = b2 m c := g2
      obtain ⟨h0, hk⟩ := h c
      refine ⟨h0.trans ((val_main_v14_eq _ _ _).trans ?_), hk⟩
      · rw [g0, g1, g2]
        funext i
        exact (congrArg _ (eq_ix2 (n0 := 8192) (n1 := 1792) i)).trans (projected m c (i 0) (i 1)))
      (Cert.InprojFwdRefIdeal.Value.run m' ρ')⟩

end Cert.Fwd.Inproj

namespace Cert.Fwd.Outproj

open Idealize.ShloMosaic Idealize.ShloMosaic.TcCoe Idealize.SL.Sem
open Cert.OutprojFwdIdeal.Block Cert.OutprojFwdRefIdeal.Read

theorem frame_kernel : Cert.quiescent_OutprojFwd (hOutprojFwd := Cert.OutprojFwd.Gen.facts) := fun m ρ _ => Cert.OutprojFwd.Gen.frame m ρ

theorem frame_ideal : Cert.quiescent_OutprojFwdIdeal (hOutprojFwdIdeal := Cert.OutprojFwdIdeal.Gen.facts) := fun m ρ _ =>
  Cert.OutprojFwdIdeal.Gen.frame m ρ

theorem frame_ref : Cert.quiescent_OutprojFwdRefIdeal (hOutprojFwdRefIdeal := Cert.OutprojFwdRefIdeal.Gen.facts) := fun m ρ _ =>
  (θ_run _ _ _).mono (fun r h => ⟨fun c => (h c).2.2, sem_eq_zero_of_no_sems (by decide) r.2⟩) (Cert.OutprojFwdRefIdeal.Value.run m ρ)

theorem algebraic : Cert.algebraic_OutprojFwdIdeal_OutprojFwdRefIdeal (hOutprojFwdIdeal := Cert.OutprojFwdIdeal.Gen.facts)
    (hOutprojFwdRefIdeal := Cert.OutprojFwdRefIdeal.Gen.facts) := fun m ρ m' ρ' _ hag =>
  ⟨fun c i => H1 m c (i 0) (i 1), fun c i => Hn m c (i 0) (i 1),
    (θ_run _ _ _).mono (fun _ h c => ⟨(h c).1.trans (final6 m c), (h c).2.1.trans (final7 m c), (h c).2.2⟩) (Cert.OutprojFwdIdeal.Value.run_blocks m ρ),
    (θ_run _ _ _).mono (fun r h c => by
      obtain ⟨g0, g1, g2, g3⟩ := hag c
      have g0 : _ = b0 m c := g0
      have g1 : _ = b1 m c := g1
      have g2 : _ = b2 m c := g2
      have g3 : _ = b3 m c := g3
      obtain ⟨h0, h1, hk⟩ := h c
      refine ⟨h0.trans ((val_main_v1_eq _ _ _).trans ?_), h1.trans ((val_main_v15_eq _ _ _ _).trans ?_), hk⟩
      · rw [g0, g1, g2]
        funext i
        exact (congrArg _ (eq_ix2 (n0 := 8192) (n1 := 1024) i)).trans (residual m c (i 0) (i 1))
      · rw [g0, g1, g2, g3]
        funext i
        exact (congrArg _ (eq_ix2 (n0 := 8192) (n1 := 1024) i)).trans (normed m c (i 0) (i 1)))
      (Cert.OutprojFwdRefIdeal.Value.run m' ρ')⟩

end Cert.Fwd.Outproj

namespace Cert.Fwd.Mlp

open Idealize.ShloMosaic Idealize.ShloMosaic.TcCoe Idealize.SL.Sem
open Cert.MlpFwdIdeal.Block Cert.MlpFwdRefIdeal.Read

theorem frame_kernel : Cert.quiescent_MlpFwd (hMlpFwd := Cert.MlpFwd.Gen.facts) := fun m ρ _ => Cert.MlpFwd.Gen.frame m ρ

theorem frame_ideal : Cert.quiescent_MlpFwdIdeal (hMlpFwdIdeal := Cert.MlpFwdIdeal.Gen.facts) := fun m ρ _ =>
  Cert.MlpFwdIdeal.Gen.frame m ρ

theorem frame_ref : Cert.quiescent_MlpFwdRefIdeal (hMlpFwdRefIdeal := Cert.MlpFwdRefIdeal.Gen.facts) := fun m ρ _ =>
  (θ_run _ _ _).mono (fun r h => ⟨fun c => (h c).2.2, sem_eq_zero_of_no_sems (by decide) r.2⟩) (Cert.MlpFwdRefIdeal.Value.run m ρ)

theorem algebraic : Cert.algebraic_MlpFwdIdeal_MlpFwdRefIdeal (hMlpFwdIdeal := Cert.MlpFwdIdeal.Gen.facts)
    (hMlpFwdRefIdeal := Cert.MlpFwdRefIdeal.Gen.facts) := fun m ρ m' ρ' _ hag =>
  ⟨fun c i => U m c (i 0) (i 1), fun c i => H2 m c (i 0) (i 1),
    (θ_run _ _ _).mono (fun _ h c => ⟨(h c).1.trans (final4 m c), (h c).2.1.trans (final5 m c), (h c).2.2⟩) (Cert.MlpFwdIdeal.Value.run_blocks m ρ),
    (θ_run _ _ _).mono (fun r h c => by
      obtain ⟨g0, g1, g2, g3⟩ := hag c
      have g0 : _ = b0 m c := g0
      have g1 : _ = b1 m c := g1
      have g2 : _ = b2 m c := g2
      have g3 : _ = b3 m c := g3
      obtain ⟨h0, h1, hk⟩ := h c
      refine ⟨h0.trans ((val_main_v1_eq _ _).trans ?_), h1.trans ((val_main_v5_eq _ _ _ _).trans ?_), hk⟩
      · rw [g0, g2]
        funext i
        exact (congrArg _ (eq_ix2 (n0 := 8192) (n1 := 4096) i)).trans (stored_product m c (i 0) (i 1))
      · rw [g0, g1, g2, g3]
        funext i
        exact (congrArg _ (eq_ix2 (n0 := 8192) (n1 := 1024) i)).trans (residual m c (i 0) (i 1)))
      (Cert.MlpFwdRefIdeal.Value.run m' ρ')⟩

end Cert.Fwd.Mlp
end
-- ==== Proof.lean ====
module

public import proofs.«01_k».proof.Defs
public import proofs.«01_k».proof.Proof.Conv.Claims
public import proofs.«01_k».proof.Proof.Inproj.Claims
public import proofs.«01_k».proof.Proof.Attn.Claims
public import proofs.«01_k».proof.Proof.Mlp.Claims
public import proofs.«01_k».proof.Proof.Last.Claims
public import proofs.«01_k».proof.Proof.AttnF.Claims
public import proofs.«01_k».proof.Proof.Fwd.Claims

@[expose] public section

noncomputable section

namespace Cert.Proof

theorem claim : Cert.Claim :=
  ⟨Cert.ConvBwd.Gen.facts, Cert.ConvBwdIdeal.Gen.facts, Cert.ConvBwdRefIdeal.Gen.facts,
    Cert.InprojBwd.Gen.facts, Cert.InprojBwdIdeal.Gen.facts, Cert.InprojBwdRefIdeal.Gen.facts,
    Cert.AttnBwd.Gen.facts, Cert.AttnBwdIdeal.Gen.facts, Cert.AttnBwdRefIdeal.Gen.facts,
    Cert.MlpBwd.Gen.facts, Cert.MlpBwdIdeal.Gen.facts, Cert.MlpBwdRefIdeal.Gen.facts,
    Cert.LastLayer.Gen.facts, Cert.LastLayerIdeal.Gen.facts, Cert.LastLayerRefIdeal.Gen.facts,
    Cert.AttnFwd.Gen.facts, Cert.AttnFwdIdeal.Gen.facts, Cert.AttnFwdRefIdeal.Gen.facts,
    Cert.InprojFwd.Gen.facts, Cert.InprojFwdIdeal.Gen.facts, Cert.InprojFwdRefIdeal.Gen.facts,
    Cert.OutprojFwd.Gen.facts, Cert.OutprojFwdIdeal.Gen.facts, Cert.OutprojFwdRefIdeal.Gen.facts,
    Cert.MlpFwd.Gen.facts, Cert.MlpFwdIdeal.Gen.facts, Cert.MlpFwdRefIdeal.Gen.facts,
    Cert.Pre_attn_finite.Gen.facts, Cert.Pre_attn_scores_finite.Gen.facts,
    Cert.Conv.frame_kernel, Cert.Conv.frame_ideal, Cert.Conv.frame_ref,
    Cert.Inproj.frame_kernel, Cert.Inproj.frame_ideal, Cert.Inproj.frame_ref,
    Cert.Attn.frame_kernel, Cert.Attn.frame_ideal, Cert.Attn.frame_ideal_finite, Cert.Attn.frame_ref, Cert.Attn.frame_ref_finite,
    Cert.Mlp.frame_kernel, Cert.Mlp.frame_ideal, Cert.Mlp.frame_ref,
    Cert.Last.frame_kernel, Cert.Last.frame_ideal, Cert.Last.frame_ref,
    Cert.AttnF.frame_kernel, Cert.AttnF.frame_ideal, Cert.AttnF.frame_ideal_finite, Cert.AttnF.frame_ref, Cert.AttnF.frame_ref_finite,
    Cert.Fwd.Inproj.frame_kernel, Cert.Fwd.Inproj.frame_ideal, Cert.Fwd.Inproj.frame_ref,
    Cert.Fwd.Outproj.frame_kernel, Cert.Fwd.Outproj.frame_ideal, Cert.Fwd.Outproj.frame_ref,
    Cert.Fwd.Mlp.frame_kernel, Cert.Fwd.Mlp.frame_ideal, Cert.Fwd.Mlp.frame_ref,
    trivial, Cert.Conv.algebraic, trivial, Cert.Inproj.algebraic, trivial, Cert.Attn.algebraic,
    trivial, Cert.Mlp.algebraic, trivial, Cert.Last.algebraic, trivial, Cert.AttnF.algebraic,
    trivial, Cert.Fwd.Inproj.algebraic, trivial, Cert.Fwd.Outproj.algebraic, trivial, Cert.Fwd.Mlp.algebraic⟩

end Cert.Proof

end
